-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10)
      ∧ r.2.mem ((c.tc : Thread Cert.Attn.nD Cert.Attn.τ).loc Cert.Attn.main_arg11) = m ((c.tc : Thread Cert.Attn.nD Cert.Attn.τ).loc Cert.Attn.main_arg11)
      ∧ r.2.mem ((c.tc : Thread Cert.Attn.nD Cert.Attn.τ).loc Cert.Attn.main_arg12) = m ((c.tc : Thread Cert.Attn.nD Cert.Attn.τ).loc Cert.Attn.main_arg12)
      ∧ r.2.mem ((c.tc : Thread Cert.Attn.nD Cert.Attn.τ).loc Cert.Attn.main_arg13) = m ((c.tc : Thread Cert.Attn.nD Cert.Attn.τ).loc Cert.Attn.main_arg13))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11)
      ∧ r.2.mem ((c.tc : Thread Cert.AttnIdeal.nD Cert.AttnIdeal.τ).loc Cert.AttnIdeal.main_arg12) = m ((c.tc : Thread Cert.AttnIdeal.nD Cert.AttnIdeal.τ).loc Cert.AttnIdeal.main_arg12)
      ∧ r.2.mem ((c.tc : Thread Cert.AttnIdeal.nD Cert.AttnIdeal.τ).loc Cert.AttnIdeal.main_arg13) = m ((c.tc : Thread Cert.AttnIdeal.nD Cert.AttnIdeal.τ).loc Cert.AttnIdeal.main_arg13))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6)
      ∧ r.2.mem ((c.tc : Thread Cert.Oproj.nD Cert.Oproj.τ).loc Cert.Oproj.main_arg7) = m ((c.tc : Thread Cert.Oproj.nD Cert.Oproj.τ).loc Cert.Oproj.main_arg7)
      ∧ r.2.mem ((c.tc : Thread Cert.Oproj.nD Cert.Oproj.τ).loc Cert.Oproj.main_arg8) = m ((c.tc : Thread Cert.Oproj.nD Cert.Oproj.τ).loc Cert.Oproj.main_arg8))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7)
      ∧ r.2.mem ((c.tc : Thread Cert.OprojIdeal.nD Cert.OprojIdeal.τ).loc Cert.OprojIdeal.main_arg8) = m ((c.tc : Thread Cert.OprojIdeal.nD Cert.OprojIdeal.τ).loc Cert.OprojIdeal.main_arg8))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7)
      ∧ r.2.mem ((c.tc : Thread Cert.OprojRefIdeal.nD Cert.OprojRefIdeal.τ).loc Cert.OprojRefIdeal.main_arg8) = m ((c.tc : Thread Cert.OprojRefIdeal.nD Cert.OprojRefIdeal.τ).loc Cert.OprojRefIdeal.main_arg8))
      ∧ r.2.sem = fun _ => 0)

def preserves_Attn_AttnIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v37) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)
      ∧ m' ((c.tc : Thread Cert.OprojRefIdeal.nD Cert.OprojRefIdeal.τ).loc Cert.OprojRefIdeal.main_arg7) = m ((c.tc : Thread Cert.OprojIdeal.nD Cert.OprojIdeal.τ).loc Cert.OprojIdeal.main_arg7)
      ∧ m' ((c.tc : Thread Cert.OprojRefIdeal.nD Cert.OprojRefIdeal.τ).loc Cert.OprojRefIdeal.main_arg8) = m ((c.tc : Thread Cert.OprojIdeal.nD Cert.OprojIdeal.τ).loc Cert.OprojIdeal.main_arg8)) →
    ∃ (v0 : (c : Dev Cert.OprojIdeal.nD) → Buf (Elt Ideal) ((c.tc : Thread Cert.OprojIdeal.nD Cert.OprojIdeal.τ).loc Cert.OprojIdeal.main_v8_0)) (v1 : (c : Dev Cert.OprojIdeal.nD) → Buf (Elt Ideal) ((c.tc : Thread Cert.OprojIdeal.nD Cert.OprojIdeal.τ).loc Cert.OprojIdeal.main_v8_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v8_0) = v0 c
          ∧ r.2.mem ((c.tc : Thread Cert.OprojIdeal.nD Cert.OprojIdeal.τ).loc Cert.OprojIdeal.main_v8_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
          ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7)
          ∧ r.2.mem ((c.tc : Thread Cert.OprojIdeal.nD Cert.OprojIdeal.τ).loc Cert.OprojIdeal.main_arg8) = m ((c.tc : Thread Cert.OprojIdeal.nD Cert.OprojIdeal.τ).loc Cert.OprojIdeal.main_arg8))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v60) = v0 c
          ∧ r.2.mem ((c.tc : Thread Cert.OprojRefIdeal.nD Cert.OprojRefIdeal.τ).loc Cert.OprojRefIdeal.main_v75) = v1 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6)
          ∧ r.2.mem ((c.tc : Thread Cert.OprojRefIdeal.nD Cert.OprojRefIdeal.τ).loc Cert.OprojRefIdeal.main_arg7) = m' ((c.tc : Thread Cert.OprojRefIdeal.nD Cert.OprojRefIdeal.τ).loc Cert.OprojRefIdeal.main_arg7)
          ∧ r.2.mem ((c.tc : Thread Cert.OprojRefIdeal.nD Cert.OprojRefIdeal.τ).loc Cert.OprojRefIdeal.main_arg8) = m' ((c.tc : Thread Cert.OprojRefIdeal.nD Cert.OprojRefIdeal.τ).loc Cert.OprojRefIdeal.main_arg8))

def Claim : Prop :=
  ∃ (hAttn : Cert.Attn.Facts) (hAttnIdeal : Cert.AttnIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hOproj : Cert.Oproj.Facts) (hOprojIdeal : Cert.OprojIdeal.Facts) (hOprojRefIdeal : Cert.OprojRefIdeal.Facts),
    quiescent_Attn (hAttn := hAttn)
    ∧ quiescent_AttnIdeal (hAttnIdeal := hAttnIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Oproj (hOproj := hOproj)
    ∧ quiescent_OprojIdeal (hOprojIdeal := hOprojIdeal)
    ∧ quiescent_OprojRefIdeal (hOprojRefIdeal := hOprojRefIdeal)
    ∧ preserves_Attn_AttnIdeal
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Oproj_OprojIdeal
    ∧ algebraic_OprojIdeal_OprojRefIdeal (hOprojIdeal := hOprojIdeal) (hOprojRefIdeal := hOprojRefIdeal)
-- ==== Attn.lean ====
abbrev S16384x4608 : Shape := ⟨2, ![16384, 4608]⟩
abbrev S4x4x32x128x128 : Shape := ⟨5, ![4, 4, 32, 128, 128]⟩
abbrev S4x4x32x160x128 : Shape := ⟨5, ![4, 4, 32, 160, 128]⟩
abbrev S4x4x256x128 : Shape := ⟨4, ![4, 4, 256, 128]⟩
abbrev S4x4x64x256 : Shape := ⟨4, ![4, 4, 64, 256]⟩
abbrev S4x32x128x128 : Shape := ⟨4, ![4, 32, 128, 128]⟩
abbrev S4x8x1024 : Shape := ⟨3, ![4, 8, 1024]⟩
abbrev S768x256 : Shape := ⟨2, ![768, 256]⟩
abbrev S2x512x256 : Shape := ⟨3, ![2, 512, 256]⟩
abbrev S64x256 : Shape := ⟨2, ![64, 256]⟩
abbrev S2048x11264 : Shape := ⟨2, ![2048, 11264]⟩
abbrev S5632x2048 : Shape := ⟨2, ![5632, 2048]⟩
abbrev S16384x1024 : Shape := ⟨2, ![16384, 1024]⟩
abbrev S256x256 : Shape := ⟨2, ![256, 256]⟩
abbrev S1x1x32x128x128 : Shape := ⟨5, ![1, 1, 32, 128, 128]⟩
abbrev S1x1x32x160x128 : Shape := ⟨5, ![1, 1, 32, 160, 128]⟩
abbrev S1x1x256x128 : Shape := ⟨4, ![1, 1, 256, 128]⟩
abbrev S1x1x64x256 : Shape := ⟨4, ![1, 1, 64, 256]⟩
abbrev S1x2x16x128 : Shape := ⟨4, ![1, 2, 16, 128]⟩
abbrev S1x8x1024 : Shape := ⟨3, ![1, 8, 1024]⟩
abbrev S16x5632 : Shape := ⟨2, ![16, 5632]⟩
abbrev S32x2048 : Shape := ⟨2, ![32, 2048]⟩
abbrev S128x1024 : Shape := ⟨2, ![128, 1024]⟩
abbrev S512x1024 : Shape := ⟨2, ![512, 1024]⟩
abbrev S9 : Shape := ⟨1, ![9]⟩
abbrev S1x256 : Shape := ⟨2, ![1, 256]⟩
abbrev S256 : Shape := ⟨1, ![256]⟩
abbrev S64x1024 : Shape := ⟨2, ![64, 1024]⟩
abbrev S8x1024 : Shape := ⟨2, ![8, 1024]⟩
abbrev S56x1024 : Shape := ⟨2, ![56, 1024]⟩
abbrev S256x128 : Shape := ⟨2, ![256, 128]⟩
abbrev S256x1024 : Shape := ⟨2, ![256, 1024]⟩
abbrev S128x256 : Shape := ⟨2, ![128, 256]⟩
abbrev S8x256 : Shape := ⟨2, ![8, 256]⟩
abbrev S56x256 : Shape := ⟨2, ![56, 256]⟩
abbrev S48x256 : Shape := ⟨2, ![48, 256]⟩
abbrev S40x256 : Shape := ⟨2, ![40, 256]⟩
abbrev S32x256 : Shape := ⟨2, ![32, 256]⟩
abbrev S24x256 : Shape := ⟨2, ![24, 256]⟩
abbrev S1x1024 : Shape := ⟨2, ![1, 1024]⟩
abbrev S80x1024 : Shape := ⟨2, ![80, 1024]⟩
abbrev S8x64 : Shape := ⟨2, ![8, 64]⟩
abbrev S8x128 : Shape := ⟨2, ![8, 128]⟩
abbrev S128 : Shape := ⟨1, ![128]⟩
abbrev S1x128 : Shape := ⟨2, ![1, 128]⟩
abbrev S1x1 : Shape := ⟨2, ![1, 1]⟩
abbrev S1x1x1x128x128 : Shape := ⟨5, ![1, 1, 1, 128, 128]⟩
abbrev S128x128 : Shape := ⟨2, ![128, 128]⟩
abbrev S768x128 : Shape := ⟨2, ![768, 128]⟩
abbrev S768x1024 : Shape := ⟨2, ![768, 1024]⟩
abbrev S1 : Shape := ⟨1, ![1]⟩
abbrev S16x1024 : Shape := ⟨2, ![16, 1024]⟩
abbrev S1x1x4x128x128 : Shape := ⟨5, ![1, 1, 4, 128, 128]⟩
abbrev S4x128x128 : Shape := ⟨3, ![4, 128, 128]⟩
abbrev S512x128 : Shape := ⟨2, ![512, 128]⟩
abbrev S1x1x1x80x128 : Shape := ⟨5, ![1, 1, 1, 80, 128]⟩
abbrev S80x128 : Shape := ⟨2, ![80, 128]⟩
abbrev S80x768 : Shape := ⟨2, ![80, 768]⟩
abbrev S80x512 : Shape := ⟨2, ![80, 512]⟩
abbrev S512x256 : Shape := ⟨2, ![512, 256]⟩
abbrev S80x256 : Shape := ⟨2, ![80, 256]⟩
abbrev S1x512x256 : Shape := ⟨3, ![1, 512, 256]⟩
abbrev S1x1x16x128 : Shape := ⟨4, ![1, 1, 16, 128]⟩
abbrev S16x128 : Shape := ⟨2, ![16, 128]⟩
abbrev S16x256 : Shape := ⟨2, ![16, 256]⟩

abbrev nBuf : Space → Nat
  | .hbm => 17
  | .vmem => 34
  | .smem => 1
  | _ => 0

abbrev bufTy : (tb : Table) → Fin (tcTables nBuf tb) → BufTy
  | .hbm, ⟨0, _⟩ => ⟨S16384x4608, .f32⟩
  | .hbm, ⟨1, _⟩ => ⟨S4x4x32x128x128, .bf16⟩
  | .hbm, ⟨2, _⟩ => ⟨S4x4x32x128x128, .bf16⟩
  | .hbm, ⟨3, _⟩ => ⟨S4x4x32x160x128, .bf16⟩
  | .hbm, ⟨4, _⟩ => ⟨S4x4x256x128, .bf16⟩
  | .hbm, ⟨5, _⟩ => ⟨S4x4x64x256, .bf16⟩
  | .hbm, ⟨6, _⟩ => ⟨S4x32x128x128, .f32⟩
  | .hbm, ⟨7, _⟩ => ⟨S4x8x1024, .f32⟩
  | .hbm, ⟨8, _⟩ => ⟨S768x256, .f32⟩
  | .hbm, ⟨9, _⟩ => ⟨S2x512x256, .f32⟩
  | .hbm, ⟨10, _⟩ => ⟨S64x256, .bf16⟩
  | .hbm, ⟨11, _⟩ => ⟨S64x256, .f32⟩
  | .hbm, ⟨12, _⟩ => ⟨S2048x11264, .f32⟩
  | .hbm, ⟨13, _⟩ => ⟨S5632x2048, .f32⟩
  | .hbm, ⟨14, _⟩ => ⟨S16384x1024, .bf16⟩
  | .hbm, ⟨15, _⟩ => ⟨S2048x11264, .bf16⟩
  | .hbm, ⟨16, _⟩ => ⟨S5632x2048, .bf16⟩
  | .local _ .vmem, ⟨0, _⟩ => ⟨S256x256, .f32⟩
  | .local _ .vmem, ⟨1, _⟩ => ⟨S256x256, .f32⟩
  | .local _ .vmem, ⟨2, _⟩ => ⟨S1x1x32x128x128, .bf16⟩
  | .local _ .vmem, ⟨3, _⟩ => ⟨S1x1x32x128x128, .bf16⟩
  | .local _ .vmem, ⟨4, _⟩ => ⟨S1x1x32x128x128, .bf16⟩
  | .local _ .vmem, ⟨5, _⟩ => ⟨S1x1x32x128x128, .bf16⟩
  | .local _ .vmem, ⟨6, _⟩ => ⟨S1x1x32x160x128, .bf16⟩
  | .local _ .vmem, ⟨7, _⟩ => ⟨S1x1x32x160x128, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x1x64x256, .bf16⟩
  | .local _ .vmem, ⟨11, _⟩ => ⟨S1x1x64x256, .bf16⟩
  | .local _ .vmem, ⟨12, _⟩ => ⟨S1x2x16x128, .f32⟩
  | .local _ .vmem, ⟨13, _⟩ => ⟨S1x2x16x128, .f32⟩
  | .local _ .vmem, ⟨14, _⟩ => ⟨S1x8x1024, .f32⟩
  | .local _ .vmem, ⟨15, _⟩ => ⟨S1x8x1024, .f32⟩
  | .local _ .vmem, ⟨16, _⟩ => ⟨S768x256, .f32⟩
  | .local _ .vmem, ⟨17, _⟩ => ⟨S2x512x256, .f32⟩
  | .local _ .vmem, ⟨18, _⟩ => ⟨S64x256, .bf16⟩
  | .local _ .vmem, ⟨19, _⟩ => ⟨S64x256, .f32⟩
  | .local _ .vmem, ⟨20, _⟩ => ⟨S16x5632, .f32⟩
  | .local _ .vmem, ⟨21, _⟩ => ⟨S16x5632, .f32⟩
  | .local _ .vmem, ⟨22, _⟩ => ⟨S32x2048, .f32⟩
  | .local _ .vmem, ⟨23, _⟩ => ⟨S32x2048, .f32⟩
  | .local _ .vmem, ⟨24, _⟩ => ⟨S256x256, .bf16⟩
  | .local _ .vmem, ⟨25, _⟩ => ⟨S256x256, .bf16⟩
  | .local _ .vmem, ⟨26, _⟩ => ⟨S16x5632, .bf16⟩
  | .local _ .vmem, ⟨27, _⟩ => ⟨S16x5632, .bf16⟩
  | .local _ .vmem, ⟨28, _⟩ => ⟨S32x2048, .bf16⟩
  | .local _ .vmem, ⟨29, _⟩ => ⟨S32x2048, .bf16⟩
  | .local _ .vmem, ⟨30, _⟩ => ⟨S64x256, .f32⟩
  | .local _ .vmem, ⟨31, _⟩ => ⟨S128x1024, .bf16⟩
  | .local _ .vmem, ⟨32, _⟩ => ⟨S512x1024, .f32⟩
  | .local _ .vmem, ⟨33, _⟩ => ⟨S512x1024, .f32⟩
  | .local _ .smem, ⟨0, _⟩ => ⟨S9, .i32⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨3, ![4, 4, 16], ![false, false, false]⟩

def k0_off1 (i : grid0.Coords) (c0_i32_117 : BitVec 32) : Fin 5 → Nat :=
  let c0_128 : Index := 0#32
  let c0_129 : Index := 0#32
  let arg2 : BitVec 32 := BitVec.ofNat 32 (i 2).val
  let c2_i32 : BitVec 32 := 2#32
  let v292 : BitVec 32 := Scalar.muli arg2 c2_i32
  let c4_i32 : BitVec 32 := 4#32
  let v293 : BitVec 32 := Scalar.subi v292 c4_i32
  let v294 : BitVec 32 := Scalar.addi v293 c0_i32_117
  let c0_i32_118 : BitVec 32 := 0#32
  let v295 : BitVec 32 := Scalar.maxsi v294 c0_i32_118
  let v306 : Index := Scalar.indexCast v295
  let c0_130 : Index := 0#32
  let c0_131 : Index := 0#32
  ![0, 0, v306.toNat, 0, 0]
def k0_off2 (i : grid0.Coords) (v291 : BitVec 32) : Fin 1 → Nat :=
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let v334 : Index := Scalar.indexCast v333
  ![v334.toNat]

def k0_off3 (i : grid0.Coords) (v291 : BitVec 32) : Fin 1 → Nat :=
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let v343 : Index := Scalar.indexCast v342
  ![v343.toNat]
def k0_off4 (i : grid0.Coords) (v291 : BitVec 32) : Fin 1 → Nat :=
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let v352 : Index := Scalar.indexCast v351
  ![v352.toNat]
def k0_off5 (i : grid0.Coords) (v291 : BitVec 32) : Fin 1 → Nat :=
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let v361 : Index := Scalar.indexCast v360
  ![v361.toNat]
def k0_off6 (i : grid0.Coords) (v291 : BitVec 32) : Fin 1 → Nat :=
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let v370 : Index := Scalar.indexCast v369
  ![v370.toNat]
def k0_off7 (i : grid0.Coords) (v291 : BitVec 32) : Fin 1 → Nat :=
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let v379 : Index := Scalar.indexCast v378
  ![v379.toNat]
def k0_off8 (i : grid0.Coords) (v291 : BitVec 32) : Fin 1 → Nat :=
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let v388 : Index := Scalar.indexCast v387
  ![v388.toNat]
def k0_off9 (i : grid0.Coords) (v291 : BitVec 32) : Fin 1 → Nat :=
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let c7_i32_205 : BitVec 32 := 7#32
  let v390 : BitVec 1 := Scalar.cmpi .sgt v263 c7_i32_205
  let c7_i32_206 : BitVec 32 := 7#32
  let v391 : BitVec 32 := Scalar.shrui v291 c7_i32_206
  let c1_i32_207 : BitVec 32 := 1#32
  let v392 : BitVec 32 := Scalar.andi v391 c1_i32_207
  let c1_i32_208 : BitVec 32 := 1#32
  let v393 : BitVec 1 := Scalar.cmpi .eq v392 c1_i32_208
  let v394 : BitVec 1 := Scalar.andi v390 v393
  let c1_i32_209 : BitVec 32 := 1#32
  let c0_i32_210 : BitVec 32 := 0#32
  let v395 : BitVec 32 := Scalar.select v394 c1_i32_209 c0_i32_210
  let v396 : BitVec 32 := Scalar.addi v387 v395
  let v397 : Index := Scalar.indexCast v396
  ![v397.toNat]
def k0_off10 (v399 : BitVec 32) : Fin 2 → Nat :=
  let c8_i32 : BitVec 32 := 8#32
  let v400 : BitVec 32 := Scalar.muli v399 c8_i32
  let v401 : Index := Scalar.indexCast v400
  let c0_212 : Index := 0#32
  ![v401.toNat, 0]

def k0_off11 (v399 : BitVec 32) : Fin 5 → Nat :=
  let c0_218 : Index := 0#32
  let c0_219 : Index := 0#32
  let c4_i32_217 : BitVec 32 := 4#32
  let v414 : BitVec 32 := Scalar.muli v399 c4_i32_217
  let v415 : Index := Scalar.indexCast v414
  let c0_220 : Index := 0#32
  let c0_221 : Index := 0#32
  ![0, 0, v415.toNat, 0, 0]

def k0_chk2 (v399 : BitVec 32) : Prop :=
  (∀ a, (k0_off10 v399) a + S8x256.size a ≤ S64x256.size a) ∧
  (∀ a, (k0_off11 v399) a + S1x1x4x128x128.size a ≤ S1x1x32x128x128.size a)
theorem k0_off10_inb : ∀ (v399 : BitVec 32) (k0_hw2 : k0_chk2 v399), ∀ a, (k0_off10 v399) a + S8x256.size a ≤ S64x256.size a := fun v399 k0_hw2 => k0_hw2.1
theorem k0_off11_inb : ∀ (v399 : BitVec 32) (k0_hw2 : k0_chk2 v399), ∀ a, (k0_off11 v399) a + S1x1x4x128x128.size a ≤ S1x1x32x128x128.size a := fun v399 k0_hw2 => k0_hw2.2

def k0_off12 (i : grid0.Coords) (c0_i32_117 : BitVec 32) : Fin 5 → Nat :=
  let c0_262 : Index := 0#32
  let c0_263 : Index := 0#32
  let arg2 : BitVec 32 := BitVec.ofNat 32 (i 2).val
  let c2_i32 : BitVec 32 := 2#32
  let v292 : BitVec 32 := Scalar.muli arg2 c2_i32
  let c4_i32 : BitVec 32 := 4#32
  let v293 : BitVec 32 := Scalar.subi v292 c4_i32
  let v294 : BitVec 32 := Scalar.addi v293 c0_i32_117
  let c0_i32_118 : BitVec 32 := 0#32
  let v295 : BitVec 32 := Scalar.maxsi v294 c0_i32_118
  let v493 : Index := Scalar.indexCast v295
  let c80_264 : Index := 80#32
  let c0_265 : Index := 0#32
  ![0, 0, v493.toNat, 80, 0]
@[reducible] def k0_t1_loop (i : grid0.Coords) (v291 : BitVec 32) : Scf.Loop 32 :=
  let c0_i32_294 : BitVec 32 := 0#32
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let c7_i32_205 : BitVec 32 := 7#32
  let v390 : BitVec 1 := Scalar.cmpi .sgt v263 c7_i32_205
  let c7_i32_206 : BitVec 32 := 7#32
  let v391 : BitVec 32 := Scalar.shrui v291 c7_i32_206
  let c1_i32_207 : BitVec 32 := 1#32
  let v392 : BitVec 32 := Scalar.andi v391 c1_i32_207
  let c1_i32_208 : BitVec 32 := 1#32
  let v393 : BitVec 1 := Scalar.cmpi .eq v392 c1_i32_208
  let v394 : BitVec 1 := Scalar.andi v390 v393
  let c1_i32_209 : BitVec 32 := 1#32
  let c0_i32_210 : BitVec 32 := 0#32
  let v395 : BitVec 32 := Scalar.select v394 c1_i32_209 c0_i32_210
  let v396 : BitVec 32 := Scalar.addi v387 v395
  let c0_i32_288 : BitVec 32 := 0#32
  let v519 : BitVec 1 := Scalar.cmpi .sgt v396 c0_i32_288
  let v520 : BitVec 32 := Scalar.extui v519
  let c0_i32_289 : BitVec 32 := 0#32
  let v521 : BitVec 1 := Scalar.cmpi .slt v396 c0_i32_289
  let v522 : BitVec 32 := Scalar.extui v521
  let v523 : BitVec 32 := Scalar.subi v520 v522
  let c2_i32_287 : BitVec 32 := 2#32
  let c0_i32_290 : BitVec 32 := 0#32
  let v524 : BitVec 1 := Scalar.cmpi .sgt c2_i32_287 c0_i32_290
  let v525 : BitVec 32 := Scalar.extui v524
  let c0_i32_291 : BitVec 32 := 0#32
  let v526 : BitVec 1 := Scalar.cmpi .slt c2_i32_287 c0_i32_291
  let v527 : BitVec 32 := Scalar.extui v526
  let v528 : BitVec 32 := Scalar.subi v525 v527
  let v529 : BitVec 1 := Scalar.cmpi .ne v523 v528
  let v530 : BitVec 32 := Scalar.remsi v396 c2_i32_287
  let c0_i32_292 : BitVec 32 := 0#32
  let v531 : BitVec 1 := Scalar.cmpi .ne v530 c0_i32_292
  let v532 : BitVec 1 := Scalar.andi v529 v531
  let v518 : BitVec 32 := Scalar.divsi v396 c2_i32_287
  let c1_i32_293 : BitVec 32 := 1#32
  let v533 : BitVec 32 := Scalar.subi v518 c1_i32_293
  let v534 : BitVec 32 := Scalar.select v532 v533 v518
  let v535 : BitVec 32 := Scalar.subi v534 c0_i32_294
  let c1_i32_295 : BitVec 32 := 1#32
  let v537 : BitVec 32 := Scalar.divsi v535 c1_i32_295
  let v538 : BitVec 32 := Scalar.muli v537 c1_i32_295
  let v539 : BitVec 32 := Scalar.addi c0_i32_294 v538
  let c1_i32_296 : BitVec 32 := 1#32
  ⟨c0_i32_294, v539, c1_i32_296⟩
def k0_off13 (i : grid0.Coords) (v291 : BitVec 32) (k0_t1 : Fin (k0_t1_loop i v291).trips) : Fin 1 → Nat :=
  let c2_i32_323 : BitVec 32 := 2#32
  let c0_i32_294 : BitVec 32 := 0#32
  let c1_i32_296 : BitVec 32 := 1#32
  let arg25 : BitVec 32 := Scf.iv c0_i32_294 c1_i32_296 k0_t1
  let v643 : BitVec 32 := Scalar.muli c2_i32_323 arg25
  let c1_i32_324 : BitVec 32 := 1#32
  let v644 : BitVec 32 := Scalar.addi v643 c1_i32_324
  let v645 : Index := Scalar.indexCast v644
  ![v645.toNat]
def k0_off14 (v646 : BitVec 32) : Fin 2 → Nat :=
  let c8_i32_325 : BitVec 32 := 8#32
  let v647 : BitVec 32 := Scalar.muli v646 c8_i32_325
  let v648 : Index := Scalar.indexCast v647
  let c0_326 : Index := 0#32
  ![v648.toNat, 0]

def k0_off15 (v646 : BitVec 32) : Fin 5 → Nat :=
  let c0_333 : Index := 0#32
  let c0_334 : Index := 0#32
  let c4_i32_332 : BitVec 32 := 4#32
  let v661 : BitVec 32 := Scalar.muli v646 c4_i32_332
  let v662 : Index := Scalar.indexCast v661
  let c0_335 : Index := 0#32
  let c0_336 : Index := 0#32
  ![0, 0, v662.toNat, 0, 0]

def k0_chk3 (v646 : BitVec 32) : Prop :=
  (∀ a, (k0_off14 v646) a + S8x256.size a ≤ S64x256.size a) ∧
  (∀ a, (k0_off15 v646) a + S1x1x4x128x128.size a ≤ S1x1x32x128x128.size a)
theorem k0_off14_inb : ∀ (v646 : BitVec 32) (k0_hw3 : k0_chk3 v646), ∀ a, (k0_off14 v646) a + S8x256.size a ≤ S64x256.size a := fun v646 k0_hw3 => k0_hw3.1
theorem k0_off15_inb : ∀ (v646 : BitVec 32) (k0_hw3 : k0_chk3 v646), ∀ a, (k0_off15 v646) a + S1x1x4x128x128.size a ≤ S1x1x32x128x128.size a := fun v646 k0_hw3 => k0_hw3.2

def k0_off16 (i : grid0.Coords) (v291 : BitVec 32) (k0_t1 : Fin (k0_t1_loop i v291).trips) : Fin 1 → Nat :=
  let c2_i32_342 : BitVec 32 := 2#32
  let c0_i32_294 : BitVec 32 := 0#32
  let c1_i32_296 : BitVec 32 := 1#32
  let arg25 : BitVec 32 := Scf.iv c0_i32_294 c1_i32_296 k0_t1
  let v671 : BitVec 32 := Scalar.muli c2_i32_342 arg25
  let v672 : Index := Scalar.indexCast v671
  ![v672.toNat]
def k0_off17 (v673 : BitVec 32) (c0_i32_344 : BitVec 32) : Fin 5 → Nat :=
  let c0_345 : Index := 0#32
  let c0_346 : Index := 0#32
  let c4_i32_343 : BitVec 32 := 4#32
  let v674 : BitVec 32 := Scalar.muli v673 c4_i32_343
  let v675 : BitVec 32 := Scalar.addi v674 c0_i32_344
  let v676 : Index := Scalar.indexCast v675
  let c0_347 : Index := 0#32
  let c0_348 : Index := 0#32
  ![0, 0, v676.toNat, 0, 0]

def k0_chk4 (v673 : BitVec 32) : Prop :=
  (∀ (r : Fin 4), ∀ a, (k0_off17 v673 (BitVec.ofNat 32 r.val)) a + S1x1x1x80x128.size a ≤ S1x1x32x160x128.size a)
theorem k0_off17_inb : ∀ (v673 : BitVec 32) (k0_hw4 : k0_chk4 v673), ∀ (r : Fin 4), ∀ a, (k0_off17 v673 (BitVec.ofNat 32 r.val)) a + S1x1x1x80x128.size a ≤ S1x1x32x160x128.size a := fun v673 k0_hw4 r => k0_hw4 r

def k0_off18 (i : grid0.Coords) (v291 : BitVec 32) (k0_t1 : Fin (k0_t1_loop i v291).trips) : Fin 1 → Nat :=
  let c2_i32_379 : BitVec 32 := 2#32
  let c0_i32_294 : BitVec 32 := 0#32
  let c1_i32_296 : BitVec 32 := 1#32
  let arg25 : BitVec 32 := Scf.iv c0_i32_294 c1_i32_296 k0_t1
  let v758 : BitVec 32 := Scalar.muli c2_i32_379 arg25
  let c2_i32_380 : BitVec 32 := 2#32
  let v759 : BitVec 32 := Scalar.addi v758 c2_i32_380
  let v760 : Index := Scalar.indexCast v759
  ![v760.toNat]
def k0_off19 (v761 : BitVec 32) : Fin 2 → Nat :=
  let c8_i32_381 : BitVec 32 := 8#32
  let v762 : BitVec 32 := Scalar.muli v761 c8_i32_381
  let v763 : Index := Scalar.indexCast v762
  let c0_382 : Index := 0#32
  ![v763.toNat, 0]

def k0_off20 (v761 : BitVec 32) : Fin 5 → Nat :=
  let c0_389 : Index := 0#32
  let c0_390 : Index := 0#32
  let c4_i32_388 : BitVec 32 := 4#32
  let v776 : BitVec 32 := Scalar.muli v761 c4_i32_388
  let v777 : Index := Scalar.indexCast v776
  let c0_391 : Index := 0#32
  let c0_392 : Index := 0#32
  ![0, 0, v777.toNat, 0, 0]

def k0_chk5 (v761 : BitVec 32) : Prop :=
  (∀ a, (k0_off19 v761) a + S8x256.size a ≤ S64x256.size a) ∧
  (∀ a, (k0_off20 v761) a + S1x1x4x128x128.size a ≤ S1x1x32x128x128.size a)
theorem k0_off19_inb : ∀ (v761 : BitVec 32) (k0_hw5 : k0_chk5 v761), ∀ a, (k0_off19 v761) a + S8x256.size a ≤ S64x256.size a := fun v761 k0_hw5 => k0_hw5.1
theorem k0_off20_inb : ∀ (v761 : BitVec 32) (k0_hw5 : k0_chk5 v761), ∀ a, (k0_off20 v761) a + S1x1x4x128x128.size a ≤ S1x1x32x128x128.size a := fun v761 k0_hw5 => k0_hw5.2

def k0_off21 (i : grid0.Coords) (v291 : BitVec 32) (k0_t1 : Fin (k0_t1_loop i v291).trips) : Fin 1 → Nat :=
  let c2_i32_398 : BitVec 32 := 2#32
  let c0_i32_294 : BitVec 32 := 0#32
  let c1_i32_296 : BitVec 32 := 1#32
  let arg25 : BitVec 32 := Scf.iv c0_i32_294 c1_i32_296 k0_t1
  let v786 : BitVec 32 := Scalar.muli c2_i32_398 arg25
  let c1_i32_399 : BitVec 32 := 1#32
  let v787 : BitVec 32 := Scalar.addi v786 c1_i32_399
  let v788 : Index := Scalar.indexCast v787
  ![v788.toNat]
def k0_off22 (v789 : BitVec 32) (c0_i32_401 : BitVec 32) : Fin 5 → Nat :=
  let c0_402 : Index := 0#32
  let c0_403 : Index := 0#32
  let c4_i32_400 : BitVec 32 := 4#32
  let v790 : BitVec 32 := Scalar.muli v789 c4_i32_400
  let v791 : BitVec 32 := Scalar.addi v790 c0_i32_401
  let v792 : Index := Scalar.indexCast v791
  let c0_404 : Index := 0#32
  let c0_405 : Index := 0#32
  ![0, 0, v792.toNat, 0, 0]

def k0_chk6 (v789 : BitVec 32) : Prop :=
  (∀ (r : Fin 4), ∀ a, (k0_off22 v789 (BitVec.ofNat 32 r.val)) a + S1x1x1x80x128.size a ≤ S1x1x32x160x128.size a)
theorem k0_off22_inb : ∀ (v789 : BitVec 32) (k0_hw6 : k0_chk6 v789), ∀ (r : Fin 4), ∀ a, (k0_off22 v789 (BitVec.ofNat 32 r.val)) a + S1x1x1x80x128.size a ≤ S1x1x32x160x128.size a := fun v789 k0_hw6 r => k0_hw6 r

@[reducible] def k0_t2_loop (i : grid0.Coords) (v291 : BitVec 32) : Scf.Loop 32 :=
  let c0_i32_294 : BitVec 32 := 0#32
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let c7_i32_205 : BitVec 32 := 7#32
  let v390 : BitVec 1 := Scalar.cmpi .sgt v263 c7_i32_205
  let c7_i32_206 : BitVec 32 := 7#32
  let v391 : BitVec 32 := Scalar.shrui v291 c7_i32_206
  let c1_i32_207 : BitVec 32 := 1#32
  let v392 : BitVec 32 := Scalar.andi v391 c1_i32_207
  let c1_i32_208 : BitVec 32 := 1#32
  let v393 : BitVec 1 := Scalar.cmpi .eq v392 c1_i32_208
  let v394 : BitVec 1 := Scalar.andi v390 v393
  let c1_i32_209 : BitVec 32 := 1#32
  let c0_i32_210 : BitVec 32 := 0#32
  let v395 : BitVec 32 := Scalar.select v394 c1_i32_209 c0_i32_210
  let v396 : BitVec 32 := Scalar.addi v387 v395
  let c0_i32_288 : BitVec 32 := 0#32
  let v519 : BitVec 1 := Scalar.cmpi .sgt v396 c0_i32_288
  let v520 : BitVec 32 := Scalar.extui v519
  let c0_i32_289 : BitVec 32 := 0#32
  let v521 : BitVec 1 := Scalar.cmpi .slt v396 c0_i32_289
  let v522 : BitVec 32 := Scalar.extui v521
  let v523 : BitVec 32 := Scalar.subi v520 v522
  let c2_i32_287 : BitVec 32 := 2#32
  let c0_i32_290 : BitVec 32 := 0#32
  let v524 : BitVec 1 := Scalar.cmpi .sgt c2_i32_287 c0_i32_290
  let v525 : BitVec 32 := Scalar.extui v524
  let c0_i32_291 : BitVec 32 := 0#32
  let v526 : BitVec 1 := Scalar.cmpi .slt c2_i32_287 c0_i32_291
  let v527 : BitVec 32 := Scalar.extui v526
  let v528 : BitVec 32 := Scalar.subi v525 v527
  let v529 : BitVec 1 := Scalar.cmpi .ne v523 v528
  let v530 : BitVec 32 := Scalar.remsi v396 c2_i32_287
  let c0_i32_292 : BitVec 32 := 0#32
  let v531 : BitVec 1 := Scalar.cmpi .ne v530 c0_i32_292
  let v532 : BitVec 1 := Scalar.andi v529 v531
  let v518 : BitVec 32 := Scalar.divsi v396 c2_i32_287
  let c1_i32_293 : BitVec 32 := 1#32
  let v533 : BitVec 32 := Scalar.subi v518 c1_i32_293
  let v534 : BitVec 32 := Scalar.select v532 v533 v518
  let v535 : BitVec 32 := Scalar.subi v534 c0_i32_294
  let c1_i32_295 : BitVec 32 := 1#32
  let v537 : BitVec 32 := Scalar.divsi v535 c1_i32_295
  let v538 : BitVec 32 := Scalar.muli v537 c1_i32_295
  let v539 : BitVec 32 := Scalar.addi c0_i32_294 v538
  let v536 : BitVec 32 := Scalar.addi c0_i32_294 v535
  let c1_i32_297 : BitVec 32 := 1#32
  ⟨v539, v536, c1_i32_297⟩
def k0_off23 (i : grid0.Coords) (v291 : BitVec 32) (k0_t2 : Fin (k0_t2_loop i v291).trips) : Fin 1 → Nat :=
  let c2_i32_323 : BitVec 32 := 2#32
  let c0_i32_294 : BitVec 32 := 0#32
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let c7_i32_205 : BitVec 32 := 7#32
  let v390 : BitVec 1 := Scalar.cmpi .sgt v263 c7_i32_205
  let c7_i32_206 : BitVec 32 := 7#32
  let v391 : BitVec 32 := Scalar.shrui v291 c7_i32_206
  let c1_i32_207 : BitVec 32 := 1#32
  let v392 : BitVec 32 := Scalar.andi v391 c1_i32_207
  let c1_i32_208 : BitVec 32 := 1#32
  let v393 : BitVec 1 := Scalar.cmpi .eq v392 c1_i32_208
  let v394 : BitVec 1 := Scalar.andi v390 v393
  let c1_i32_209 : BitVec 32 := 1#32
  let c0_i32_210 : BitVec 32 := 0#32
  let v395 : BitVec 32 := Scalar.select v394 c1_i32_209 c0_i32_210
  let v396 : BitVec 32 := Scalar.addi v387 v395
  let c0_i32_288 : BitVec 32 := 0#32
  let v519 : BitVec 1 := Scalar.cmpi .sgt v396 c0_i32_288
  let v520 : BitVec 32 := Scalar.extui v519
  let c0_i32_289 : BitVec 32 := 0#32
  let v521 : BitVec 1 := Scalar.cmpi .slt v396 c0_i32_289
  let v522 : BitVec 32 := Scalar.extui v521
  let v523 : BitVec 32 := Scalar.subi v520 v522
  let c2_i32_287 : BitVec 32 := 2#32
  let c0_i32_290 : BitVec 32 := 0#32
  let v524 : BitVec 1 := Scalar.cmpi .sgt c2_i32_287 c0_i32_290
  let v525 : BitVec 32 := Scalar.extui v524
  let c0_i32_291 : BitVec 32 := 0#32
  let v526 : BitVec 1 := Scalar.cmpi .slt c2_i32_287 c0_i32_291
  let v527 : BitVec 32 := Scalar.extui v526
  let v528 : BitVec 32 := Scalar.subi v525 v527
  let v529 : BitVec 1 := Scalar.cmpi .ne v523 v528
  let v530 : BitVec 32 := Scalar.remsi v396 c2_i32_287
  let c0_i32_292 : BitVec 32 := 0#32
  let v531 : BitVec 1 := Scalar.cmpi .ne v530 c0_i32_292
  let v532 : BitVec 1 := Scalar.andi v529 v531
  let v518 : BitVec 32 := Scalar.divsi v396 c2_i32_287
  let c1_i32_293 : BitVec 32 := 1#32
  let v533 : BitVec 32 := Scalar.subi v518 c1_i32_293
  let v534 : BitVec 32 := Scalar.select v532 v533 v518
  let v535 : BitVec 32 := Scalar.subi v534 c0_i32_294
  let c1_i32_295 : BitVec 32 := 1#32
  let v537 : BitVec 32 := Scalar.divsi v535 c1_i32_295
  let v538 : BitVec 32 := Scalar.muli v537 c1_i32_295
  let v539 : BitVec 32 := Scalar.addi c0_i32_294 v538
  let c1_i32_297 : BitVec 32 := 1#32
  let arg25 : BitVec 32 := Scf.iv v539 c1_i32_297 k0_t2
  let v643 : BitVec 32 := Scalar.muli c2_i32_323 arg25
  let c1_i32_324 : BitVec 32 := 1#32
  let v644 : BitVec 32 := Scalar.addi v643 c1_i32_324
  let v645 : Index := Scalar.indexCast v644
  ![v645.toNat]
def k0_off24 (v646 : BitVec 32) : Fin 2 → Nat :=
  let c8_i32_325 : BitVec 32 := 8#32
  let v647 : BitVec 32 := Scalar.muli v646 c8_i32_325
  let v648 : Index := Scalar.indexCast v647
  let c0_326 : Index := 0#32
  ![v648.toNat, 0]

def k0_off25 (v646 : BitVec 32) : Fin 5 → Nat :=
  let c0_333 : Index := 0#32
  let c0_334 : Index := 0#32
  let c4_i32_332 : BitVec 32 := 4#32
  let v661 : BitVec 32 := Scalar.muli v646 c4_i32_332
  let v662 : Index := Scalar.indexCast v661
  let c0_335 : Index := 0#32
  let c0_336 : Index := 0#32
  ![0, 0, v662.toNat, 0, 0]

def k0_chk7 (v646 : BitVec 32) : Prop :=
  (∀ a, (k0_off24 v646) a + S8x256.size a ≤ S64x256.size a) ∧
  (∀ a, (k0_off25 v646) a + S1x1x4x128x128.size a ≤ S1x1x32x128x128.size a)
theorem k0_off24_inb : ∀ (v646 : BitVec 32) (k0_hw7 : k0_chk7 v646), ∀ a, (k0_off24 v646) a + S8x256.size a ≤ S64x256.size a := fun v646 k0_hw7 => k0_hw7.1
theorem k0_off25_inb : ∀ (v646 : BitVec 32) (k0_hw7 : k0_chk7 v646), ∀ a, (k0_off25 v646) a + S1x1x4x128x128.size a ≤ S1x1x32x128x128.size a := fun v646 k0_hw7 => k0_hw7.2

def k0_off26 (i : grid0.Coords) (v291 : BitVec 32) (k0_t2 : Fin (k0_t2_loop i v291).trips) : Fin 1 → Nat :=
  let c2_i32_342 : BitVec 32 := 2#32
  let c0_i32_294 : BitVec 32 := 0#32
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let c7_i32_205 : BitVec 32 := 7#32
  let v390 : BitVec 1 := Scalar.cmpi .sgt v263 c7_i32_205
  let c7_i32_206 : BitVec 32 := 7#32
  let v391 : BitVec 32 := Scalar.shrui v291 c7_i32_206
  let c1_i32_207 : BitVec 32 := 1#32
  let v392 : BitVec 32 := Scalar.andi v391 c1_i32_207
  let c1_i32_208 : BitVec 32 := 1#32
  let v393 : BitVec 1 := Scalar.cmpi .eq v392 c1_i32_208
  let v394 : BitVec 1 := Scalar.andi v390 v393
  let c1_i32_209 : BitVec 32 := 1#32
  let c0_i32_210 : BitVec 32 := 0#32
  let v395 : BitVec 32 := Scalar.select v394 c1_i32_209 c0_i32_210
  let v396 : BitVec 32 := Scalar.addi v387 v395
  let c0_i32_288 : BitVec 32 := 0#32
  let v519 : BitVec 1 := Scalar.cmpi .sgt v396 c0_i32_288
  let v520 : BitVec 32 := Scalar.extui v519
  let c0_i32_289 : BitVec 32 := 0#32
  let v521 : BitVec 1 := Scalar.cmpi .slt v396 c0_i32_289
  let v522 : BitVec 32 := Scalar.extui v521
  let v523 : BitVec 32 := Scalar.subi v520 v522
  let c2_i32_287 : BitVec 32 := 2#32
  let c0_i32_290 : BitVec 32 := 0#32
  let v524 : BitVec 1 := Scalar.cmpi .sgt c2_i32_287 c0_i32_290
  let v525 : BitVec 32 := Scalar.extui v524
  let c0_i32_291 : BitVec 32 := 0#32
  let v526 : BitVec 1 := Scalar.cmpi .slt c2_i32_287 c0_i32_291
  let v527 : BitVec 32 := Scalar.extui v526
  let v528 : BitVec 32 := Scalar.subi v525 v527
  let v529 : BitVec 1 := Scalar.cmpi .ne v523 v528
  let v530 : BitVec 32 := Scalar.remsi v396 c2_i32_287
  let c0_i32_292 : BitVec 32 := 0#32
  let v531 : BitVec 1 := Scalar.cmpi .ne v530 c0_i32_292
  let v532 : BitVec 1 := Scalar.andi v529 v531
  let v518 : BitVec 32 := Scalar.divsi v396 c2_i32_287
  let c1_i32_293 : BitVec 32 := 1#32
  let v533 : BitVec 32 := Scalar.subi v518 c1_i32_293
  let v534 : BitVec 32 := Scalar.select v532 v533 v518
  let v535 : BitVec 32 := Scalar.subi v534 c0_i32_294
  let c1_i32_295 : BitVec 32 := 1#32
  let v537 : BitVec 32 := Scalar.divsi v535 c1_i32_295
  let v538 : BitVec 32 := Scalar.muli v537 c1_i32_295
  let v539 : BitVec 32 := Scalar.addi c0_i32_294 v538
  let c1_i32_297 : BitVec 32 := 1#32
  let arg25 : BitVec 32 := Scf.iv v539 c1_i32_297 k0_t2
  let v671 : BitVec 32 := Scalar.muli c2_i32_342 arg25
  let v672 : Index := Scalar.indexCast v671
  ![v672.toNat]
def k0_off27 (v673 : BitVec 32) (c0_i32_344 : BitVec 32) : Fin 5 → Nat :=
  let c0_345 : Index := 0#32
  let c0_346 : Index := 0#32
  let c4_i32_343 : BitVec 32 := 4#32
  let v674 : BitVec 32 := Scalar.muli v673 c4_i32_343
  let v675 : BitVec 32 := Scalar.addi v674 c0_i32_344
  let v676 : Index := Scalar.indexCast v675
  let c0_347 : Index := 0#32
  let c0_348 : Index := 0#32
  ![0, 0, v676.toNat, 0, 0]

def k0_chk8 (v673 : BitVec 32) : Prop :=
  (∀ (r : Fin 4), ∀ a, (k0_off27 v673 (BitVec.ofNat 32 r.val)) a + S1x1x1x80x128.size a ≤ S1x1x32x160x128.size a)
theorem k0_off27_inb : ∀ (v673 : BitVec 32) (k0_hw8 : k0_chk8 v673), ∀ (r : Fin 4), ∀ a, (k0_off27 v673 (BitVec.ofNat 32 r.val)) a + S1x1x1x80x128.size a ≤ S1x1x32x160x128.size a := fun v673 k0_hw8 r => k0_hw8 r

def k0_off28 (i : grid0.Coords) (v291 : BitVec 32) (k0_t2 : Fin (k0_t2_loop i v291).trips) : Fin 1 → Nat :=
  let c2_i32_379 : BitVec 32 := 2#32
  let c0_i32_294 : BitVec 32 := 0#32
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let c7_i32_205 : BitVec 32 := 7#32
  let v390 : BitVec 1 := Scalar.cmpi .sgt v263 c7_i32_205
  let c7_i32_206 : BitVec 32 := 7#32
  let v391 : BitVec 32 := Scalar.shrui v291 c7_i32_206
  let c1_i32_207 : BitVec 32 := 1#32
  let v392 : BitVec 32 := Scalar.andi v391 c1_i32_207
  let c1_i32_208 : BitVec 32 := 1#32
  let v393 : BitVec 1 := Scalar.cmpi .eq v392 c1_i32_208
  let v394 : BitVec 1 := Scalar.andi v390 v393
  let c1_i32_209 : BitVec 32 := 1#32
  let c0_i32_210 : BitVec 32 := 0#32
  let v395 : BitVec 32 := Scalar.select v394 c1_i32_209 c0_i32_210
  let v396 : BitVec 32 := Scalar.addi v387 v395
  let c0_i32_288 : BitVec 32 := 0#32
  let v519 : BitVec 1 := Scalar.cmpi .sgt v396 c0_i32_288
  let v520 : BitVec 32 := Scalar.extui v519
  let c0_i32_289 : BitVec 32 := 0#32
  let v521 : BitVec 1 := Scalar.cmpi .slt v396 c0_i32_289
  let v522 : BitVec 32 := Scalar.extui v521
  let v523 : BitVec 32 := Scalar.subi v520 v522
  let c2_i32_287 : BitVec 32 := 2#32
  let c0_i32_290 : BitVec 32 := 0#32
  let v524 : BitVec 1 := Scalar.cmpi .sgt c2_i32_287 c0_i32_290
  let v525 : BitVec 32 := Scalar.extui v524
  let c0_i32_291 : BitVec 32 := 0#32
  let v526 : BitVec 1 := Scalar.cmpi .slt c2_i32_287 c0_i32_291
  let v527 : BitVec 32 := Scalar.extui v526
  let v528 : BitVec 32 := Scalar.subi v525 v527
  let v529 : BitVec 1 := Scalar.cmpi .ne v523 v528
  let v530 : BitVec 32 := Scalar.remsi v396 c2_i32_287
  let c0_i32_292 : BitVec 32 := 0#32
  let v531 : BitVec 1 := Scalar.cmpi .ne v530 c0_i32_292
  let v532 : BitVec 1 := Scalar.andi v529 v531
  let v518 : BitVec 32 := Scalar.divsi v396 c2_i32_287
  let c1_i32_293 : BitVec 32 := 1#32
  let v533 : BitVec 32 := Scalar.subi v518 c1_i32_293
  let v534 : BitVec 32 := Scalar.select v532 v533 v518
  let v535 : BitVec 32 := Scalar.subi v534 c0_i32_294
  let c1_i32_295 : BitVec 32 := 1#32
  let v537 : BitVec 32 := Scalar.divsi v535 c1_i32_295
  let v538 : BitVec 32 := Scalar.muli v537 c1_i32_295
  let v539 : BitVec 32 := Scalar.addi c0_i32_294 v538
  let c1_i32_297 : BitVec 32 := 1#32
  let arg25 : BitVec 32 := Scf.iv v539 c1_i32_297 k0_t2
  let v758 : BitVec 32 := Scalar.muli c2_i32_379 arg25
  let c2_i32_380 : BitVec 32 := 2#32
  let v759 : BitVec 32 := Scalar.addi v758 c2_i32_380
  let v760 : Index := Scalar.indexCast v759
  ![v760.toNat]
def k0_off29 (v761 : BitVec 32) : Fin 2 → Nat :=
  let c8_i32_381 : BitVec 32 := 8#32
  let v762 : BitVec 32 := Scalar.muli v761 c8_i32_381
  let v763 : Index := Scalar.indexCast v762
  let c0_382 : Index := 0#32
  ![v763.toNat, 0]

def k0_off30 (v761 : BitVec 32) : Fin 5 → Nat :=
  let c0_389 : Index := 0#32
  let c0_390 : Index := 0#32
  let c4_i32_388 : BitVec 32 := 4#32
  let v776 : BitVec 32 := Scalar.muli v761 c4_i32_388
  let v777 : Index := Scalar.indexCast v776
  let c0_391 : Index := 0#32
  let c0_392 : Index := 0#32
  ![0, 0, v777.toNat, 0, 0]

def k0_chk9 (v761 : BitVec 32) : Prop :=
  (∀ a, (k0_off29 v761) a + S8x256.size a ≤ S64x256.size a) ∧
  (∀ a, (k0_off30 v761) a + S1x1x4x128x128.size a ≤ S1x1x32x128x128.size a)
theorem k0_off29_inb : ∀ (v761 : BitVec 32) (k0_hw9 : k0_chk9 v761), ∀ a, (k0_off29 v761) a + S8x256.size a ≤ S64x256.size a := fun v761 k0_hw9 => k0_hw9.1
theorem k0_off30_inb : ∀ (v761 : BitVec 32) (k0_hw9 : k0_chk9 v761), ∀ a, (k0_off30 v761) a + S1x1x4x128x128.size a ≤ S1x1x32x128x128.size a := fun v761 k0_hw9 => k0_hw9.2

def k0_off31 (i : grid0.Coords) (v291 : BitVec 32) (k0_t2 : Fin (k0_t2_loop i v291).trips) : Fin 1 → Nat :=
  let c2_i32_398 : BitVec 32 := 2#32
  let c0_i32_294 : BitVec 32 := 0#32
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let c7_i32_205 : BitVec 32 := 7#32
  let v390 : BitVec 1 := Scalar.cmpi .sgt v263 c7_i32_205
  let c7_i32_206 : BitVec 32 := 7#32
  let v391 : BitVec 32 := Scalar.shrui v291 c7_i32_206
  let c1_i32_207 : BitVec 32 := 1#32
  let v392 : BitVec 32 := Scalar.andi v391 c1_i32_207
  let c1_i32_208 : BitVec 32 := 1#32
  let v393 : BitVec 1 := Scalar.cmpi .eq v392 c1_i32_208
  let v394 : BitVec 1 := Scalar.andi v390 v393
  let c1_i32_209 : BitVec 32 := 1#32
  let c0_i32_210 : BitVec 32 := 0#32
  let v395 : BitVec 32 := Scalar.select v394 c1_i32_209 c0_i32_210
  let v396 : BitVec 32 := Scalar.addi v387 v395
  let c0_i32_288 : BitVec 32 := 0#32
  let v519 : BitVec 1 := Scalar.cmpi .sgt v396 c0_i32_288
  let v520 : BitVec 32 := Scalar.extui v519
  let c0_i32_289 : BitVec 32 := 0#32
  let v521 : BitVec 1 := Scalar.cmpi .slt v396 c0_i32_289
  let v522 : BitVec 32 := Scalar.extui v521
  let v523 : BitVec 32 := Scalar.subi v520 v522
  let c2_i32_287 : BitVec 32 := 2#32
  let c0_i32_290 : BitVec 32 := 0#32
  let v524 : BitVec 1 := Scalar.cmpi .sgt c2_i32_287 c0_i32_290
  let v525 : BitVec 32 := Scalar.extui v524
  let c0_i32_291 : BitVec 32 := 0#32
  let v526 : BitVec 1 := Scalar.cmpi .slt c2_i32_287 c0_i32_291
  let v527 : BitVec 32 := Scalar.extui v526
  let v528 : BitVec 32 := Scalar.subi v525 v527
  let v529 : BitVec 1 := Scalar.cmpi .ne v523 v528
  let v530 : BitVec 32 := Scalar.remsi v396 c2_i32_287
  let c0_i32_292 : BitVec 32 := 0#32
  let v531 : BitVec 1 := Scalar.cmpi .ne v530 c0_i32_292
  let v532 : BitVec 1 := Scalar.andi v529 v531
  let v518 : BitVec 32 := Scalar.divsi v396 c2_i32_287
  let c1_i32_293 : BitVec 32 := 1#32
  let v533 : BitVec 32 := Scalar.subi v518 c1_i32_293
  let v534 : BitVec 32 := Scalar.select v532 v533 v518
  let v535 : BitVec 32 := Scalar.subi v534 c0_i32_294
  let c1_i32_295 : BitVec 32 := 1#32
  let v537 : BitVec 32 := Scalar.divsi v535 c1_i32_295
  let v538 : BitVec 32 := Scalar.muli v537 c1_i32_295
  let v539 : BitVec 32 := Scalar.addi c0_i32_294 v538
  let c1_i32_297 : BitVec 32 := 1#32
  let arg25 : BitVec 32 := Scf.iv v539 c1_i32_297 k0_t2
  let v786 : BitVec 32 := Scalar.muli c2_i32_398 arg25
  let c1_i32_399 : BitVec 32 := 1#32
  let v787 : BitVec 32 := Scalar.addi v786 c1_i32_399
  let v788 : Index := Scalar.indexCast v787
  ![v788.toNat]
def k0_off32 (v789 : BitVec 32) (c0_i32_401 : BitVec 32) : Fin 5 → Nat :=
  let c0_402 : Index := 0#32
  let c0_403 : Index := 0#32
  let c4_i32_400 : BitVec 32 := 4#32
  let v790 : BitVec 32 := Scalar.muli v789 c4_i32_400
  let v791 : BitVec 32 := Scalar.addi v790 c0_i32_401
  let v792 : Index := Scalar.indexCast v791
  let c0_404 : Index := 0#32
  let c0_405 : Index := 0#32
  ![0, 0, v792.toNat, 0, 0]

def k0_chk10 (v789 : BitVec 32) : Prop :=
  (∀ (r : Fin 4), ∀ a, (k0_off32 v789 (BitVec.ofNat 32 r.val)) a + S1x1x1x80x128.size a ≤ S1x1x32x160x128.size a)
theorem k0_off32_inb : ∀ (v789 : BitVec 32) (k0_hw10 : k0_chk10 v789), ∀ (r : Fin 4), ∀ a, (k0_off32 v789 (BitVec.ofNat 32 r.val)) a + S1x1x1x80x128.size a ≤ S1x1x32x160x128.size a := fun v789 k0_hw10 r => k0_hw10 r

def k0_off33 (i : grid0.Coords) : Fin 2 → Nat :=
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c8_i32_323 : BitVec 32 := 8#32
  let v643 : BitVec 32 := Scalar.muli v263 c8_i32_323
  let v644 : Index := Scalar.indexCast v643
  let c0_324 : Index := 0#32
  ![v644.toNat, 0]
def k0_off34 (i : grid0.Coords) : Fin 5 → Nat :=
  let c0_331 : Index := 0#32
  let c0_332 : Index := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c4_i32_330 : BitVec 32 := 4#32
  let v657 : BitVec 32 := Scalar.muli v263 c4_i32_330
  let v658 : Index := Scalar.indexCast v657
  let c0_333 : Index := 0#32
  let c0_334 : Index := 0#32
  ![0, 0, v658.toNat, 0, 0]
def k0_off35 (i : grid0.Coords) (v291 : BitVec 32) : Fin 1 → Nat :=
  let c2_i32_305 : BitVec 32 := 2#32
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let c7_i32_205 : BitVec 32 := 7#32
  let v390 : BitVec 1 := Scalar.cmpi .sgt v263 c7_i32_205
  let c7_i32_206 : BitVec 32 := 7#32
  let v391 : BitVec 32 := Scalar.shrui v291 c7_i32_206
  let c1_i32_207 : BitVec 32 := 1#32
  let v392 : BitVec 32 := Scalar.andi v391 c1_i32_207
  let c1_i32_208 : BitVec 32 := 1#32
  let v393 : BitVec 1 := Scalar.cmpi .eq v392 c1_i32_208
  let v394 : BitVec 1 := Scalar.andi v390 v393
  let c1_i32_209 : BitVec 32 := 1#32
  let c0_i32_210 : BitVec 32 := 0#32
  let v395 : BitVec 32 := Scalar.select v394 c1_i32_209 c0_i32_210
  let v396 : BitVec 32 := Scalar.addi v387 v395
  let c0_i32_299 : BitVec 32 := 0#32
  let v543 : BitVec 1 := Scalar.cmpi .sgt v396 c0_i32_299
  let v544 : BitVec 32 := Scalar.extui v543
  let c0_i32_300 : BitVec 32 := 0#32
  let v545 : BitVec 1 := Scalar.cmpi .slt v396 c0_i32_300
  let v546 : BitVec 32 := Scalar.extui v545
  let v547 : BitVec 32 := Scalar.subi v544 v546
  let c2_i32_298 : BitVec 32 := 2#32
  let c0_i32_301 : BitVec 32 := 0#32
  let v548 : BitVec 1 := Scalar.cmpi .sgt c2_i32_298 c0_i32_301
  let v549 : BitVec 32 := Scalar.extui v548
  let c0_i32_302 : BitVec 32 := 0#32
  let v550 : BitVec 1 := Scalar.cmpi .slt c2_i32_298 c0_i32_302
  let v551 : BitVec 32 := Scalar.extui v550
  let v552 : BitVec 32 := Scalar.subi v549 v551
  let v553 : BitVec 1 := Scalar.cmpi .ne v547 v552
  let v554 : BitVec 32 := Scalar.remsi v396 c2_i32_298
  let c0_i32_303 : BitVec 32 := 0#32
  let v555 : BitVec 1 := Scalar.cmpi .ne v554 c0_i32_303
  let v556 : BitVec 1 := Scalar.andi v553 v555
  let v542 : BitVec 32 := Scalar.divsi v396 c2_i32_298
  let c1_i32_304 : BitVec 32 := 1#32
  let v557 : BitVec 32 := Scalar.subi v542 c1_i32_304
  let v558 : BitVec 32 := Scalar.select v556 v557 v542
  let v559 : BitVec 32 := Scalar.muli c2_i32_305 v558
  let v667 : Index := Scalar.indexCast v559
  ![v667.toNat]
def k0_cond8 (i : grid0.Coords) (v291 : BitVec 32) : BitVec 1 :=
  let c0_i32_161 : BitVec 32 := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c0_i32_155 : BitVec 32 := 0#32
  let v327 : BitVec 1 := Scalar.cmpi .sgt v263 c0_i32_155
  let c0_i32_156 : BitVec 32 := 0#32
  let v328 : BitVec 32 := Scalar.shrui v291 c0_i32_156
  let c1_i32_157 : BitVec 32 := 1#32
  let v329 : BitVec 32 := Scalar.andi v328 c1_i32_157
  let c1_i32_158 : BitVec 32 := 1#32
  let v330 : BitVec 1 := Scalar.cmpi .eq v329 c1_i32_158
  let v331 : BitVec 1 := Scalar.andi v327 v330
  let c1_i32_159 : BitVec 32 := 1#32
  let c0_i32_160 : BitVec 32 := 0#32
  let v332 : BitVec 32 := Scalar.select v331 c1_i32_159 c0_i32_160
  let v333 : BitVec 32 := Scalar.addi c0_i32_161 v332
  let c1_i32_163 : BitVec 32 := 1#32
  let v336 : BitVec 1 := Scalar.cmpi .sgt v263 c1_i32_163
  let c1_i32_164 : BitVec 32 := 1#32
  let v337 : BitVec 32 := Scalar.shrui v291 c1_i32_164
  let c1_i32_165 : BitVec 32 := 1#32
  let v338 : BitVec 32 := Scalar.andi v337 c1_i32_165
  let c1_i32_166 : BitVec 32 := 1#32
  let v339 : BitVec 1 := Scalar.cmpi .eq v338 c1_i32_166
  let v340 : BitVec 1 := Scalar.andi v336 v339
  let c1_i32_167 : BitVec 32 := 1#32
  let c0_i32_168 : BitVec 32 := 0#32
  let v341 : BitVec 32 := Scalar.select v340 c1_i32_167 c0_i32_168
  let v342 : BitVec 32 := Scalar.addi v333 v341
  let c2_i32_170 : BitVec 32 := 2#32
  let v345 : BitVec 1 := Scalar.cmpi .sgt v263 c2_i32_170
  let c2_i32_171 : BitVec 32 := 2#32
  let v346 : BitVec 32 := Scalar.shrui v291 c2_i32_171
  let c1_i32_172 : BitVec 32 := 1#32
  let v347 : BitVec 32 := Scalar.andi v346 c1_i32_172
  let c1_i32_173 : BitVec 32 := 1#32
  let v348 : BitVec 1 := Scalar.cmpi .eq v347 c1_i32_173
  let v349 : BitVec 1 := Scalar.andi v345 v348
  let c1_i32_174 : BitVec 32 := 1#32
  let c0_i32_175 : BitVec 32 := 0#32
  let v350 : BitVec 32 := Scalar.select v349 c1_i32_174 c0_i32_175
  let v351 : BitVec 32 := Scalar.addi v342 v350
  let c3_i32_177 : BitVec 32 := 3#32
  let v354 : BitVec 1 := Scalar.cmpi .sgt v263 c3_i32_177
  let c3_i32_178 : BitVec 32 := 3#32
  let v355 : BitVec 32 := Scalar.shrui v291 c3_i32_178
  let c1_i32_179 : BitVec 32 := 1#32
  let v356 : BitVec 32 := Scalar.andi v355 c1_i32_179
  let c1_i32_180 : BitVec 32 := 1#32
  let v357 : BitVec 1 := Scalar.cmpi .eq v356 c1_i32_180
  let v358 : BitVec 1 := Scalar.andi v354 v357
  let c1_i32_181 : BitVec 32 := 1#32
  let c0_i32_182 : BitVec 32 := 0#32
  let v359 : BitVec 32 := Scalar.select v358 c1_i32_181 c0_i32_182
  let v360 : BitVec 32 := Scalar.addi v351 v359
  let c4_i32_184 : BitVec 32 := 4#32
  let v363 : BitVec 1 := Scalar.cmpi .sgt v263 c4_i32_184
  let c4_i32_185 : BitVec 32 := 4#32
  let v364 : BitVec 32 := Scalar.shrui v291 c4_i32_185
  let c1_i32_186 : BitVec 32 := 1#32
  let v365 : BitVec 32 := Scalar.andi v364 c1_i32_186
  let c1_i32_187 : BitVec 32 := 1#32
  let v366 : BitVec 1 := Scalar.cmpi .eq v365 c1_i32_187
  let v367 : BitVec 1 := Scalar.andi v363 v366
  let c1_i32_188 : BitVec 32 := 1#32
  let c0_i32_189 : BitVec 32 := 0#32
  let v368 : BitVec 32 := Scalar.select v367 c1_i32_188 c0_i32_189
  let v369 : BitVec 32 := Scalar.addi v360 v368
  let c5_i32_191 : BitVec 32 := 5#32
  let v372 : BitVec 1 := Scalar.cmpi .sgt v263 c5_i32_191
  let c5_i32_192 : BitVec 32 := 5#32
  let v373 : BitVec 32 := Scalar.shrui v291 c5_i32_192
  let c1_i32_193 : BitVec 32 := 1#32
  let v374 : BitVec 32 := Scalar.andi v373 c1_i32_193
  let c1_i32_194 : BitVec 32 := 1#32
  let v375 : BitVec 1 := Scalar.cmpi .eq v374 c1_i32_194
  let v376 : BitVec 1 := Scalar.andi v372 v375
  let c1_i32_195 : BitVec 32 := 1#32
  let c0_i32_196 : BitVec 32 := 0#32
  let v377 : BitVec 32 := Scalar.select v376 c1_i32_195 c0_i32_196
  let v378 : BitVec 32 := Scalar.addi v369 v377
  let c6_i32_198 : BitVec 32 := 6#32
  let v381 : BitVec 1 := Scalar.cmpi .sgt v263 c6_i32_198
  let c6_i32_199 : BitVec 32 := 6#32
  let v382 : BitVec 32 := Scalar.shrui v291 c6_i32_199
  let c1_i32_200 : BitVec 32 := 1#32
  let v383 : BitVec 32 := Scalar.andi v382 c1_i32_200
  let c1_i32_201 : BitVec 32 := 1#32
  let v384 : BitVec 1 := Scalar.cmpi .eq v383 c1_i32_201
  let v385 : BitVec 1 := Scalar.andi v381 v384
  let c1_i32_202 : BitVec 32 := 1#32
  let c0_i32_203 : BitVec 32 := 0#32
  let v386 : BitVec 32 := Scalar.select v385 c1_i32_202 c0_i32_203
  let v387 : BitVec 32 := Scalar.addi v378 v386
  let c7_i32_205 : BitVec 32 := 7#32
  let v390 : BitVec 1 := Scalar.cmpi .sgt v263 c7_i32_205
  let c7_i32_206 : BitVec 32 := 7#32
  let v391 : BitVec 32 := Scalar.shrui v291 c7_i32_206
  let c1_i32_207 : BitVec 32 := 1#32
  let v392 : BitVec 32 := Scalar.andi v391 c1_i32_207
  let c1_i32_208 : BitVec 32 := 1#32
  let v393 : BitVec 1 := Scalar.cmpi .eq v392 c1_i32_208
  let v394 : BitVec 1 := Scalar.andi v390 v393
  let c1_i32_209 : BitVec 32 := 1#32
  let c0_i32_210 : BitVec 32 := 0#32
  let v395 : BitVec 32 := Scalar.select v394 c1_i32_209 c0_i32_210
  let v396 : BitVec 32 := Scalar.addi v387 v395
  let c2_i32_306 : BitVec 32 := 2#32
  let c0_i32_307 : BitVec 32 := 0#32
  let v560 : BitVec 1 := Scalar.cmpi .eq c2_i32_306 c0_i32_307
  let c1_i32_308 : BitVec 32 := 1#32
  let v561 : BitVec 32 := Scalar.select v560 c1_i32_308 c2_i32_306
  let v562 : BitVec 32 := Scalar.remsi v396 v561
  let c0_i32_310 : BitVec 32 := 0#32
  let v564 : BitVec 1 := Scalar.cmpi .slt v562 c0_i32_310
  let c0_i32_311 : BitVec 32 := 0#32
  let v565 : BitVec 1 := Scalar.cmpi .slt v561 c0_i32_311
  let v566 : BitVec 1 := Scalar.xori v564 v565
  let c0_i32_309 : BitVec 32 := 0#32
  let v563 : BitVec 1 := Scalar.cmpi .ne v562 c0_i32_309
  let v567 : BitVec 1 := Scalar.andi v566 v563
  let v568 : BitVec 32 := Scalar.addi v562 v561
  let v569 : BitVec 32 := Scalar.select v567 v568 v562
  let c1_i32_312 : BitVec 32 := 1#32
  let v570 : BitVec 1 := Scalar.cmpi .eq v569 c1_i32_312
  let v571 : BitVec 32 := Scalar.extui v570
  let c0_i32_313 : BitVec 32 := 0#32
  let v572 : BitVec 1 := Scalar.cmpi .ne v571 c0_i32_313
  v572

def k0_chk1 (i : grid0.Coords) (v291 : BitVec 32) : Prop :=
  (∀ a, (k0_off2 i v291) a + S1.size a ≤ S9.size a) ∧
  (∀ a, (k0_off3 i v291) a + S1.size a ≤ S9.size a) ∧
  (∀ a, (k0_off4 i v291) a + S1.size a ≤ S9.size a) ∧
  (∀ a, (k0_off5 i v291) a + S1.size a ≤ S9.size a) ∧
  (∀ a, (k0_off6 i v291) a + S1.size a ≤ S9.size a) ∧
  (∀ a, (k0_off7 i v291) a + S1.size a ≤ S9.size a) ∧
  (∀ a, (k0_off8 i v291) a + S1.size a ≤ S9.size a) ∧
  (∀ a, (k0_off9 i v291) a + S1.size a ≤ S9.size a) ∧
  ((k0_t1_loop i v291).OK) ∧
  (∀ k0_t1 : Fin (k0_t1_loop i v291).trips, ∀ a, (k0_off13 i v291 k0_t1) a + S1.size a ≤ S9.size a) ∧
  (∀ k0_t1 : Fin (k0_t1_loop i v291).trips, ∀ a, (k0_off16 i v291 k0_t1) a + S1.size a ≤ S9.size a) ∧
  (∀ k0_t1 : Fin (k0_t1_loop i v291).trips, ∀ a, (k0_off18 i v291 k0_t1) a + S1.size a ≤ S9.size a) ∧
  (∀ k0_t1 : Fin (k0_t1_loop i v291).trips, ∀ a, (k0_off21 i v291 k0_t1) a + S1.size a ≤ S9.size a) ∧
  ((k0_t2_loop i v291).OK) ∧
  (∀ k0_t2 : Fin (k0_t2_loop i v291).trips, ∀ a, (k0_off23 i v291 k0_t2) a + S1.size a ≤ S9.size a) ∧
  (∀ k0_t2 : Fin (k0_t2_loop i v291).trips, ∀ a, (k0_off26 i v291 k0_t2) a + S1.size a ≤ S9.size a) ∧
  (∀ k0_t2 : Fin (k0_t2_loop i v291).trips, ∀ a, (k0_off28 i v291 k0_t2) a + S1.size a ≤ S9.size a) ∧
  (∀ k0_t2 : Fin (k0_t2_loop i v291).trips, ∀ a, (k0_off31 i v291 k0_t2) a + S1.size a ≤ S9.size a) ∧
  (∀ (k0_h8 : k0_cond8 i v291 = 1#1), ∀ a, (k0_off35 i v291) a + S1.size a ≤ S9.size a)
theorem k0_off2_inb : ∀ (i : grid0.Coords) (v291 : BitVec 32) (k0_hw1 : k0_chk1 i v291), ∀ a, (k0_off2 i v291) a + S1.size a ≤ S9.size a := fun i v291 k0_hw1 => k0_hw1.1
theorem k0_off3_inb : ∀ (i : grid0.Coords) (v291 : BitVec 32) (k0_hw1 : k0_chk1 i v291), ∀ a, (k0_off3 i v291) a + S1.size a ≤ S9.size a := fun i v291 k0_hw1 => k0_hw1.2.1
theorem k0_off4_inb : ∀ (i : grid0.Coords) (v291 : BitVec 32) (k0_hw1 : k0_chk1 i v291), ∀ a, (k0_off4 i v291) a + S1.size a ≤ S9.size a := fun i v291 k0_hw1 => k0_hw1.2.2.1
theorem k0_off5_inb : ∀ (i : grid0.Coords) (v291 : BitVec 32) (k0_hw1 : k0_chk1 i v291), ∀ a, (k0_off5 i v291) a + S1.size a ≤ S9.size a := fun i v291 k0_hw1 => k0_hw1.2.2.2.1
theorem k0_off6_inb : ∀ (i : grid0.Coords) (v291 : BitVec 32) (k0_hw1 : k0_chk1 i v291), ∀ a, (k0_off6 i v291) a + S1.size a ≤ S9.size a := fun i v291 k0_hw1 => k0_hw1.2.2.2.2.1
theorem k0_off7_inb : ∀ (i : grid0.Coords) (v291 : BitVec 32) (k0_hw1 : k0_chk1 i v291), ∀ a, (k0_off7 i v291) a + S1.size a ≤ S9.size a := fun i v291 k0_hw1 => k0_hw1.2.2.2.2.2.1
theorem k0_off8_inb : ∀ (i : grid0.Coords) (v291 : BitVec 32) (k0_hw1 : k0_chk1 i v291), ∀ a, (k0_off8 i v291) a + S1.size a ≤ S9.size a := fun i v291 k0_hw1 => k0_hw1.2.2.2.2.2.2.1
theorem k0_off9_inb : ∀ (i : grid0.Coords) (v291 : BitVec 32) (k0_hw1 : k0_chk1 i v291), ∀ a, (k0_off9 i v291) a + S1.size a ≤ S9.size a := fun i v291 k0_hw1 => k0_hw1.2.2.2.2.2.2.2.1
theorem k0_t1_ok : ∀ (i : grid0.Coords) (v291 : BitVec 32) (k0_hw1 : k0_chk1 i v291), (k0_t1_loop i v291).OK := fun i v291 k0_hw1 => k0_hw1.2.2.2.2.2.2.2.2.1
theorem k0_off13_inb : ∀ (i : grid0.Coords) (v291 : BitVec 32) (k0_hw1 : k0_chk1 i v291) (k0_t1 : Fin (k0_t1_loop i v291).trips), ∀ a, (k0_off13 i v291 k0_t1) a + S1.size a ≤ S9.size a := fun i v291 k0_hw1 k0_t1 => k0_hw1.2.2.2.2.2.2.2.2.2.1 k0_t1
theorem k0_off16_inb : ∀ (i : grid0.Coords) (v291 : BitVec 32) (k0_hw1 : k0_chk1 i v291) (k0_t1 : Fin (k0_t1_loop i v291).trips), ∀ a, (k0_off16 i v291 k0_t1) a + S1.size a ≤ S9.size a := fun i v291 k0_hw1 k0_t1 => k0_hw1.2.2.2.2.2.2.2.2.2.2.1 k0_t1
theorem k0_off18_inb : ∀ (i : grid0.Coords) (v291 : BitVec 32) (k0_hw1 : k0_chk1 i v291) (k0_t1 : Fin (k0_t1_loop i v291).trips), ∀ a, (k0_off18 i v291 k0_t1) a + S1.size a ≤ S9.size a := fun i v291 k0_hw1 k0_t1 => k0_hw1.2.2.2.2.2.2.2.2.2.2.2.1 k0_t1
theorem k0_off21_inb : ∀ (i : grid0.Coords) (v291 : BitVec 32) (k0_hw1 : k0_chk1 i v291) (k0_t1 : Fin (k0_t1_loop i v291).trips), ∀ a, (k0_off21 i v291 k0_t1) a + S1.size a ≤ S9.size a := fun i v291 k0_hw1 k0_t1 => k0_hw1.2.2.2.2.2.2.2.2.2.2.2.2.1 k0_t1
theorem k0_t2_ok : ∀ (i : grid0.Coords) (v291 : BitVec 32) (k0_hw1 : k0_chk1 i v291), (k0_t2_loop i v291).OK := fun i v291 k0_hw1 => k0_hw1.2.2.2.2.2.2.2.2.2.2.2.2.2.1
theorem k0_off23_inb : ∀ (i : grid0.Coords) (v291 : BitVec 32) (k0_hw1 : k0_chk1 i v291) (k0_t2 : Fin (k0_t2_loop i v291).trips), ∀ a, (k0_off23 i v291 k0_t2) a + S1.size a ≤ S9.size a := fun i v291 k0_hw1 k0_t2 => k0_hw1.2.2.2.2.2.2.2.2.2.2.2.2.2.2.1 k0_t2
theorem k0_off26_inb : ∀ (i : grid0.Coords) (v291 : BitVec 32) (k0_hw1 : k0_chk1 i v291) (k0_t2 : Fin (k0_t2_loop i v291).trips), ∀ a, (k0_off26 i v291 k0_t2) a + S1.size a ≤ S9.size a := fun i v291 k0_hw1 k0_t2 => k0_hw1.2.2.2.2.2.2.2.2.2.2.2.2.2.2.2.1 k0_t2
theorem k0_off28_inb : ∀ (i : grid0.Coords) (v291 : BitVec 32) (k0_hw1 : k0_chk1 i v291) (k0_t2 : Fin (k0_t2_loop i v291).trips), ∀ a, (k0_off28 i v291 k0_t2) a + S1.size a ≤ S9.size a := fun i v291 k0_hw1 k0_t2 => k0_hw1.2.2.2.2.2.2.2.2.2.2.2.2.2.2.2.2.1 k0_t2
theorem k0_off31_inb : ∀ (i : grid0.Coords) (v291 : BitVec 32) (k0_hw1 : k0_chk1 i v291) (k0_t2 : Fin (k0_t2_loop i v291).trips), ∀ a, (k0_off31 i v291 k0_t2) a + S1.size a ≤ S9.size a := fun i v291 k0_hw1 k0_t2 => k0_hw1.2.2.2.2.2.2.2.2.2.2.2.2.2.2.2.2.2.1 k0_t2
theorem k0_off35_inb : ∀ (i : grid0.Coords) (v291 : BitVec 32) (k0_hw1 : k0_chk1 i v291), ∀ (k0_h8 : k0_cond8 i v291 = 1#1), ∀ a, (k0_off35 i v291) a + S1.size a ≤ S9.size a := fun i v291 k0_hw1 k0_h8 => k0_hw1.2.2.2.2.2.2.2.2.2.2.2.2.2.2.2.2.2.2 k0_h8

def k0_off36 (v668 : BitVec 32) (c0_i32_341 : BitVec 32) : Fin 5 → Nat :=
  let c0_342 : Index := 0#32
  let c0_343 : Index := 0#32
  let c4_i32_340 : BitVec 32 := 4#32
  let v669 : BitVec 32 := Scalar.muli v668 c4_i32_340
  let v670 : BitVec 32 := Scalar.addi v669 c0_i32_341
  let v671 : Index := Scalar.indexCast v670
  let c0_344 : Index := 0#32
  let c0_345 : Index := 0#32
  ![0, 0, v671.toNat, 0, 0]

def k0_chk11 (i : grid0.Coords) (v291 : BitVec 32) (v668 : BitVec 32) : Prop :=
  (∀ (k0_h8 : k0_cond8 i v291 = 1#1), ∀ (r : Fin 4), ∀ a, (k0_off36 v668 (BitVec.ofNat 32 r.val)) a + S1x1x1x80x128.size a ≤ S1x1x32x160x128.size a)
theorem k0_off36_inb : ∀ (i : grid0.Coords) (v291 : BitVec 32) (v668 : BitVec 32) (k0_hw11 : k0_chk11 i v291 v668), ∀ (k0_h8 : k0_cond8 i v291 = 1#1), ∀ (r : Fin 4), ∀ a, (k0_off36 v668 (BitVec.ofNat 32 r.val)) a + S1x1x1x80x128.size a ≤ S1x1x32x160x128.size a := fun i v291 v668 k0_hw11 k0_h8 r => k0_hw11 k0_h8 r

def k0_off37 (i : grid0.Coords) : Fin 3 → Nat :=
  let arg2 : BitVec 32 := BitVec.ofNat 32 (i 2).val
  let c2_i32_377 : BitVec 32 := 2#32
  let c0_i32_378 : BitVec 32 := 0#32
  let v754 : BitVec 1 := Scalar.cmpi .eq c2_i32_377 c0_i32_378
  let c1_i32_379 : BitVec 32 := 1#32
  let v755 : BitVec 32 := Scalar.select v754 c1_i32_379 c2_i32_377
  let v756 : BitVec 32 := Scalar.remsi arg2 v755
  let c0_i32_381 : BitVec 32 := 0#32
  let v758 : BitVec 1 := Scalar.cmpi .slt v756 c0_i32_381
  let c0_i32_382 : BitVec 32 := 0#32
  let v759 : BitVec 1 := Scalar.cmpi .slt v755 c0_i32_382
  let v760 : BitVec 1 := Scalar.xori v758 v759
  let c0_i32_380 : BitVec 32 := 0#32
  let v757 : BitVec 1 := Scalar.cmpi .ne v756 c0_i32_380
  let v761 : BitVec 1 := Scalar.andi v760 v757
  let v762 : BitVec 32 := Scalar.addi v756 v755
  let v763 : BitVec 32 := Scalar.select v761 v762 v756
  let v764 : Index := Scalar.indexCast v763
  let c0_383 : Index := 0#32
  let c0_384 : Index := 0#32
  ![v764.toNat, 0, 0]
def k0_off38 (i : grid0.Coords) (c0_i32_385 : BitVec 32) : Fin 5 → Nat :=
  let c0_386 : Index := 0#32
  let c0_387 : Index := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c4_i32_376 : BitVec 32 := 4#32
  let v753 : BitVec 32 := Scalar.muli v263 c4_i32_376
  let v767 : BitVec 32 := Scalar.addi v753 c0_i32_385
  let v768 : Index := Scalar.indexCast v767
  let c0_388 : Index := 0#32
  let c0_389 : Index := 0#32
  ![0, 0, v768.toNat, 0, 0]
def k0_off39 (i : grid0.Coords) : Fin 3 → Nat :=
  let arg2 : BitVec 32 := BitVec.ofNat 32 (i 2).val
  let c2_i32_324 : BitVec 32 := 2#32
  let c0_i32_325 : BitVec 32 := 0#32
  let v644 : BitVec 1 := Scalar.cmpi .eq c2_i32_324 c0_i32_325
  let c1_i32_326 : BitVec 32 := 1#32
  let v645 : BitVec 32 := Scalar.select v644 c1_i32_326 c2_i32_324
  let v646 : BitVec 32 := Scalar.remsi arg2 v645
  let c0_i32_328 : BitVec 32 := 0#32
  let v648 : BitVec 1 := Scalar.cmpi .slt v646 c0_i32_328
  let c0_i32_329 : BitVec 32 := 0#32
  let v649 : BitVec 1 := Scalar.cmpi .slt v645 c0_i32_329
  let v650 : BitVec 1 := Scalar.xori v648 v649
  let c0_i32_327 : BitVec 32 := 0#32
  let v647 : BitVec 1 := Scalar.cmpi .ne v646 c0_i32_327
  let v651 : BitVec 1 := Scalar.andi v650 v647
  let v652 : BitVec 32 := Scalar.addi v646 v645
  let v653 : BitVec 32 := Scalar.select v651 v652 v646
  let v654 : Index := Scalar.indexCast v653
  let c0_330 : Index := 0#32
  let c0_331 : Index := 0#32
  ![v654.toNat, 0, 0]
def k0_off40 (i : grid0.Coords) (c0_i32_332 : BitVec 32) : Fin 5 → Nat :=
  let c0_333 : Index := 0#32
  let c0_334 : Index := 0#32
  let arg2 : BitVec 32 := BitVec.ofNat 32 (i 2).val
  let c256_i32_98 : BitVec 32 := 256#32
  let v246 : BitVec 32 := Scalar.muli arg2 c256_i32_98
  let c0_i32_100 : BitVec 32 := 0#32
  let v248 : BitVec 1 := Scalar.cmpi .sgt v246 c0_i32_100
  let v249 : BitVec 32 := Scalar.extui v248
  let c0_i32_101 : BitVec 32 := 0#32
  let v250 : BitVec 1 := Scalar.cmpi .slt v246 c0_i32_101
  let v251 : BitVec 32 := Scalar.extui v250
  let v252 : BitVec 32 := Scalar.subi v249 v251
  let c512_i32_99 : BitVec 32 := 512#32
  let c0_i32_102 : BitVec 32 := 0#32
  let v253 : BitVec 1 := Scalar.cmpi .sgt c512_i32_99 c0_i32_102
  let v254 : BitVec 32 := Scalar.extui v253
  let c0_i32_103 : BitVec 32 := 0#32
  let v255 : BitVec 1 := Scalar.cmpi .slt c512_i32_99 c0_i32_103
  let v256 : BitVec 32 := Scalar.extui v255
  let v257 : BitVec 32 := Scalar.subi v254 v256
  let v258 : BitVec 1 := Scalar.cmpi .ne v252 v257
  let v259 : BitVec 32 := Scalar.remsi v246 c512_i32_99
  let c0_i32_104 : BitVec 32 := 0#32
  let v260 : BitVec 1 := Scalar.cmpi .ne v259 c0_i32_104
  let v261 : BitVec 1 := Scalar.andi v258 v260
  let v247 : BitVec 32 := Scalar.divsi v246 c512_i32_99
  let c1_i32_105 : BitVec 32 := 1#32
  let v262 : BitVec 32 := Scalar.subi v247 c1_i32_105
  let v263 : BitVec 32 := Scalar.select v261 v262 v247
  let c4_i32_323 : BitVec 32 := 4#32
  let v643 : BitVec 32 := Scalar.muli v263 c4_i32_323
  let v657 : BitVec 32 := Scalar.addi v643 c0_i32_332
  let v658 : Index := Scalar.indexCast v657
  let c0_335 : Index := 0#32
  let c0_336 : Index := 0#32
  ![0, 0, v658.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let v21 : BitVec 32 := Scalar.muli arg0 c4_i32_4
  let v22 : BitVec 32 := Scalar.addi v21 arg1
  let c16_i32_5 : BitVec 32 := 16#32
  let v23 : BitVec 32 := Scalar.muli v22 c16_i32_5
  let v24 : BitVec 32 := Scalar.addi v23 arg2
  let c2_i32_6 : BitVec 32 := 2#32
  let c0_i32_7 : BitVec 32 := 0#32
  let v25 : BitVec 1 := Scalar.cmpi .eq c2_i32_6 c0_i32_7
  let c1_i32_8 : BitVec 32 := 1#32
  let v26 : BitVec 32 := Scalar.select v25 c1_i32_8 c2_i32_6
  let v27 : BitVec 32 := Scalar.remsi v24 v26
  let c0_i32_9 : BitVec 32 := 0#32
  let v28 : BitVec 1 := Scalar.cmpi .ne v27 c0_i32_9
  let c0_i32_10 : BitVec 32 := 0#32
  let v29 : BitVec 1 := Scalar.cmpi .slt v27 c0_i32_10
  let c0_i32_11 : BitVec 32 := 0#32
  let v30 : BitVec 1 := Scalar.cmpi .slt v26 c0_i32_11
  let v31 : BitVec 1 := Scalar.xori v29 v30
  let v32 : BitVec 1 := Scalar.andi v31 v28
  let v33 : BitVec 32 := Scalar.addi v27 v26
  let v34 : BitVec 32 := Scalar.select v32 v33 v27
  let c0_i32_12 : BitVec 32 := 0#32
  ![v20.toNat, v34.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c175_i32 : BitVec 32 := 175#32
  let v4 : BitVec 32 := Scalar.minsi v3 c175_i32
  let c0_i32 : BitVec 32 := 0#32
  let c0_i32_0 : BitVec 32 := 0#32
  ![v4.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let v21 : BitVec 32 := Scalar.muli arg0 c4_i32_4
  let v22 : BitVec 32 := Scalar.addi v21 arg1
  let c16_i32_5 : BitVec 32 := 16#32
  let v23 : BitVec 32 := Scalar.muli v22 c16_i32_5
  let v24 : BitVec 32 := Scalar.addi v23 arg2
  let c2_i32_6 : BitVec 32 := 2#32
  let c0_i32_7 : BitVec 32 := 0#32
  let v25 : BitVec 1 := Scalar.cmpi .eq c2_i32_6 c0_i32_7
  let c1_i32_8 : BitVec 32 := 1#32
  let v26 : BitVec 32 := Scalar.select v25 c1_i32_8 c2_i32_6
  let v27 : BitVec 32 := Scalar.remsi v24 v26
  let c0_i32_9 : BitVec 32 := 0#32
  let v28 : BitVec 1 := Scalar.cmpi .ne v27 c0_i32_9
  let c0_i32_10 : BitVec 32 := 0#32
  let v29 : BitVec 1 := Scalar.cmpi .slt v27 c0_i32_10
  let c0_i32_11 : BitVec 32 := 0#32
  let v30 : BitVec 1 := Scalar.cmpi .slt v26 c0_i32_11
  let v31 : BitVec 1 := Scalar.xori v29 v30
  let v32 : BitVec 1 := Scalar.andi v31 v28
  let v33 : BitVec 32 := Scalar.addi v27 v26
  let v34 : BitVec 32 := Scalar.select v32 v33 v27
  let c0_i32_12 : BitVec 32 := 0#32
  ![v20.toNat, v34.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c175_i32 : BitVec 32 := 175#32
  let v4 : BitVec 32 := Scalar.minsi v3 c175_i32
  let c0_i32 : BitVec 32 := 0#32
  let c0_i32_0 : BitVec 32 := 0#32
  ![v4.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x32x160x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S768x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S64x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S16x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S16x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== Ffn.lean ====
abbrev S16384x2048 : Shape := ⟨2, ![16384, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S1x11264 : Shape := ⟨2, ![1, 11264]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S2x520x256 : Shape := ⟨3, ![2, 520, 256]⟩
abbrev S22x2x8x256 : Shape := ⟨4, ![22, 2, 8, 256]⟩
abbrev S256x2048 : Shape := ⟨2, ![256, 2048]⟩
abbrev S3x256 : Shape := ⟨2, ![3, 256]⟩
abbrev S1x256 : Shape := ⟨2, ![1, 256]⟩
abbrev S1x1x8x256 : Shape := ⟨4, ![1, 1, 8, 256]⟩
abbrev S8x256 : Shape := ⟨2, ![8, 256]⟩
abbrev S1x8x256 : Shape := ⟨3, ![1, 8, 256]⟩
abbrev S1x512x256 : Shape := ⟨3, ![1, 512, 256]⟩
abbrev S512x256 : Shape := ⟨2, ![512, 256]⟩
abbrev S2048x256 : Shape := ⟨2, ![2048, 256]⟩

abbrev nBuf : Space → Nat
  | .hbm => 8
  | .vmem => 32
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S1x11264, .f32⟩
  | .hbm, ⟨7, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x2048, .bf16⟩
  | .local _ .vmem, ⟨17, _⟩ => ⟨S512x2048, .bf16⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S3x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S512x2048, .f32⟩
  | .local _ .vmem, ⟨27, _⟩ => ⟨S512x2048, .f32⟩
  | .local _ .vmem, ⟨28, _⟩ => ⟨S2x520x256, .f32⟩
  | .local _ .vmem, ⟨29, _⟩ => ⟨S2x520x256, .f32⟩
  | .local _ .vmem, ⟨30, _⟩ => ⟨S22x2x8x256, .f32⟩
  | .local _ .vmem, ⟨31, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![32, 11], ![false, false]⟩

def k0_off1 (i : grid0.Coords) : Fin 4 → Nat :=
  let arg1 : BitVec 32 := BitVec.ofNat 32 (i 1).val
  let c0_i32_10 : BitVec 32 := 0#32
  let v20 : BitVec 1 := Scalar.cmpi .eq arg1 c0_i32_10
  let c21_i32 : BitVec 32 := 21#32
  let c2_i32 : BitVec 32 := 2#32
  let v21 : BitVec 32 := Scalar.muli c2_i32 arg1
  let c1_i32_11 : BitVec 32 := 1#32
  let v22 : BitVec 32 := Scalar.subi v21 c1_i32_11
  let v23 : BitVec 32 := Scalar.select v20 c21_i32 v22
  let v29 : Index := Scalar.indexCast v23
  let c0_17 : Index := 0#32
  let c0_18 : Index := 0#32
  let c0_19 : Index := 0#32
  ![v29.toNat, 0, 0, 0]
def k0_off2 (i : grid0.Coords) : Fin 4 → Nat :=
  let arg1 : BitVec 32 := BitVec.ofNat 32 (i 1).val
  let c0_i32_10 : BitVec 32 := 0#32
  let v20 : BitVec 1 := Scalar.cmpi .eq arg1 c0_i32_10
  let c21_i32 : BitVec 32 := 21#32
  let c2_i32 : BitVec 32 := 2#32
  let v21 : BitVec 32 := Scalar.muli c2_i32 arg1
  let c1_i32_11 : BitVec 32 := 1#32
  let v22 : BitVec 32 := Scalar.subi v21 c1_i32_11
  let v23 : BitVec 32 := Scalar.select v20 c21_i32 v22
  let v65 : Index := Scalar.indexCast v23
  let c1 : Index := 1#32
  let c0_39 : Index := 0#32
  let c0_40 : Index := 0#32
  ![v65.toNat, 1, 0, 0]
def k0_off3 (i : grid0.Coords) : Fin 4 → Nat :=
  let c2_i32_75 : BitVec 32 := 2#32
  let arg1 : BitVec 32 := BitVec.ofNat 32 (i 1).val
  let v116 : BitVec 32 := Scalar.muli c2_i32_75 arg1
  let v120 : Index := Scalar.indexCast v116
  let c0_80 : Index := 0#32
  let c0_81 : Index := 0#32
  let c0_82 : Index := 0#32
  ![v120.toNat, 0, 0, 0]
def k0_off4 (i : grid0.Coords) : Fin 4 → Nat :=
  let c2_i32_75 : BitVec 32 := 2#32
  let arg1 : BitVec 32 := BitVec.ofNat 32 (i 1).val
  let v116 : BitVec 32 := Scalar.muli c2_i32_75 arg1
  let v156 : Index := Scalar.indexCast v116
  let c1_106 : Index := 1#32
  let c0_107 : Index := 0#32
  let c0_108 : Index := 0#32
  ![v156.toNat, 1, 0, 0]
def k0_cond3 (i : grid0.Coords) : BitVec 1 :=
  let arg1 : BitVec 32 := BitVec.ofNat 32 (i 1).val
  let c10_i32 : BitVec 32 := 10#32
  let v214 : BitVec 1 := Scalar.cmpi .eq arg1 c10_i32
  let v215 : BitVec 32 := Scalar.extui v214
  let c0_i32_151 : BitVec 32 := 0#32
  let v216 : BitVec 1 := Scalar.cmpi .ne v215 c0_i32_151
  v216

def k0_off5 (i : grid0.Coords) : Fin 4 → Nat :=
  let c2_i32_152 : BitVec 32 := 2#32
  let arg1 : BitVec 32 := BitVec.ofNat 32 (i 1).val
  let v217 : BitVec 32 := Scalar.muli c2_i32_152 arg1
  let c1_i32_153 : BitVec 32 := 1#32
  let v218 : BitVec 32 := Scalar.addi v217 c1_i32_153
  let v222 : Index := Scalar.indexCast v218
  let c0_158 : Index := 0#32
  let c0_159 : Index := 0#32
  let c0_160 : Index := 0#32
  ![v222.toNat, 0, 0, 0]
def k0_off6 (i : grid0.Coords) : Fin 4 → Nat :=
  let c2_i32_152 : BitVec 32 := 2#32
  let arg1 : BitVec 32 := BitVec.ofNat 32 (i 1).val
  let v217 : BitVec 32 := Scalar.muli c2_i32_152 arg1
  let c1_i32_153 : BitVec 32 := 1#32
  let v218 : BitVec 32 := Scalar.addi v217 c1_i32_153
  let v258 : Index := Scalar.indexCast v218
  let c1_184 : Index := 1#32
  let c0_185 : Index := 0#32
  let c0_186 : Index := 0#32
  ![v258.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c11_i32 : BitVec 32 := 11#32
  let v2 : BitVec 32 := Scalar.addi c11_i32 v1
  let c0_i32_0 : BitVec 32 := 0#32
  let c0_i32_1 : BitVec 32 := 0#32
  ![c0_i32_0.toNat, v2.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c11_i32 : BitVec 32 := 11#32
  let v2 : BitVec 32 := Scalar.addi c11_i32 v1
  let c0_i32_0 : BitVec 32 := 0#32
  let c0_i32_1 : BitVec 32 := 0#32
  ![c0_i32_0.toNat, v2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnRefIdeal.lean ====
abbrev S16384x2048 : Shape := ⟨2, ![16384, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S16384x11264 : Shape := ⟨2, ![16384, 11264]⟩
abbrev S4x4096x11264 : Shape := ⟨3, ![4, 4096, 11264]⟩
abbrev S_ : Shape := ⟨0, ![]⟩
abbrev S4x4098x11264 : Shape := ⟨3, ![4, 4098, 11264]⟩
abbrev S1x11264 : Shape := ⟨2, ![1, 11264]⟩
abbrev S1x1x11264 : Shape := ⟨3, ![1, 1, 11264]⟩
abbrev S4x4096x5632 : Shape := ⟨3, ![4, 4096, 5632]⟩
abbrev S4x4096x2048 : Shape := ⟨3, ![4, 4096, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S16384x2048, .f32⟩
  | .hbm, ⟨7, _⟩ => ⟨S2048x11264, .f32⟩
  | .hbm, ⟨8, _⟩ => ⟨S5632x2048, .f32⟩
  | .hbm, ⟨9, _⟩ => ⟨S16384x11264, .f32⟩
  | .hbm, ⟨10, _⟩ => ⟨S4x4096x11264, .f32⟩
  | .hbm, ⟨11, _⟩ => ⟨S_, .i32⟩
  | .hbm, ⟨12, _⟩ => ⟨S_, .f32⟩
  | .hbm, ⟨13, _⟩ => ⟨S4x4098x11264, .f32⟩
  | .hbm, ⟨14, _⟩ => ⟨S1x11264, .f32⟩
  | .hbm, ⟨15, _⟩ => ⟨S11264, .f32⟩
  | .hbm, ⟨16, _⟩ => ⟨S4x4096x11264, .f32⟩
  | .hbm, ⟨17, _⟩ => ⟨S1x1x11264, .f32⟩
  | .hbm, ⟨18, _⟩ => ⟨S4x4096x11264, .f32⟩
  | .hbm, ⟨19, _⟩ => ⟨S4x4096x11264, .f32⟩
  | .hbm, ⟨20, _⟩ => ⟨S_, .f32⟩
  | .hbm, ⟨21, _⟩ => ⟨S4x4096x11264, .f32⟩
  | .hbm, ⟨22, _⟩ => ⟨S4x4096x11264, .f32⟩
  | .hbm, ⟨23, _⟩ => ⟨S1x11264, .f32⟩
  | .hbm, ⟨24, _⟩ => ⟨S11264, .f32⟩
  | .hbm, ⟨25, _⟩ => ⟨S4x4096x11264, .f32⟩
  | .hbm, ⟨26, _⟩ => ⟨S1x1x11264, .f32⟩
  | .hbm, ⟨27, _⟩ => ⟨S4x4096x11264, .f32⟩
  | .hbm, ⟨28, _⟩ => ⟨S4x4096x11264, .f32⟩
  | .hbm, ⟨29, _⟩ => ⟨S4x4096x11264, .f32⟩
  | .hbm, ⟨30, _⟩ => ⟨S1x11264, .f32⟩
  | .hbm, ⟨31, _⟩ => ⟨S11264, .f32⟩
  | .hbm, ⟨32, _⟩ => ⟨S4x4096x11264, .f32⟩
  | .hbm, ⟨33, _⟩ => ⟨S1x1x11264, .f32⟩
  | .hbm, ⟨34, _⟩ => ⟨S4x4096x11264, .f32⟩
  | .hbm, ⟨35, _⟩ => ⟨S4x4096x11264, .f32⟩
  | .hbm, ⟨36, _⟩ => ⟨S4x4096x11264, .f32⟩
  | .hbm, ⟨37, _⟩ => ⟨S1x1x11264, .f32⟩
  | .hbm, ⟨38, _⟩ => ⟨S4x4096x11264, .f32⟩
  | .hbm, ⟨39, _⟩ => ⟨S4x4096x11264, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S_, .f32⟩
  | .hbm, ⟨45, _⟩ => ⟨S4x4096x5632, .f32⟩
  | .hbm, ⟨46, _⟩ => ⟨S4x4096x5632, .f32⟩
  | .hbm, ⟨47, _⟩ => ⟨S_, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S4x4096x5632, .f32⟩
  | .hbm, ⟨52, _⟩ => ⟨S4x4096x2048, .f32⟩
  | .hbm, ⟨53, _⟩ => ⟨S16384x2048, .f32⟩
  | .hbm, ⟨54, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Proj.lean ====
abbrev S4x4096x2048 : Shape := ⟨3, ![4, 4096, 2048]⟩
abbrev S2048 : Shape := ⟨1, ![2048]⟩
abbrev S2048x4608 : Shape := ⟨2, ![2048, 4608]⟩
abbrev S2048x128 : Shape := ⟨2, ![2048, 128]⟩
abbrev S16384x2048 : Shape := ⟨2, ![16384, 2048]⟩
abbrev S1x2048 : Shape := ⟨2, ![1, 2048]⟩
abbrev S16384x4608 : Shape := ⟨2, ![16384, 4608]⟩
abbrev S16384x128 : Shape := ⟨2, ![16384, 128]⟩
abbrev S1024x2048 : Shape := ⟨2, ![1024, 2048]⟩
abbrev S2048x1536 : Shape := ⟨2, ![2048, 1536]⟩
abbrev S1024x1536 : Shape := ⟨2, ![1024, 1536]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x4608, .bf16⟩
  | .hbm, ⟨3, _⟩ => ⟨S2048x128, .bf16⟩
  | .hbm, ⟨4, _⟩ => ⟨S16384x2048, .f32⟩
  | .hbm, ⟨5, _⟩ => ⟨S1x2048, .f32⟩
  | .hbm, ⟨6, _⟩ => ⟨S16384x4608, .f32⟩
  | .hbm, ⟨7, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S2048x128, .bf16⟩
  | .local _ .vmem, ⟨6, _⟩ => ⟨S1024x1536, .f32⟩
  | .local _ .vmem, ⟨7, _⟩ => ⟨S1024x1536, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S4x4096x2048 : Shape := ⟨3, ![4, 4096, 2048]⟩
abbrev S2048 : Shape := ⟨1, ![2048]⟩
abbrev S2048x4608 : Shape := ⟨2, ![2048, 4608]⟩
abbrev S2048x128 : Shape := ⟨2, ![2048, 128]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩
abbrev S16384x4608 : Shape := ⟨2, ![16384, 4608]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x4608, .bf16⟩
  | .hbm, ⟨3, _⟩ => ⟨S2048x128, .bf16⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S16384x2048, .f32⟩
  | .hbm, ⟨21, _⟩ => ⟨S2048x4608, .f32⟩
  | .hbm, ⟨22, _⟩ => ⟨S16384x4608, .f32⟩
  | .hbm, ⟨23, _⟩ => ⟨S2048x128, .f32⟩
  | .hbm, ⟨24, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Oproj.lean ====
abbrev S16384x1024 : Shape := ⟨2, ![16384, 1024]⟩
abbrev S16384x4608 : Shape := ⟨2, ![16384, 4608]⟩
abbrev S4x4096x2048 : Shape := ⟨3, ![4, 4096, 2048]⟩
abbrev S2048x2048 : Shape := ⟨2, ![2048, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S16384x2048 : Shape := ⟨2, ![16384, 2048]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 19
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x4608, .f32⟩
  | .hbm, ⟨2, _⟩ => ⟨S4x4096x2048, .f32⟩
  | .hbm, ⟨3, _⟩ => ⟨S2048x2048, .f32⟩
  | .hbm, ⟨4, _⟩ => ⟨S2048, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S128x8, .f32⟩
  | .hbm, ⟨10, _⟩ => ⟨S128x8x128, .f32⟩
  | .hbm, ⟨11, _⟩ => ⟨S128x1024, .f32⟩
  | .hbm, ⟨12, _⟩ => ⟨S16384x2048, .f32⟩
  | .hbm, ⟨13, _⟩ => ⟨S2048x2048, .bf16⟩
  | .hbm, ⟨14, _⟩ => ⟨S1x2048, .f32⟩
  | .hbm, ⟨15, _⟩ => ⟨S1x1024, .f32⟩
  | .hbm, ⟨16, _⟩ => ⟨S1x1024, .f32⟩
  | .hbm, ⟨17, _⟩ => ⟨S16384x2048, .f32⟩
  | .hbm, ⟨18, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x1024, .f32⟩
  | .local _ .vmem, ⟨10, _⟩ => ⟨S1x1024, .f32⟩
  | .local _ .vmem, ⟨11, _⟩ => ⟨S8x128x128, .f32⟩
  | .local _ .vmem, ⟨12, _⟩ => ⟨S128x1024, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OprojRefIdeal.lean ====
abbrev S16384x1024 : Shape := ⟨2, ![16384, 1024]⟩
abbrev S16384x4608 : Shape := ⟨2, ![16384, 4608]⟩
abbrev S4x4096x2048 : Shape := ⟨3, ![4, 4096, 2048]⟩
abbrev S2048x2048 : Shape := ⟨2, ![2048, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S16384x2048 : Shape := ⟨2, ![16384, 2048]⟩
abbrev S_ : Shape := ⟨0, ![]⟩
abbrev S4x4096x1024 : Shape := ⟨3, ![4, 4096, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S1x1x2048 : Shape := ⟨3, ![1, 1, 2048]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4608, .f32⟩
  | .hbm, ⟨2, _⟩ => ⟨S4x4096x2048, .f32⟩
  | .hbm, ⟨3, _⟩ => ⟨S2048x2048, .f32⟩
  | .hbm, ⟨4, _⟩ => ⟨S2048, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S16384x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S1x1x1024, .f32⟩
  | .hbm, ⟨54, _⟩ => ⟨S4x4096x1024, .f32⟩
  | .hbm, ⟨55, _⟩ => ⟨S4x4096x1024, .f32⟩
  | .hbm, ⟨56, _⟩ => ⟨S1x1x1024, .f32⟩
  | .hbm, ⟨57, _⟩ => ⟨S4x4096x1024, .f32⟩
  | .hbm, ⟨58, _⟩ => ⟨S4x4096x1024, .f32⟩
  | .hbm, ⟨59, _⟩ => ⟨S4x32x128x8x128, .f32⟩
  | .hbm, ⟨60, _⟩ => ⟨S_, .i1⟩
  | .hbm, ⟨61, _⟩ => ⟨S128x128, .i1⟩
  | .hbm, ⟨62, _⟩ => ⟨S128x128, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S128x128, .i32⟩
  | .hbm, ⟨67, _⟩ => ⟨S128x128, .i1⟩
  | .hbm, ⟨68, _⟩ => ⟨S_, .i1⟩
  | .hbm, ⟨69, _⟩ => ⟨S128x128, .i1⟩
  | .hbm, ⟨70, _⟩ => ⟨S128x128, .i1⟩
  | .hbm, ⟨71, _⟩ => ⟨S1x128x128, .i1⟩
  | .hbm, ⟨72, _⟩ => ⟨S_, .f32⟩
  | .hbm, ⟨73, _⟩ => ⟨S8x128x128, .f32⟩
  | .hbm, ⟨74, _⟩ => ⟨S8x128x128, .i1⟩
  | .hbm, ⟨75, _⟩ => ⟨S8x128x128, .f32⟩
  | .hbm, ⟨76, _⟩ => ⟨S8x4x32x128x128, .f32⟩
  | .hbm, ⟨77, _⟩ => ⟨S4x32x128x8x128, .f32⟩
  | .hbm, ⟨78, _⟩ => ⟨S128x8, .f32⟩
  | .hbm, ⟨79, _⟩ => ⟨S1x1x128x8x1, .f32⟩
  | .hbm, ⟨80, _⟩ => ⟨S4x32x128x8x128, .f32⟩
  | .hbm, ⟨81, _⟩ => ⟨S4x32x128x8x128, .f32⟩
  | .hbm, ⟨82, _⟩ => ⟨S4x4096x1024, .f32⟩
  | .hbm, ⟨83, _⟩ => ⟨S4x4096x1024, .f32⟩
  | .hbm, ⟨84, _⟩ => ⟨S16384x1024, .f32⟩
  | .hbm, ⟨85, _⟩ => ⟨S4x4096x1024, .f32⟩
  | .hbm, ⟨86, _⟩ => ⟨S4x4096x2048, .f32⟩
  | .hbm, ⟨87, _⟩ => ⟨S4x4096x2048, .f32⟩
  | .hbm, ⟨88, _⟩ => ⟨S4x4096x2048, .f32⟩
  | .hbm, ⟨89, _⟩ => ⟨S16384x2048, .f32⟩
  | .hbm, ⟨90, _⟩ => ⟨S4x4096x2048, .f32⟩
  | .hbm, ⟨91, _⟩ => ⟨S_, .f32⟩
  | .hbm, ⟨92, _⟩ => ⟨S4x4096, .f32⟩
  | .hbm, ⟨93, _⟩ => ⟨S4x4096x1, .f32⟩
  | .hbm, ⟨94, _⟩ => ⟨S_, .f32⟩
  | .hbm, ⟨95, _⟩ => ⟨S4x4096x1, .f32⟩
  | .hbm, ⟨96, _⟩ => ⟨S4x4096x1, .f32⟩
  | .hbm, ⟨97, _⟩ => ⟨S_, .f32⟩
  | .hbm, ⟨98, _⟩ => ⟨S4x4096x1, .f32⟩
  | .hbm, ⟨99, _⟩ => ⟨S4x4096x1, .f32⟩
  | .hbm, ⟨100, _⟩ => ⟨S4x4096x1, .f32⟩
  | .hbm, ⟨101, _⟩ => ⟨S4x4096x2048, .f32⟩
  | .hbm, ⟨102, _⟩ => ⟨S4x4096x2048, .f32⟩
  | .hbm, ⟨103, _⟩ => ⟨S1x1x2048, .f32⟩
  | .hbm, ⟨104, _⟩ => ⟨S4x4096x2048, .f32⟩
  | .hbm, ⟨105, _⟩ => ⟨S4x4096x2048, .f32⟩
  | .hbm, ⟨106, _⟩ => ⟨S16384x2048, .f32⟩
  | .hbm, ⟨107, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c : Ref sig .tc := ⟨.hbm, 60, rfl⟩
abbrev main_v42 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_0 : Ref sig .tc := ⟨.hbm, 68, rfl⟩
abbrev main_call0_v5 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_call1_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]
-- ==== Proof.Tiles.lean ====
module

public import Idealize.ShloMosaic.Lib.VecWindow
public import Idealize.ShloMosaic.Lib.Scf
public import Idealize.ShloMosaic.Lib.Exec

@[expose] public section

set_option maxRecDepth 16384

namespace Cert.Tiles

open Idealize.ShloMosaic

/-- How many key tiles lie whole below query tile `q`. -/
def full (q : ℕ) : BitVec 32 :=
  let v := Scalar.muli (BitVec.ofNat 32 q) 256#32
  Scalar.select
    (Scalar.andi
      (Scalar.cmpi .ne (Scalar.subi (Scalar.extui (Scalar.cmpi .sgt v 0#32) : BitVec 32) (Scalar.extui (Scalar.cmpi .slt v 0#32)))
        (Scalar.subi (Scalar.extui (Scalar.cmpi .sgt 512#32 0#32)) (Scalar.extui (Scalar.cmpi .slt 512#32 0#32))))
      (Scalar.cmpi .ne (Scalar.remsi v 512#32) 0#32))
    (Scalar.subi (Scalar.divsi v 512#32) 1#32) (Scalar.divsi v 512#32)

theorem full_le : ∀ q : Fin 16, (full q.val).toNat ≤ 7 := by decide

/-- One where tile `k` is below the query tile and chosen by the mask `v`. -/
def bit (f v k : BitVec 32) : BitVec 32 :=
  Scalar.select (Scalar.andi (Scalar.cmpi .sgt f k) (Scalar.cmpi .eq (Scalar.andi (Scalar.shrui v k) 1#32) 1#32)) 1#32 0#32

/-- How many of the first `n` tiles are listed. -/
def cnt (f v : BitVec 32) : ℕ → BitVec 32
  | 0 => 0#32
  | n + 1 => Scalar.addi (cnt f v n) (bit f v (BitVec.ofNat 32 n))

theorem bit_le (f v k : BitVec 32) : (bit f v k).toNat ≤ 1 := by
  unfold bit Scalar.select
  split <;> decide

theorem cnt_le (f v : BitVec 32) (n : ℕ) (h : n ≤ 8) : (cnt f v n).toNat ≤ n ∧ (n ≠ 8 → (cnt f v (n + 1)).toNat ≤ (cnt f v n).toNat + 1) := by
  have step : ∀ k, (cnt f v (k + 1)).toNat ≤ (cnt f v k).toNat + 1 := fun k => by
    have hb := bit_le f v (BitVec.ofNat 32 k)
    show (cnt f v k + bit f v (BitVec.ofNat 32 k)).toNat ≤ _
    rw [BitVec.toNat_add]
    exact (Nat.mod_le _ _).trans (by omega)
  refine ⟨?_, fun _ => step n⟩
  clear h
  induction n with
  | zero => exact Nat.le_refl 0
  | succ k ih => have := step k; omega

theorem cnt_step (f v : BitVec 32) (k : ℕ) : (cnt f v (k + 1)).toNat ≤ (cnt f v k).toNat + 1 := by
  have hb := bit_le f v (BitVec.ofNat 32 k)
  show (cnt f v k + bit f v (BitVec.ofNat 32 k)).toNat ≤ _
  rw [BitVec.toNat_add]
  exact (Nat.mod_le _ _).trans (by omega)

/-- Half of `n`, rounded down. -/
def flo (n : BitVec 32) : BitVec 32 :=
  Scalar.select
    (Scalar.andi
      (Scalar.cmpi .ne (Scalar.subi (Scalar.extui (Scalar.cmpi .sgt n 0#32) : BitVec 32) (Scalar.extui (Scalar.cmpi .slt n 0#32)))
        (Scalar.subi (Scalar.extui (Scalar.cmpi .sgt 2#32 0#32)) (Scalar.extui (Scalar.cmpi .slt 2#32 0#32))))
      (Scalar.cmpi .ne (Scalar.remsi n 2#32) 0#32))
    (Scalar.subi (Scalar.divsi n 2#32) 1#32) (Scalar.divsi n 2#32)

/-- Where the first loop over pairs ends. -/
def mid (n : BitVec 32) : BitVec 32 := Scalar.addi 0#32 (Scalar.muli (Scalar.divsi (Scalar.subi (flo n) 0#32) 1#32) 1#32)

/-- Where the second ends. -/
def fin (n : BitVec 32) : BitVec 32 := Scalar.addi 0#32 (Scalar.subi (flo n) 0#32)

/-- What holds of every count up to eight holds of a word that is at most eight. -/
theorem upto {P : BitVec 32 → Prop} {k : ℕ} (h : ∀ m : Fin k, P (BitVec.ofNat 32 m.val)) (n : BitVec 32) (hn : n.toNat < k) : P n := by
  have := h ⟨n.toNat, hn⟩
  rwa [BitVec.ofNat_toNat, BitVec.setWidth_eq] at this

theorem trips1 (n : BitVec 32) (hn : n.toNat < 9) : Scf.trips 0#32 (mid n) 1#32 = n.toNat / 2 :=
  upto (P := fun n => Scf.trips 0#32 (mid n) 1#32 = n.toNat / 2) (k := 9) (by decide) n hn

theorem ok1 (n : BitVec 32) (hn : n.toNat < 9) : Scf.OK 0#32 (mid n) 1#32 :=
  upto (P := fun n => Scf.OK 0#32 (mid n) 1#32) (k := 9) (by decide) n hn

theorem trips2 (n : BitVec 32) (hn : n.toNat < 9) : Scf.trips (mid n) (fin n) 1#32 = 0 :=
  upto (P := fun n => Scf.trips (mid n) (fin n) 1#32 = 0) (k := 9) (by decide) n hn

theorem ok2 (n : BitVec 32) (hn : n.toNat < 9) : Scf.OK (mid n) (fin n) 1#32 :=
  upto (P := fun n => Scf.OK (mid n) (fin n) 1#32) (k := 9) (by decide) n hn

theorem last_le (n : BitVec 32) (hn : n.toNat < 9) : (Scalar.muli 2#32 (flo n)).toNat ≤ n.toNat :=
  upto (P := fun n => (Scalar.muli 2#32 (flo n)).toNat ≤ n.toNat) (k := 9) (by decide) n hn

/-- The tiles a trip of the first loop reads. -/
theorem trip (n : BitVec 32) (hn : n.toNat < 9) (t : ℕ) (ht : t < Scf.trips 0#32 (mid n) 1#32) :
    (Scalar.addi (Scalar.muli 2#32 (Scf.iv 0#32 1#32 t)) 1#32).toNat ≤ n.toNat
    ∧ (Scalar.muli 2#32 (Scf.iv 0#32 1#32 t)).toNat ≤ n.toNat
    ∧ (Scalar.addi (Scalar.muli 2#32 (Scf.iv 0#32 1#32 t)) 2#32).toNat ≤ n.toNat := by
  rw [trips1 n hn] at ht
  have h4 : t < 4 := by omega
  have h := (by decide : ∀ t : Fin 4, (Scalar.addi (Scalar.muli 2#32 (Scf.iv 0#32 1#32 t.val)) 1#32).toNat = 2 * t.val + 1
    ∧ (Scalar.muli 2#32 (Scf.iv 0#32 1#32 t.val)).toNat = 2 * t.val
    ∧ (Scalar.addi (Scalar.muli 2#32 (Scf.iv 0#32 1#32 t.val)) 2#32).toNat = 2 * t.val + 2) ⟨t, h4⟩
  obtain ⟨h1, h2, h3⟩ := h
  rw [h1, h2, h3]
  refine ⟨?_, ?_, ?_⟩ <;> (show _ ≤ _; simp only; omega)

/-- The first tiles of the list, up to place `n`, are tiles there are. -/
def Good {s : Shape} (hs : 0 < s.rank) (n : ℕ) (T : s.Idx → BitVec 32) : Prop := ∀ y, (y ⟨0, hs⟩).val ≤ n → (T y).toNat ≤ 7

section

variable {s : Shape} {hs : 0 < s.rank} {n n' : ℕ} {T : s.Idx → BitVec 32} {off size : Fin s.rank → ℕ}

theorem Good.put {w : ((a : Fin s.rank) → Fin (size a)) → BitVec 32} (h : Good hs n T) (h1 : ∀ a, size a = 1) (hr : s.rank = 1)
    (hn : off ⟨0, hs⟩ ≤ n + 1) (hw : ∀ y, (w y).toNat ≤ 7) : Good hs (off ⟨0, hs⟩) (VecWindow.put T off size w) := by
  intro y hy
  unfold VecWindow.put
  split
  · exact hw _
  · rename_i hne
    refine h y ?_
    by_contra hc
    refine hne fun a => ?_
    obtain rfl : a = ⟨0, hs⟩ := Fin.ext (by have := a.isLt; show a.val = 0; omega)
    rw [h1]; omega

theorem Good.first {w : ((a : Fin s.rank) → Fin (size a)) → BitVec 32} (T : s.Idx → BitVec 32) (h1 : ∀ a, size a = 1) (hr : s.rank = 1)
    (hn : off ⟨0, hs⟩ = 0) (hw : ∀ y, (w y).toNat ≤ 7) : Good hs 0 (VecWindow.put T off size w) := by
  intro y hy
  unfold VecWindow.put
  split
  · exact hw _
  · rename_i hne
    refine absurd (fun a => ?_) hne
    obtain rfl : a = ⟨0, hs⟩ := Fin.ext (by have := a.isLt; show a.val = 0; omega)
    rw [h1]; omega

theorem Good.at (h : Good hs n T) (h1 : ∀ a, size a = 1) {inb : ∀ a, off a + size a ≤ s.size a} (hn : off ⟨0, hs⟩ ≤ n)
    (y : (Rect.unit off size inb).shape.Idx) : (T ((Rect.unit off size inb).emb y)).toNat ≤ 7 := by
  refine h _ ?_
  have h2 : (y ⟨0, hs⟩).val < size ⟨0, hs⟩ := (y ⟨0, hs⟩).isLt
  have e : ((Rect.unit off size inb).emb y ⟨0, hs⟩).val = off ⟨0, hs⟩ + 1 * (y ⟨0, hs⟩).val := rfl
  rw [h1] at h2
  omega

end

end Cert.Tiles
-- ==== Proof.Safe.lean ====
module

public import Idealize.ShloMosaic.Lib.VecWindow
public import Idealize.ShloMosaic.Lib.Exec
public import Idealize.ShloMosaic.Lib.Scf
public import Idealize.ShloMosaic.Lib.Pipeline.ValueKit

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl]

local notation "𝕄" => MT nD τ sig Ix Val Name U Lvl

section Defs

variable (defs : Defs nD τ sig Val Λ) (𝒱 : Variants) (c : Thread nD τ) {T α : Type}

/-- What is owned lets `m` be read, and is owned again after. -/
def Reads {cs : CoreSpace} {s : Shape} {e : EltTy} (R : sProp 𝕄) (m : Memref sig c.2.kind cs s e) : Prop :=
  R ⊢ iprop(∃ X, owns c m fullShare X ∗ (owns c m fullShare X -∗ R))

/-- What is owned lets `m` be written with anything, and is owned again after. -/
def Writes {cs : CoreSpace} {s : Shape} {e : EltTy} (R : sProp 𝕄) (m : Memref sig c.2.kind cs s e) : Prop :=
  R ⊢ iprop(∃ X, owns c m fullShare X ∗ (∀ X', owns c m fullShare X' -∗ R))

/-- From the table `t` the program runs, and ends at a value and a table of which `φ` holds. -/
def Safe (R : T → sProp 𝕄) (t : T) (p : Prog (TpuEff nD τ sig Val Λ c.2) α) (φ : α → T → Prop) : Prop :=
  R t ⊢ wp frame (wpE defs 𝒱 c none) Set.univ p (fun a => iprop(∃ t', ⌜φ a t'⌝ ∗ R t'))

end Defs

variable {defs : Defs nD τ sig Val Λ} {𝒱 : Variants} {c : Thread nD τ} {T α β : Type}

section Res

variable {cs : CoreSpace} {s : Shape} {e : EltTy} {m : Memref sig c.2.kind cs s e}

theorem Writes.reads {A : sProp 𝕄} (h : Writes c A m) : Reads c A m := by
  unfold Writes at h; unfold Reads
  refine h.trans ?_
  iintro ⟨%X, H, K⟩
  iexists X
  isplitl [H]; · iexact H
  iintro H; iapply K; iexact H

theorem Reads.self (X) : Reads c (owns c m fullShare X : sProp 𝕄) m := by
  unfold Reads
  iintro H
  iexists X
  isplitl [H]; · iexact H
  iintro H; iexact H

theorem Writes.any : Writes c (iprop(∃ X, owns c m fullShare X) : sProp 𝕄) m := by
  unfold Writes
  iintro ⟨%X, H⟩
  iexists X
  isplitl [H]; · iexact H
  iintro %X' H; iexists X'; iexact H

theorem Reads.left {A B : sProp 𝕄} (h : Reads c A m) : Reads c (iprop(A ∗ B) : sProp 𝕄) m := by
  unfold Reads at *
  iintro ⟨HA, HB⟩
  ihave HA := h $$ HA
  icases HA with ⟨%X, H, K⟩
  iexists X
  isplitl [H]; · iexact H
  iintro H
  isplitr [HB]
  · iapply K; iexact H
  iexact HB

theorem Reads.right {A B : sProp 𝕄} (h : Reads c B m) : Reads c (iprop(A ∗ B) : sProp 𝕄) m := by
  unfold Reads at *
  iintro ⟨HA, HB⟩
  ihave HB := h $$ HB
  icases HB with ⟨%X, H, K⟩
  iexists X
  isplitl [H]; · iexact H
  iintro H
  isplitl [HA]; · iexact HA
  iapply K; iexact H

theorem Writes.left {A B : sProp 𝕄} (h : Writes c A m) : Writes c (iprop(A ∗ B) : sProp 𝕄) m := by
  unfold Writes at *
  iintro ⟨HA, HB⟩
  ihave HA := h $$ HA
  icases HA with ⟨%X, H, K⟩
  iexists X
  isplitl [H]; · iexact H
  iintro %X' H
  isplitr [HB]
  · iapply K; iexact H
  iexact HB

theorem Writes.right {A B : sProp 𝕄} (h : Writes c B m) : Writes c (iprop(A ∗ B) : sProp 𝕄) m := by
  unfold Writes at *
  iintro ⟨HA, HB⟩
  ihave HB := h $$ HB
  icases HB with ⟨%X, H, K⟩
  iexists X
  isplitl [H]; · iexact H
  iintro %X' H
  isplitl [HA]; · iexact HA
  iapply K; iexact H

end Res

theorem Safe.ret {R : T → sProp 𝕄} {t : T} {a : α} {φ : α → T → Prop} (h : φ a t) : Safe defs 𝒱 c R t (Pure.pure a) φ := by
  unfold Safe; rw [wp_pure]
  iintro H
  imodintro
  iexists t
  isplitr; · ipureintro; exact h
  iexact H

theorem Safe.bind {R : T → sProp 𝕄} {t : T} {p : Prog (TpuEff nD τ sig Val Λ c.2) α} {k : α → Prog (TpuEff nD τ sig Val Λ c.2) β} {ψ : α → T → Prop} {φ : β → T → Prop}
    (hp : Safe defs 𝒱 c R t p ψ) (hk : ∀ a t', ψ a t' → Safe defs 𝒱 c R t' (k a) φ) : Safe defs 𝒱 c R t (p >>= k) φ := by
  unfold Safe at *; rw [wp_bind]
  refine hp.trans (wp_mono frame _ Set.univ fun a => ?_)
  iintro ⟨%t', %h, H⟩
  iapply (hk a t' h); iexact H

theorem Safe.keep {R : T → sProp 𝕄} {t : T} {p : Prog (TpuEff nD τ sig Val Λ c.2) α} {k : α → Prog (TpuEff nD τ sig Val Λ c.2) β} {φ : β → T → Prop}
    (hp : Safe defs 𝒱 c R t p (fun _ t' => t' = t)) (hk : ∀ a, Safe defs 𝒱 c R t (k a) φ) : Safe defs 𝒱 c R t (p >>= k) φ :=
  hp.bind fun a t' h => by subst h; exact hk a

theorem Safe.load {R : T → sProp 𝕄} {t : T} {cs : CoreSpace} {s : Shape} {e : EltTy} {m : Memref sig c.2.kind cs s e} (hm : ∀ t, Reads c (R t) m)
    {r : LoadRect s} {hl : m.view.LoadsAt r} : Safe defs 𝒱 c R t (Prog.lift (.load m r hl)) (fun _ t' => t' = t) := by
  have h := hm t
  unfold Reads owns at h
  unfold Safe
  refine h.trans ?_
  iintro ⟨%X, ⟨%f, %hf, H⟩, K⟩
  iapply (wp_load 𝒱 c none Set.univ (hl := hl) (k := .ret) (q := fullShare) (f := f) (S := m.view.set) (View.setOn_subset_set _ _)) $$ [H]
  · iexact H
  iintro H
  rw [wp_ret]
  imodintro
  iexists t
  isplitr; · ipureintro; rfl
  iapply K
  iexists f
  isplitr; · ipureintro; exact hf
  iexact H

theorem Safe.store {R : T → sProp 𝕄} {t : T} {cs : CoreSpace} {s : Shape} {e : EltTy} {m : Memref sig c.2.kind cs s e} (hm : ∀ t, Writes c (R t) m)
    {r : Rect s} {w : r.shape.Idx → Val e} {hx : (m.access r).Stores Finset.univ} {hm' : (Finset.univ : Finset r.shape.Idx) = Finset.univ ∨ ∀ a, r.stride a = 1} :
    Safe defs 𝒱 c R t (Prog.lift (.store m r w Finset.univ hx hm')) (fun _ t' => t' = t) := by
  have h := hm t
  unfold Writes owns at h
  unfold Safe
  refine h.trans ?_
  iintro ⟨%X, ⟨%f, %hf, H⟩, K⟩
  iapply (wp_store 𝒱 c none Set.univ (hx := hx) (hm := hm') (k := .ret) (f := f) (S := m.view.set) (View.set_slice_subset _ _)) $$ [H]
  · iexact H
  iintro H
  rw [wp_ret]
  imodintro
  iexists t
  isplitr; · ipureintro; rfl
  iapply K
  iexists _
  isplitr; swap
  · iexact H
  ipureintro; rfl

theorem Safe.assume {R : T → sProp 𝕄} {t : T} {P : Prop} {d : Decidable P} (h : P) : Safe defs 𝒱 c R t (Prog.lift (.assume P d)) (fun _ t' => t' = t) := by
  unfold Safe
  refine .trans ?_ (wp_assume 𝒱 c none Set.univ (k := .ret) h)
  rw [wp_ret]
  iintro H
  imodintro
  iexists t
  isplitr; · ipureintro; rfl
  iexact H

theorem Safe.dite {R : T → sProp 𝕄} {t : T} {P : Prop} {d : Decidable P} {a : P → Prog (TpuEff nD τ sig Val Λ c.2) α} {b : ¬P → Prog (TpuEff nD τ sig Val Λ c.2) α} {φ : α → T → Prop}
    (ha : ∀ h, Safe defs 𝒱 c R t (a h) φ) (hb : ∀ h, Safe defs 𝒱 c R t (b h) φ) : Safe defs 𝒱 c R t (@dite _ P d a b) φ := by
  split
  · exact ha _
  · exact hb _

theorem Safe.loop {R : T → sProp 𝕄} {t : T} {w : Nat} {σ : Type} (l : Scf.Loop w) (hok : l.OK) (init : σ)
    {body : Fin l.trips → σ → Prog (TpuEff nD τ sig Val Λ c.2) σ}
    (hb : ∀ k a, Safe defs 𝒱 c R t (body k a) (fun _ t' => t' = t)) :
    Safe defs 𝒱 c R t (Scf.Loop.for l hok init body) (fun _ t' => t' = t) := by
  unfold Safe at *
  refine .trans ?_ (Scf.wp_for frame (wpE defs 𝒱 c none) Set.univ l.lb l.ub l.st hok init body (fun _ _ => R t) fun k a => ?_)
  · iintro H
    isplitl [H]; · iexact H
    iintro %a H
    iexists t
    isplitr; · ipureintro; rfl
    iexact H
  · refine (hb k a).trans (wp_mono frame _ Set.univ fun a => ?_)
    iintro ⟨%t', %h, H⟩
    subst h; iexact H

section Table

variable {s : Shape} {e : EltTy} {m : Memref sig c.2.kind .smem s e}

theorem Safe.word {R : (s.Idx → Val e) → sProp 𝕄} {t : s.Idx → Val e} (hm : ∀ t, R t ⊢ iprop(owns c m fullShare t ∗ (∀ t', owns c m fullShare t' -∗ R t')))
    {r : Rect s} {h1 : r.shape.numel = 1} {hp : e.packing = 1} :
    Safe defs 𝒱 c R t (smemLoad m r h1 hp) (fun a t' => t' = t ∧ ∃ y, a = t (r.emb y)) := by
  have h := hm t
  unfold owns at h
  unfold Safe
  refine h.trans ?_
  iintro ⟨⟨%f, %hf, H⟩, K⟩
  unfold smemLoad smemLoadElt
  iapply (wp_load 𝒱 c none Set.univ (q := fullShare) (f := f) (S := m.view.set) (View.setOn_subset_set _ _)) $$ [H]
  · iexact H
  iintro H
  rw [wp_ret]
  imodintro
  iexists t
  isplitr
  · ipureintro
    refine ⟨rfl, ?_⟩
    subst hf
    exact ⟨_, rfl⟩
  iapply K
  iexists f
  isplitr; · ipureintro; exact hf
  iexact H

theorem Safe.put {R : (s.Idx → Val e) → sProp 𝕄} {t : s.Idx → Val e} (hm : ∀ t, R t ⊢ iprop(owns c m fullShare t ∗ (∀ t', owns c m fullShare t' -∗ R t')))
    {off size : Fin s.rank → ℕ} {inb : ∀ a, off a + size a ≤ s.size a} {w : (Rect.unit off size inb).shape.Idx → Val e}
    {hx : (m.access (Rect.unit off size inb)).Stores Finset.univ} {hm' : (Finset.univ : Finset (Rect.unit off size inb).shape.Idx) = Finset.univ ∨ ∀ a, (Rect.unit off size inb).stride a = 1} :
    Safe defs 𝒱 c R t (Prog.lift (.store m (Rect.unit off size inb) w Finset.univ hx hm')) (fun _ t' => t' = VecWindow.put t off size w) := by
  have h := hm t
  unfold owns at h
  unfold Safe
  refine h.trans ?_
  iintro ⟨⟨%f, %hf, H⟩, K⟩
  subst hf
  iapply (wp_store 𝒱 c none Set.univ (hx := hx) (hm := hm') (k := .ret) (f := f) (S := m.view.set) (View.set_slice_subset _ _)) $$ [H]
  · iexact H
  iintro H
  rw [wp_ret]
  imodintro
  iexists _
  isplitr; · ipureintro; rfl
  iapply K
  iexists _
  isplitr; swap
  · iexact H
  ipureintro
  exact View.read_writes_cons_put m.view f inb w [] rfl

end Table

end Cert.Safe

end
-- ==== Proof.AttnIdealWords.lean ====
module

public import proofs.«01_k».proof.AttnIdeal
public import proofs.«01_k».proof.Proof.Tiles
@[expose] public section
set_option maxRecDepth 65536
noncomputable section

namespace Cert.AttnIdeal.Words
open Idealize.ShloMosaic Cert.Tiles Cert.AttnIdeal
variable (i : grid0.Coords) (v291 : BitVec 32)
/-- The tiles below, and the count of those listed after `n`. -/
abbrev lst (n : ℕ) : BitVec 32 := cnt (full (i 2).val) v291 n
theorem off2 : k0_off2 i v291 = ![(lst i v291 1).toNat] := rfl
theorem off3 : k0_off3 i v291 = ![(lst i v291 2).toNat] := rfl
theorem off4 : k0_off4 i v291 = ![(lst i v291 3).toNat] := rfl
theorem off5 : k0_off5 i v291 = ![(lst i v291 4).toNat] := rfl
theorem off6 : k0_off6 i v291 = ![(lst i v291 5).toNat] := rfl
theorem off7 : k0_off7 i v291 = ![(lst i v291 6).toNat] := rfl
theorem off8 : k0_off8 i v291 = ![(lst i v291 7).toNat] := rfl
theorem off9 : k0_off9 i v291 = ![(lst i v291 8).toNat] := rfl
theorem lst_lt (n : ℕ) (h : n ≤ 8) : (lst i v291 n).toNat < 9 := by
  have := (cnt_le (full (i 2).val) v291 n h).1; exact Nat.lt_of_le_of_lt this (by omega)
theorem loop1 : k0_t1_loop i v291 = ⟨0#32, mid (lst i v291 8), 1#32⟩ := rfl
theorem loop2 : k0_t2_loop i v291 = ⟨mid (lst i v291 8), fin (lst i v291 8), 1#32⟩ := rfl
theorem off35 : k0_off35 i v291 = ![(Scalar.muli 2#32 (flo (lst i v291 8))).toNat] := rfl
theorem off13 (t) : k0_off13 i v291 t = ![(Scalar.addi (Scalar.muli 2#32 (Scf.iv 0#32 1#32 t.val)) 1#32).toNat] := rfl
theorem off16 (t) : k0_off16 i v291 t = ![(Scalar.muli 2#32 (Scf.iv 0#32 1#32 t.val)).toNat] := rfl
theorem off18 (t) : k0_off18 i v291 t = ![(Scalar.addi (Scalar.muli 2#32 (Scf.iv 0#32 1#32 t.val)) 2#32).toNat] := rfl
theorem off21 (t) : k0_off21 i v291 t = ![(Scalar.addi (Scalar.muli 2#32 (Scf.iv 0#32 1#32 t.val)) 1#32).toNat] := rfl
theorem none2 (t : Fin (k0_t2_loop i v291).trips) : False := by
  have h := trips2 (lst i v291 8) (lst_lt i v291 8 le_rfl)
  have h2 : (k0_t2_loop i v291).trips = 0 := h
  have := t.isLt
  omega
/-- How far the list reaches. -/
def top : ℕ := (lst i v291 8).toNat
theorem top_le : top i v291 ≤ 8 := by have := lst_lt i v291 8 le_rfl; unfold top; omega
theorem off9_top : k0_off9 i v291 0 = top i v291 := rfl
theorem trips (t : Fin (k0_t1_loop i v291).trips) :
    (Scalar.addi (Scalar.muli 2#32 (Scf.iv 0#32 1#32 t.val)) 1#32).toNat ≤ top i v291
    ∧ (Scalar.muli 2#32 (Scf.iv 0#32 1#32 t.val)).toNat ≤ top i v291
    ∧ (Scalar.addi (Scalar.muli 2#32 (Scf.iv 0#32 1#32 t.val)) 2#32).toNat ≤ top i v291 :=
  trip (lst i v291 8) (lst_lt i v291 8 le_rfl) t.val t.isLt
theorem off13_le (t) : k0_off13 i v291 t 0 ≤ top i v291 := (trips i v291 t).1
theorem off16_le (t) : k0_off16 i v291 t 0 ≤ top i v291 := (trips i v291 t).2.1
theorem off18_le (t) : k0_off18 i v291 t 0 ≤ top i v291 := (trips i v291 t).2.2
theorem off21_le (t) : k0_off21 i v291 t 0 ≤ top i v291 := (trips i v291 t).1
theorem off35_le : k0_off35 i v291 0 ≤ top i v291 := last_le (lst i v291 8) (lst_lt i v291 8 le_rfl)
theorem inb {off : Fin 1 → ℕ} (h : off 0 ≤ 8) : ∀ a, off a + S1.size a ≤ S9.size a := by
  intro a
  obtain rfl := Subsingleton.elim a 0
  show off 0 + 1 ≤ 9
  omega
theorem chk1 : k0_chk1 i v291 := by
  have L : ∀ n, n ≤ 8 → (lst i v291 n).toNat ≤ 8 := fun n h => by have := lst_lt i v291 n h; omega
  have T := top_le i v291
  exact ⟨inb (L 1 (by decide)), inb (L 2 (by decide)), inb (L 3 (by decide)), inb (L 4 (by decide)), inb (L 5 (by decide)), inb (L 6 (by decide)), inb (L 7 (by decide)), inb (L 8 (by decide)),
    ok1 _ (lst_lt i v291 8 le_rfl),
    fun t => inb ((off13_le i v291 t).trans T), fun t => inb ((off16_le i v291 t).trans T), fun t => inb ((off18_le i v291 t).trans T), fun t => inb ((off21_le i v291 t).trans T),
    ok2 _ (lst_lt i v291 8 le_rfl),
    fun t => (none2 i v291 t).elim, fun t => (none2 i v291 t).elim, fun t => (none2 i v291 t).elim, fun t => (none2 i v291 t).elim,
    fun _ => inb ((off35_le i v291).trans T)⟩
theorem near3 : k0_off3 i v291 0 ≤ k0_off2 i v291 0 + 1 := cnt_step _ _ 1
theorem near2 : k0_off2 i v291 0 ≤ 0 + 1 := cnt_step _ _ 0
theorem near4 : k0_off4 i v291 0 ≤ k0_off3 i v291 0 + 1 := cnt_step _ _ 2
theorem near5 : k0_off5 i v291 0 ≤ k0_off4 i v291 0 + 1 := cnt_step _ _ 3
theorem near6 : k0_off6 i v291 0 ≤ k0_off5 i v291 0 + 1 := cnt_step _ _ 4
theorem near7 : k0_off7 i v291 0 ≤ k0_off6 i v291 0 + 1 := cnt_step _ _ 5
theorem near8 : k0_off8 i v291 0 ≤ k0_off7 i v291 0 + 1 := cnt_step _ _ 6
theorem near9 : k0_off9 i v291 0 ≤ k0_off8 i v291 0 + 1 := cnt_step _ _ 7
theorem chk2 (w : BitVec 32) (h : w.toNat ≤ 7) : k0_chk2 w :=
  upto (P := k0_chk2) (k := 8) (by unfold k0_chk2 k0_off10 k0_off11; decide) w (by omega)
theorem chk3 (w : BitVec 32) (h : w.toNat ≤ 7) : k0_chk3 w :=
  upto (P := k0_chk3) (k := 8) (by unfold k0_chk3 k0_off14 k0_off15; decide) w (by omega)
theorem chk5 (w : BitVec 32) (h : w.toNat ≤ 7) : k0_chk5 w :=
  upto (P := k0_chk5) (k := 8) (by unfold k0_chk5 k0_off19 k0_off20; decide) w (by omega)
theorem chk7 (w : BitVec 32) (h : w.toNat ≤ 7) : k0_chk7 w :=
  upto (P := k0_chk7) (k := 8) (by unfold k0_chk7 k0_off24 k0_off25; decide) w (by omega)
theorem chk9 (w : BitVec 32) (h : w.toNat ≤ 7) : k0_chk9 w :=
  upto (P := k0_chk9) (k := 8) (by unfold k0_chk9 k0_off29 k0_off30; decide) w (by omega)
theorem chk4 (w : BitVec 32) (h : w.toNat ≤ 7) : k0_chk4 w :=
  upto (P := k0_chk4) (k := 8) (by unfold k0_chk4 k0_off17; decide) w (by omega)
theorem chk6 (w : BitVec 32) (h : w.toNat ≤ 7) : k0_chk6 w :=
  upto (P := k0_chk6) (k := 8) (by unfold k0_chk6 k0_off22; decide) w (by omega)
theorem chk8 (w : BitVec 32) (h : w.toNat ≤ 7) : k0_chk8 w :=
  upto (P := k0_chk8) (k := 8) (by unfold k0_chk8 k0_off27; decide) w (by omega)
theorem chk10 (w : BitVec 32) (h : w.toNat ≤ 7) : k0_chk10 w :=
  upto (P := k0_chk10) (k := 8) (by unfold k0_chk10 k0_off32; decide) w (by omega)
theorem chk11 (w : BitVec 32) (h : w.toNat ≤ 7) : k0_chk11 i v291 w := fun _ =>
  upto (P := fun w => ∀ (r : Fin 4), ∀ a, (k0_off36 w (BitVec.ofNat 32 r.val)) a + S1x1x1x80x128.size a ≤ S1x1x32x160x128.size a) (k := 8) (by unfold k0_off36; decide) w (by omega)
theorem full_le' : (full (i 2).val).toNat ≤ 7 := full_le (i 2)
end Cert.AttnIdeal.Words
end
-- ==== Proof.AttnIdealEnv.lean ====
module

public import proofs.«01_k».proof.Proof.AttnIdealWords
public import proofs.«01_k».proof.Proof.Safe
public import Idealize.ShloMosaic.Lib.Rounds
@[expose] public section
set_option maxRecDepth 65536
set_option maxHeartbeats 4000000
set_option cleanup.letToHave false
noncomputable section

namespace Cert.AttnIdeal.Run
open Cert.AttnIdeal Cert.Safe Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ
/-- Every input can be read, every result and scratch buffer written, and the table holds `t`. -/
structure Env (c : Dev nD) (R : (S9.Idx → Elt F .i32) → sProp 𝕄)
    (arg3 : Memref sig .tc .vmem S256x256 .f32)
    (arg4 : Memref sig .tc .vmem S1x1x32x128x128 .bf16)
    (arg5 : Memref sig .tc .vmem S1x1x32x128x128 .bf16)
    (arg6 : Memref sig .tc .vmem S1x1x32x160x128 .bf16)
    (arg7 : Memref sig .tc .vmem S1x1x256x128 .bf16)
    (arg8 : Memref sig .tc .vmem S1x1x64x256 .bf16)
    (arg9 : Memref sig .tc .vmem S1x2x16x128 .f32)
    (arg10 : Memref sig .tc .vmem S1x8x1024 .f32)
    (arg11 : Memref sig .tc .vmem S768x256 .f32)
    (arg12 : Memref sig .tc .vmem S2x512x256 .f32)
    (arg13 : Memref sig .tc .vmem S64x256 .bf16)
    (arg14 : Memref sig .tc .vmem S64x256 .f32)
    (arg15 : Memref sig .tc .vmem S16x5632 .f32)
    (arg16 : Memref sig .tc .vmem S32x2048 .f32)
    (arg17 : Memref sig .tc .vmem S256x256 .bf16)
    (arg18 : Memref sig .tc .vmem S16x5632 .bf16)
    (arg19 : Memref sig .tc .vmem S32x2048 .bf16)
    (arg20 : Memref sig .tc .vmem S64x256 .f32)
    (arg21 : Memref sig .tc .vmem S128x1024 .bf16)
    (arg22 : Memref sig .tc .vmem S512x1024 .f32)
    (arg23 : Memref sig .tc .vmem S512x1024 .f32)
    (arg24 : Memref sig .tc .smem S9 .i32) : Prop where
  h3 : ∀ t, Reads (c : Thread nD τ) (R t) arg3
  h4 : ∀ t, Reads (c : Thread nD τ) (R t) arg4
  h5 : ∀ t, Reads (c : Thread nD τ) (R t) arg5
  h6 : ∀ t, Reads (c : Thread nD τ) (R t) arg6
  h7 : ∀ t, Reads (c : Thread nD τ) (R t) arg7
  h8 : ∀ t, Reads (c : Thread nD τ) (R t) arg8
  h9 : ∀ t, Reads (c : Thread nD τ) (R t) arg9
  h10 : ∀ t, Reads (c : Thread nD τ) (R t) arg10
  h11 : ∀ t, Reads (c : Thread nD τ) (R t) arg11
  h12 : ∀ t, Reads (c : Thread nD τ) (R t) arg12
  h13 : ∀ t, Reads (c : Thread nD τ) (R t) arg13
  h14 : ∀ t, Reads (c : Thread nD τ) (R t) arg14
  h15 : ∀ t, Reads (c : Thread nD τ) (R t) arg15
  h16 : ∀ t, Reads (c : Thread nD τ) (R t) arg16
  h17 : ∀ t, Writes (c : Thread nD τ) (R t) arg17
  h18 : ∀ t, Writes (c : Thread nD τ) (R t) arg18
  h19 : ∀ t, Writes (c : Thread nD τ) (R t) arg19
  h20 : ∀ t, Writes (c : Thread nD τ) (R t) arg20
  h21 : ∀ t, Writes (c : Thread nD τ) (R t) arg21
  h22 : ∀ t, Writes (c : Thread nD τ) (R t) arg22
  h23 : ∀ t, Writes (c : Thread nD τ) (R t) arg23
  h24 : ∀ t, R t ⊢ iprop(owns (c : Thread nD τ) arg24 fullShare t ∗ (∀ t', owns (c : Thread nD τ) arg24 fullShare t' -∗ R t'))
/-- The table's places up to `n` hold tiles there are. -/
def G (n : ℕ) (t : (S9.Idx → Elt F .i32)) : Prop := Good (s := S9) (by decide) n t
section
variable {Λ : Labels} {defs : Defs nD τ sig (Elt F) Λ} {𝒱 : Variants} {c : Dev nD} {arg24 : Memref sig .tc .smem S9 .i32} {α : Type}
theorem put_step {R : (S9.Idx → Elt F .i32) → sProp 𝕄} (hm : ∀ t, R t ⊢ iprop(owns (c : Thread nD τ) arg24 fullShare t ∗ (∀ t', owns (c : Thread nD τ) arg24 fullShare t' -∗ R t')))
    {t : (S9.Idx → Elt F .i32)} {n : ℕ} (g : G n t) {off : Fin 1 → ℕ} (hn : off 0 ≤ n + 1) {inb : ∀ a, off a + S1.size a ≤ S9.size a} {w : (Rect.unit (s := S9) off S1.size inb).shape.Idx → Elt F .i32}
    {hx : (arg24.access (Rect.unit (s := S9) off S1.size inb)).Stores Finset.univ} {hm' : (Finset.univ : Finset (Rect.unit (s := S9) off S1.size inb).shape.Idx) = Finset.univ ∨ ∀ a, (Rect.unit (s := S9) off S1.size inb).stride a = 1}
    {k : PUnit → Prog (TpuEff nD τ sig (Elt F) Λ .tc) α} {φ : α → (S9.Idx → Elt F .i32) → Prop}
    (hw : ∀ y, BitVec.toNat (w y) ≤ 7)
    (hk : ∀ t', G (off 0) t' → Safe defs 𝒱 (c : Thread nD τ) R t' (k ⟨⟩) φ) :
    Safe defs 𝒱 (c : Thread nD τ) R t (Prog.lift (.store arg24 (Rect.unit (s := S9) off S1.size inb) w Finset.univ hx hm') >>= k) φ := by
  refine Safe.bind (Safe.put hm) ?_
  rintro _ _ rfl
  exact hk _ (Good.put (s := S9) (hs := by decide) (n := n) g (by decide) rfl hn hw)
theorem put_first {R : (S9.Idx → Elt F .i32) → sProp 𝕄} (hm : ∀ t, R t ⊢ iprop(owns (c : Thread nD τ) arg24 fullShare t ∗ (∀ t', owns (c : Thread nD τ) arg24 fullShare t' -∗ R t')))
    {t : (S9.Idx → Elt F .i32)} {off : Fin 1 → ℕ} (hn : off 0 = 0) {inb : ∀ a, off a + S1.size a ≤ S9.size a} {w : (Rect.unit (s := S9) off S1.size inb).shape.Idx → Elt F .i32}
    {hx : (arg24.access (Rect.unit (s := S9) off S1.size inb)).Stores Finset.univ} {hm' : (Finset.univ : Finset (Rect.unit (s := S9) off S1.size inb).shape.Idx) = Finset.univ ∨ ∀ a, (Rect.unit (s := S9) off S1.size inb).stride a = 1}
    {k : PUnit → Prog (TpuEff nD τ sig (Elt F) Λ .tc) α} {φ : α → (S9.Idx → Elt F .i32) → Prop}
    (hw : ∀ y, BitVec.toNat (w y) ≤ 7)
    (hk : ∀ t', G 0 t' → Safe defs 𝒱 (c : Thread nD τ) R t' (k ⟨⟩) φ) :
    Safe defs 𝒱 (c : Thread nD τ) R t (Prog.lift (.store arg24 (Rect.unit (s := S9) off S1.size inb) w Finset.univ hx hm') >>= k) φ := by
  refine Safe.bind (Safe.put hm) ?_
  rintro _ _ rfl
  exact hk _ (Good.first (s := S9) (hs := by decide) t (by decide) rfl hn hw)
theorem word_any {R : (S9.Idx → Elt F .i32) → sProp 𝕄} (hm : ∀ t, R t ⊢ iprop(owns (c : Thread nD τ) arg24 fullShare t ∗ (∀ t', owns (c : Thread nD τ) arg24 fullShare t' -∗ R t')))
    {t : (S9.Idx → Elt F .i32)} {r : Rect S9} {h1 : r.shape.numel = 1} {hp : EltTy.packing .i32 = 1}
    {k : Elt F .i32 → Prog (TpuEff nD τ sig (Elt F) Λ .tc) α} {φ : α → (S9.Idx → Elt F .i32) → Prop}
    (hk : ∀ v, Safe defs 𝒱 (c : Thread nD τ) R t (k v) φ) :
    Safe defs 𝒱 (c : Thread nD τ) R t (smemLoad arg24 r h1 hp >>= k) φ := by
  refine Safe.bind (Safe.word hm) ?_
  rintro v _ ⟨rfl, _⟩
  exact hk v
theorem word_step {R : (S9.Idx → Elt F .i32) → sProp 𝕄} (hm : ∀ t, R t ⊢ iprop(owns (c : Thread nD τ) arg24 fullShare t ∗ (∀ t', owns (c : Thread nD τ) arg24 fullShare t' -∗ R t')))
    {t : (S9.Idx → Elt F .i32)} {n : ℕ} (g : G n t) {off : Fin 1 → ℕ} (hn : off 0 ≤ n) {inb : ∀ a, off a + S1.size a ≤ S9.size a}
    {h1 : (Rect.unit (s := S9) off S1.size inb).shape.numel = 1} {hp : EltTy.packing .i32 = 1}
    {k : Elt F .i32 → Prog (TpuEff nD τ sig (Elt F) Λ .tc) α} {φ : α → (S9.Idx → Elt F .i32) → Prop}
    (hk : ∀ v : Elt F .i32, BitVec.toNat v ≤ 7 → Safe defs 𝒱 (c : Thread nD τ) R t (k v) φ) :
    Safe defs 𝒱 (c : Thread nD τ) R t (smemLoad arg24 (Rect.unit (s := S9) off S1.size inb) h1 hp >>= k) φ := by
  refine Safe.bind (Safe.word hm) ?_
  rintro v _ ⟨rfl, y, rfl⟩
  exact hk _ (Good.at (s := S9) (hs := by decide) (n := n) g (by decide) hn y)
end
end Cert.AttnIdeal.Run
end
-- ==== Proof.AttnIdealTops.lean ====
module

public import proofs.«01_k».proof.Proof.AttnIdealEnv
public import proofs.«01_k».proof.Proof.Gen.AttnIdeal.Skeleton
@[expose] public section
set_option maxRecDepth 65536
set_option maxHeartbeats 4000000
set_option cleanup.letToHave false
noncomputable section

namespace Cert.AttnIdeal.Run
open Cert.AttnIdeal Cert.AttnIdeal.Gen Cert.Safe Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ
variable {defs : Defs nD τ sig (Elt F) Λ₀} {𝒱 : Variants} {c : Dev nD}
variable {arg3 : Memref sig .tc .vmem S256x256 .f32} {harg3 : arg3.IsWhole}
variable {arg4 : Memref sig .tc .vmem S1x1x32x128x128 .bf16} {harg4 : arg4.IsWhole}
variable {arg5 : Memref sig .tc .vmem S1x1x32x128x128 .bf16} {harg5 : arg5.IsWhole}
variable {arg6 : Memref sig .tc .vmem S1x1x32x160x128 .bf16} {harg6 : arg6.IsWhole}
variable {arg7 : Memref sig .tc .vmem S1x1x256x128 .bf16} {harg7 : arg7.IsWhole}
variable {arg8 : Memref sig .tc .vmem S1x1x64x256 .bf16} {harg8 : arg8.IsWhole}
variable {arg9 : Memref sig .tc .vmem S1x2x16x128 .f32} {harg9 : arg9.IsWhole}
variable {arg10 : Memref sig .tc .vmem S1x8x1024 .f32} {harg10 : arg10.IsWhole}
variable {arg11 : Memref sig .tc .vmem S768x256 .f32} {harg11 : arg11.IsWhole}
variable {arg12 : Memref sig .tc .vmem S2x512x256 .f32} {harg12 : arg12.IsWhole}
variable {arg13 : Memref sig .tc .vmem S64x256 .bf16} {harg13 : arg13.IsWhole}
variable {arg14 : Memref sig .tc .vmem S64x256 .f32} {harg14 : arg14.IsWhole}
variable {arg15 : Memref sig .tc .vmem S16x5632 .f32} {harg15 : arg15.IsWhole}
variable {arg16 : Memref sig .tc .vmem S32x2048 .f32} {harg16 : arg16.IsWhole}
variable {arg17 : Memref sig .tc .vmem S256x256 .bf16} {harg17 : arg17.IsWhole}
variable {arg18 : Memref sig .tc .vmem S16x5632 .bf16} {harg18 : arg18.IsWhole}
variable {arg19 : Memref sig .tc .vmem S32x2048 .bf16} {harg19 : arg19.IsWhole}
variable {arg20 : Memref sig .tc .vmem S64x256 .f32} {harg20 : arg20.IsWhole}
variable {arg21 : Memref sig .tc .vmem S128x1024 .bf16} {harg21 : arg21.IsWhole}
variable {arg22 : Memref sig .tc .vmem S512x1024 .f32} {harg22 : arg22.IsWhole}
variable {arg23 : Memref sig .tc .vmem S512x1024 .f32} {harg23 : arg23.IsWhole}
variable {arg24 : Memref sig .tc .smem S9 .i32} {harg24 : arg24.IsWhole}
theorem p236 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v198 : IVec S64x256 1} {v218 : FVec F S64x256 .f32} {v651 : FVec F S8x256 .f32} {v652 : FVec F S8x256 .f32} {v653 : FVec F S8x256 .f32} {v654 : FVec F S8x256 .f32} {v655 : FVec F S8x256 .f32} {v2179 : FVec F S8x256 .f32} {v2186 : FVec F S8x256 .f32} {v2192 : FVec F S8x256 .f32} {v2198 : FVec F S8x256 .f32} {v2204 : FVec F S8x256 .f32} {v2208 : IVec S8x256 1} {v2213 : FVec F S8x256 .f32} {v2215 : IVec S8x256 1} {cst_838 : F .f32} {cst_839 : F .f32} :
    Safe defs 𝒱 (c : Thread nD τ) R t (k0_part236 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v198 v218 v651 v652 v653 v654 v655 v2179 v2186 v2192 v2198 v2204 v2208 v2213 v2215 cst_838 cst_839) (fun _ t' => t' = t) := by
  rw [k0_part236_eq_skeleton]; unfold k0_part236_skel
  refine Safe.keep (Safe.load (fun t => (H.h20 t).reads)) fun _ => ?_
  exact Safe.ret rfl
theorem p261 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v198 : IVec S64x256 1} {v218 : FVec F S64x256 .f32} :
    Safe defs 𝒱 (c : Thread nD τ) R t (k0_part261 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v198 v218) (fun _ t' => t' = t) := by
  rw [k0_part261_eq_skeleton]; unfold k0_part261_skel
  refine Safe.keep (by rw [k0_part237_eq_skeleton]; exact Safe.ret rfl) fun x => ?_
  refine Safe.keep (by rw [k0_part238_eq_skeleton]; exact Safe.ret rfl) fun x => ?_
  refine Safe.keep (by rw [k0_part239_eq_skeleton]; exact Safe.ret rfl) fun x => ?_
  refine Safe.keep (by rw [k0_part240_eq_skeleton]; exact Safe.ret rfl) fun x => ?_
  refine Safe.keep (by rw [k0_part241_eq_skeleton]; exact Safe.ret rfl) fun x => ?_
  refine Safe.keep (by rw [k0_part242_eq_skeleton]; exact Safe.ret rfl) fun x => ?_
  refine Safe.keep (by rw [k0_part243_eq_skeleton]; exact Safe.ret rfl) fun x => ?_
  refine Safe.keep (by rw [k0_part244_eq_skeleton]; exact Safe.ret rfl) fun x => ?_
  refine Safe.keep (by rw [k0_part245_eq_skeleton]; exact Safe.ret rfl) fun x => ?_
  refine Safe.keep (by rw [k0_part246_eq_skeleton]; exact Safe.ret rfl) fun x => ?_
  refine Safe.keep (by rw [k0_part247_eq_skeleton]; exact Safe.ret rfl) fun x => ?_
  refine Safe.keep (by rw [k0_part248_eq_skeleton]; exact Safe.ret rfl) fun x => ?_
  refine Safe.keep (by rw [k0_part249_eq_skeleton]; exact Safe.ret rfl) fun x => ?_
  refine Safe.keep (by rw [k0_part250_eq_skeleton]; exact Safe.ret rfl) fun x => ?_
  refine Safe.keep (by rw [k0_part251_eq_skeleton]; exact Safe.ret rfl) fun x => ?_
  refine Safe.keep (by rw [k0_part252_eq_skeleton]; exact Safe.ret rfl) fun x => ?_
  refine Safe.keep (by rw [k0_part253_eq_skeleton]; exact Safe.ret rfl) fun x => ?_
  refine Safe.keep (by rw [k0_part254_eq_skeleton]; exact Safe.ret rfl) fun x => ?_
  refine Safe.keep (by rw [k0_part255_eq_skeleton]; exact Safe.ret rfl) fun x => ?_
  refine Safe.keep (by rw [k0_part256_eq_skeleton]; exact Safe.ret rfl) fun x => ?_
  refine Safe.keep (by rw [k0_part257_eq_skeleton]; exact Safe.ret rfl) fun x => ?_
  refine Safe.keep (by rw [k0_part258_eq_skeleton]; exact Safe.ret rfl) fun x => ?_
  refine Safe.keep (by rw [k0_part259_eq_skeleton]; exact Safe.ret rfl) fun x => ?_
  refine Safe.keep (by rw [k0_part260_eq_skeleton]; exact Safe.ret rfl) fun x => ?_
  refine Safe.keep (Safe.load (fun t => (H.h20 t).reads)) fun _ => ?_
  exact Safe.ret rfl
theorem p200 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v218 : FVec F S64x256 .f32} :
    Safe defs 𝒱 (c : Thread nD τ) R t (k0_part200 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v218) (fun _ t' => t' = t) := by
  rw [k0_part200_eq_skeleton]; unfold k0_part200_skel
  refine Safe.keep (by rw [k0_part151_eq_skeleton]; exact Safe.ret rfl) fun x => ?_
  refine Safe.keep (by rw [k0_part152_eq_skeleton]; exact Safe.ret rfl) fun x => ?_
  refine Safe.keep (by rw [k0_part153_eq_skeleton]; exact Safe.ret rfl) fun x => ?_
  refine Safe.keep (by rw [k0_part154_eq_skeleton]; exact Safe.ret rfl) fun x => ?_
  refine Safe.keep (by rw [k0_part155_eq_skeleton]; exact Safe.ret rfl) fun x => ?_
  refine Safe.keep (by rw [k0_part156_eq_skeleton]; exact Safe.ret rfl) fun x => ?_
  refine Safe.keep (by rw [k0_part157_eq_skeleton]; exact Safe.ret rfl) fun x => ?_
  refine Safe.keep (by rw [k0_part158_eq_skeleton]; exact Safe.ret rfl) fun x => ?_
  refine Safe.keep (by rw [k0_part159_eq_skeleton]; exact Safe.ret rfl) fun x => ?_
  refine Safe.keep (by rw [k0_part160_eq_skeleton]; exact Safe.ret rfl) fun x => ?_
  refine Safe.keep (by rw [k0_part161_eq_skeleton]; exact Safe.ret rfl) fun x => ?_
  refine Safe.keep (by rw [k0_part162_eq_skeleton]; exact Safe.ret rfl) fun x => ?_
  refine Safe.keep (by rw [k0_part163_eq_skeleton]; exact Safe.ret rfl) fun x => ?_
  refine Safe.keep (by rw [k0_part164_eq_skeleton]; exact Safe.ret rfl) fun x => ?_
  refine Safe.keep (by rw [k0_part165_eq_skeleton]; exact Safe.ret rfl) fun x => ?_
  refine Safe.keep (by rw [k0_part166_eq_skeleton]; exact Safe.ret rfl) fun x => ?_
  refine Safe.keep (by rw [k0_part167_eq_skeleton]; exact Safe.ret rfl) fun x => ?_
  refine Safe.keep (by rw [k0_part168_eq_skeleton]; exact Safe.ret rfl) fun x => ?_
  refine Safe.keep (by rw [k0_part169_eq_skeleton]; exact Safe.ret rfl) fun x => ?_
  refine Safe.keep (by rw [k0_part170_eq_skeleton]; exact Safe.ret rfl) fun x => ?_
  refine Safe.keep (by rw [k0_part171_eq_skeleton]; exact Safe.ret rfl) fun x => ?_
  refine Safe.keep (by rw [k0_part172_eq_skeleton]; exact Safe.ret rfl) fun x => ?_
  refine Safe.keep (by rw [k0_part173_eq_skeleton]; exact Safe.ret rfl) fun x => ?_
  refine Safe.keep (by rw [k0_part174_eq_skeleton]; exact Safe.ret rfl) fun x => ?_
  refine Safe.keep (by rw [k0_part175_eq_skeleton]; exact Safe.ret rfl) fun x => ?_
  refine Safe.keep (by rw [k0_part176_eq_skeleton]; exact Safe.ret rfl) fun x => ?_
  refine Safe.keep (by rw [k0_part177_eq_skeleton]; exact Safe.ret rfl) fun x => ?_
  refine Safe.keep (by rw [k0_part178_eq_skeleton]; exact Safe.ret rfl) fun x => ?_
  refine Safe.keep (by rw [k0_part179_eq_skeleton]; exact Safe.ret rfl) fun x => ?_
  refine Safe.keep (by rw [k0_part180_eq_skeleton]; exact Safe.ret rfl) fun x => ?_
  refine Safe.keep (by rw [k0_part181_eq_skeleton]; exact Safe.ret rfl) fun x => ?_
  refine Safe.keep (by rw [k0_part182_eq_skeleton]; exact Safe.ret rfl) fun x => ?_
  refine Safe.keep (by rw [k0_part183_eq_skeleton]; exact Safe.ret rfl) fun x => ?_
  refine Safe.keep (by rw [k0_part184_eq_skeleton]; exact Safe.ret rfl) fun x => ?_
  refine Safe.keep (by rw [k0_part185_eq_skeleton]; exact Safe.ret rfl) fun x => ?_
  refine Safe.keep (by rw [k0_part186_eq_skeleton]; exact Safe.ret rfl) fun x => ?_
  refine Safe.keep (by rw [k0_part187_eq_skeleton]; exact Safe.ret rfl) fun x => ?_
  refine Safe.keep (by rw [k0_part188_eq_skeleton]; exact Safe.ret rfl) fun x => ?_
  refine Safe.keep (by rw [k0_part189_eq_skeleton]; exact Safe.ret rfl) fun x => ?_
  refine Safe.keep (by rw [k0_part190_eq_skeleton]; exact Safe.ret rfl) fun x => ?_
  refine Safe.keep (by rw [k0_part191_eq_skeleton]; exact Safe.ret rfl) fun x => ?_
  refine Safe.keep (by rw [k0_part192_eq_skeleton]; exact Safe.ret rfl) fun x => ?_
  refine Safe.keep (by rw [k0_part193_eq_skeleton]; exact Safe.ret rfl) fun x => ?_
  refine Safe.keep (by rw [k0_part194_eq_skeleton]; exact Safe.ret rfl) fun x => ?_
  refine Safe.keep (by rw [k0_part195_eq_skeleton]; exact Safe.ret rfl) fun x => ?_
  refine Safe.keep (by rw [k0_part196_eq_skeleton]; exact Safe.ret rfl) fun x => ?_
  refine Safe.keep (by rw [k0_part197_eq_skeleton]; exact Safe.ret rfl) fun x => ?_
  refine Safe.keep (by rw [k0_part198_eq_skeleton]; exact Safe.ret rfl) fun x => ?_
  refine Safe.keep (by rw [k0_part199_eq_skeleton]; exact Safe.ret rfl) fun x => ?_
  exact Safe.ret rfl
theorem p150 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v218 : FVec F S64x256 .f32} :
    Safe defs 𝒱 (c : Thread nD τ) R t (k0_part150 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v218) (fun _ t' => t' = t) := by
  rw [k0_part150_eq_skeleton]; unfold k0_part150_skel
  refine Safe.keep (by rw [k0_part85_eq_skeleton]; exact Safe.ret rfl) fun x => ?_
  refine Safe.keep (by rw [k0_part86_eq_skeleton]; exact Safe.ret rfl) fun x => ?_
  refine Safe.keep (by rw [k0_part87_eq_skeleton]; exact Safe.ret rfl) fun x => ?_
  refine Safe.keep (by rw [k0_part88_eq_skeleton]; exact Safe.ret rfl) fun x => ?_
  refine Safe.keep (by rw [k0_part89_eq_skeleton]; exact Safe.ret rfl) fun x => ?_
  refine Safe.keep (by rw [k0_part90_eq_skeleton]; exact Safe.ret rfl) fun x => ?_
  refine Safe.keep (by rw [k0_part91_eq_skeleton]; exact Safe.ret rfl) fun x => ?_
  refine Safe.keep (by rw [k0_part92_eq_skeleton]; exact Safe.ret rfl) fun x => ?_
  refine Safe.keep (by rw [k0_part93_eq_skeleton]; exact Safe.ret rfl) fun x => ?_
  refine Safe.keep (by rw [k0_part94_eq_skeleton]; exact Safe.ret rfl) fun x => ?_
  refine Safe.keep (by rw [k0_part95_eq_skeleton]; exact Safe.ret rfl) fun x => ?_
  refine Safe.keep (by rw [k0_part96_eq_skeleton]; exact Safe.ret rfl) fun x => ?_
  refine Safe.keep (by rw [k0_part97_eq_skeleton]; exact Safe.ret rfl) fun x => ?_
  refine Safe.keep (by rw [k0_part98_eq_skeleton]; exact Safe.ret rfl) fun x => ?_
  refine Safe.keep (by rw [k0_part99_eq_skeleton]; exact Safe.ret rfl) fun x => ?_
  refine Safe.keep (by rw [k0_part100_eq_skeleton]; exact Safe.ret rfl) fun x => ?_
  refine Safe.keep (by rw [k0_part101_eq_skeleton]; exact Safe.ret rfl) fun x => ?_
  refine Safe.keep (by rw [k0_part102_eq_skeleton]; exact Safe.ret rfl) fun x => ?_
  refine Safe.keep (by rw [k0_part103_eq_skeleton]; exact Safe.ret rfl) fun x => ?_
  refine Safe.keep (by rw [k0_part104_eq_skeleton]; exact Safe.ret rfl) fun x => ?_
  refine Safe.keep (by rw [k0_part105_eq_skeleton]; exact Safe.ret rfl) fun x => ?_
  refine Safe.keep (by rw [k0_part106_eq_skeleton]; exact Safe.ret rfl) fun x => ?_
  refine Safe.keep (by rw [k0_part107_eq_skeleton]; exact Safe.ret rfl) fun x => ?_
  refine Safe.keep (by rw [k0_part108_eq_skeleton]; exact Safe.ret rfl) fun x => ?_
  refine Safe.keep (by rw [k0_part109_eq_skeleton]; exact Safe.ret rfl) fun x => ?_
  refine Safe.keep (by rw [k0_part110_eq_skeleton]; exact Safe.ret rfl) fun x => ?_
  refine Safe.keep (by rw [k0_part111_eq_skeleton]; exact Safe.ret rfl) fun x => ?_
  refine Safe.keep (by rw [k0_part112_eq_skeleton]; exact Safe.ret rfl) fun x => ?_
  refine Safe.keep (by rw [k0_part113_eq_skeleton]; exact Safe.ret rfl) fun x => ?_
  refine Safe.keep (by rw [k0_part114_eq_skeleton]; exact Safe.ret rfl) fun x => ?_
  refine Safe.keep (by rw [k0_part115_eq_skeleton]; exact Safe.ret rfl) fun x => ?_
  refine Safe.keep (by rw [k0_part116_eq_skeleton]; exact Safe.ret rfl) fun x => ?_
  refine Safe.keep (by rw [k0_part117_eq_skeleton]; exact Safe.ret rfl) fun x => ?_
  refine Safe.keep (by rw [k0_part118_eq_skeleton]; exact Safe.ret rfl) fun x => ?_
  refine Safe.keep (by rw [k0_part119_eq_skeleton]; exact Safe.ret rfl) fun x => ?_
  refine Safe.keep (by rw [k0_part120_eq_skeleton]; exact Safe.ret rfl) fun x => ?_
  refine Safe.keep (by rw [k0_part121_eq_skeleton]; exact Safe.ret rfl) fun x => ?_
  refine Safe.keep (by rw [k0_part122_eq_skeleton]; exact Safe.ret rfl) fun x => ?_
  refine Safe.keep (by rw [k0_part123_eq_skeleton]; exact Safe.ret rfl) fun x => ?_
  refine Safe.keep (by rw [k0_part124_eq_skeleton]; exact Safe.ret rfl) fun x => ?_
  refine Safe.keep (by rw [k0_part125_eq_skeleton]; exact Safe.ret rfl) fun x => ?_
  refine Safe.keep (by rw [k0_part126_eq_skeleton]; exact Safe.ret rfl) fun x => ?_
  refine Safe.keep (by rw [k0_part127_eq_skeleton]; exact Safe.ret rfl) fun x => ?_
  refine Safe.keep (by rw [k0_part128_eq_skeleton]; exact Safe.ret rfl) fun x => ?_
  refine Safe.keep (by rw [k0_part129_eq_skeleton]; exact Safe.ret rfl) fun x => ?_
  refine Safe.keep (by rw [k0_part130_eq_skeleton]; exact Safe.ret rfl) fun x => ?_
  refine Safe.keep (by rw [k0_part131_eq_skeleton]; exact Safe.ret rfl) fun x => ?_
  refine Safe.keep (by rw [k0_part132_eq_skeleton]; exact Safe.ret rfl) fun x => ?_
  refine Safe.keep (by rw [k0_part133_eq_skeleton]; exact Safe.ret rfl) fun x => ?_
  refine Safe.keep (by rw [k0_part134_eq_skeleton]; exact Safe.ret rfl) fun x => ?_
  refine Safe.keep (by rw [k0_part135_eq_skeleton]; exact Safe.ret rfl) fun x => ?_
  refine Safe.keep (by rw [k0_part136_eq_skeleton]; exact Safe.ret rfl) fun x => ?_
  refine Safe.keep (by rw [k0_part137_eq_skeleton]; exact Safe.ret rfl) fun x => ?_
  refine Safe.keep (by rw [k0_part138_eq_skeleton]; exact Safe.ret rfl) fun x => ?_
  refine Safe.keep (by rw [k0_part139_eq_skeleton]; exact Safe.ret rfl) fun x => ?_
  refine Safe.keep (by rw [k0_part140_eq_skeleton]; exact Safe.ret rfl) fun x => ?_
  refine Safe.keep (by rw [k0_part141_eq_skeleton]; exact Safe.ret rfl) fun x => ?_
  refine Safe.keep (by rw [k0_part142_eq_skeleton]; exact Safe.ret rfl) fun x => ?_
  refine Safe.keep (by rw [k0_part143_eq_skeleton]; exact Safe.ret rfl) fun x => ?_
  refine Safe.keep (by rw [k0_part144_eq_skeleton]; exact Safe.ret rfl) fun x => ?_
  exact Safe.ret rfl
theorem p84 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v218 : FVec F S64x256 .f32} :
    Safe defs 𝒱 (c : Thread nD τ) R t (k0_part84 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v218) (fun _ t' => t' = t) := by
  rw [k0_part84_eq_skeleton]; unfold k0_part84_skel
  refine Safe.keep (by rw [k0_part1_eq_skeleton]; exact Safe.ret rfl) fun x => ?_
  refine Safe.keep (by rw [k0_part2_eq_skeleton]; exact Safe.ret rfl) fun x => ?_
  refine Safe.keep (by rw [k0_part3_eq_skeleton]; exact Safe.ret rfl) fun x => ?_
  refine Safe.keep (by rw [k0_part4_eq_skeleton]; exact Safe.ret rfl) fun x => ?_
  refine Safe.keep (by rw [k0_part5_eq_skeleton]; exact Safe.ret rfl) fun x => ?_
  refine Safe.keep (by rw [k0_part6_eq_skeleton]; exact Safe.ret rfl) fun x => ?_
  refine Safe.keep (by rw [k0_part7_eq_skeleton]; exact Safe.ret rfl) fun x => ?_
  refine Safe.keep (by rw [k0_part8_eq_skeleton]; exact Safe.ret rfl) fun x => ?_
  refine Safe.keep (by rw [k0_part9_eq_skeleton]; exact Safe.ret rfl) fun x => ?_
  refine Safe.keep (by rw [k0_part10_eq_skeleton]; exact Safe.ret rfl) fun x => ?_
  refine Safe.keep (by rw [k0_part11_eq_skeleton]; exact Safe.ret rfl) fun x => ?_
  refine Safe.keep (by rw [k0_part12_eq_skeleton]; exact Safe.ret rfl) fun x => ?_
  refine Safe.keep (by rw [k0_part13_eq_skeleton]; exact Safe.ret rfl) fun x => ?_
  refine Safe.keep (by rw [k0_part14_eq_skeleton]; exact Safe.ret rfl) fun x => ?_
  refine Safe.keep (by rw [k0_part15_eq_skeleton]; exact Safe.ret rfl) fun x => ?_
  refine Safe.keep (by rw [k0_part16_eq_skeleton]; exact Safe.ret rfl) fun x => ?_
  refine Safe.keep (by rw [k0_part17_eq_skeleton]; exact Safe.ret rfl) fun x => ?_
  refine Safe.keep (by rw [k0_part18_eq_skeleton]; exact Safe.ret rfl) fun x => ?_
  refine Safe.keep (by rw [k0_part19_eq_skeleton]; exact Safe.ret rfl) fun x => ?_
  refine Safe.keep (by rw [k0_part20_eq_skeleton]; exact Safe.ret rfl) fun x => ?_
  refine Safe.keep (by rw [k0_part21_eq_skeleton]; exact Safe.ret rfl) fun x => ?_
  refine Safe.keep (by rw [k0_part22_eq_skeleton]; exact Safe.ret rfl) fun x => ?_
  refine Safe.keep (by rw [k0_part23_eq_skeleton]; exact Safe.ret rfl) fun x => ?_
  refine Safe.keep (by rw [k0_part24_eq_skeleton]; exact Safe.ret rfl) fun x => ?_
  refine Safe.keep (by rw [k0_part25_eq_skeleton]; exact Safe.ret rfl) fun x => ?_
  refine Safe.keep (by rw [k0_part26_eq_skeleton]; exact Safe.ret rfl) fun x => ?_
  refine Safe.keep (by rw [k0_part27_eq_skeleton]; exact Safe.ret rfl) fun x => ?_
  refine Safe.keep (by rw [k0_part28_eq_skeleton]; exact Safe.ret rfl) fun x => ?_
  refine Safe.keep (by rw [k0_part29_eq_skeleton]; exact Safe.ret rfl) fun x => ?_
  refine Safe.keep (by rw [k0_part30_eq_skeleton]; exact Safe.ret rfl) fun x => ?_
  refine Safe.keep (by rw [k0_part31_eq_skeleton]; exact Safe.ret rfl) fun x => ?_
  refine Safe.keep (by rw [k0_part32_eq_skeleton]; exact Safe.ret rfl) fun x => ?_
  refine Safe.keep (by rw [k0_part33_eq_skeleton]; exact Safe.ret rfl) fun x => ?_
  refine Safe.keep (by rw [k0_part34_eq_skeleton]; exact Safe.ret rfl) fun x => ?_
  refine Safe.keep (by rw [k0_part35_eq_skeleton]; exact Safe.ret rfl) fun x => ?_
  refine Safe.keep (by rw [k0_part36_eq_skeleton]; exact Safe.ret rfl) fun x => ?_
  refine Safe.keep (by rw [k0_part37_eq_skeleton]; exact Safe.ret rfl) fun x => ?_
  refine Safe.keep (by rw [k0_part38_eq_skeleton]; exact Safe.ret rfl) fun x => ?_
  refine Safe.keep (by rw [k0_part39_eq_skeleton]; exact Safe.ret rfl) fun x => ?_
  refine Safe.keep (by rw [k0_part40_eq_skeleton]; exact Safe.ret rfl) fun x => ?_
  refine Safe.keep (by rw [k0_part41_eq_skeleton]; exact Safe.ret rfl) fun x => ?_
  refine Safe.keep (by rw [k0_part42_eq_skeleton]; exact Safe.ret rfl) fun x => ?_
  refine Safe.keep (by rw [k0_part43_eq_skeleton]; exact Safe.ret rfl) fun x => ?_
  refine Safe.keep (by rw [k0_part44_eq_skeleton]; exact Safe.ret rfl) fun x => ?_
  refine Safe.keep (by rw [k0_part45_eq_skeleton]; exact Safe.ret rfl) fun x => ?_
  refine Safe.keep (by rw [k0_part46_eq_skeleton]; exact Safe.ret rfl) fun x => ?_
  refine Safe.keep (by rw [k0_part47_eq_skeleton]; exact Safe.ret rfl) fun x => ?_
  refine Safe.keep (by rw [k0_part48_eq_skeleton]; exact Safe.ret rfl) fun x => ?_
  refine Safe.keep (by rw [k0_part49_eq_skeleton]; exact Safe.ret rfl) fun x => ?_
  refine Safe.keep (by rw [k0_part50_eq_skeleton]; exact Safe.ret rfl) fun x => ?_
  refine Safe.keep (by rw [k0_part51_eq_skeleton]; exact Safe.ret rfl) fun x => ?_
  refine Safe.keep (by rw [k0_part52_eq_skeleton]; exact Safe.ret rfl) fun x => ?_
  refine Safe.keep (by rw [k0_part53_eq_skeleton]; exact Safe.ret rfl) fun x => ?_
  refine Safe.keep (by rw [k0_part54_eq_skeleton]; exact Safe.ret rfl) fun x => ?_
  refine Safe.keep (by rw [k0_part55_eq_skeleton]; exact Safe.ret rfl) fun x => ?_
  refine Safe.keep (by rw [k0_part56_eq_skeleton]; exact Safe.ret rfl) fun x => ?_
  refine Safe.keep (by rw [k0_part57_eq_skeleton]; exact Safe.ret rfl) fun x => ?_
  refine Safe.keep (by rw [k0_part58_eq_skeleton]; exact Safe.ret rfl) fun x => ?_
  refine Safe.keep (by rw [k0_part59_eq_skeleton]; exact Safe.ret rfl) fun x => ?_
  refine Safe.keep (by rw [k0_part60_eq_skeleton]; exact Safe.ret rfl) fun x => ?_
  exact Safe.ret rfl
theorem p301 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {arg2 : BitVec 32} {v193 : FVec F S64x256 .f32} {v194 : IVec S64x256 32} {v196 : IVec S1x256 32} {v198 : IVec S64x256 1} {c0_i32 : BitVec 32} :
    Safe defs 𝒱 (c : Thread nD τ) R t (k0_part301 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v193 v194 v196 v198 c0_i32) (fun _ t' => t' = t) := by
  rw [k0_part301_eq_skeleton]; unfold k0_part301_skel
  with_reducible refine Safe.dite (fun h => ?_) fun h => ?_
  · with_reducible refine Safe.dite (fun h => ?_) fun h => ?_
    · with_reducible refine Safe.dite (fun h => ?_) fun h => ?_
      · with_reducible refine Safe.dite (fun h => ?_) fun h => ?_
        · with_reducible refine Safe.dite (fun h => ?_) fun h => ?_
          · with_reducible refine Safe.dite (fun h => ?_) fun h => ?_
            · with_reducible refine Safe.dite (fun h => ?_) fun h => ?_
              · refine Safe.keep (p84 H) ?_
                rintro ⟨_, _, _, _, _, _, _, _, _, _, _, _, _, _, _, _, _, _, _⟩
                refine Safe.keep (by rw [k0_part61_eq_skeleton]; exact Safe.ret rfl) fun x => ?_
                refine Safe.keep (by rw [k0_part62_eq_skeleton]; exact Safe.ret rfl) fun x => ?_
                refine Safe.keep (by rw [k0_part63_eq_skeleton]; exact Safe.ret rfl) fun x => ?_
                refine Safe.keep (by rw [k0_part64_eq_skeleton]; exact Safe.ret rfl) fun x => ?_
                refine Safe.keep (by rw [k0_part65_eq_skeleton]; exact Safe.ret rfl) fun x => ?_
                refine Safe.keep (by rw [k0_part66_eq_skeleton]; exact Safe.ret rfl) fun x => ?_
                refine Safe.keep (by rw [k0_part67_eq_skeleton]; exact Safe.ret rfl) fun x => ?_
                refine Safe.keep (by rw [k0_part68_eq_skeleton]; exact Safe.ret rfl) fun x => ?_
                refine Safe.keep (by rw [k0_part69_eq_skeleton]; exact Safe.ret rfl) fun x => ?_
                refine Safe.keep (by rw [k0_part70_eq_skeleton]; exact Safe.ret rfl) fun x => ?_
                refine Safe.keep (by rw [k0_part71_eq_skeleton]; exact Safe.ret rfl) fun x => ?_
                refine Safe.keep (by rw [k0_part72_eq_skeleton]; exact Safe.ret rfl) fun x => ?_
                refine Safe.keep (by rw [k0_part73_eq_skeleton]; exact Safe.ret rfl) fun x => ?_
                refine Safe.keep (by rw [k0_part74_eq_skeleton]; exact Safe.ret rfl) fun x => ?_
                refine Safe.keep (by rw [k0_part75_eq_skeleton]; exact Safe.ret rfl) fun x => ?_
                refine Safe.keep (by rw [k0_part76_eq_skeleton]; exact Safe.ret rfl) fun x => ?_
                refine Safe.keep (by rw [k0_part77_eq_skeleton]; exact Safe.ret rfl) fun x => ?_
                refine Safe.keep (by rw [k0_part78_eq_skeleton]; exact Safe.ret rfl) fun x => ?_
                refine Safe.keep (by rw [k0_part79_eq_skeleton]; exact Safe.ret rfl) fun x => ?_
                refine Safe.keep (by rw [k0_part80_eq_skeleton]; exact Safe.ret rfl) fun x => ?_
                refine Safe.keep (by rw [k0_part81_eq_skeleton]; exact Safe.ret rfl) fun x => ?_
                refine Safe.keep (by rw [k0_part82_eq_skeleton]; exact Safe.ret rfl) fun x => ?_
                refine Safe.keep (by rw [k0_part83_eq_skeleton]; exact Safe.ret rfl) fun x => ?_
                refine Safe.keep (Safe.load (fun t => (H.h20 t).reads)) fun _ => ?_
                refine Safe.keep (Safe.store H.h20) fun _ => ?_
                exact Safe.ret rfl
              · refine Safe.keep (p150 H) ?_
                rintro ⟨_, _, _, _, _, _, _, _, _, _, _, _, _, _, _, _⟩
                refine Safe.keep (by rw [k0_part145_eq_skeleton]; exact Safe.ret rfl) fun x => ?_
                refine Safe.keep (by rw [k0_part146_eq_skeleton]; exact Safe.ret rfl) fun x => ?_
                refine Safe.keep (by rw [k0_part147_eq_skeleton]; exact Safe.ret rfl) fun x => ?_
                refine Safe.keep (by rw [k0_part148_eq_skeleton]; exact Safe.ret rfl) fun x => ?_
                refine Safe.keep (by rw [k0_part149_eq_skeleton]; exact Safe.ret rfl) fun x => ?_
                refine Safe.keep (Safe.load (fun t => (H.h20 t).reads)) fun _ => ?_
                refine Safe.keep (Safe.store H.h20) fun _ => ?_
                exact Safe.ret rfl
            · refine Safe.keep (p200 H) ?_
              rintro ⟨_, _, _, _, _, _, _, _⟩
              refine Safe.keep (Safe.load (fun t => (H.h20 t).reads)) fun _ => ?_
              refine Safe.keep (Safe.store H.h20) fun _ => ?_
              exact Safe.ret rfl
          · refine Safe.keep (by rw [k0_part201_eq_skeleton]; exact Safe.ret rfl) fun x => ?_
            refine Safe.keep (by rw [k0_part202_eq_skeleton]; exact Safe.ret rfl) fun x => ?_
            refine Safe.keep (by rw [k0_part203_eq_skeleton]; exact Safe.ret rfl) fun x => ?_
            refine Safe.keep (by rw [k0_part204_eq_skeleton]; exact Safe.ret rfl) fun x => ?_
            refine Safe.keep (by rw [k0_part205_eq_skeleton]; exact Safe.ret rfl) fun x => ?_
            refine Safe.keep (by rw [k0_part206_eq_skeleton]; exact Safe.ret rfl) fun x => ?_
            refine Safe.keep (by rw [k0_part207_eq_skeleton]; exact Safe.ret rfl) fun x => ?_
            refine Safe.keep (by rw [k0_part208_eq_skeleton]; exact Safe.ret rfl) fun x => ?_
            refine Safe.keep (by rw [k0_part209_eq_skeleton]; exact Safe.ret rfl) fun x => ?_
            refine Safe.keep (by rw [k0_part210_eq_skeleton]; exact Safe.ret rfl) fun x => ?_
            refine Safe.keep (by rw [k0_part211_eq_skeleton]; exact Safe.ret rfl) fun x => ?_
            refine Safe.keep (by rw [k0_part212_eq_skeleton]; exact Safe.ret rfl) fun x => ?_
            refine Safe.keep (by rw [k0_part213_eq_skeleton]; exact Safe.ret rfl) fun x => ?_
            refine Safe.keep (by rw [k0_part214_eq_skeleton]; exact Safe.ret rfl) fun x => ?_
            refine Safe.keep (by rw [k0_part215_eq_skeleton]; exact Safe.ret rfl) fun x => ?_
            refine Safe.keep (by rw [k0_part216_eq_skeleton]; exact Safe.ret rfl) fun x => ?_
            refine Safe.keep (by rw [k0_part217_eq_skeleton]; exact Safe.ret rfl) fun x => ?_
            refine Safe.keep (by rw [k0_part218_eq_skeleton]; exact Safe.ret rfl) fun x => ?_
            refine Safe.keep (by rw [k0_part219_eq_skeleton]; exact Safe.ret rfl) fun x => ?_
            refine Safe.keep (by rw [k0_part220_eq_skeleton]; exact Safe.ret rfl) fun x => ?_
            refine Safe.keep (by rw [k0_part221_eq_skeleton]; exact Safe.ret rfl) fun x => ?_
            refine Safe.keep (by rw [k0_part222_eq_skeleton]; exact Safe.ret rfl) fun x => ?_
            refine Safe.keep (by rw [k0_part223_eq_skeleton]; exact Safe.ret rfl) fun x => ?_
            refine Safe.keep (by rw [k0_part224_eq_skeleton]; exact Safe.ret rfl) fun x => ?_
            refine Safe.keep (by rw [k0_part225_eq_skeleton]; exact Safe.ret rfl) fun x => ?_
            refine Safe.keep (by rw [k0_part226_eq_skeleton]; exact Safe.ret rfl) fun x => ?_
            refine Safe.keep (by rw [k0_part227_eq_skeleton]; exact Safe.ret rfl) fun x => ?_
            refine Safe.keep (by rw [k0_part228_eq_skeleton]; exact Safe.ret rfl) fun x => ?_
            refine Safe.keep (by rw [k0_part229_eq_skeleton]; exact Safe.ret rfl) fun x => ?_
            refine Safe.keep (by rw [k0_part230_eq_skeleton]; exact Safe.ret rfl) fun x => ?_
            refine Safe.keep (by rw [k0_part231_eq_skeleton]; exact Safe.ret rfl) fun x => ?_
            refine Safe.keep (by rw [k0_part232_eq_skeleton]; exact Safe.ret rfl) fun x => ?_
            refine Safe.keep (by rw [k0_part233_eq_skeleton]; exact Safe.ret rfl) fun x => ?_
            refine Safe.keep (by rw [k0_part234_eq_skeleton]; exact Safe.ret rfl) fun x => ?_
            refine Safe.keep (by rw [k0_part235_eq_skeleton]; exact Safe.ret rfl) fun x => ?_
            refine Safe.keep (p236 H) ?_
            rintro ⟨_, _⟩
            refine Safe.keep (Safe.store H.h20) fun _ => ?_
            exact Safe.ret rfl
        · refine Safe.keep (p261 H) ?_
          rintro v1745
          refine Safe.keep (Safe.store H.h20) fun _ => ?_
          exact Safe.ret rfl
      · refine Safe.keep (by rw [k0_part262_eq_skeleton]; exact Safe.ret rfl) fun x => ?_
        refine Safe.keep (by rw [k0_part263_eq_skeleton]; exact Safe.ret rfl) fun x => ?_
        refine Safe.keep (by rw [k0_part264_eq_skeleton]; exact Safe.ret rfl) fun x => ?_
        refine Safe.keep (by rw [k0_part265_eq_skeleton]; exact Safe.ret rfl) fun x => ?_
        refine Safe.keep (by rw [k0_part266_eq_skeleton]; exact Safe.ret rfl) fun x => ?_
        refine Safe.keep (by rw [k0_part267_eq_skeleton]; exact Safe.ret rfl) fun x => ?_
        refine Safe.keep (by rw [k0_part268_eq_skeleton]; exact Safe.ret rfl) fun x => ?_
        refine Safe.keep (by rw [k0_part269_eq_skeleton]; exact Safe.ret rfl) fun x => ?_
        refine Safe.keep (by rw [k0_part270_eq_skeleton]; exact Safe.ret rfl) fun x => ?_
        refine Safe.keep (by rw [k0_part271_eq_skeleton]; exact Safe.ret rfl) fun x => ?_
        refine Safe.keep (by rw [k0_part272_eq_skeleton]; exact Safe.ret rfl) fun x => ?_
        refine Safe.keep (by rw [k0_part273_eq_skeleton]; exact Safe.ret rfl) fun x => ?_
        refine Safe.keep (by rw [k0_part274_eq_skeleton]; exact Safe.ret rfl) fun x => ?_
        refine Safe.keep (by rw [k0_part275_eq_skeleton]; exact Safe.ret rfl) fun x => ?_
        refine Safe.keep (by rw [k0_part276_eq_skeleton]; exact Safe.ret rfl) fun x => ?_
        refine Safe.keep (Safe.load (fun t => (H.h20 t).reads)) fun _ => ?_
        refine Safe.keep (Safe.store H.h20) fun _ => ?_
        exact Safe.ret rfl
    · exact Safe.ret rfl
  · exact Safe.ret rfl
end Cert.AttnIdeal.Run
end
-- ==== Proof.AttnIdealParts.lean ====
module

public import proofs.«01_k».proof.Proof.AttnIdealEnv
public import proofs.«01_k».proof.Proof.Gen.AttnIdeal.Skeleton
@[expose] public section
set_option maxRecDepth 65536
set_option maxHeartbeats 4000000
set_option cleanup.letToHave false
noncomputable section

namespace Cert.AttnIdeal.Run
open Cert.AttnIdeal Cert.AttnIdeal.Gen Cert.Safe Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ
variable {defs : Defs nD τ sig (Elt F) Λ₀} {𝒱 : Variants} {c : Dev nD}
variable {arg3 : Memref sig .tc .vmem S256x256 .f32} {harg3 : arg3.IsWhole}
variable {arg4 : Memref sig .tc .vmem S1x1x32x128x128 .bf16} {harg4 : arg4.IsWhole}
variable {arg5 : Memref sig .tc .vmem S1x1x32x128x128 .bf16} {harg5 : arg5.IsWhole}
variable {arg6 : Memref sig .tc .vmem S1x1x32x160x128 .bf16} {harg6 : arg6.IsWhole}
variable {arg7 : Memref sig .tc .vmem S1x1x256x128 .bf16} {harg7 : arg7.IsWhole}
variable {arg8 : Memref sig .tc .vmem S1x1x64x256 .bf16} {harg8 : arg8.IsWhole}
variable {arg9 : Memref sig .tc .vmem S1x2x16x128 .f32} {harg9 : arg9.IsWhole}
variable {arg10 : Memref sig .tc .vmem S1x8x1024 .f32} {harg10 : arg10.IsWhole}
variable {arg11 : Memref sig .tc .vmem S768x256 .f32} {harg11 : arg11.IsWhole}
variable {arg12 : Memref sig .tc .vmem S2x512x256 .f32} {harg12 : arg12.IsWhole}
variable {arg13 : Memref sig .tc .vmem S64x256 .bf16} {harg13 : arg13.IsWhole}
variable {arg14 : Memref sig .tc .vmem S64x256 .f32} {harg14 : arg14.IsWhole}
variable {arg15 : Memref sig .tc .vmem S16x5632 .f32} {harg15 : arg15.IsWhole}
variable {arg16 : Memref sig .tc .vmem S32x2048 .f32} {harg16 : arg16.IsWhole}
variable {arg17 : Memref sig .tc .vmem S256x256 .bf16} {harg17 : arg17.IsWhole}
variable {arg18 : Memref sig .tc .vmem S16x5632 .bf16} {harg18 : arg18.IsWhole}
variable {arg19 : Memref sig .tc .vmem S32x2048 .bf16} {harg19 : arg19.IsWhole}
variable {arg20 : Memref sig .tc .vmem S64x256 .f32} {harg20 : arg20.IsWhole}
variable {arg21 : Memref sig .tc .vmem S128x1024 .bf16} {harg21 : arg21.IsWhole}
variable {arg22 : Memref sig .tc .vmem S512x1024 .f32} {harg22 : arg22.IsWhole}
variable {arg23 : Memref sig .tc .vmem S512x1024 .f32} {harg23 : arg23.IsWhole}
variable {arg24 : Memref sig .tc .smem S9 .i32} {harg24 : arg24.IsWhole}
theorem p277 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v291 : BitVec 32} {k0_hw1 : k0_chk1 i v291} {c0_i32_294 : BitVec 32} {c1_i32_296 : BitVec 32} {k0_t1 : Fin (k0_t1_loop i v291).trips} (g : G (Words.top i v291) t) :
    Safe defs 𝒱 (c : Thread nD τ) R t (k0_part277 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v291 k0_hw1 c0_i32_294 c1_i32_296 k0_t1) (fun _ t' => t' = t) := by
  rw [k0_part277_eq_skeleton]; unfold k0_part277_skel
  refine word_step H.h24 g (Words.off13_le _ _ _) fun v hw => ?_
  refine Safe.keep (Safe.assume (Words.chk3 _ hw)) fun _ => ?_
  refine Safe.keep (Safe.load (fun t => (H.h20 t).reads)) fun _ => ?_
  refine Safe.keep (Safe.load (fun t => (H.h21 t).reads)) fun _ => ?_
  refine Safe.keep (Safe.store H.h21) fun _ => ?_
  refine Safe.keep (Safe.load (H.h4)) fun _ => ?_
  refine Safe.keep (Safe.load (fun t => (H.h21 t).reads)) fun _ => ?_
  refine Safe.keep (Safe.load (fun t => (H.h23 t).reads)) fun _ => ?_
  refine Safe.keep (Safe.store H.h23) fun _ => ?_
  refine word_step H.h24 g (Words.off16_le _ _ _) fun v hw => ?_
  refine Safe.keep (Safe.assume (Words.chk4 _ hw)) fun _ => ?_
  exact Safe.ret rfl
theorem p278 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {arg26 : FVec F S1x1024 .f32} {arg27 : FVec F S80x1024 .f32} {v673 : Elt F .i32} {k0_hw4 : k0_chk4 v673} {v674 : BitVec 32} {v675 : BitVec 32} :
    Safe defs 𝒱 (c : Thread nD τ) R t (k0_part278 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 arg27 v673 k0_hw4 v674 v675) (fun _ t' => t' = t) := by
  rw [k0_part278_eq_skeleton]; unfold k0_part278_skel
  refine Safe.keep (Safe.load (H.h6)) fun _ => ?_
  refine Safe.keep (Safe.load (H.h6)) fun _ => ?_
  refine Safe.keep (Safe.load (H.h6)) fun _ => ?_
  refine Safe.keep (Safe.load (H.h6)) fun _ => ?_
  refine Safe.keep (Safe.load (fun t => (H.h22 t).reads)) fun _ => ?_
  refine Safe.keep (Safe.load (fun t => (H.h22 t).reads)) fun _ => ?_
  exact Safe.ret rfl
theorem p279 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {arg26 : FVec F S1x1024 .f32} {arg27 : FVec F S80x1024 .f32} {arg25 : BitVec 32} {v691 : FVec F S80x512 .bf16} {v696 : FVec F S1x256 .f32} {v707 : FVec F S80x256 .f32} {v708 : Vec F S512x256 .f32} {v709 : FVec F S1x256 .f32} :
    Safe defs 𝒱 (c : Thread nD τ) R t (k0_part279 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 arg27 arg25 v691 v696 v707 v708 v709) (fun _ t' => t' = t) := by
  rw [k0_part279_eq_skeleton]; unfold k0_part279_skel
  refine Safe.keep (Safe.load (fun t => (H.h22 t).reads)) fun _ => ?_
  refine Safe.keep (Safe.load (fun t => (H.h22 t).reads)) fun _ => ?_
  exact Safe.ret rfl
theorem p280 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v291 : BitVec 32} {k0_hw1 : k0_chk1 i v291} {k0_t1 : Fin (k0_t1_loop i v291).trips} {arg25 : BitVec 32} {v758 : BitVec 32} {c2_i32_380 : BitVec 32} (g : G (Words.top i v291) t) :
    Safe defs 𝒱 (c : Thread nD τ) R t (k0_part280 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v291 k0_hw1 k0_t1 arg25 v758 c2_i32_380) (fun _ t' => t' = t) := by
  rw [k0_part280_eq_skeleton]; unfold k0_part280_skel
  refine word_step H.h24 g (Words.off18_le _ _ _) fun v hw => ?_
  refine Safe.keep (Safe.assume (Words.chk5 _ hw)) fun _ => ?_
  refine Safe.keep (Safe.load (fun t => (H.h20 t).reads)) fun _ => ?_
  refine Safe.keep (Safe.load (fun t => (H.h21 t).reads)) fun _ => ?_
  refine Safe.keep (Safe.store H.h21) fun _ => ?_
  refine Safe.keep (Safe.load (H.h4)) fun _ => ?_
  refine Safe.keep (Safe.load (fun t => (H.h21 t).reads)) fun _ => ?_
  refine Safe.keep (Safe.load (fun t => (H.h22 t).reads)) fun _ => ?_
  refine Safe.keep (Safe.store H.h22) fun _ => ?_
  refine word_step H.h24 g (Words.off21_le _ _ _) fun v hw => ?_
  refine Safe.keep (Safe.assume (Words.chk6 _ hw)) fun _ => ?_
  exact Safe.ret rfl
theorem p281 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v756 : FVec F S1x1024 .f32} {v757 : FVec F S80x1024 .f32} {v789 : Elt F .i32} {k0_hw6 : k0_chk6 v789} {v790 : BitVec 32} {v791 : BitVec 32} :
    Safe defs 𝒱 (c : Thread nD τ) R t (k0_part281 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v756 v757 v789 k0_hw6 v790 v791) (fun _ t' => t' = t) := by
  rw [k0_part281_eq_skeleton]; unfold k0_part281_skel
  refine Safe.keep (Safe.load (H.h6)) fun _ => ?_
  refine Safe.keep (Safe.load (H.h6)) fun _ => ?_
  refine Safe.keep (Safe.load (H.h6)) fun _ => ?_
  refine Safe.keep (Safe.load (H.h6)) fun _ => ?_
  refine Safe.keep (Safe.load (fun t => (H.h23 t).reads)) fun _ => ?_
  refine Safe.keep (Safe.load (fun t => (H.h23 t).reads)) fun _ => ?_
  exact Safe.ret rfl
theorem p282 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v291 : BitVec 32} {k0_hw1 : k0_chk1 i v291} {c0_i32_294 : BitVec 32} {c1_i32_296 : BitVec 32} {k0_t1 : Fin (k0_t1_loop i v291).trips} {arg26 : FVec F S1x1024 .f32} {arg27 : FVec F S80x1024 .f32} (g : G (Words.top i v291) t) :
    Safe defs 𝒱 (c : Thread nD τ) R t (k0_part282 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v291 k0_hw1 c0_i32_294 c1_i32_296 k0_t1 arg26 arg27) (fun _ t' => t' = t) := by
  rw [k0_part282_eq_skeleton]; unfold k0_part282_skel
  refine Safe.keep (p277 H g) ?_
  rintro ⟨_, _, _, _, _⟩
  refine Safe.keep (p278 H) ?_
  rintro ⟨_, _, _, _, _⟩
  refine Safe.keep (p279 H) ?_
  rintro ⟨_, _, _, _⟩
  refine Safe.keep (p280 H g) ?_
  rintro ⟨_, _, _, _⟩
  refine Safe.keep (p281 H) ?_
  rintro ⟨_, _, _, _, _, _⟩
  refine Safe.keep (Safe.load (fun t => (H.h23 t).reads)) fun _ => ?_
  refine Safe.keep (Safe.load (fun t => (H.h23 t).reads)) fun _ => ?_
  exact Safe.ret rfl
theorem pt1 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v244 : FVec F S1x1024 .f32} {v245 : FVec F S80x1024 .f32} {v291 : BitVec 32} {k0_hw1 : k0_chk1 i v291} {v396 : BitVec 32} {v468 : FVec F S768x256 .bf16} {v476 : FVec F S768x256 .bf16} {v484 : FVec F S768x256 .bf16} {v492 : FVec F S768x256 .bf16} {v511 : FVec F S80x768 .bf16} (g : G (Words.top i v291) t) {k a} :
    Safe defs 𝒱 (c : Thread nD τ) R t (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v244 v245 v291 k0_hw1 v396 v468 v476 v484 v492 v511 k a) (fun _ t' => t' = t) := by
  unfold k0_t1_body
  refine Safe.keep (p282 H g) ?_
  rintro ⟨_, _⟩
  exact Safe.ret rfl
theorem p289 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v263 : BitVec 32} {v291 : BitVec 32} {k0_hw1 : k0_chk1 i v291} {v559 : BitVec 32} {k0_h8 : k0_cond8 i v291 = 1#1} (g : G (Words.top i v291) t) :
    Safe defs 𝒱 (c : Thread nD τ) R t (k0_part289 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v263 v291 k0_hw1 v559 k0_h8) (fun _ t' => t' = t) := by
  rw [k0_part289_eq_skeleton]; unfold k0_part289_skel
  refine Safe.keep (Safe.load (fun t => (H.h20 t).reads)) fun _ => ?_
  refine Safe.keep (Safe.load (fun t => (H.h21 t).reads)) fun _ => ?_
  refine Safe.keep (Safe.store H.h21) fun _ => ?_
  refine Safe.keep (Safe.load (H.h4)) fun _ => ?_
  refine Safe.keep (Safe.load (fun t => (H.h21 t).reads)) fun _ => ?_
  refine Safe.keep (Safe.load (fun t => (H.h23 t).reads)) fun _ => ?_
  refine Safe.keep (Safe.store H.h23) fun _ => ?_
  refine word_step H.h24 g (Words.off35_le _ _) fun v hw => ?_
  refine Safe.keep (Safe.assume (Words.chk11 _ _ _ hw)) fun _ => ?_
  refine Safe.keep (Safe.load (H.h6)) fun _ => ?_
  exact Safe.ret rfl
theorem p290 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v291 : BitVec 32} {v541_0 : FVec F S1x1024 .f32} {v541_1 : FVec F S80x1024 .f32} {k0_h8 : k0_cond8 i v291 = 1#1} {v668 : Elt F .i32} {k0_hw11 : k0_chk11 i v291 v668} {v669 : BitVec 32} {v673 : FVec F S80x128 .bf16} {v674 : BitVec 32} :
    Safe defs 𝒱 (c : Thread nD τ) R t (k0_part290 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v291 v541_0 v541_1 k0_h8 v668 k0_hw11 v669 v673 v674) (fun _ t' => t' = t) := by
  rw [k0_part290_eq_skeleton]; unfold k0_part290_skel
  refine Safe.keep (Safe.load (H.h6)) fun _ => ?_
  refine Safe.keep (Safe.load (H.h6)) fun _ => ?_
  refine Safe.keep (Safe.load (H.h6)) fun _ => ?_
  refine Safe.keep (Safe.load (fun t => (H.h22 t).reads)) fun _ => ?_
  refine Safe.keep (Safe.load (fun t => (H.h22 t).reads)) fun _ => ?_
  exact Safe.ret rfl
theorem p291 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {arg2 : BitVec 32} {v263 : BitVec 32} {v541_0 : FVec F S1x1024 .f32} {v541_1 : FVec F S80x1024 .f32} {v686 : FVec F S80x512 .bf16} {v691 : FVec F S1x256 .f32} {v702 : FVec F S80x256 .f32} {v707 : FVec F S1x256 .f32} {v711 : FVec F S512x256 .bf16} {v712 : FVec F S80x256 .f32} {v714 : FVec F S1x256 .f32} :
    Safe defs 𝒱 (c : Thread nD τ) R t (k0_part291 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v263 v541_0 v541_1 v686 v691 v702 v707 v711 v712 v714) (fun _ t' => t' = t) := by
  rw [k0_part291_eq_skeleton]; unfold k0_part291_skel
  refine Safe.keep (Safe.load (fun t => (H.h22 t).reads)) fun _ => ?_
  refine Safe.keep (Safe.load (fun t => (H.h22 t).reads)) fun _ => ?_
  exact Safe.ret rfl
theorem p292 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v751 : FVec F S1x1024 .f32} {v753 : BitVec 32} {v755 : BitVec 32} {v756 : BitVec 32} {v757 : BitVec 1} {v758 : BitVec 1} {c0_i32_382 : BitVec 32} :
    Safe defs 𝒱 (c : Thread nD τ) R t (k0_part292 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v751 v753 v755 v756 v757 v758 c0_i32_382) (fun _ t' => t' = t) := by
  rw [k0_part292_eq_skeleton]; unfold k0_part292_skel
  refine Safe.keep (Safe.load (H.h12)) fun _ => ?_
  refine Safe.keep (Safe.load (H.h6)) fun _ => ?_
  refine Safe.keep (Safe.load (H.h6)) fun _ => ?_
  refine Safe.keep (Safe.load (H.h6)) fun _ => ?_
  refine Safe.keep (Safe.load (H.h6)) fun _ => ?_
  refine Safe.keep (Safe.load (fun t => (H.h23 t).reads)) fun _ => ?_
  exact Safe.ret rfl
theorem p293 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v751 : FVec F S1x1024 .f32} {v752 : FVec F S80x1024 .f32} {v766 : FVec F S512x256 .f32} {v783 : FVec F S80x512 .bf16} {v786 : FVec F S1x256 .f32} {v789 : FVec F S1x256 .f32} {v793 : FVec F S512x256 .bf16} :
    Safe defs 𝒱 (c : Thread nD τ) R t (k0_part293 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v751 v752 v766 v783 v786 v789 v793) (fun _ t' => t' = t) := by
  rw [k0_part293_eq_skeleton]; unfold k0_part293_skel
  refine Safe.keep (Safe.load (fun t => (H.h23 t).reads)) fun _ => ?_
  refine Safe.keep (Safe.load (fun t => (H.h23 t).reads)) fun _ => ?_
  refine Safe.keep (Safe.load (fun t => (H.h23 t).reads)) fun _ => ?_
  exact Safe.ret rfl
theorem p294 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {arg2 : BitVec 32} {v263 : BitVec 32} :
    Safe defs 𝒱 (c : Thread nD τ) R t (k0_part294 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v263) (fun _ t' => t' = t) := by
  rw [k0_part294_eq_skeleton]; unfold k0_part294_skel
  refine Safe.keep (Safe.load (H.h12)) fun _ => ?_
  refine Safe.keep (Safe.load (H.h6)) fun _ => ?_
  refine Safe.keep (Safe.load (H.h6)) fun _ => ?_
  refine Safe.keep (Safe.load (H.h6)) fun _ => ?_
  refine Safe.keep (Safe.load (H.h6)) fun _ => ?_
  exact Safe.ret rfl
theorem p295 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v541_0 : FVec F S1x1024 .f32} {v541_1 : FVec F S80x1024 .f32} {v656 : FVec F S512x256 .f32} {v673 : FVec F S80x512 .bf16} :
    Safe defs 𝒱 (c : Thread nD τ) R t (k0_part295 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v541_0 v541_1 v656 v673) (fun _ t' => t' = t) := by
  rw [k0_part295_eq_skeleton]; unfold k0_part295_skel
  refine Safe.keep (Safe.load (fun t => (H.h22 t).reads)) fun _ => ?_
  refine Safe.keep (Safe.load (fun t => (H.h22 t).reads)) fun _ => ?_
  refine Safe.keep (Safe.load (fun t => (H.h22 t).reads)) fun _ => ?_
  exact Safe.ret rfl
theorem p296 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords}  :
    Safe defs 𝒱 (c : Thread nD τ) R t (k0_part296 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) (fun a t' => t' = t ∧ a.1 = BitVec.ofNat 32 (i 2).val) := by
  rw [k0_part296_eq_skeleton]; unfold k0_part296_skel
  refine Safe.keep (Safe.load (H.h15)) fun _ => ?_
  refine Safe.keep (Safe.load (fun t => (H.h18 t).reads)) fun _ => ?_
  refine Safe.keep (Safe.store H.h18) fun _ => ?_
  refine Safe.keep (Safe.load (H.h16)) fun _ => ?_
  refine Safe.keep (Safe.load (fun t => (H.h19 t).reads)) fun _ => ?_
  refine Safe.keep (Safe.store H.h19) fun _ => ?_
  refine Safe.keep (Safe.load (H.h3)) fun _ => ?_
  refine Safe.keep (Safe.load (H.h14)) fun _ => ?_
  exact Safe.ret ⟨rfl, rfl⟩
theorem p297 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v11 : FVec F S256x256 .f32} {v29 : FVec F S64x256 .f32} {v34 : FVec F S1x256 .f32} :
    Safe defs 𝒱 (c : Thread nD τ) R t (k0_part297 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v11 v29 v34) (fun _ t' => t' = t) := by
  rw [k0_part297_eq_skeleton]; unfold k0_part297_skel
  refine Safe.keep (Safe.load (H.h14)) fun _ => ?_
  refine Safe.keep (Safe.load (H.h14)) fun _ => ?_
  refine Safe.keep (Safe.load (H.h14)) fun _ => ?_
  exact Safe.ret rfl
theorem p298 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {arg2 : BitVec 32} {v9 : IVec S1x256 32} {v28 : FVec F S64x256 .f32} {v45 : FVec F S64x256 .f32} {v62 : FVec F S64x256 .f32} {v75 : FVec F S64x256 .f32} {v76 : FVec F S64x256 .f32} :
    Safe defs 𝒱 (c : Thread nD τ) R t (k0_part298 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v9 v28 v45 v62 v75 v76) (fun _ t' => t' = t) := by
  rw [k0_part298_eq_skeleton]; unfold k0_part298_skel
  refine Safe.keep (Safe.load (H.h10)) fun _ => ?_
  refine Safe.keep (Safe.load (fun t => (H.h21 t).reads)) fun _ => ?_
  refine Safe.keep (Safe.store H.h21) fun _ => ?_
  refine Safe.keep (Safe.load (H.h7)) fun _ => ?_
  refine Safe.keep (Safe.load (fun t => (H.h21 t).reads)) fun _ => ?_
  exact Safe.ret rfl
theorem p299 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v102 : FVec F S256x1024 .f32} {v112 : FVec F S256x256 .f32} {v114 : IVec S1x256 1} :
    Safe defs 𝒱 (c : Thread nD τ) R t (k0_part299 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v102 v112 v114) (fun _ t' => t' = t) := by
  rw [k0_part299_eq_skeleton]; unfold k0_part299_skel
  exact Safe.ret rfl
theorem p300 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v9 : IVec S1x256 32} {v102 : FVec F S256x1024 .f32} {v112 : FVec F S256x256 .f32} {v114 : IVec S1x256 1} {v130 : FVec F S256x256 .bf16} {v146 : FVec F S256x256 .bf16} {v162 : FVec F S256x256 .bf16} :
    Safe defs 𝒱 (c : Thread nD τ) R t (k0_part300 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v9 v102 v112 v114 v130 v146 v162) (fun _ t' => t' = t) := by
  rw [k0_part300_eq_skeleton]; unfold k0_part300_skel
  refine Safe.keep (Safe.load (H.h8)) fun _ => ?_
  refine Safe.keep (Safe.load (H.h13)) fun _ => ?_
  refine Safe.keep (Safe.load (fun t => (H.h20 t).reads)) fun _ => ?_
  refine Safe.keep (Safe.store H.h20) fun _ => ?_
  exact Safe.ret rfl
theorem p302 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {arg2 : BitVec 32} (ha : arg2 = BitVec.ofNat 32 (i 2).val) :
    Safe defs 𝒱 (c : Thread nD τ) R t (k0_part302 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2) (fun a t' => t' = t ∧ a.2.1.toNat ≤ 7) := by
  rw [k0_part302_eq_skeleton]; unfold k0_part302_skel
  subst ha
  refine Safe.keep (Safe.load (fun t => (H.h20 t).reads)) fun _ => ?_
  exact Safe.ret ⟨rfl, Words.full_le' i⟩
theorem p303 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {arg2 : BitVec 32} {v282 : FVec F S8x128 .f32} {v284 : IVec S8x128 1} {cst_115 : F .f32} :
    Safe defs 𝒱 (c : Thread nD τ) R t (k0_part303 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v282 v284 cst_115) (fun _ t' => t' = t) := by
  rw [k0_part303_eq_skeleton]; unfold k0_part303_skel
  refine Safe.keep (Safe.assume (Words.chk1 _ _)) fun _ => ?_
  refine Safe.keep (Safe.load (H.h5)) fun _ => ?_
  refine Safe.keep (Safe.load (H.h5)) fun _ => ?_
  refine Safe.keep (Safe.load (H.h5)) fun _ => ?_
  exact Safe.ret rfl
theorem p304 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v98 : FVec F S128x1024 .bf16} {v263 : BitVec 32} {v291 : BitVec 32} {k0_hw1 : k0_chk1 i v291} {v301 : BitVec 32} {v303 : BitVec 32} {v305 : BitVec 32} {v308 : FVec F S128x128 .bf16} {v311 : FVec F S128x128 .bf16} {v314 : FVec F S128x128 .bf16} :
    Safe defs 𝒱 (c : Thread nD τ) R t (k0_part304 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v98 v263 v291 k0_hw1 v301 v303 v305 v308 v311 v314) (fun a t' => G (k0_off2 i v291 0) t' ∧ a.2.2 = 2#32) := by
  rw [k0_part304_eq_skeleton]; unfold k0_part304_skel
  refine Safe.keep (Safe.load (H.h5)) fun _ => ?_
  refine Safe.keep (Safe.load (H.h5)) fun _ => ?_
  refine Safe.keep (Safe.load (H.h5)) fun _ => ?_
  refine word_any H.h24 fun _ => ?_
  refine put_first H.h24 rfl (fun _ => by decide) fun t g => ?_
  refine word_any H.h24 fun _ => ?_
  refine put_step H.h24 g (Words.near2 _ _) (fun _ => by decide) fun t g => ?_
  refine word_any H.h24 fun _ => ?_
  exact Safe.ret ⟨g, rfl⟩
theorem p305 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v263 : BitVec 32} {v291 : BitVec 32} {k0_hw1 : k0_chk1 i v291} {v342 : BitVec 32} {c2_i32_169 : BitVec 32} (g : G (k0_off2 i v291 0) t) (hc : c2_i32_169 = 2#32) :
    Safe defs 𝒱 (c : Thread nD τ) R t (k0_part305 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v263 v291 k0_hw1 v342 c2_i32_169) (fun _ t' => G (k0_off6 i v291 0) t') := by
  rw [k0_part305_eq_skeleton]; unfold k0_part305_skel
  subst hc
  refine put_step H.h24 g (Words.near3 _ _) (fun _ => by decide) fun t g => ?_
  refine word_any H.h24 fun _ => ?_
  refine put_step H.h24 g (Words.near4 _ _) (fun _ => by decide) fun t g => ?_
  refine word_any H.h24 fun _ => ?_
  refine put_step H.h24 g (Words.near5 _ _) (fun _ => by decide) fun t g => ?_
  refine word_any H.h24 fun _ => ?_
  refine put_step H.h24 g (Words.near6 _ _) (fun _ => by decide) fun t g => ?_
  exact Safe.ret g
theorem p306 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v263 : BitVec 32} {v291 : BitVec 32} {k0_hw1 : k0_chk1 i v291} {v369 : BitVec 32} {v372 : BitVec 1} {v375 : BitVec 1} (g : G (k0_off6 i v291 0) t) (hf : v263.toNat ≤ 7) :
    Safe defs 𝒱 (c : Thread nD τ) R t (k0_part306 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v263 v291 k0_hw1 v369 v372 v375) (fun _ t' => G (Words.top i v291) t') := by
  rw [k0_part306_eq_skeleton]; unfold k0_part306_skel
  refine word_any H.h24 fun _ => ?_
  refine put_step H.h24 g (Words.near7 _ _) (fun _ => by decide) fun t g => ?_
  refine word_any H.h24 fun _ => ?_
  refine put_step H.h24 g (Words.near8 _ _) (fun _ => by decide) fun t g => ?_
  refine word_any H.h24 fun _ => ?_
  refine put_step H.h24 g (Words.near9 _ _) (fun _ => hf) fun t g => ?_
  refine word_step H.h24 g (Nat.zero_le _) fun v hw => ?_
  refine Safe.keep (Safe.assume (Words.chk2 _ hw)) fun _ => ?_
  refine Safe.keep (Safe.load (fun t => (H.h20 t).reads)) fun _ => ?_
  exact Safe.ret g
theorem p307 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v293 : BitVec 32} {v399 : Elt F .i32} {k0_hw2 : k0_chk2 v399} {v409 : FVec F S16x1024 .f32} :
    Safe defs 𝒱 (c : Thread nD τ) R t (k0_part307 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v293 v399 k0_hw2 v409) (fun _ t' => t' = t) := by
  rw [k0_part307_eq_skeleton]; unfold k0_part307_skel
  refine Safe.keep (Safe.load (fun t => (H.h21 t).reads)) fun _ => ?_
  refine Safe.keep (Safe.store H.h21) fun _ => ?_
  refine Safe.keep (Safe.load (H.h4)) fun _ => ?_
  refine Safe.keep (Safe.load (fun t => (H.h21 t).reads)) fun _ => ?_
  refine Safe.keep (Safe.load (fun t => (H.h22 t).reads)) fun _ => ?_
  refine Safe.keep (Safe.store H.h22) fun _ => ?_
  refine Safe.keep (Safe.load (H.h11)) fun _ => ?_
  refine Safe.keep (Safe.load (H.h11)) fun _ => ?_
  refine Safe.keep (Safe.load (H.h11)) fun _ => ?_
  exact Safe.ret rfl
theorem p308 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v293 : BitVec 32} {v325 : FVec F S768x1024 .f32} {v429 : FVec F S128x256 .f32} {v435 : FVec F S128x256 .f32} {v436 : Vec F S128x256 .f32} {v438 : BitVec 1} {cst_241 : F .f32} :
    Safe defs 𝒱 (c : Thread nD τ) R t (k0_part308 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v293 v325 v429 v435 v436 v438 cst_241) (fun _ t' => t' = t) := by
  rw [k0_part308_eq_skeleton]; unfold k0_part308_skel
  refine Safe.keep (Safe.load (H.h11)) fun _ => ?_
  refine Safe.keep (Safe.load (H.h11)) fun _ => ?_
  refine Safe.keep (Safe.load (H.h11)) fun _ => ?_
  exact Safe.ret rfl
theorem p309 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v295 : BitVec 32} {v297 : BitVec 32} {v299 : BitVec 32} {v301 : BitVec 32} {v303 : BitVec 32} {v305 : BitVec 32} {v325 : FVec F S768x1024 .f32} {v460 : FVec F S768x256 .f32} {v477 : FVec F S768x256 .f32} :
    Safe defs 𝒱 (c : Thread nD τ) R t (k0_part309 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v295 v297 v299 v301 v303 v305 v325 v460 v477) (fun _ t' => t' = t) := by
  rw [k0_part309_eq_skeleton]; unfold k0_part309_skel
  refine Safe.keep (Safe.load (H.h6)) fun _ => ?_
  refine Safe.keep (Safe.load (H.h6)) fun _ => ?_
  refine Safe.keep (Safe.load (H.h6)) fun _ => ?_
  refine Safe.keep (Safe.load (H.h6)) fun _ => ?_
  refine Safe.keep (Safe.load (H.h6)) fun _ => ?_
  refine Safe.keep (Safe.load (H.h6)) fun _ => ?_
  exact Safe.ret rfl
theorem p310 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {v244 : FVec F S1x1024 .f32} {v245 : FVec F S80x1024 .f32} {v291 : BitVec 32} {k0_hw1 : k0_chk1 i v291} {v396 : BitVec 32} {v468 : FVec F S768x256 .bf16} {v476 : FVec F S768x256 .bf16} {v484 : FVec F S768x256 .bf16} {v492 : FVec F S768x256 .bf16} {v511 : FVec F S80x768 .bf16} (g : G (Words.top i v291) t) :
    Safe defs 𝒱 (c : Thread nD τ) R t (k0_part310 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v244 v245 v291 k0_hw1 v396 v468 v476 v484 v492 v511) (fun _ t' => t' = t) := by
  rw [k0_part310_eq_skeleton]; unfold k0_part310_skel
  refine Safe.keep (Safe.loop _ _ _ fun k a => pt1 H g) ?_
  rintro ⟨v540_0, v540_1⟩
  refine Safe.keep (Safe.loop _ _ _ fun k a => (Words.none2 _ _ k).elim) ?_
  rintro ⟨v541_0, v541_1⟩
  exact Safe.ret rfl
theorem p311 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords} {arg2 : BitVec 32} {v185 : FVec F S64x1024 .f32} {v263 : BitVec 32} {v291 : BitVec 32} {k0_hw1 : k0_chk1 i v291} {v396 : BitVec 32} {v517 : FVec F S64x1024 .f32} {v541_0 : FVec F S1x1024 .f32} {v541_1 : FVec F S80x1024 .f32} {v542 : BitVec 32} {v553 : BitVec 1} {v554 : BitVec 32} (g : G (Words.top i v291) t) :
    Safe defs 𝒱 (c : Thread nD τ) R t (k0_part311 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v185 v263 v291 k0_hw1 v396 v517 v541_0 v541_1 v542 v553 v554) (fun _ t' => t' = t) := by
  rw [k0_part311_eq_skeleton]; unfold k0_part311_skel
  with_reducible refine Safe.dite (fun h => ?_) fun h => ?_
  · refine Safe.keep (p289 H g) ?_
    rintro ⟨_, _, _, _, _⟩
    refine Safe.keep (p290 H) ?_
    rintro ⟨_, _, _, _, _, _, _⟩
    refine Safe.keep (p291 H) ?_
    rintro ⟨_, _, _, _, _, _, _, _⟩
    refine Safe.keep (p292 H) ?_
    rintro ⟨_, _, _, _, _⟩
    refine Safe.keep (p293 H) ?_
    rintro ⟨_, _, _, _, _, _, _⟩
    refine Safe.keep (Safe.ret rfl) fun _ => ?_
    refine Safe.keep (Safe.load (H.h9)) fun _ => ?_
    refine Safe.keep (Safe.load (H.h9)) fun _ => ?_
    exact Safe.ret rfl
  · refine Safe.keep (p294 H) ?_
    rintro ⟨_, _⟩
    refine Safe.keep (p295 H) ?_
    rintro ⟨_, _, _, _⟩
    refine Safe.keep (Safe.load (fun t => (H.h22 t).reads)) fun _ => ?_
    refine Safe.keep (Safe.ret rfl) fun _ => ?_
    refine Safe.keep (Safe.load (H.h9)) fun _ => ?_
    refine Safe.keep (Safe.load (H.h9)) fun _ => ?_
    exact Safe.ret rfl
end Cert.AttnIdeal.Run
end
-- ==== Proof.AttnIdealRun.lean ====
module

public import proofs.«01_k».proof.Proof.AttnIdealTops
public import proofs.«01_k».proof.Proof.AttnIdealParts
@[expose] public section
set_option maxRecDepth 65536
set_option maxHeartbeats 4000000
set_option cleanup.letToHave false
noncomputable section

namespace Cert.AttnIdeal.Run
open Cert.AttnIdeal Cert.AttnIdeal.Gen Cert.Safe Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ
variable {defs : Defs nD τ sig (Elt F) Λ₀} {𝒱 : Variants} {c : Dev nD}
variable {arg3 : Memref sig .tc .vmem S256x256 .f32} {harg3 : arg3.IsWhole}
variable {arg4 : Memref sig .tc .vmem S1x1x32x128x128 .bf16} {harg4 : arg4.IsWhole}
variable {arg5 : Memref sig .tc .vmem S1x1x32x128x128 .bf16} {harg5 : arg5.IsWhole}
variable {arg6 : Memref sig .tc .vmem S1x1x32x160x128 .bf16} {harg6 : arg6.IsWhole}
variable {arg7 : Memref sig .tc .vmem S1x1x256x128 .bf16} {harg7 : arg7.IsWhole}
variable {arg8 : Memref sig .tc .vmem S1x1x64x256 .bf16} {harg8 : arg8.IsWhole}
variable {arg9 : Memref sig .tc .vmem S1x2x16x128 .f32} {harg9 : arg9.IsWhole}
variable {arg10 : Memref sig .tc .vmem S1x8x1024 .f32} {harg10 : arg10.IsWhole}
variable {arg11 : Memref sig .tc .vmem S768x256 .f32} {harg11 : arg11.IsWhole}
variable {arg12 : Memref sig .tc .vmem S2x512x256 .f32} {harg12 : arg12.IsWhole}
variable {arg13 : Memref sig .tc .vmem S64x256 .bf16} {harg13 : arg13.IsWhole}
variable {arg14 : Memref sig .tc .vmem S64x256 .f32} {harg14 : arg14.IsWhole}
variable {arg15 : Memref sig .tc .vmem S16x5632 .f32} {harg15 : arg15.IsWhole}
variable {arg16 : Memref sig .tc .vmem S32x2048 .f32} {harg16 : arg16.IsWhole}
variable {arg17 : Memref sig .tc .vmem S256x256 .bf16} {harg17 : arg17.IsWhole}
variable {arg18 : Memref sig .tc .vmem S16x5632 .bf16} {harg18 : arg18.IsWhole}
variable {arg19 : Memref sig .tc .vmem S32x2048 .bf16} {harg19 : arg19.IsWhole}
variable {arg20 : Memref sig .tc .vmem S64x256 .f32} {harg20 : arg20.IsWhole}
variable {arg21 : Memref sig .tc .vmem S128x1024 .bf16} {harg21 : arg21.IsWhole}
variable {arg22 : Memref sig .tc .vmem S512x1024 .f32} {harg22 : arg22.IsWhole}
variable {arg23 : Memref sig .tc .vmem S512x1024 .f32} {harg23 : arg23.IsWhole}
variable {arg24 : Memref sig .tc .smem S9 .i32} {harg24 : arg24.IsWhole}
theorem p312 {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : (S9.Idx → Elt F .i32)} {i : grid0.Coords}  :
    Safe defs 𝒱 (c : Thread nD τ) R t (k0_part312 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) (fun _ _ => True) := by
  rw [k0_part312_eq_skeleton]; unfold k0_part312_skel
  refine Safe.bind (p296 H) ?_
  rintro ⟨arg2, v9, v11, v28, v29, v34⟩ _ ⟨rfl, ha⟩
  refine Safe.keep (p297 H) ?_
  rintro ⟨v45, v62, v75, v76⟩
  refine Safe.keep (p298 H) ?_
  rintro ⟨v98, v102, v112, v114⟩
  refine Safe.keep (p299 H) ?_
  rintro ⟨v130, v146, v162⟩
  refine Safe.keep (p300 H) ?_
  rintro ⟨v185, v193, v194, v196, v198, c0_i32⟩
  refine Safe.keep (p301 H) ?_
  rintro v244
  refine Safe.bind (p302 H ha) ?_
  rintro ⟨v245, v263, v282, v284, cst_115⟩ _ ⟨rfl, hf⟩
  refine Safe.keep (p303 H) ?_
  rintro ⟨v291, k0_hw1, v293, v295, v297, v299, v301, v303, v305, v308, v311, v314⟩
  refine Safe.bind (p304 H) ?_
  rintro ⟨v325, v342, c2_i32_169⟩ t ⟨g, hc⟩
  refine Safe.bind (p305 H g hc) ?_
  rintro ⟨v369, v372, v375⟩ t g
  refine Safe.bind (p306 H g hf) ?_
  rintro ⟨v396, v399, k0_hw2, v409⟩ t g
  refine Safe.keep (p307 H) ?_
  rintro ⟨v429, v435, v436, v438, cst_241⟩
  refine Safe.keep (p308 H) ?_
  rintro ⟨v460, v468, v476, v477⟩
  refine Safe.keep (p309 H) ?_
  rintro ⟨v484, v492, v511⟩
  refine Safe.keep (p310 H g) ?_
  rintro ⟨v517, v541_0, v541_1, v542, v553, v554⟩
  refine Safe.keep (p311 H g) ?_
  rintro ⟨v577, v582, v591, v595⟩
  exact Safe.ret trivial
theorem body {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : S9.Idx → Elt F .i32} {i : grid0.Coords} :
    Safe defs 𝒱 (c : Thread nD τ) R t (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (fun _ _ => True) := by
  rw [cc0_attn_eq_skeleton]; unfold cc0_attn_skel
  refine Safe.bind (p312 H) fun v t' _ => ?_
  refine Safe.keep (Safe.load (fun t => (H.h17 t).reads)) fun _ => ?_
  refine Safe.keep (Safe.store H.h17) fun _ => ?_
  exact Safe.ret trivial
end Cert.AttnIdeal.Run
end
-- ==== Proof.AttnIdealFrame.lean ====
module

public import proofs.«01_k».proof.Proof.AttnIdealRun
public import proofs.«01_k».proof.Proof.Gen.AttnIdeal.Frame
public import Idealize.ShloMosaic.Lib.Claim
@[expose] public section
set_option maxRecDepth 65536
set_option maxHeartbeats 4000000
set_option cleanup.letToHave false
noncomputable section

namespace Cert.AttnIdeal.Run
open Cert.AttnIdeal Cert.AttnIdeal.Gen Cert.Safe Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ
open Idealize.ShloMosaic.Pipeline (Dat Cfg Window BodyObligationLoose cellOf)
section
variable {defs : Defs nD τ sig (Elt F) Λ₀} {𝒱 : Variants} {c : Dev nD}
variable {arg3 : Memref sig .tc .vmem S256x256 .f32} {harg3 : arg3.IsWhole}
variable {arg4 : Memref sig .tc .vmem S1x1x32x128x128 .bf16} {harg4 : arg4.IsWhole}
variable {arg5 : Memref sig .tc .vmem S1x1x32x128x128 .bf16} {harg5 : arg5.IsWhole}
variable {arg6 : Memref sig .tc .vmem S1x1x32x160x128 .bf16} {harg6 : arg6.IsWhole}
variable {arg7 : Memref sig .tc .vmem S1x1x256x128 .bf16} {harg7 : arg7.IsWhole}
variable {arg8 : Memref sig .tc .vmem S1x1x64x256 .bf16} {harg8 : arg8.IsWhole}
variable {arg9 : Memref sig .tc .vmem S1x2x16x128 .f32} {harg9 : arg9.IsWhole}
variable {arg10 : Memref sig .tc .vmem S1x8x1024 .f32} {harg10 : arg10.IsWhole}
variable {arg11 : Memref sig .tc .vmem S768x256 .f32} {harg11 : arg11.IsWhole}
variable {arg12 : Memref sig .tc .vmem S2x512x256 .f32} {harg12 : arg12.IsWhole}
variable {arg13 : Memref sig .tc .vmem S64x256 .bf16} {harg13 : arg13.IsWhole}
variable {arg14 : Memref sig .tc .vmem S64x256 .f32} {harg14 : arg14.IsWhole}
variable {arg15 : Memref sig .tc .vmem S16x5632 .f32} {harg15 : arg15.IsWhole}
variable {arg16 : Memref sig .tc .vmem S32x2048 .f32} {harg16 : arg16.IsWhole}
variable {arg17 : Memref sig .tc .vmem S256x256 .bf16} {harg17 : arg17.IsWhole}
variable {arg18 : Memref sig .tc .vmem S16x5632 .bf16} {harg18 : arg18.IsWhole}
variable {arg19 : Memref sig .tc .vmem S32x2048 .bf16} {harg19 : arg19.IsWhole}
variable {arg20 : Memref sig .tc .vmem S64x256 .f32} {harg20 : arg20.IsWhole}
variable {arg21 : Memref sig .tc .vmem S128x1024 .bf16} {harg21 : arg21.IsWhole}
variable {arg22 : Memref sig .tc .vmem S512x1024 .f32} {harg22 : arg22.IsWhole}
variable {arg23 : Memref sig .tc .vmem S512x1024 .f32} {harg23 : arg23.IsWhole}
variable {arg24 : Memref sig .tc .smem S9 .i32} {harg24 : arg24.IsWhole}
theorem run_body {R : (S9.Idx → Elt F .i32) → sProp 𝕄} (H : Env c R arg3 arg4 arg5 arg6 arg7 arg8 arg9 arg10 arg11 arg12 arg13 arg14 arg15 arg16 arg17 arg18 arg19 arg20 arg21 arg22 arg23 arg24) {t : S9.Idx → Elt F .i32} {i : grid0.Coords} :
    R t ⊢ wp frame (wpE defs 𝒱 (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (fun _ => iprop(∃ T', R T')) := by
  have h := body (defs := defs) (𝒱 := 𝒱) H (t := t) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24)
  unfold Safe at h
  refine h.trans (wp_mono frame _ Set.univ fun a => ?_)
  iintro ⟨%T', -, H⟩
  iexists T'; iexact H
end
variable (m : (ℓ : Loc nD τ sig) → Buf (Elt F) ℓ) (ρ : Dev nD → PrngReg)
abbrev ms0_0 (t : Fin cfg0.N) : Memref sig .tc .vmem S256x256 .f32 := win0_0.stage (cfg0.slots t 0)
abbrev ms0_1 (t : Fin cfg0.N) : Memref sig .tc .vmem S1x1x32x128x128 .bf16 := win0_1.stage (cfg0.slots t 1)
abbrev ms0_2 (t : Fin cfg0.N) : Memref sig .tc .vmem S1x1x32x128x128 .bf16 := win0_2.stage (cfg0.slots t 2)
abbrev ms0_3 (t : Fin cfg0.N) : Memref sig .tc .vmem S1x1x32x160x128 .bf16 := win0_3.stage (cfg0.slots t 3)
abbrev ms0_4 (t : Fin cfg0.N) : Memref sig .tc .vmem S1x1x256x128 .bf16 := win0_4.stage (cfg0.slots t 4)
abbrev ms0_5 (t : Fin cfg0.N) : Memref sig .tc .vmem S1x1x64x256 .bf16 := win0_5.stage (cfg0.slots t 5)
abbrev ms0_6 (t : Fin cfg0.N) : Memref sig .tc .vmem S1x2x16x128 .f32 := win0_6.stage (cfg0.slots t 6)
abbrev ms0_7 (t : Fin cfg0.N) : Memref sig .tc .vmem S1x8x1024 .f32 := win0_7.stage (cfg0.slots t 7)
abbrev ms0_8 (t : Fin cfg0.N) : Memref sig .tc .vmem S768x256 .f32 := win0_8.stage (cfg0.slots t 8)
abbrev ms0_9 (t : Fin cfg0.N) : Memref sig .tc .vmem S2x512x256 .f32 := win0_9.stage (cfg0.slots t 9)
abbrev ms0_10 (t : Fin cfg0.N) : Memref sig .tc .vmem S64x256 .bf16 := win0_10.stage (cfg0.slots t 10)
abbrev ms0_11 (t : Fin cfg0.N) : Memref sig .tc .vmem S64x256 .f32 := win0_11.stage (cfg0.slots t 11)
abbrev ms0_12 (t : Fin cfg0.N) : Memref sig .tc .vmem S16x5632 .f32 := win0_12.stage (cfg0.slots t 12)
abbrev ms0_13 (t : Fin cfg0.N) : Memref sig .tc .vmem S32x2048 .f32 := win0_13.stage (cfg0.slots t 13)
abbrev ms0_14 (t : Fin cfg0.N) : Memref sig .tc .vmem S256x256 .bf16 := win0_14.stage (cfg0.slots t 14)
abbrev ms0_15 (t : Fin cfg0.N) : Memref sig .tc .vmem S16x5632 .bf16 := win0_15.stage (cfg0.slots t 15)
abbrev ms0_16 (t : Fin cfg0.N) : Memref sig .tc .vmem S32x2048 .bf16 := win0_16.stage (cfg0.slots t 16)
abbrev sc0 : Memref sig .tc .vmem S64x256 .f32 := Memref.whole cc0_scratch0
abbrev sc1 : Memref sig .tc .vmem S128x1024 .bf16 := Memref.whole cc0_scratch1
abbrev sc2 : Memref sig .tc .vmem S512x1024 .f32 := Memref.whole cc0_scratch2
abbrev sc3 : Memref sig .tc .vmem S512x1024 .f32 := Memref.whole cc0_scratch3
abbrev sc4 : Memref sig .tc .smem S9 .i32 := Memref.whole cc0_scratch4
theorem PhiA0_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl
/-- The proof data: every input buffer keeps its block; of the results' blocks nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨_ + 17, h⟩ => absurd h (Nat.not_lt.mpr (Nat.le_add_left 17 _))
  Φ n := Pipeline.ΦA spec0 c
  q w := fullShare
  owed _ := 0
/-- The results. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨_ + 17, h⟩ => absurd h (Nat.not_lt.mpr (Nat.le_add_left 17 _))
theorem A_eq (c : Dev nD) (w : Fin cfg0.W) : (dats m 0 c).A w = V m c (Pipeline.arrRef spec0 w) := by
  dsimp only [dats]
theorem Phi_eq (c : Dev nD) (n : Fin (cfg0.N + 1)) : (dats m 0 c).Φ n = Pipeline.ΦA spec0 c := by
  dsimp only [dats]
variable (c : Dev nD) (t : Fin cfg0.N)
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d
theorem before0_8 (d) : (dats m 0 c).before 8 t d = iblk m c 8 t :=
  before0_8_of m (dats m 0 c) (A_eq m c 8) (after0_8 m c) t d
theorem before0_9 (d) : (dats m 0 c).before 9 t d = iblk m c 9 t :=
  before0_9_of m (dats m 0 c) (A_eq m c 9) (after0_9 m c) t d
theorem before0_10 (d) : (dats m 0 c).before 10 t d = iblk m c 10 t :=
  before0_10_of m (dats m 0 c) (A_eq m c 10) (after0_10 m c) t d
theorem before0_11 (d) : (dats m 0 c).before 11 t d = iblk m c 11 t :=
  before0_11_of m (dats m 0 c) (A_eq m c 11) (after0_11 m c) t d
theorem before0_12 (d) : (dats m 0 c).before 12 t d = iblk m c 12 t :=
  before0_12_of m (dats m 0 c) (A_eq m c 12) (after0_12 m c) t d
theorem before0_13 (d) : (dats m 0 c).before 13 t d = iblk m c 13 t :=
  before0_13_of m (dats m 0 c) (A_eq m c 13) (after0_13 m c) t d
/-- What the body works on besides the table. -/
def rest (c : Dev nD) (t : Fin cfg0.N) : sProp 𝕄 :=
  iprop((∃ d, owns (c : Thread nD τ) sc0 fullShare d)
    ∗ (∃ d, owns (c : Thread nD τ) sc1 fullShare d)
    ∗ (∃ d, owns (c : Thread nD τ) sc2 fullShare d)
    ∗ (∃ d, owns (c : Thread nD τ) sc3 fullShare d)
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ (∃ X, owns (c : Thread nD τ) (ms0_14 t) fullShare X)
    ∗ (∃ X, owns (c : Thread nD τ) (ms0_15 t) fullShare X)
    ∗ (∃ X, owns (c : Thread nD τ) (ms0_16 t) fullShare X))
/-- All it works on. -/
def res (c : Dev nD) (t : Fin cfg0.N) (T : S9.Idx → Elt F .i32) : sProp 𝕄 := iprop(owns (c : Thread nD τ) sc4 fullShare T ∗ rest m c t)
theorem env (c : Dev nD) (t : Fin cfg0.N) : Env c (res m c t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) sc0 sc1 sc2 sc3 sc4 where
  h3 := fun T => by unfold res rest; (iterate 5 refine Reads.right ?_); exact (Reads.self _).left
  h4 := fun T => by unfold res rest; (iterate 6 refine Reads.right ?_); exact (Reads.self _).left
  h5 := fun T => by unfold res rest; (iterate 7 refine Reads.right ?_); exact (Reads.self _).left
  h6 := fun T => by unfold res rest; (iterate 8 refine Reads.right ?_); exact (Reads.self _).left
  h7 := fun T => by unfold res rest; (iterate 9 refine Reads.right ?_); exact (Reads.self _).left
  h8 := fun T => by unfold res rest; (iterate 10 refine Reads.right ?_); exact (Reads.self _).left
  h9 := fun T => by unfold res rest; (iterate 11 refine Reads.right ?_); exact (Reads.self _).left
  h10 := fun T => by unfold res rest; (iterate 12 refine Reads.right ?_); exact (Reads.self _).left
  h11 := fun T => by unfold res rest; (iterate 13 refine Reads.right ?_); exact (Reads.self _).left
  h12 := fun T => by unfold res rest; (iterate 14 refine Reads.right ?_); exact (Reads.self _).left
  h13 := fun T => by unfold res rest; (iterate 15 refine Reads.right ?_); exact (Reads.self _).left
  h14 := fun T => by unfold res rest; (iterate 16 refine Reads.right ?_); exact (Reads.self _).left
  h15 := fun T => by unfold res rest; (iterate 17 refine Reads.right ?_); exact (Reads.self _).left
  h16 := fun T => by unfold res rest; (iterate 18 refine Reads.right ?_); exact (Reads.self _).left
  h17 := fun T => by unfold res rest; (iterate 19 refine Writes.right ?_); exact (Writes.any).left
  h18 := fun T => by unfold res rest; (iterate 20 refine Writes.right ?_); exact (Writes.any).left
  h19 := fun T => by unfold res rest; (iterate 21 refine Writes.right ?_); exact (Writes.any)
  h20 := fun T => by unfold res rest; (iterate 1 refine Writes.right ?_); exact (Writes.any).left
  h21 := fun T => by unfold res rest; (iterate 2 refine Writes.right ?_); exact (Writes.any).left
  h22 := fun T => by unfold res rest; (iterate 3 refine Writes.right ?_); exact (Writes.any).left
  h23 := fun T => by unfold res rest; (iterate 4 refine Writes.right ?_); exact (Writes.any).left
  h24 := fun T => by
    unfold res
    iintro ⟨H, K⟩
    isplitl [H]; · iexact H
    iintro %T' H
    isplitl [H]; · iexact H
    iexact K
/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ X, owns (c : Thread nD τ) (ms0_14 t) fullShare X)
    ∗ (∃ X, owns (c : Thread nD τ) (ms0_15 t) fullShare X)
    ∗ (∃ X, owns (c : Thread nD τ) (ms0_16 t) fullShare X))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ X, owns (c : Thread nD τ) (ms0_14 t) fullShare X)
    ∗ (∃ X, owns (c : Thread nD τ) (ms0_15 t) fullShare X)
    ∗ (∃ X, owns (c : Thread nD τ) (ms0_16 t) fullShare X))
theorem run_at (c : Dev nD) (t : Fin cfg0.N) (T : S9.Idx → Elt F .i32) :
    res m c t T ⊢ wp frame (wpE (defs₀ (F := F)) Variants.none c none) Set.univ (bodyAt0 t) (fun _ => iprop(∃ T', res m c t T')) := by
  exact run_body (env m c t)
theorem run_any (c : Dev nD) (t : Fin cfg0.N) :
    iprop(∃ T, res m c t T) ⊢ wp frame (wpE (defs₀ (F := F)) Variants.none c none) Set.univ (bodyAt0 t) (fun _ => iprop(∃ T', res m c t T')) := by
  iintro ⟨%T, H⟩
  iapply (run_at m c t T)
  iexact H
/-- The body at any point. -/
theorem sound_body (c : Dev nD) (t : Fin cfg0.N) :
    bodyPre m c t ⊢ wp frame (wpE (defs₀ (F := F)) Variants.none c none) Set.univ (bodyAt0 t) (fun _ => bodyPost m c t) := by
  have h := (BIClass.sep_mono (run_any m c t) (.rfl : iprop((∃ r, prngReg c r) ∗ (dats m 0 c).owesAt () t.castSucc) ⊢ iprop((∃ r, prngReg c r) ∗ (dats m 0 c).owesAt () t.castSucc))).trans (wp_frame_r frame _ Set.univ)
  refine .trans ?_ (h.trans (wp_mono frame _ Set.univ fun _ => ?_))
  · unfold bodyPre
    simp only [before0_0, before0_1, before0_2, before0_3, before0_4, before0_5, before0_6, before0_7, before0_8, before0_9, before0_10, before0_11, before0_12, before0_13, Phi_eq, PhiA0_eq]
    iintro ⟨⟨⟨S0, S1, S2, S3, ⟨%T, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16⟩
    isplitr [Hg Ho]
    · iexists T
      unfold res rest
      isplitl [S4]; · iexact S4
      isplitl [S0]; · iexact S0
      isplitl [S1]; · iexact S1
      isplitl [S2]; · iexact S2
      isplitl [S3]; · iexact S3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [Hg]; · iexact Hg
    iexact Ho
  · unfold bodyPost
    simp only [after0_0, after0_1, after0_2, after0_3, after0_4, after0_5, after0_6, after0_7, after0_8, after0_9, after0_10, after0_11, after0_12, after0_13, Phi_eq, PhiA0_eq]
    rw [show (dats m 0 c).owesAt () t.succ = (dats m 0 c).owesAt () t.castSucc from rfl]
    unfold res rest
    iintro ⟨⟨%T', S4, S0, S1, S2, S3, H0, H1, H2, H3, H4, H5, H6, H7, H8, H9, H10, H11, H12, H13, H14, H15, H16⟩, Hg, Ho⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexists T'; iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl
/-- The frame: the arguments end unchanged and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_frame_forget cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := Phi_eq m)
    (Q' := _) (hQ' := fun r h => ⟨fun c => ⟨(h.1.arr_in c 0 rfl).trans ((A_eq m c 0).trans (V_main_arg0 m c)), (h.1.arr_in c 1 rfl).trans ((A_eq m c 1).trans (V_main_arg1 m c)), (h.1.arr_in c 2 rfl).trans ((A_eq m c 2).trans (V_main_arg2 m c)), (h.1.arr_in c 3 rfl).trans ((A_eq m c 3).trans (V_main_arg3 m c)), (h.1.arr_in c 4 rfl).trans ((A_eq m c 4).trans (V_main_arg4 m c)), (h.1.arr_in c 5 rfl).trans ((A_eq m c 5).trans (V_main_arg5 m c)), (h.1.arr_in c 6 rfl).trans ((A_eq m c 6).trans (V_main_arg6 m c)), (h.1.arr_in c 7 rfl).trans ((A_eq m c 7).trans (V_main_arg7 m c)), (h.1.arr_in c 8 rfl).trans ((A_eq m c 8).trans (V_main_arg8 m c)), (h.1.arr_in c 9 rfl).trans ((A_eq m c 9).trans (V_main_arg9 m c)), (h.1.arr_in c 10 rfl).trans ((A_eq m c 10).trans (V_main_arg10 m c)), (h.1.arr_in c 11 rfl).trans ((A_eq m c 11).trans (V_main_arg11 m c)), (h.1.arr_in c 12 rfl).trans ((A_eq m c 12).trans (V_main_arg12 m c)), (h.1.arr_in c 13 rfl).trans ((A_eq m c 13).trans (V_main_arg13 m c))⟩, h.2⟩)
end Cert.AttnIdeal.Run
end
-- ==== Proof.Util.lean ====
module

public import Idealize.ShloMosaic.Lib.Pipeline.ValueKit
public import Idealize.ShloMosaic.Lib.Pointwise
public import Idealize.ShloMosaic.Lib.Exec

@[expose] public section

noncomputable section

namespace Cert.Util

open Idealize.ShloMosaic

variable {Val : EltTy → Type} [∀ e, Nonempty (Val e)] {sig : RefSig} {κ : Kind} {sp : Space} {S : Shape} {e : EltTy}

/-- A buffer last written over its whole extent reads what was written. -/
theorem read_full (v : View sig κ sp S e) (f : v.ty.Contents Val) {off : Fin S.rank → Nat} (h : ∀ a, off a = 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero (View.eq_zero_of_forall h) inb y⟩)).trans
    (View.canon_cons_unit_zero (View.eq_zero_of_forall h) inb w L)

/-- A load of the whole extent after such a write reads what was written. -/
theorem readCov_full (v : View sig κ sp S e) {off off' : Fin S.rank → Nat} (h : ∀ a, off a = 0) (h' : ∀ a, off' a = 0)
    (inb : ∀ a, off a + S.size a ≤ S.size a) (inb' : ∀ a, off' a + S.size a ≤ S.size a) (w : S.Idx → Val e)
    (L : List (View.Piece Val S e)) :
    v.readCov ((⟨Rect.unit off S.size inb, w⟩ : View.Piece Val S e) :: L) (Rect.unit off' S.size inb').toLoadRect = w :=
  View.readCov_cons_unit_lit' v inb inb' w L h h'

/-- A load of the whole extent of a buffer known by what it reads. -/
theorem readAt_full (v : View sig κ sp S e) (f : v.ty.Contents Val) {off : Fin S.rank → Nat} (h : ∀ a, off a = 0)
    (inb : ∀ a, off a + S.size a ≤ S.size a) (x : S.Idx → Val e) (hf : v.read Val f = x) :
    v.readAt Val (Rect.unit off S.size inb).toLoadRect f = x := by
  subst hf
  exact View.ld_unit_zero (View.eq_zero_of_forall h) inb _

/-- Blocks of one window at two points with the same block index read the same element at the same place. -/
theorem read_blk_congr {G : Pipeline.Grid} {sig : RefSig} (w : Pipeline.Window sig G) {t t' : Fin G.N}
    (h : w.index t = w.index t') (f : w.arr.view.ty.Contents Val) (y : (w.xblock (G.coords t)).Idx)
    (y' : (w.xblock (G.coords t')).Idx) (hy : ∀ a, (y a).val = (y' a).val) :
    (w.blk t).view.read Val f y = (w.blk t').view.read Val f y' := by
  rw [View.read_apply, View.read_apply]
  show _root_.cast _ (f (w.arr.view.emb ((w.rect t).emb _))) = _root_.cast _ (f (w.arr.view.emb ((w.rect t').emb _)))
  congr 3
  funext a; apply Fin.ext
  rw [Rect.emb_apply, Rect.emb_apply]
  show w.kind.off (w.index t a) (w.size a) + 1 * (y a).val = w.kind.off (w.index t' a) (w.size a) + 1 * (y' a).val
  rw [h, hy]

section Left

open Idealize.SL Idealize.SL.RA Idealize.SL.BI Idealize.SL.Sem Idealize.ShloMosaic.Pipeline

variable {nD : Nat} {τ : Topo} {Ix : Type} [DecidableEq Ix] {Name : Type} [DecidableEq Name] {U : Type} [URA U] {Lvl : Type}
variable {Λ₀ : Labels} {cfg : Cfg sig Λ₀} {c : Dev nD} (dat : Dat τ Val Ix Name U Lvl cfg c)

/-- Where the body stores an uncut window, it leaves what the proof data say. -/
theorem left_live (w : Fin cfg.W) (t : Fin cfg.N) (h : cfg.idle w (cfg.grid.coords t) = false)
    (hclip : ∀ (i : cfg.grid.Coords) a, (cfg.win w).clip i a = none) (d) : dat.left w t d = dat.after w t := by
  unfold Dat.left; rw [h]; dsimp only
  unfold Dat.kept
  rw [fill_of_clip_none w _ (hclip _) d (dat.after w _), Window.fill_cut]

/-- Where the body leaves a window alone, the buffer keeps what it held. -/
theorem left_idle (w : Fin cfg.W) (t : Fin cfg.N) (h : cfg.idle w (cfg.grid.coords t) = true) (d) : dat.left w t d = dat.before w t d := by
  unfold Dat.left; rw [h]

/-- The body's debt at a window's buffer it stores, or writes back. -/
theorem leavesExact_of_live (w : Fin cfg.W) (t : Fin cfg.N) (h : cfg.idle w (cfg.grid.coords t) = false) :
    dat.leavesExact w t = owns (c.tc : Thread nD τ) ((cfg.win w).stage (cfg.slots t w)) fullShare (dat.after w t) := by
  unfold Dat.leavesExact; rw [h]
theorem leavesExact_of_flush (w : Fin cfg.W) (t : Fin cfg.N) (h : cfg.idle w (cfg.grid.coords t) = true) (hf : (cfg.win w).flush t = true) :
    dat.leavesExact w t = owns (c.tc : Thread nD τ) ((cfg.win w).stage (cfg.slots t w)) fullShare (dat.after w t) := by
  unfold Dat.leavesExact; rw [h, hf]

end Left

end Cert.Util

end
-- ==== Proof.ProjBody.lean ====
module

public import proofs.«01_k».proof.Proof.Gen.ProjIdeal.Frame
public import proofs.«01_k».proof.Proof.Gen.ProjIdeal.Skeleton
public import Idealize.ShloMosaic.Lib.Pipeline.ValueKit
public import Idealize.ShloMosaic.Lib.Pointwise
public import Idealize.ShloMosaic.Lib.Exec
public import proofs.«01_k».proof.Proof.Util

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Zero offsets. -/
theorem hz : ∀ a : Fin 2, (![0, 0] : Fin 2 → ℕ) a = 0 := by decide

set_option maxHeartbeats 1000000 in
/-- The body at a point where the normalised rows are computed: it fills the carried rows, the gate output and the
    block of the main projection. -/
theorem runFill (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1536 .bf16) (h4 : a4.IsWhole) (a5 : Memref sig .tc .vmem S2048x128 .bf16) (h5 : a5.IsWhole) (a6 : Memref sig .tc .vmem S1024x1536 .f32) (h6 : a6.IsWhole) (a7 : Memref sig .tc .vmem S1024x128 .f32) (h7 : a7.IsWhole) (a8 : Memref sig .tc .vmem S1024x2048 .bf16) (h8 : a8.IsWhole) (hc : k0_cond1 i = 1#1)
    (x0 : Vec F S1024x2048 .f32) (x1 : Vec F S1x2048 .f32) (x2 : Vec F S2048x1536 .bf16) (x3 : Vec F S2048x128 .bf16)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare (k0_pay4 (k0_pay2 x0 x1) x2) ∗ owns (c : Thread nD τ) a7 fullShare (k0_pay3 x0 x1 x3) ∗ owns (c : Thread nD τ) a8 fullShare (k0_pay2 x0 x1)) -∗ K ⟨⟩))
      ⊢ wp frame (wpE (defs₀ (F := F)) Variants.none c none) E (cc0_proj i a2 h2 a3 h3 a4 h4 a5 h5 a6 h6 a7 h7 a8 h8) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d8, %f8, -, H8⟩, Hk⟩
  obtain rfl := h2.eq_unread hf0; obtain rfl := h3.eq_unread hf1; obtain rfl := h4.eq_unread hf2; obtain rfl := h5.eq_unread hf3
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; swap; · iexact H4
    ipureintro
    refine (Util.read_full _ _ hz _ _ _).trans ?_
    unfold runFill.sl.v3 runFill.sl.H8_1
    rw [Util.readCov_full _ hz hz, Util.readAt_full _ _ hz _ _ (h2.read_unread _), Util.readAt_full _ _ hz _ _ (h3.read_unread _), Util.readAt_full _ _ hz _ _ (h4.read_unread _)]
  isplitl [H5]
  · iexists _; isplitr; swap; · iexact H5
    ipureintro
    refine (Util.read_full _ _ hz _ _ _).trans ?_
    rw [Util.readAt_full _ _ hz _ _ (h2.read_unread _), Util.readAt_full _ _ hz _ _ (h3.read_unread _), Util.readAt_full _ _ hz _ _ (h5.read_unread _)]
  iexists _; isplitr; swap; · iexact H8
  ipureintro
  unfold runFill.sl.H8_1
  refine (Util.read_full _ _ hz _ _ _).trans ?_
  rw [Util.readAt_full _ _ hz _ _ (h2.read_unread _), Util.readAt_full _ _ hz _ _ (h3.read_unread _)]

set_option maxHeartbeats 1000000 in
/-- The body at a point where the normalised rows are kept: it fills the block of the main projection only. -/
theorem runKeep (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1536 .bf16) (h4 : a4.IsWhole) (a5 : Memref sig .tc .vmem S2048x128 .bf16) (h5 : a5.IsWhole) (a6 : Memref sig .tc .vmem S1024x1536 .f32) (h6 : a6.IsWhole) (a7 : Memref sig .tc .vmem S1024x128 .f32) (h7 : a7.IsWhole) (a8 : Memref sig .tc .vmem S1024x2048 .bf16) (h8 : a8.IsWhole) (hc : ¬ k0_cond1 i = 1#1)
    (x2 : Vec F S2048x1536 .bf16) (x8 : Vec F S1024x2048 .bf16)
    (E : Set ℕ) (K : PUnit → sProp 𝕄) :
    iprop(owns (c : Thread nD τ) a4 fullShare x2 ∗ (∃ d, owns (c : Thread nD τ) a6 fullShare d) ∗ owns (c : Thread nD τ) a8 fullShare x8
        ∗ (iprop(owns (c : Thread nD τ) a4 fullShare x2 ∗ owns (c : Thread nD τ) a6 fullShare (k0_pay4 x8 x2) ∗ owns (c : Thread nD τ) a8 fullShare x8) -∗ K ⟨⟩))
      ⊢ wp frame (wpE (defs₀ (F := F)) Variants.none c none) E (cc0_proj i a2 h2 a3 h3 a4 h4 a5 h5 a6 h6 a7 h7 a8 h8) K := by
  simp only [cc0_proj_eq_skeleton]; unfold cc0_proj_skel
  unfold owns
  iintro ⟨⟨%f2, %hf2, H2⟩, ⟨%d4, %f4, -, H4⟩, ⟨%f8, %hf8, H8⟩, Hk⟩
  obtain rfl := h4.eq_unread hf2; obtain rfl := h8.eq_unread hf8
  sl_exec (disch := first | sl_exact hc)
  sl_step
  iapply Hk
  isplitl [H2]
  · iexists _; isplitr; · ipureintro; exact h4.read_unread _
    iexact H2
  isplitl [H4]
  · iexists _; isplitr; swap; · iexact H4
    ipureintro
    refine (Util.read_full _ _ hz _ _ _).trans ?_
    rw [Util.readAt_full _ _ hz _ _ (h8.read_unread _), Util.readAt_full _ _ hz _ _ (h4.read_unread _)]
  iexists _; isplitr; · ipureintro; exact h8.read_unread _
  iexact H8

end Cert.ProjIdeal.Body

end
-- ==== Proof.ProjFrame.lean ====
module

public import proofs.«01_k».proof.Proof.ProjBody
public import Idealize.ShloMosaic.Lib.Claim

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows are computed at the points of the first column block, -/
theorem hcond : ∀ t : Fin cfg0.N, k0_cond1 (grid0.coords t) = 1#1 ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [k0_cond1, e0, e1]
    word_cmp
   : ∀ t : Fin grid0.N, k0_cond1 (grid0.coords t) = 1#1 ↔ t.val % 3 = 0)

/-- Which block of each array a point works on. -/
theorem idx : ∀ t : Fin cfg0.N, win0_0.index t = ![t.val / 3, 0] ∧ win0_1.index t = ![0, 0] ∧ win0_2.index t = ![0, t.val % 3]
    ∧ win0_3.index t = ![0, 0] ∧ win0_4.index t = ![t.val / 3, t.val % 3] ∧ win0_5.index t = ![t.val / 3, 0] :=
  (by decide +kernel : ∀ t : Fin grid0.N, win0_0.index t = ![t.val / 3, 0] ∧ win0_1.index t = ![0, 0] ∧ win0_2.index t = ![0, t.val % 3]
    ∧ win0_3.index t = ![0, 0] ∧ win0_4.index t = ![t.val / 3, t.val % 3] ∧ win0_5.index t = ![t.val / 3, 0])

/-- Blocks of an array at two points of one row block. -/
theorem iblk0_congr (c : Dev nD) (t t' : Fin cfg0.N) (h : t.val / 3 = t'.val / 3) : iblk m c 0 t = iblk m c 0 t' := by
  funext y
  exact Util.read_blk_congr win0_0 ((idx t).1.trans ((congrArg (fun n => ![n, 0]) h).trans (idx t').1.symm)) _ y y (fun _ => rfl)
theorem iblk1_congr (c : Dev nD) (t t' : Fin cfg0.N) : iblk m c 1 t = iblk m c 1 t' := by
  funext y
  exact Util.read_blk_congr win0_1 ((idx t).2.1.trans (idx t').2.1.symm) _ y y (fun _ => rfl)
theorem iblk3_congr (c : Dev nD) (t t' : Fin cfg0.N) : iblk m c 3 t = iblk m c 3 t' := by
  funext y
  exact Util.read_blk_congr win0_3 ((idx t).2.2.2.1.trans (idx t').2.2.2.1.symm) _ y y (fun _ => rfl)

/-- The normalised rows of a point's row block, -/
def rowsAt (c : Dev nD) (t : Fin cfg0.N) : Vec F S1024x2048 .bf16 := k0_pay2 (iblk m c 0 t) (iblk m c 1 t)
/-- and the gate projection of that row block. -/
def gateAt (c : Dev nD) (t : Fin cfg0.N) : Vec F S1024x128 .f32 := k0_pay3 (iblk m c 0 t) (iblk m c 1 t) (iblk m c 3 t)

theorem rowsAt_congr (c : Dev nD) (t t' : Fin cfg0.N) (h : t.val / 3 = t'.val / 3) : rowsAt m c t = rowsAt m c t' := by
  unfold rowsAt; rw [iblk0_congr m c t t' h, iblk1_congr m c t t']
theorem gateAt_congr (c : Dev nD) (t t' : Fin cfg0.N) (h : t.val / 3 = t'.val / 3) : gateAt m c t = gateAt m c t' := by
  unfold gateAt; rw [iblk0_congr m c t t' h, iblk1_congr m c t t', iblk3_congr m c t t']

/-- What the carried buffer holds before a point: within a row block, that block's normalised rows. -/
def scr (c : Dev nD) (n : Fin (cfg0.N + 1)) (d : Vec F S1024x2048 .bf16) : Prop :=
  n.val % 3 ≠ 0 → ∀ t : Fin cfg0.N, t.val / 3 = n.val / 3 → d = rowsAt m c t

abbrev ms0_0 (t : Fin cfg0.N) : Memref sig .tc .vmem S1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x1536 .bf16 := win0_2.stage (cfg0.slots t 2)
abbrev ms0_3 (t : Fin cfg0.N) : Memref sig .tc .vmem S2048x128 .bf16 := win0_3.stage (cfg0.slots t 3)
abbrev ms0_4 (t : Fin cfg0.N) : Memref sig .tc .vmem S1024x1536 .f32 := win0_4.stage (cfg0.slots t 4)
abbrev ms0_5 (t : Fin cfg0.N) : Memref sig .tc .vmem S1024x128 .f32 := win0_5.stage (cfg0.slots t 5)
/-- The carried buffer. -/
abbrev scM : Memref sig .tc .vmem S1024x2048 .bf16 := Memref.whole cc0_scratch0

theorem PhiA0_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- The proof data: every input buffer keeps its block, the two outputs hold the projections of the point's row block,
    and the carried rows are followed from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (rowsAt m c t) (iblk m c 2 t)
    | ⟨5, _⟩ => gateAt m c t
  Φ n := iprop((∃ d, owns (c : Thread nD τ) scM fullShare d ∗ ⌜scr m c n d⌝) ∗ (∃ r, prngReg c r))
  q _ := fullShare
  owed _ := 0

theorem A_eq (c : Dev nD) (w : Fin cfg0.W) : (dats m 0 c).A w = V m c (Pipeline.arrRef spec0 w) := by
  dsimp only [dats]
theorem Phi_eq (c : Dev nD) (n : Fin (cfg0.N + 1)) : (dats m 0 c).Φ n = iprop((∃ d, owns (c : Thread nD τ) scM fullShare d ∗ ⌜scr m c n d⌝) ∗ (∃ r, prngReg c r)) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay4 (rowsAt m c t) (iblk m c 2 t) := by dsimp only [dats]
theorem after0_5 (c : Dev nD) (t : Fin cfg0.N) : (dats m 0 c).after 5 t = gateAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the body leaves the gate's buffer alone. -/
theorem idle5 (t : Fin cfg0.N) : cfg0.idle 5 (cfg0.grid.coords t) = !decide (t.val % 3 = 0) := by
  have e : cfg0.idle 5 (cfg0.grid.coords t) = !(k0_cond1 (grid0.coords t) == 1#1) := rfl
  rw [e]
  congr 1
  rw [Bool.eq_iff_iff, beq_iff_eq, decide_eq_true_iff]
  exact hcond t

theorem flush5_false (t : Fin cfg0.N) (h : t.val % 3 ≠ 2) : (cfg0.win 5).flush t = false :=
  Bool.eq_false_iff.mpr fun hf => h ((flush0_5 t).mp hf)

theorem before0_5_aux (c : Dev nD) (t : Fin cfg0.N) (ht : t.val ≠ 0) (h3 : ¬ t.val % 3 = 0) (d) : (dats m 0 c).before 5 t d
    = (dats m 0 c).left 5 ⟨t.val - 1, Nat.lt_of_le_of_lt (Nat.sub_le _ _) t.isLt⟩ d := by
  rw [(dats m 0 c).before_of_pos 5 t ht ((cfg0.win 5).fetch_out rfl t), flush5_false _ (by dsimp only; omega)]; rfl

theorem before0_5_one (c : Dev nD) (t : Fin cfg0.N) (h : t.val % 3 = 1) (d) : (dats m 0 c).before 5 t d = gateAt m c t := by
  rw [before0_5_aux m c t (by omega) (by omega), Util.left_live _ _ _ (by rw [idle5, decide_eq_true (by dsimp only; omega)]; rfl) (fun _ _ => rfl), after0_5]
  exact gateAt_congr m c _ _ (by dsimp only; omega)

/-- Within a row block the gate's buffer still holds that block's gate projection. -/
theorem before0_5 (c : Dev nD) (t : Fin cfg0.N) (h : ¬ t.val % 3 = 0) (d) : (dats m 0 c).before 5 t d = gateAt m c t := by
  by_cases h1 : t.val % 3 = 1
  · exact before0_5_one m c t h1 d
  · rw [before0_5_aux m c t (by omega) (by omega), Util.left_idle _ _ _ (by rw [idle5, decide_eq_false (by dsimp only; omega)]; rfl),
      before0_5_one m c _ (by dsimp only; omega)]
    exact gateAt_congr m c _ _ (by dsimp only; omega)

/-- So after the body the gate's buffer holds the row block's gate projection. -/
theorem leaves0_5 (c : Dev nD) (t : Fin cfg0.N) : owns (c : Thread nD τ) (win0_5.stage (cfg0.slots t 5)) fullShare (gateAt m c t) ⊢ ((dats m 0 c).leavesExact 5 t : sProp 𝕄) := by
  by_cases h0 : t.val % 3 = 0
  · rw [Util.leavesExact_of_live _ 5 t (by rw [idle5, decide_eq_true h0]; rfl), after0_5]
  by_cases h2 : t.val % 3 = 2
  · rw [Util.leavesExact_of_flush _ 5 t (by rw [idle5, decide_eq_false h0]; rfl) ((flush0_5 t).mpr h2), after0_5]
  · rw [Dat.leavesExact_idle _ 5 t (by rw [idle5, decide_eq_false h0]; rfl) (flush5_false t h2)]
    simp only [before0_5 m c t h0]
    iintro H
    iexists (fun _ => Classical.arbitrary _)
    iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, after0_4, after0_5, Phi_eq]
  rw [show (dats m 0 c).owesAt () t.succ = (dats m 0 c).owesAt () t.castSucc from rfl]
  have hN : t.val < 48 := lt_of_lt_of_eq t.isLt (show cfg0.N = 48 from N_0)
  by_cases h0 : t.val % 3 = 0
  · iintro ⟨⟨⟨%ds, HS0, -⟩, Hg⟩, Ho, ⟨%d0, H0⟩, ⟨%d1, H1⟩, ⟨%d2, H2⟩, ⟨%d3, H3⟩, ⟨%d4, H4⟩, ⟨%d5, H5⟩⟩
    iapply (runFill c (grid0.coords t) _ _ _ _ _ _ _ _ _ _ _ _ _ _ ((hcond t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexists _; iexact HS0
    iintro ⟨H0, H1, H2, H3, H4, H5, HS0⟩
    isplitl [HS0 Hg]
    · isplitl [HS0]
      · iexists _; isplitl [HS0]
        · iexact HS0
        ipureintro
        intro hn t' ht'
        exact rowsAt_congr m c t t' (by rw [ht']; simp only [Fin.val_succ]; omega)
      iexact Hg
    isplitl [Ho]; · iexact Ho
    isplitl [H0]; · iexact H0
    isplitl [H1]; · iexact H1
    isplitl [H2]; · iexact H2
    isplitl [H3]; · iexact H3
    isplitl [H4]; · iexact H4
    iapply (leaves0_5 m c t); iexact H5
  · simp only [before0_5 m c t h0]
    iintro ⟨⟨⟨%ds, HS0, %hs⟩, Hg⟩, Ho, ⟨%d0, H0⟩, ⟨%d1, H1⟩, ⟨%d2, H2⟩, ⟨%d3, H3⟩, ⟨%d4, H4⟩, ⟨%d5, H5⟩⟩
    obtain rfl : ds = rowsAt m c t := hs h0 t rfl
    iapply (runKeep c (grid0.coords t) (ms0_0 t) (hstage0_0 ((cfg0.slots t 0).cast nbuf0_0)) (ms0_1 t) (hstage0_1 ((cfg0.slots t 1).cast nbuf0_1)) _ _ (ms0_3 t) (hstage0_3 ((cfg0.slots t 3).cast nbuf0_3)) _ _ (ms0_5 t) (hstage0_5 ((cfg0.slots t 5).cast nbuf0_5)) _ _ (fun h => h0 ((hcond t).mp h)) (iblk m c 2 t) (rowsAt m c t) Set.univ _)
    isplitl [H2]; · iexact H2
    isplitl [H4]; · iexists _; iexact H4
    isplitl [HS0]; · iexact HS0
    iintro ⟨H2, H4, HS0⟩
    isplitl [HS0 Hg]
    · isplitl [HS0]
      · iexists _; isplitl [HS0]
        · iexact HS0
        ipureintro
        intro hn t' ht'
        exact rowsAt_congr m c t t' (by simp only [Fin.val_succ] at hn ht'; omega)
      iexact Hg
    isplitl [Ho]; · iexact Ho
    isplitl [H0]; · iexact H0
    isplitl [H1]; · iexact H1
    isplitl [H2]; · iexact H2
    isplitl [H3]; · iexact H3
    isplitl [H4]; · iexact H4
    iapply (leaves0_5 m c t); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [PhiA0_eq, Phi_eq]
  iintro ⟨⟨%d, H⟩, Hg⟩
  isplitl [H]
  · iexists d; isplitl [H]
    · iexact H
    ipureintro
    intro h; exact absurd rfl h
  iexact Hg

theorem Phi_out (c : Dev nD) : (dats m 0 c).Φ (Fin.last cfg0.N) ⊢ (Pipeline.ΦA spec0 c : sProp 𝕄) := by
  rw [PhiA0_eq, Phi_eq]
  iintro ⟨⟨%d, H, -⟩, Hg⟩
  isplitl [H]
  · iexists d; iexact H
  iexact Hg

set_option backward.isDefEq.respectTransparency.types false in
/-- The whole run: every execution ends, every array of the launch as computed, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.ProjIdeal.Body

end
-- ==== Proof.ProjRead.lean ====
module

public import proofs.«01_k».proof.Proof.ProjFrame
public import proofs.«01_k».proof.Proof.Gen.ProjRefIdeal
public import Idealize.ShloMosaic.Lib.Claim

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The reference's normalised rows over the arguments. -/
abbrev HREF (X : FVec Ideal ProjRefIdeal.S4x4096x2048 .f32) (W : FVec Ideal ProjRefIdeal.S2048 .f32) : FVec Ideal ProjRefIdeal.S16384x2048 .f32 :=
  shapeCast ProjRefIdeal.S16384x2048
    (mulf
      (mulf X
        (broadcastInDim ProjRefIdeal.S4x4096x2048 ![0, 1, 2] ProjRefIdeal.Gen.bcast_S4x4096x1_S4x4096x2048_0_1_2
          (Host.rsqrt
            (addf
              (Host.divf
                (broadcastInDim ProjRefIdeal.S4x4096x1 ![0, 1] ProjRefIdeal.Gen.bcast_S4x4096_S4x4096x1_0_1
                  (Host.reduceAdd (mulf X X)
                    (constant ProjRefIdeal.S_ FTy.f32 0x00000000#32) ProjRefIdeal.Gen.reducesTo_S4x4096x2048_S4x4096_d2 ProjRefIdeal.Gen.h_S_))
                (broadcastInDim ProjRefIdeal.S4x4096x1 ![] ProjRefIdeal.Gen.bcast_S_S4x4096x1 (constant ProjRefIdeal.S_ FTy.f32 0x45000000#32)))
              (broadcastInDim ProjRefIdeal.S4x4096x1 ![] ProjRefIdeal.Gen.bcast_S_S4x4096x1 (constant ProjRefIdeal.S_ FTy.f32 0x358637BD#32))))))
      (broadcastInDim ProjRefIdeal.S4x4096x2048 ![0, 1, 2] ProjRefIdeal.Gen.bcast_S1x1x2048_S4x4096x2048_0_1_2
        (broadcastInDim ProjRefIdeal.S1x1x2048 ![2] ProjRefIdeal.Gen.bcast_S2048_S1x1x2048_2 W)))
    ProjRefIdeal.Gen.shapeCasts_S4x4096x2048_S16384x2048

/-- The reference's main projection over the arguments, -/
abbrev REF4 (X : FVec Ideal ProjRefIdeal.S4x4096x2048 .f32) (W : FVec Ideal ProjRefIdeal.S2048 .f32) (M : FVec Ideal ProjRefIdeal.S2048x4608 .bf16) :
    FVec Ideal ProjRefIdeal.S16384x4608 .f32 :=
  Host.dotGeneral ProjRefIdeal.dot_S16384x2048_S2048x4608_S16384x4608_1_0_0_1_n_n none (HREF X W) (extf FTy.f32 M ProjRefIdeal.Gen.bitsLt_bf16_f32)
/-- and its gate projection. -/
abbrev REF5 (X : FVec Ideal ProjRefIdeal.S4x4096x2048 .f32) (W : FVec Ideal ProjRefIdeal.S2048 .f32) (M : FVec Ideal ProjRefIdeal.S2048x128 .bf16) :
    FVec Ideal ProjRefIdeal.S16384x128 .f32 :=
  Host.dotGeneral ProjRefIdeal.dot_S16384x2048_S2048x128_S16384x128_1_0_0_1_n_n none (HREF X W) (extf FTy.f32 M ProjRefIdeal.Gen.bitsLt_bf16_f32)

/-- A block of the rows, read over the argument. -/
theorem read0 (c : Dev nD) (t : Fin cfg0.N) (a : Fin 1024) (x : Fin 2048) :
    iblk m c 0 t (ix2 a x) = m ((c : Thread nD τ).loc main_arg0) (ix3 ⟨(t.val / 3 * 1024 + a.val) / 4096, by have := lt_of_lt_of_eq t.isLt N_0; have := a.isLt; omega⟩ ⟨(t.val / 3 * 1024 + a.val) % 4096, Nat.mod_lt _ (by decide)⟩ x) := by
  blk_simp [iblk, idx t]
  entry_read
  pointwise
  blk_ext [idx t]

/-- The norm's weights, read over the argument. -/
theorem read1 (c : Dev nD) (t : Fin cfg0.N) (x : Fin 2048) :
    iblk m c 1 t (ix2 0 x) = m ((c : Thread nD τ).loc main_arg1) (ix1 x) := by
  blk_simp [iblk, idx t]
  entry_read
  pointwise
  blk_ext [idx t]

/-- A block of the weights, read over the argument. -/
theorem read2 (c : Dev nD) (t : Fin cfg0.N) (x : Fin 2048) (b : Fin 1536) :
    iblk m c 2 t (ix2 x b) = m ((c : Thread nD τ).loc main_arg2) (ix2 x ⟨t.val % 3 * 1536 + b.val, by have := b.isLt; omega⟩) := by
  blk_ext [iblk, V_main_arg2 m c, idx t]

/-- The gate's weights, read over the argument. -/
theorem read3 (c : Dev nD) (t : Fin cfg0.N) (x : Fin 2048) (b : Fin 128) :
    iblk m c 3 t (ix2 x b) = m ((c : Thread nD τ).loc main_arg3) (ix2 x b) := by
  blk_ext [iblk, V_main_arg3 m c, idx t]

/-- The places of an output block's elements. -/
theorem emb4 (t : Fin cfg0.N) (y : (win0_4.xblock (grid0.coords t)).Idx) : ((((cfg0.win 4).blk t).view.emb y) 0 : ℕ) = t.val / 3 * 1024 + (y 0).val
    ∧ ((((cfg0.win 4).blk t).view.emb y) 1 : ℕ) = t.val % 3 * 1536 + (y 1).val := by
  constructor <;> blk_simp [idx t]

/-- The places of a gate block's elements. -/
theorem emb5 (t : Fin cfg0.N) (y : (win0_5.xblock (grid0.coords t)).Idx) : ((((cfg0.win 5).blk t).view.emb y) 0 : ℕ) = t.val / 3 * 1024 + (y 0).val
    ∧ ((((cfg0.win 5).blk t).view.emb y) 1 : ℕ) = (y 1).val := by
  constructor <;> blk_simp [idx t]

end Cert.ProjIdeal.Body

end
-- ==== Proof.ProjValue.lean ====
module

public import proofs.«01_k».proof.Proof.ProjRead
public import proofs.«01_k».proof.Proof.Gen.ProjRefIdeal
public import Idealize.ShloMosaic.Lib.Claim

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

set_option maxHeartbeats 1000000 in
/-- A block of the main projection is the reference's at its place. -/
theorem point4 (c : Dev nD) (t : Fin cfg0.N) (y) : k0_pay4 (rowsAt m c t) (iblk m c 2 t) y
    = REF4 (m ((c : Thread nD τ).loc main_arg0)) (m ((c : Thread nD τ).loc main_arg1)) (m ((c : Thread nD τ).loc main_arg2)) (((cfg0.win 4).blk t).view.emb y) := by
  unfold rowsAt
  pointwise [k0_pay4, k0_pay2, k0_pay1, REF4, HREF]
  simp only [read1]
  refine Finset.sum_congr rfl fun x _ => ?_
  simp only [(emb4 t y).1]
  exact congrArg₂ (· * ·) (congrArg₂ (· * ·) (congrArg₂ (· * ·) (read0 m c t (y 0) x)
    (congrArg Ideal.rsqrt (congrArg₂ (· + ·) (congrArg₂ Ideal.div
      (Finset.sum_congr rfl fun z _ => congrArg₂ (· * ·) (read0 m c t (y 0) z) (read0 m c t (y 0) z)) rfl) rfl))) rfl)
    ((read2 m c t x (y 1)).trans (congrArg (m ((c : Thread nD τ).loc main_arg2)) (congrArg (ix2 x) (Fin.ext (emb4 t y).2.symm))))

theorem final4 (c : Dev nD) : (dats m 0 c).arrAt 4 (cfgs 0).N
    = REF4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

set_option maxHeartbeats 1000000 in
/-- A block of the gate projection is the reference's at its place. -/
theorem point5 (c : Dev nD) (t : Fin cfg0.N) (y) : gateAt m c t y
    = REF5 (m ((c : Thread nD τ).loc main_arg0)) (m ((c : Thread nD τ).loc main_arg1)) (m ((c : Thread nD τ).loc main_arg3)) (((cfg0.win 5).blk t).view.emb y) := by
  unfold gateAt
  pointwise [k0_pay3, k0_pay1, REF5, HREF]
  simp only [read1]
  refine Finset.sum_congr rfl fun x _ => ?_
  simp only [(emb5 t y).1]
  exact congrArg₂ (· * ·) (congrArg₂ (· * ·) (congrArg₂ (· * ·) (read0 m c t (y 0) x)
    (congrArg Ideal.rsqrt (congrArg₂ (· + ·) (congrArg₂ Ideal.div
      (Finset.sum_congr rfl fun z _ => congrArg₂ (· * ·) (read0 m c t (y 0) z) (read0 m c t (y 0) z)) rfl) rfl))) rfl)
    ((read3 m c t x (y 1)).trans (congrArg (m ((c : Thread nD τ).loc main_arg3)) (congrArg (ix2 x) (Fin.ext (emb5 t y).2.symm))))

theorem final5 (c : Dev nD) : (dats m 0 c).arrAt 5 (cfgs 0).N
    = REF5 (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  exact point5 m c t y

end Cert.ProjIdeal.Body

end
-- ==== Proof.ProjPair.lean ====
module

public import proofs.«01_k».proof.Proof.ProjValue
public import proofs.«01_k».proof.Defs
public import proofs.«01_k».proof.Proof.Gen.ProjRefIdeal
public import Idealize.ShloMosaic.Lib.Claim

@[expose] public section

set_option maxRecDepth 16384

noncomputable section

namespace Cert.ProjIdeal.Body

open Idealize.ShloMosaic Idealize.ShloMosaic.TcCoe Idealize.ShloMosaic.Tactic
open Idealize.SL.Sem

/-- The two projections of the kernel are the reference's. -/
theorem pair : @Cert.algebraic_ProjIdeal_ProjRefIdeal Cert.ProjIdeal.Gen.facts Cert.ProjRefIdeal.Gen.facts := by
  pair_intro
  · run_from Cert.ProjIdeal.Body.run_main m g
  · hlo_run
    · exact (final4 m c).symm
    · exact (final5 m c).symm

end Cert.ProjIdeal.Body

end
-- ==== Proof.Owns.lean ====
module

public import Idealize.ShloMosaic.Lib.VecWindow
public import Idealize.ShloMosaic.Lib.Exec
public import Idealize.ShloMosaic.Lib.Pipeline.ValueKit

@[expose] public section

noncomputable section

namespace Cert.Owns

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ)
variable {s : Shape} {e : EltTy} {α : Type} {bd : Option 𝒱.V}
variable {Q : α → sProp (MT nD τ sig Ix Val Name U Lvl)}

/-- A load of a window of a buffer known by what it reads. -/
theorem load (E : Set Name) {cs : CoreSpace} {m : Memref sig c.2.kind cs s e} {q : PosShare TreeShare} (X : s.Idx → Val e)
    {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α} :
    iprop(owns c m q X ∗ (owns c m q X -∗ wp frame (wpE defs 𝒱 c bd) E (k (VecWindow.window X off size inb)) Q))
      ⊢ wp frame (wpE defs 𝒱 c bd) E (Prog.lift (.load m (Rect.unit off size inb).toLoadRect hl) >>= k) Q := by
  unfold owns
  iintro ⟨⟨%f, %hf, H⟩, Hk⟩
  subst hf
  iapply (wp_load 𝒱 c bd E (hl := hl) (k := k) (q := q) (Q := Q) (f := f) (S := m.view.set) (View.setOn_subset_set _ _)) $$ [H]
  · iexact H
  iintro H
  iapply Hk
  iexists f
  isplitr
  · ipureintro; rfl
  iexact H

/-- The same, the values read named. -/
theorem load_eq (E : Set Name) {cs : CoreSpace} {m : Memref sig c.2.kind cs s e} {q : PosShare TreeShare} {X : s.Idx → Val e}
    {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α}
    {v : (Rect.unit off size inb).shape.Idx → Val e} (hv : VecWindow.window X off size inb = v) :
    iprop(owns c m q X ∗ (owns c m q X -∗ wp frame (wpE defs 𝒱 c bd) E (k v) Q))
      ⊢ wp frame (wpE defs 𝒱 c bd) E (Prog.lift (.load m (Rect.unit off size inb).toLoadRect hl) >>= k) Q := by
  subst hv; exact load 𝒱 c E X

/-- A store over a window of a buffer known by what it reads. -/
theorem store (E : Set Name) {cs : CoreSpace} {m : Memref sig c.2.kind cs s e} (X : s.Idx → Val e)
    {off size : Fin s.rank → ℕ} {inb : ∀ a, off a + size a ≤ s.size a} {w : (Rect.unit off size inb).shape.Idx → Val e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig Val Λ c.2) α} :
    iprop(owns c m fullShare X ∗ (owns c m fullShare (VecWindow.put X off size w) -∗ wp frame (wpE defs 𝒱 c bd) E (k ⟨⟩) Q))
      ⊢ wp frame (wpE defs 𝒱 c bd) E (Prog.lift (.store m (Rect.unit off size inb) w Finset.univ hx hm) >>= k) Q := by
  unfold owns
  iintro ⟨⟨%f, %hf, H⟩, Hk⟩
  subst hf
  iapply (wp_store 𝒱 c bd E (hx := hx) (hm := hm) (k := k) (Q := Q) (f := f) (S := m.view.set) (View.set_slice_subset _ _)) $$ [H]
  · iexact H
  iintro H
  iapply Hk
  iexists _
  isplitr; swap
  · iexact H
  ipureintro
  exact View.read_writes_cons_put m.view f inb w [] rfl

/-- The same, the values left named. -/
theorem store_eq (E : Set Name) {cs : CoreSpace} {m : Memref sig c.2.kind cs s e} {X X' : s.Idx → Val e}
    {off size : Fin s.rank → ℕ} {inb : ∀ a, off a + size a ≤ s.size a} {w : (Rect.unit off size inb).shape.Idx → Val e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig Val Λ c.2) α} (hX : VecWindow.put X off size w = X') :
    iprop(owns c m fullShare X ∗ (owns c m fullShare X' -∗ wp frame (wpE defs 𝒱 c bd) E (k ⟨⟩) Q))
      ⊢ wp frame (wpE defs 𝒱 c bd) E (Prog.lift (.store m (Rect.unit off size inb) w Finset.univ hx hm) >>= k) Q := by
  subst hX; exact store 𝒱 c E X

section Full

variable {α : Type}

/-- The window of the whole shape is the vector. -/
theorem window_full (X : s.Idx → α) {off : Fin s.rank → ℕ} (h : ∀ a, off a = 0) (inb : ∀ a, off a + s.size a ≤ s.size a) :
    VecWindow.window X off s.size inb = X := by
  funext y
  exact congrArg X (funext fun a => Fin.ext (by show off a + 1 * (y a).val = (y a).val; rw [h]; omega))

/-- A put over the whole shape leaves the payload. -/
theorem put_full (X : s.Idx → α) {off : Fin s.rank → ℕ} (h : ∀ a, off a = 0) (w : s.Idx → α) :
    VecWindow.put X off s.size w = w := by
  funext y
  have hy : ∀ a, off a ≤ (y a).val ∧ (y a).val < off a + s.size a := fun a => by have := (y a).isLt; rw [h]; omega
  unfold VecWindow.put
  rw [dif_pos hy]
  exact congrArg w (funext fun a => Fin.ext (by rw [Rect.unitLocal_val, h]; omega))

end Full

end Cert.Owns

end
-- ==== Proof.FfnBody.lean ====
module

public import proofs.«01_k».proof.Proof.Gen.FfnIdeal.Frame
public import proofs.«01_k».proof.Proof.Gen.FfnIdeal.Skeleton
public import Idealize.ShloMosaic.Lib.Pipeline.ValueKit
public import Idealize.ShloMosaic.Lib.Pointwise
public import Idealize.ShloMosaic.Lib.Exec
public import proofs.«01_k».proof.Proof.Util
public import proofs.«01_k».proof.Proof.Owns

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open VecWindow (window put)

variable {F : FTy → Type} [FloatOps F]

local notation "𝕄" => MT nD τ sig Unit (Elt F) ℕ (UR sig nD τ) ℕ

/-! ## The two halves of a staged tile -/

/-- A staged tile: two halves, each eight carried rows above 512 rows. -/
abbrev Tile (F : FTy → Type) [FloatOps F] := Vec F S2x520x256 .f32
/-- The carried rows of every column tile. -/
abbrev Carry (F : FTy → Type) [FloatOps F] := Vec F S22x2x8x256 .f32

/-- The 512 rows of a half. -/
def body0 (H : Tile F) : Vec F S1x512x256 .f32 := window H ![0, 8, 0] S1x512x256.size inb_S2x520x256_S1x512x256_0_8_0
def body1 (H : Tile F) : Vec F S1x512x256 .f32 := window H ![1, 8, 0] S1x512x256.size inb_S2x520x256_S1x512x256_1_8_0

/-- Rows `k` to `k + 512` of a half with carried rows `u` above the rows `w`. -/
def tap (k : ℕ) (hk : k ≤ 8) (u : Vec F S1x8x256 .f32) (w : Vec F S1x512x256 .f32) : Vec F S1x512x256 .f32 := fun y =>
  if h : k + (y 1).val < 8 then u (ix3 0 ⟨k + (y 1).val, h⟩ (y 2))
  else w (ix3 0 ⟨k + (y 1).val - 8, by have h1 : (y 1).val < 512 := (y 1).isLt; omega⟩ (y 2))

/-- The last eight of the rows `w`. -/
def last (w : Vec F S1x512x256 .f32) : Vec F S1x8x256 .f32 := fun y =>
  w (ix3 0 ⟨504 + (y 1).val, by have h1 : (y 1).val < 8 := (y 1).isLt; omega⟩ (y 2))

theorem body0_bd0 (H : Tile F) (w : Vec F S1x512x256 .f32) : body0 (put H ![0, 8, 0] S1x512x256.size w) = w :=
  VecWindow.window_put_same _ _ _ _ _
theorem body1_bd1 (H : Tile F) (w : Vec F S1x512x256 .f32) : body1 (put H ![1, 8, 0] S1x512x256.size w) = w :=
  VecWindow.window_put_same _ _ _ _ _
theorem body1_bd0 (H : Tile F) (w : Vec F S1x512x256 .f32) : body1 (put H ![0, 8, 0] S1x512x256.size w) = body1 H :=
  VecWindow.window_put_of_disjoint _ _ _ _ _ _ _ 0 (.inr (by decide))
theorem body0_bd1 (H : Tile F) (w : Vec F S1x512x256 .f32) : body0 (put H ![1, 8, 0] S1x512x256.size w) = body0 H :=
  VecWindow.window_put_of_disjoint _ _ _ _ _ _ _ 0 (.inl (by decide))
theorem body0_hd0 (H : Tile F) (u : Vec F S1x8x256 .f32) : body0 (put H ![0, 0, 0] S1x8x256.size u) = body0 H :=
  VecWindow.window_put_of_disjoint _ _ _ _ _ _ _ 1 (.inr (by decide))
theorem body1_hd0 (H : Tile F) (u : Vec F S1x8x256 .f32) : body1 (put H ![0, 0, 0] S1x8x256.size u) = body1 H :=
  VecWindow.window_put_of_disjoint _ _ _ _ _ _ _ 1 (.inr (by decide))
theorem body0_hd1 (H : Tile F) (u : Vec F S1x8x256 .f32) : body0 (put H ![1, 0, 0] S1x8x256.size u) = body0 H :=
  VecWindow.window_put_of_disjoint _ _ _ _ _ _ _ 1 (.inr (by decide))
theorem body1_hd1 (H : Tile F) (u : Vec F S1x8x256 .f32) : body1 (put H ![1, 0, 0] S1x8x256.size u) = body1 H :=
  VecWindow.window_put_of_disjoint _ _ _ _ _ _ _ 1 (.inr (by decide))

theorem window_hd0 (H : Tile F) (u : Vec F S1x8x256 .f32) (k : ℕ) (hk : k ≤ 8) (inb) :
    window (put H ![0, 0, 0] S1x8x256.size u) ![0, k, 0] S1x512x256.size inb = tap k hk u (body0 H) := by
  funext y
  have y0 : (y 0).val = 0 := by have : (y 0).val < 1 := (y 0).isLt; omega
  have y1 : (y 1).val < 512 := (y 1).isLt
  have y2 : (y 2).val < 256 := (y 2).isLt
  unfold window tap put
  have e2 : ∀ (z : S1x512x256.Idx) a, ((Rect.unit (s := S2x520x256) ![0, 8, 0] S1x512x256.size inb_S2x520x256_S1x512x256_0_8_0).emb z a).val = (![0, 8, 0] : Fin 3 → ℕ) a + 1 * (z a).val := fun z a => rfl
  have e : ∀ a, ((Rect.unit (s := S2x520x256) ![0, k, 0] S1x512x256.size inb).emb y a).val = (![0, k, 0] : Fin 3 → ℕ) a + 1 * (y a).val := fun a => rfl
  by_cases h : k + (y 1).val < 8
  · rw [dif_pos h, dif_pos]
    · refine congrArg u (funext fun a => Fin.ext ?_)
      rw [Rect.unitLocal_val, e]
      match a with
      | 0 => simp [y0]
      | 1 => simp
      | 2 => simp
    · intro a; rw [e]
      match a with
      | 0 => simp [y0]
      | 1 => simp; omega
      | 2 => simp; omega
  · rw [dif_neg h, dif_neg]
    · refine congrArg H (funext fun a => Fin.ext ?_)
      rw [e, e2]
      match a with
      | 0 => simp [y0]
      | 1 => simp; omega
      | 2 => simp
    · intro h'; have := h' 1; rw [e] at this; simp at this; omega

theorem window_hd1 (H : Tile F) (u : Vec F S1x8x256 .f32) (k : ℕ) (hk : k ≤ 8) (inb) :
    window (put H ![1, 0, 0] S1x8x256.size u) ![1, k, 0] S1x512x256.size inb = tap k hk u (body1 H) := by
  funext y
  have y0 : (y 0).val = 0 := by have : (y 0).val < 1 := (y 0).isLt; omega
  have y1 : (y 1).val < 512 := (y 1).isLt
  have y2 : (y 2).val < 256 := (y 2).isLt
  unfold window tap put
  have e2 : ∀ (z : S1x512x256.Idx) a, ((Rect.unit (s := S2x520x256) ![1, 8, 0] S1x512x256.size inb_S2x520x256_S1x512x256_1_8_0).emb z a).val = (![1, 8, 0] : Fin 3 → ℕ) a + 1 * (z a).val := fun z a => rfl
  have e : ∀ a, ((Rect.unit (s := S2x520x256) ![1, k, 0] S1x512x256.size inb).emb y a).val = (![1, k, 0] : Fin 3 → ℕ) a + 1 * (y a).val := fun a => rfl
  by_cases h : k + (y 1).val < 8
  · rw [dif_pos h, dif_pos]
    · refine congrArg u (funext fun a => Fin.ext ?_)
      rw [Rect.unitLocal_val, e]
      match a with
      | 0 => simp [y0]
      | 1 => simp
      | 2 => simp
    · intro a; rw [e]
      match a with
      | 0 => simp [y0]
      | 1 => simp; omega
      | 2 => simp; omega
  · rw [dif_neg h, dif_neg]
    · refine congrArg H (funext fun a => Fin.ext ?_)
      rw [e, e2]
      match a with
      | 0 => simp [y0]
      | 1 => simp; omega
      | 2 => simp
    · intro h'; have := h' 1; rw [e] at this; simp at this; omega

theorem window_last0 (H : Tile F) (u : Vec F S1x8x256 .f32) (inb) :
    window (put H ![0, 0, 0] S1x8x256.size u) ![0, 512, 0] S1x8x256.size inb = last (body0 H) := by
  refine (VecWindow.window_put_of_disjoint _ _ _ _ _ _ _ 1 (.inr (by decide))).trans ?_
  funext y
  refine congrArg H (funext fun a => Fin.ext ?_)
  have y0 : (y 0).val = 0 := by have : (y 0).val < 1 := (y 0).isLt; omega
  have e2 : ∀ (z : S1x512x256.Idx) a, ((Rect.unit (s := S2x520x256) ![0, 8, 0] S1x512x256.size inb_S2x520x256_S1x512x256_0_8_0).emb z a).val = (![0, 8, 0] : Fin 3 → ℕ) a + 1 * (z a).val := fun z a => rfl
  have e : ∀ a, ((Rect.unit (s := S2x520x256) ![0, 512, 0] S1x8x256.size inb).emb y a).val = (![0, 512, 0] : Fin 3 → ℕ) a + 1 * (y a).val := fun a => rfl
  rw [e, e2]
  match a with
  | 0 => simp [y0]
  | 1 => simp; omega
  | 2 => simp

theorem window_last1 (H : Tile F) (u : Vec F S1x8x256 .f32) (inb) :
    window (put H ![1, 0, 0] S1x8x256.size u) ![1, 512, 0] S1x8x256.size inb = last (body1 H) := by
  refine (VecWindow.window_put_of_disjoint _ _ _ _ _ _ _ 1 (.inr (by decide))).trans ?_
  funext y
  refine congrArg H (funext fun a => Fin.ext ?_)
  have y0 : (y 0).val = 0 := by have : (y 0).val < 1 := (y 0).isLt; omega
  have e2 : ∀ (z : S1x512x256.Idx) a, ((Rect.unit (s := S2x520x256) ![1, 8, 0] S1x512x256.size inb_S2x520x256_S1x512x256_1_8_0).emb z a).val = (![1, 8, 0] : Fin 3 → ℕ) a + 1 * (z a).val := fun z a => rfl
  have e : ∀ a, ((Rect.unit (s := S2x520x256) ![1, 512, 0] S1x8x256.size inb).emb y a).val = (![1, 512, 0] : Fin 3 → ℕ) a + 1 * (y a).val := fun a => rfl
  rw [e, e2]
  match a with
  | 0 => simp [y0]
  | 1 => simp; omega
  | 2 => simp

/-- The carried rows of a tile's half. -/
abbrev cget (C : Carry F) (off : Fin 4 → ℕ) (inb : ∀ a, off a + S1x1x8x256.size a ≤ S22x2x8x256.size a) : Vec F S1x1x8x256 .f32 := window C off S1x1x8x256.size inb

/-- A tile's buffer with rows `w0` and `w1` in its halves, -/
def tileAt (c : Dev nD) (m : Memref sig .tc .vmem S2x520x256 .f32) (w0 w1 : Vec F S1x512x256 .f32) : sProp 𝕄 :=
  iprop(∃ H, ⌜body0 H = w0 ∧ body1 H = w1⌝ ∗ owns (c : Thread nD τ) m fullShare H)
/-- and with the carried rows `u` above its first half. -/
def tileHd (c : Dev nD) (m : Memref sig .tc .vmem S2x520x256 .f32) (u : Vec F S1x8x256 .f32) (w0 w1 : Vec F S1x512x256 .f32) : sProp 𝕄 :=
  iprop(∃ H, ⌜body0 H = w0 ∧ body1 H = w1⌝ ∗ owns (c : Thread nD τ) m fullShare (put H ![0, 0, 0] S1x8x256.size u))

/-- Whether a row block starts a sequence. -/
def first (i : grid0.Coords) : BitVec 1 :=
  Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32
/-- The tile the delayed half belongs to. -/
def prevTile (i : grid0.Coords) : BitVec 32 :=
  Scalar.select (Scalar.cmpi .eq (BitVec.ofNat 32 (i 1).val) 0#32) 21#32 (Scalar.subi (Scalar.muli 2#32 (BitVec.ofNat 32 (i 1).val)) 1#32)
/-- The first point of the grid, -/
def start (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1
/-- the first point of a row block, -/
def opens (i : grid0.Coords) : Prop :=
  Scalar.cmpi .ne (Scalar.extui (Scalar.cmpi .eq (BitVec.ofNat 32 (i 1).val) 0#32) : BitVec 32) 0#32 = 1#1
instance (i : grid0.Coords) : Decidable (start i) := by unfold start; infer_instance
instance (i : grid0.Coords) : Decidable (opens i) := by unfold opens; infer_instance

theorem z2 : ∀ a : Fin 2, (![0, 0] : Fin 2 → ℕ) a = 0 := by decide
theorem z3 : ∀ a : Fin 3, (![0, 0, 0] : Fin 3 → ℕ) a = 0 := by decide
theorem z4 : ∀ a : Fin 4, (![0, 0, 0, 0] : Fin 4 → ℕ) a = 0 := by decide

set_option maxHeartbeats 1000000 in
/-- The gate half of the last tile. -/
theorem part1 (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S3x512 .f32) (h11 : a11.IsWhole) (a12 : Memref sig .tc .vmem S3x512 .f32) (h12 : a12.IsWhole) (a13 : Memref sig .tc .vmem S1x512 .f32) (h13 : a13.IsWhole) (a14 : Memref sig .tc .vmem S1x512 .f32) (h14 : a14.IsWhole) (a15 : Memref sig .tc .vmem S512x2048 .f32) (h15 : a15.IsWhole) (a16 : Memref sig .tc .vmem S2x520x256 .f32) (h16 : a16.IsWhole) (a17 : Memref sig .tc .vmem S2x520x256 .f32) (h17 : a17.IsWhole) (a18 : Memref sig .tc .vmem S22x2x8x256 .f32) (h18 : a18.IsWhole) (a19 : Memref sig .tc .vmem S256x2048 .bf16) (h19 : a19.IsWhole)
    (arg1 : BitVec 32) (v18 : BitVec 1) (k0_h3 : k0_cond3 i = 1#1) (x6 : Vec F S3x512 .f32) (x8 : Vec F S1x512 .f32) (w0 w1 : Vec F S1x512x256 .f32) (C : Carry F) (E : Set ℕ) (K : _ → sProp 𝕄)  :
    iprop(owns (c : Thread nD τ) a6 fullShare x6 ∗ owns (c : Thread nD τ) a8 fullShare x8 ∗ tileAt c a17 w0 w1 ∗ owns (c : Thread nD τ) a18 fullShare C ∗ (owns (c : Thread nD τ) a6 fullShare x6 -∗ owns (c : Thread nD τ) a8 fullShare x8 -∗ tileAt c a17 w0 w1 -∗ owns (c : Thread nD τ) a18 fullShare (put C (k0_off5 i) S1x1x8x256.size (k0_pay7 (last w0))) -∗ K ⟨Scalar.addi (Scalar.muli 2#32 arg1) 1#32, (window x6 ![0, 256] S3x256.size inb_S3x512_S3x256_0_256), k0_pay5 (window x8 ![0, 256] S1x256.size inb_S1x512_S1x256_0_256), k0_pay8 (tap 7 (by decide) (k0_pay6 v18 (cget C (k0_off5 i) (k0_off5_inb i k0_h3))) w0), k0_pay9 (tap 8 (by decide) (k0_pay6 v18 (cget C (k0_off5 i) (k0_off5_inb i k0_h3))) w0), k0_pay10 (window x6 ![0, 256] S3x256.size inb_S3x512_S3x256_0_256) (tap 6 (by decide) (k0_pay6 v18 (cget C (k0_off5 i) (k0_off5_inb i k0_h3))) w0), k0_pay11 (window x6 ![0, 256] S3x256.size inb_S3x512_S3x256_0_256)⟩))
      ⊢ wp frame (wpE (defs₀ (F := F)) Variants.none c none) E (k0_part1 i a2 h2 a3 h3 a4 h4 a5 h5 a6 h6 a7 h7 a8 h8 a9 h9 a10 h10 a11 h11 a12 h12 a13 h13 a14 h14 a15 h15 a16 h16 a17 h17 a18 h18 a19 h19 arg1 v18 k0_h3) K := by
  simp only [k0_part1_eq_skeleton]; unfold k0_part1_skel
  unfold tileAt
  iintro ⟨H6, H8, ⟨%T17, %hT17, H17⟩, H18, Hk⟩
  obtain ⟨rfl, rfl⟩ := hT17
  iapply (Owns.load Variants.none c E _); isplitl [H6]; · iexact H6
  iintro H6
  iapply (Owns.load Variants.none c E _); isplitl [H8]; · iexact H8
  iintro H8
  iapply (Owns.load Variants.none c E _); isplitl [H18]; · iexact H18
  iintro H18
  iapply (Owns.load Variants.none c E _); isplitl [H17]; · iexact H17
  iintro H17
  iapply (Owns.store Variants.none c E _); isplitl [H17]; · iexact H17
  iintro H17
  iapply (Owns.load_eq Variants.none c E (window_last0 _ _ _)); isplitl [H17]; · iexact H17
  iintro H17
  iapply (Owns.load Variants.none c E _); isplitl [H18]; · iexact H18
  iintro H18
  iapply (Owns.store Variants.none c E _); isplitl [H18]; · iexact H18
  iintro H18
  iapply (Owns.load_eq Variants.none c E (window_hd0 _ _ 6 (by decide) _)); isplitl [H17]; · iexact H17
  iintro H17
  iapply (Owns.load_eq Variants.none c E (window_hd0 _ _ 7 (by decide) _)); isplitl [H17]; · iexact H17
  iintro H17
  iapply (Owns.load_eq Variants.none c E (window_hd0 _ _ 8 (by decide) _)); isplitl [H17]; · iexact H17
  iintro H17
  rw [wp_pure]
  iapply fupd_intro
  ispecialize Hk $$ [H6]; · iexact H6
  ispecialize Hk $$ [H8]; · iexact H8
  ispecialize Hk $$ [H17]
  · iexists _; isplitr; swap
    · iexact H17
    ipureintro; exact ⟨(body0_hd0 _ _), (body1_hd0 _ _)⟩
  ispecialize Hk $$ [H18]; · iexact H18
  iexact Hk

set_option maxHeartbeats 1000000 in
/-- The value half of the last tile. -/
theorem part2 (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S3x512 .f32) (h11 : a11.IsWhole) (a12 : Memref sig .tc .vmem S3x512 .f32) (h12 : a12.IsWhole) (a13 : Memref sig .tc .vmem S1x512 .f32) (h13 : a13.IsWhole) (a14 : Memref sig .tc .vmem S1x512 .f32) (h14 : a14.IsWhole) (a15 : Memref sig .tc .vmem S512x2048 .f32) (h15 : a15.IsWhole) (a16 : Memref sig .tc .vmem S2x520x256 .f32) (h16 : a16.IsWhole) (a17 : Memref sig .tc .vmem S2x520x256 .f32) (h17 : a17.IsWhole) (a18 : Memref sig .tc .vmem S22x2x8x256 .f32) (h18 : a18.IsWhole) (a19 : Memref sig .tc .vmem S256x2048 .bf16) (h19 : a19.IsWhole)
    (v18 : BitVec 1) (k0_h3 : k0_cond3 i = 1#1) (v218 : BitVec 32) (v219 : Vec F S3x256 .f32) (v221 : FVec F S1x256 .f32) (v239 v241 v244 v246 : FVec F S512x256 .f32) (x7 : Vec F S3x512 .f32) (x9 : Vec F S1x512 .f32) (w0 w1 : Vec F S1x512x256 .f32) (C : Carry F) (E : Set ℕ) (K : _ → sProp 𝕄)  :
    iprop(owns (c : Thread nD τ) a7 fullShare x7 ∗ owns (c : Thread nD τ) a9 fullShare x9 ∗ tileAt c a17 w0 w1 ∗ owns (c : Thread nD τ) a18 fullShare C ∗ (owns (c : Thread nD τ) a7 fullShare x7 -∗ owns (c : Thread nD τ) a9 fullShare x9 -∗ tileAt c a17 w0 w1 -∗ owns (c : Thread nD τ) a18 fullShare (put C (k0_off6 i) S1x1x8x256.size (k0_pay15 (last w1))) -∗ K ⟨k0_pay12 v219 v221 v239 v241 v244 v246, (window x7 ![0, 256] S3x256.size inb_S3x512_S3x256_0_256), k0_pay13 (window x9 ![0, 256] S1x256.size inb_S1x512_S1x256_0_256), k0_pay16 (tap 6 (by decide) (k0_pay14 v18 (cget C (k0_off6 i) (k0_off6_inb i k0_h3))) w1), k0_pay17 (tap 7 (by decide) (k0_pay14 v18 (cget C (k0_off6 i) (k0_off6_inb i k0_h3))) w1), k0_pay18 (tap 8 (by decide) (k0_pay14 v18 (cget C (k0_off6 i) (k0_off6_inb i k0_h3))) w1), k0_pay19 (window x7 ![0, 256] S3x256.size inb_S3x512_S3x256_0_256)⟩))
      ⊢ wp frame (wpE (defs₀ (F := F)) Variants.none c none) E (k0_part2 i a2 h2 a3 h3 a4 h4 a5 h5 a6 h6 a7 h7 a8 h8 a9 h9 a10 h10 a11 h11 a12 h12 a13 h13 a14 h14 a15 h15 a16 h16 a17 h17 a18 h18 a19 h19 v18 k0_h3 v218 v219 v221 v239 v241 v244 v246) K := by
  simp only [k0_part2_eq_skeleton]; unfold k0_part2_skel
  unfold tileAt
  iintro ⟨H7, H9, ⟨%T17, %hT17, H17⟩, H18, Hk⟩
  obtain ⟨rfl, rfl⟩ := hT17
  iapply (Owns.load Variants.none c E _); isplitl [H7]; · iexact H7
  iintro H7
  iapply (Owns.load Variants.none c E _); isplitl [H9]; · iexact H9
  iintro H9
  iapply (Owns.load Variants.none c E _); isplitl [H18]; · iexact H18
  iintro H18
  iapply (Owns.load Variants.none c E _); isplitl [H17]; · iexact H17
  iintro H17
  iapply (Owns.store Variants.none c E _); isplitl [H17]; · iexact H17
  iintro H17
  iapply (Owns.load_eq Variants.none c E (window_last1 _ _ _)); isplitl [H17]; · iexact H17
  iintro H17
  iapply (Owns.load Variants.none c E _); isplitl [H18]; · iexact H18
  iintro H18
  iapply (Owns.store Variants.none c E _); isplitl [H18]; · iexact H18
  iintro H18
  iapply (Owns.load_eq Variants.none c E (window_hd1 _ _ 6 (by decide) _)); isplitl [H17]; · iexact H17
  iintro H17
  iapply (Owns.load_eq Variants.none c E (window_hd1 _ _ 7 (by decide) _)); isplitl [H17]; · iexact H17
  iintro H17
  iapply (Owns.load_eq Variants.none c E (window_hd1 _ _ 8 (by decide) _)); isplitl [H17]; · iexact H17
  iintro H17
  rw [wp_pure]
  iapply fupd_intro
  ispecialize Hk $$ [H7]; · iexact H7
  ispecialize Hk $$ [H9]; · iexact H9
  ispecialize Hk $$ [H17]
  · iexists _; isplitr; swap
    · iexact H17
    ipureintro; exact ⟨(body0_hd1 _ _), (body1_hd1 _ _)⟩
  ispecialize Hk $$ [H18]; · iexact H18
  iexact Hk

set_option maxHeartbeats 1000000 in
/-- The gate half of the previous tile. -/
theorem part4 (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S3x512 .f32) (h11 : a11.IsWhole) (a12 : Memref sig .tc .vmem S3x512 .f32) (h12 : a12.IsWhole) (a13 : Memref sig .tc .vmem S1x512 .f32) (h13 : a13.IsWhole) (a14 : Memref sig .tc .vmem S1x512 .f32) (h14 : a14.IsWhole) (a15 : Memref sig .tc .vmem S512x2048 .f32) (h15 : a15.IsWhole) (a16 : Memref sig .tc .vmem S2x520x256 .f32) (h16 : a16.IsWhole) (a17 : Memref sig .tc .vmem S2x520x256 .f32) (h17 : a17.IsWhole) (a18 : Memref sig .tc .vmem S22x2x8x256 .f32) (h18 : a18.IsWhole) (a19 : Memref sig .tc .vmem S256x2048 .bf16) (h19 : a19.IsWhole)
    (v18 : BitVec 1) (v23 : BitVec 32) (v26 : Vec F S3x256 .f32) (v28 : FVec F S1x256 .f32) (x12 : Vec F S3x512 .f32) (w0 w1 : Vec F S1x512x256 .f32) (C : Carry F) (E : Set ℕ) (K : _ → sProp 𝕄)  :
    iprop(owns (c : Thread nD τ) a12 fullShare x12 ∗ tileAt c a17 w0 w1 ∗ owns (c : Thread nD τ) a18 fullShare C ∗ (owns (c : Thread nD τ) a12 fullShare x12 -∗ tileAt c a17 w0 w1 -∗ owns (c : Thread nD τ) a18 fullShare (put C (k0_off1 i) S1x1x8x256.size (k0_pay26 (last w0))) -∗ K ⟨k0_pay27 v26 v28 (tap 6 (by decide) (k0_pay25 v18 (cget C (k0_off1 i) (k0_off1_inb i))) w0) (tap 7 (by decide) (k0_pay25 v18 (cget C (k0_off1 i) (k0_off1_inb i))) w0) (tap 8 (by decide) (k0_pay25 v18 (cget C (k0_off1 i) (k0_off1_inb i))) w0), (window x12 ![0, 256] S3x256.size inb_S3x512_S3x256_0_256)⟩))
      ⊢ wp frame (wpE (defs₀ (F := F)) Variants.none c none) E (k0_part4 i a2 h2 a3 h3 a4 h4 a5 h5 a6 h6 a7 h7 a8 h8 a9 h9 a10 h10 a11 h11 a12 h12 a13 h13 a14 h14 a15 h15 a16 h16 a17 h17 a18 h18 a19 h19 v18 v23 v26 v28) K := by
  simp only [k0_part4_eq_skeleton]; unfold k0_part4_skel
  unfold tileAt
  iintro ⟨H12, ⟨%T17, %hT17, H17⟩, H18, Hk⟩
  obtain ⟨rfl, rfl⟩ := hT17
  iapply (Owns.load Variants.none c E _); isplitl [H18]; · iexact H18
  iintro H18
  iapply (Owns.load Variants.none c E _); isplitl [H17]; · iexact H17
  iintro H17
  iapply (Owns.store Variants.none c E _); isplitl [H17]; · iexact H17
  iintro H17
  iapply (Owns.load_eq Variants.none c E (window_last0 _ _ _)); isplitl [H17]; · iexact H17
  iintro H17
  iapply (Owns.load Variants.none c E _); isplitl [H18]; · iexact H18
  iintro H18
  iapply (Owns.store Variants.none c E _); isplitl [H18]; · iexact H18
  iintro H18
  iapply (Owns.load_eq Variants.none c E (window_hd0 _ _ 6 (by decide) _)); isplitl [H17]; · iexact H17
  iintro H17
  iapply (Owns.load_eq Variants.none c E (window_hd0 _ _ 7 (by decide) _)); isplitl [H17]; · iexact H17
  iintro H17
  iapply (Owns.load_eq Variants.none c E (window_hd0 _ _ 8 (by decide) _)); isplitl [H17]; · iexact H17
  iintro H17
  iapply (Owns.load Variants.none c E _); isplitl [H12]; · iexact H12
  iintro H12
  rw [wp_pure]
  iapply fupd_intro
  ispecialize Hk $$ [H12]; · iexact H12
  ispecialize Hk $$ [H17]
  · iexists _; isplitr; swap
    · iexact H17
    ipureintro; exact ⟨(body0_hd0 _ _), (body1_hd0 _ _)⟩
  ispecialize Hk $$ [H18]; · iexact H18
  iexact Hk

set_option maxHeartbeats 1000000 in
/-- The value half of the previous tile. -/
theorem part5 (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S3x512 .f32) (h11 : a11.IsWhole) (a12 : Memref sig .tc .vmem S3x512 .f32) (h12 : a12.IsWhole) (a13 : Memref sig .tc .vmem S1x512 .f32) (h13 : a13.IsWhole) (a14 : Memref sig .tc .vmem S1x512 .f32) (h14 : a14.IsWhole) (a15 : Memref sig .tc .vmem S512x2048 .f32) (h15 : a15.IsWhole) (a16 : Memref sig .tc .vmem S2x520x256 .f32) (h16 : a16.IsWhole) (a17 : Memref sig .tc .vmem S2x520x256 .f32) (h17 : a17.IsWhole) (a18 : Memref sig .tc .vmem S22x2x8x256 .f32) (h18 : a18.IsWhole) (a19 : Memref sig .tc .vmem S256x2048 .bf16) (h19 : a19.IsWhole)
    (v18 : BitVec 1) (v23 : BitVec 32) (v61 : FVec F S512x256 .f32) (v62 : Vec F S3x256 .f32) (x14 : Vec F S1x512 .f32) (w0 w1 : Vec F S1x512x256 .f32) (C : Carry F) (E : Set ℕ) (K : _ → sProp 𝕄)  :
    iprop(owns (c : Thread nD τ) a14 fullShare x14 ∗ tileAt c a17 w0 w1 ∗ owns (c : Thread nD τ) a18 fullShare C ∗ (owns (c : Thread nD τ) a14 fullShare x14 -∗ tileAt c a17 w0 w1 -∗ owns (c : Thread nD τ) a18 fullShare (put C (k0_off2 i) S1x1x8x256.size (k0_pay29 (last w1))) -∗ K ⟨k0_pay30 v62 (window x14 ![0, 256] S1x256.size inb_S1x512_S1x256_0_256) (tap 6 (by decide) (k0_pay28 v18 (cget C (k0_off2 i) (k0_off2_inb i))) w1) (tap 7 (by decide) (k0_pay28 v18 (cget C (k0_off2 i) (k0_off2_inb i))) w1) (tap 8 (by decide) (k0_pay28 v18 (cget C (k0_off2 i) (k0_off2_inb i))) w1), k0_pay31 v61⟩))
      ⊢ wp frame (wpE (defs₀ (F := F)) Variants.none c none) E (k0_part5 i a2 h2 a3 h3 a4 h4 a5 h5 a6 h6 a7 h7 a8 h8 a9 h9 a10 h10 a11 h11 a12 h12 a13 h13 a14 h14 a15 h15 a16 h16 a17 h17 a18 h18 a19 h19 v18 v23 v61 v62) K := by
  simp only [k0_part5_eq_skeleton]; unfold k0_part5_skel
  unfold tileAt
  iintro ⟨H14, ⟨%T17, %hT17, H17⟩, H18, Hk⟩
  obtain ⟨rfl, rfl⟩ := hT17
  iapply (Owns.load Variants.none c E _); isplitl [H14]; · iexact H14
  iintro H14
  iapply (Owns.load Variants.none c E _); isplitl [H18]; · iexact H18
  iintro H18
  iapply (Owns.load Variants.none c E _); isplitl [H17]; · iexact H17
  iintro H17
  iapply (Owns.store Variants.none c E _); isplitl [H17]; · iexact H17
  iintro H17
  iapply (Owns.load_eq Variants.none c E (window_last1 _ _ _)); isplitl [H17]; · iexact H17
  iintro H17
  iapply (Owns.load Variants.none c E _); isplitl [H18]; · iexact H18
  iintro H18
  iapply (Owns.store Variants.none c E _); isplitl [H18]; · iexact H18
  iintro H18
  iapply (Owns.load_eq Variants.none c E (window_hd1 _ _ 6 (by decide) _)); isplitl [H17]; · iexact H17
  iintro H17
  iapply (Owns.load_eq Variants.none c E (window_hd1 _ _ 7 (by decide) _)); isplitl [H17]; · iexact H17
  iintro H17
  iapply (Owns.load_eq Variants.none c E (window_hd1 _ _ 8 (by decide) _)); isplitl [H17]; · iexact H17
  iintro H17
  rw [wp_pure]
  iapply fupd_intro
  ispecialize Hk $$ [H14]; · iexact H14
  ispecialize Hk $$ [H17]
  · iexists _; isplitr; swap
    · iexact H17
    ipureintro; exact ⟨(body0_hd1 _ _), (body1_hd1 _ _)⟩
  ispecialize Hk $$ [H18]; · iexact H18
  iexact Hk

set_option maxHeartbeats 1000000 in
/-- The projection of the current tile. -/
theorem part6 (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S3x512 .f32) (h11 : a11.IsWhole) (a12 : Memref sig .tc .vmem S3x512 .f32) (h12 : a12.IsWhole) (a13 : Memref sig .tc .vmem S1x512 .f32) (h13 : a13.IsWhole) (a14 : Memref sig .tc .vmem S1x512 .f32) (h14 : a14.IsWhole) (a15 : Memref sig .tc .vmem S512x2048 .f32) (h15 : a15.IsWhole) (a16 : Memref sig .tc .vmem S2x520x256 .f32) (h16 : a16.IsWhole) (a17 : Memref sig .tc .vmem S2x520x256 .f32) (h17 : a17.IsWhole) (a18 : Memref sig .tc .vmem S22x2x8x256 .f32) (h18 : a18.IsWhole) (a19 : Memref sig .tc .vmem S256x2048 .bf16) (h19 : a19.IsWhole)
    (arg1 : BitVec 32) (v18 : BitVec 1) (v19 : Vec F S512x2048 .bf16) (v25 : F .f32) (v61 v97 v98 : FVec F S512x256 .f32) (x4 x5 : Vec F S2048x512 .bf16) (x6 : Vec F S3x512 .f32) (x8 : Vec F S1x512 .f32) (g0 g1 : Vec F S1x512x256 .f32) (C : Carry F) (D : Vec F S256x2048 .bf16) (E : Set ℕ) (K : _ → sProp 𝕄)  :
    iprop(owns (c : Thread nD τ) a4 fullShare x4 ∗ owns (c : Thread nD τ) a5 fullShare x5 ∗ owns (c : Thread nD τ) a6 fullShare x6 ∗ owns (c : Thread nD τ) a8 fullShare x8 ∗ tileAt c a16 g0 g1 ∗ owns (c : Thread nD τ) a18 fullShare C ∗ owns (c : Thread nD τ) a19 fullShare D ∗ (owns (c : Thread nD τ) a4 fullShare x4 -∗ owns (c : Thread nD τ) a5 fullShare x5 -∗ owns (c : Thread nD τ) a6 fullShare x6 -∗ owns (c : Thread nD τ) a8 fullShare x8 -∗ tileHd c a16 (k0_pay36 v18 (cget C (k0_off3 i) (k0_off3_inb i))) (k0_pay32 v19 (window x4 ![0, 0] S2048x256.size inb_S2048x512_S2048x256_0_0)) (k0_pay33 v19 (window x5 ![0, 0] S2048x256.size inb_S2048x512_S2048x256_0_0)) -∗ owns (c : Thread nD τ) a18 fullShare C -∗ owns (c : Thread nD τ) a19 fullShare D -∗ K ⟨k0_pay34 v25 v61 v97 v98 D, Scalar.muli 2#32 arg1, (window x6 ![0, 0] S3x256.size inb_S3x512_S3x256_0_0), k0_pay35 (window x8 ![0, 0] S1x256.size inb_S1x512_S1x256_0_0)⟩))
      ⊢ wp frame (wpE (defs₀ (F := F)) Variants.none c none) E (k0_part6 i a2 h2 a3 h3 a4 h4 a5 h5 a6 h6 a7 h7 a8 h8 a9 h9 a10 h10 a11 h11 a12 h12 a13 h13 a14 h14 a15 h15 a16 h16 a17 h17 a18 h18 a19 h19 arg1 v18 v19 v25 v61 v97 v98) K := by
  simp only [k0_part6_eq_skeleton]; unfold k0_part6_skel
  unfold tileHd
  unfold tileAt
  iintro ⟨H4, H5, H6, H8, ⟨%T16, %hT16, H16⟩, H18, H19, Hk⟩
  obtain ⟨rfl, rfl⟩ := hT16
  iapply (Owns.load Variants.none c E _); isplitl [H4]; · iexact H4
  iintro H4
  iapply (Owns.load Variants.none c E _); isplitl [H16]; · iexact H16
  iintro H16
  iapply (Owns.store Variants.none c E _); isplitl [H16]; · iexact H16
  iintro H16
  iapply (Owns.load Variants.none c E _); isplitl [H5]; · iexact H5
  iintro H5
  iapply (Owns.load Variants.none c E _); isplitl [H16]; · iexact H16
  iintro H16
  iapply (Owns.store Variants.none c E _); isplitl [H16]; · iexact H16
  iintro H16
  iapply (Owns.load_eq Variants.none c E (Owns.window_full _ z2 _)); isplitl [H19]; · iexact H19
  iintro H19
  iapply (Owns.load Variants.none c E _); isplitl [H6]; · iexact H6
  iintro H6
  iapply (Owns.load Variants.none c E _); isplitl [H8]; · iexact H8
  iintro H8
  iapply (Owns.load Variants.none c E _); isplitl [H18]; · iexact H18
  iintro H18
  iapply (Owns.load Variants.none c E _); isplitl [H16]; · iexact H16
  iintro H16
  iapply (Owns.store Variants.none c E _); isplitl [H16]; · iexact H16
  iintro H16
  rw [wp_pure]
  iapply fupd_intro
  ispecialize Hk $$ [H4]; · iexact H4
  ispecialize Hk $$ [H5]; · iexact H5
  ispecialize Hk $$ [H6]; · iexact H6
  ispecialize Hk $$ [H8]; · iexact H8
  ispecialize Hk $$ [H16]
  · iexists _; isplitr; swap
    · iexact H16
    ipureintro; exact ⟨((body0_bd1 _ _).trans (body0_bd0 _ _)), (body1_bd1 _ _)⟩
  ispecialize Hk $$ [H18]; · iexact H18
  ispecialize Hk $$ [H19]; · iexact H19
  iexact Hk

set_option maxHeartbeats 1000000 in
/-- The gate half of the current tile. -/
theorem part7 (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S3x512 .f32) (h11 : a11.IsWhole) (a12 : Memref sig .tc .vmem S3x512 .f32) (h12 : a12.IsWhole) (a13 : Memref sig .tc .vmem S1x512 .f32) (h13 : a13.IsWhole) (a14 : Memref sig .tc .vmem S1x512 .f32) (h14 : a14.IsWhole) (a15 : Memref sig .tc .vmem S512x2048 .f32) (h15 : a15.IsWhole) (a16 : Memref sig .tc .vmem S2x520x256 .f32) (h16 : a16.IsWhole) (a17 : Memref sig .tc .vmem S2x520x256 .f32) (h17 : a17.IsWhole) (a18 : Memref sig .tc .vmem S22x2x8x256 .f32) (h18 : a18.IsWhole) (a19 : Memref sig .tc .vmem S256x2048 .bf16) (h19 : a19.IsWhole)
    (v18 : BitVec 1) (v116 : BitVec 32) (v117 : Vec F S3x256 .f32) (v119 : FVec F S1x256 .f32) (x7 : Vec F S3x512 .f32) (x9 : Vec F S1x512 .f32) (u : Vec F S1x8x256 .f32) (w0 w1 : Vec F S1x512x256 .f32) (C : Carry F) (E : Set ℕ) (K : _ → sProp 𝕄)  :
    iprop(owns (c : Thread nD τ) a7 fullShare x7 ∗ owns (c : Thread nD τ) a9 fullShare x9 ∗ tileHd c a16 u w0 w1 ∗ owns (c : Thread nD τ) a18 fullShare C ∗ (∀ v161, owns (c : Thread nD τ) a7 fullShare x7 -∗ owns (c : Thread nD τ) a9 fullShare x9 -∗ tileAt c a16 w0 w1 -∗ owns (c : Thread nD τ) a18 fullShare (put C (k0_off3 i) S1x1x8x256.size (k0_pay37 (last w0))) -∗ K ⟨k0_pay38 v117 v119 (tap 6 (by decide) u w0) (tap 7 (by decide) u w0) (tap 8 (by decide) u w0), (window x7 ![0, 0] S3x256.size inb_S3x512_S3x256_0_0), k0_pay39 (window x9 ![0, 0] S1x256.size inb_S1x512_S1x256_0_0), k0_pay40 v18 (cget (put C (k0_off3 i) S1x1x8x256.size (k0_pay37 (last w0))) (k0_off4 i) (k0_off4_inb i)), v161⟩))
      ⊢ wp frame (wpE (defs₀ (F := F)) Variants.none c none) E (k0_part7 i a2 h2 a3 h3 a4 h4 a5 h5 a6 h6 a7 h7 a8 h8 a9 h9 a10 h10 a11 h11 a12 h12 a13 h13 a14 h14 a15 h15 a16 h16 a17 h17 a18 h18 a19 h19 v18 v116 v117 v119) K := by
  simp only [k0_part7_eq_skeleton]; unfold k0_part7_skel
  unfold tileAt
  unfold tileHd
  iintro ⟨H7, H9, ⟨%T16, %hT16, H16⟩, H18, Hk⟩
  obtain ⟨rfl, rfl⟩ := hT16
  iapply (Owns.load_eq Variants.none c E (window_last0 _ _ _)); isplitl [H16]; · iexact H16
  iintro H16
  iapply (Owns.load Variants.none c E _); isplitl [H18]; · iexact H18
  iintro H18
  iapply (Owns.store Variants.none c E _); isplitl [H18]; · iexact H18
  iintro H18
  iapply (Owns.load_eq Variants.none c E (window_hd0 _ _ 6 (by decide) _)); isplitl [H16]; · iexact H16
  iintro H16
  iapply (Owns.load_eq Variants.none c E (window_hd0 _ _ 7 (by decide) _)); isplitl [H16]; · iexact H16
  iintro H16
  iapply (Owns.load_eq Variants.none c E (window_hd0 _ _ 8 (by decide) _)); isplitl [H16]; · iexact H16
  iintro H16
  iapply (Owns.load Variants.none c E _); isplitl [H7]; · iexact H7
  iintro H7
  iapply (Owns.load Variants.none c E _); isplitl [H9]; · iexact H9
  iintro H9
  iapply (Owns.load Variants.none c E _); isplitl [H18]; · iexact H18
  iintro H18
  iapply (Owns.load Variants.none c E _); isplitl [H16]; · iexact H16
  iintro H16
  rw [wp_pure]
  iapply fupd_intro
  ispecialize Hk $$ %_
  ispecialize Hk $$ [H7]; · iexact H7
  ispecialize Hk $$ [H9]; · iexact H9
  ispecialize Hk $$ [H16]
  · iexists _; isplitr; swap
    · iexact H16
    ipureintro; exact ⟨(body0_hd0 _ _), (body1_hd0 _ _)⟩
  ispecialize Hk $$ [H18]; · iexact H18
  iexact Hk

set_option maxHeartbeats 1000000 in
/-- The value half of the current tile, and the first projection of the next. -/
theorem part8 (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S3x512 .f32) (h11 : a11.IsWhole) (a12 : Memref sig .tc .vmem S3x512 .f32) (h12 : a12.IsWhole) (a13 : Memref sig .tc .vmem S1x512 .f32) (h13 : a13.IsWhole) (a14 : Memref sig .tc .vmem S1x512 .f32) (h14 : a14.IsWhole) (a15 : Memref sig .tc .vmem S512x2048 .f32) (h15 : a15.IsWhole) (a16 : Memref sig .tc .vmem S2x520x256 .f32) (h16 : a16.IsWhole) (a17 : Memref sig .tc .vmem S2x520x256 .f32) (h17 : a17.IsWhole) (a18 : Memref sig .tc .vmem S22x2x8x256 .f32) (h18 : a18.IsWhole) (a19 : Memref sig .tc .vmem S256x2048 .bf16) (h19 : a19.IsWhole)
    (v19 : Vec F S512x2048 .bf16) (v116 : BitVec 32) (v152 : FVec F S512x256 .f32) (v153 : Vec F S3x256 .f32) (v155 : FVec F S1x256 .f32) (v160 : FVec F S8x256 .f32) (v161 : Vec F S1x8x256 .f32) (x4 : Vec F S2048x512 .bf16) (g0 g1 w0 w1 : Vec F S1x512x256 .f32) (C : Carry F) (E : Set ℕ) (K : _ → sProp 𝕄)  :
    iprop(owns (c : Thread nD τ) a4 fullShare x4 ∗ tileAt c a16 g0 g1 ∗ tileAt c a17 w0 w1 ∗ owns (c : Thread nD τ) a18 fullShare C ∗ (owns (c : Thread nD τ) a4 fullShare x4 -∗ tileAt c a16 g0 g1 -∗ tileAt c a17 (k0_pay44 v19 (window x4 ![0, 256] S2048x256.size inb_S2048x512_S2048x256_0_256)) w1 -∗ owns (c : Thread nD τ) a18 fullShare (put C (k0_off4 i) S1x1x8x256.size (k0_pay42 (last g1))) -∗ K (k0_pay43 v152 v153 v155 (tap 6 (by decide) (k0_pay41 v160) g1) (tap 7 (by decide) (k0_pay41 v160) g1) (tap 8 (by decide) (k0_pay41 v160) g1))))
      ⊢ wp frame (wpE (defs₀ (F := F)) Variants.none c none) E (k0_part8 i a2 h2 a3 h3 a4 h4 a5 h5 a6 h6 a7 h7 a8 h8 a9 h9 a10 h10 a11 h11 a12 h12 a13 h13 a14 h14 a15 h15 a16 h16 a17 h17 a18 h18 a19 h19 v19 v116 v152 v153 v155 v160 v161) K := by
  simp only [k0_part8_eq_skeleton]; unfold k0_part8_skel
  unfold tileAt
  iintro ⟨H4, ⟨%T16, %hT16, H16⟩, ⟨%T17, %hT17, H17⟩, H18, Hk⟩
  obtain ⟨rfl, rfl⟩ := hT16
  obtain ⟨rfl, rfl⟩ := hT17
  iapply (Owns.store Variants.none c E _); isplitl [H16]; · iexact H16
  iintro H16
  iapply (Owns.load_eq Variants.none c E (window_last1 _ _ _)); isplitl [H16]; · iexact H16
  iintro H16
  iapply (Owns.load Variants.none c E _); isplitl [H18]; · iexact H18
  iintro H18
  iapply (Owns.store Variants.none c E _); isplitl [H18]; · iexact H18
  iintro H18
  iapply (Owns.load_eq Variants.none c E (window_hd1 _ _ 6 (by decide) _)); isplitl [H16]; · iexact H16
  iintro H16
  iapply (Owns.load_eq Variants.none c E (window_hd1 _ _ 7 (by decide) _)); isplitl [H16]; · iexact H16
  iintro H16
  iapply (Owns.load_eq Variants.none c E (window_hd1 _ _ 8 (by decide) _)); isplitl [H16]; · iexact H16
  iintro H16
  iapply (Owns.load Variants.none c E _); isplitl [H4]; · iexact H4
  iintro H4
  iapply (Owns.load Variants.none c E _); isplitl [H17]; · iexact H17
  iintro H17
  iapply (Owns.store Variants.none c E _); isplitl [H17]; · iexact H17
  iintro H17
  rw [wp_pure]
  iapply fupd_intro
  ispecialize Hk $$ [H4]; · iexact H4
  ispecialize Hk $$ [H16]
  · iexists _; isplitr; swap
    · iexact H16
    ipureintro; exact ⟨(body0_hd1 _ _), (body1_hd1 _ _)⟩
  ispecialize Hk $$ [H17]
  · iexists _; isplitr; swap
    · iexact H17
    ipureintro; exact ⟨(body0_bd0 _ _), (body1_bd0 _ _)⟩
  ispecialize Hk $$ [H18]; · iexact H18
  iexact Hk

set_option maxHeartbeats 1000000 in
/-- The opening of a point. -/
theorem part3 (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S3x512 .f32) (h11 : a11.IsWhole) (a12 : Memref sig .tc .vmem S3x512 .f32) (h12 : a12.IsWhole) (a13 : Memref sig .tc .vmem S1x512 .f32) (h13 : a13.IsWhole) (a14 : Memref sig .tc .vmem S1x512 .f32) (h14 : a14.IsWhole) (a15 : Memref sig .tc .vmem S512x2048 .f32) (h15 : a15.IsWhole) (a16 : Memref sig .tc .vmem S2x520x256 .f32) (h16 : a16.IsWhole) (a17 : Memref sig .tc .vmem S2x520x256 .f32) (h17 : a17.IsWhole) (a18 : Memref sig .tc .vmem S22x2x8x256 .f32) (h18 : a18.IsWhole) (a19 : Memref sig .tc .vmem S256x2048 .bf16) (h19 : a19.IsWhole)
    (x2 : Vec F S512x2048 .bf16) (x3 : Vec F S512x2048 .f32) (x11 : Vec F S3x512 .f32) (x13 : Vec F S1x512 .f32) (o : Vec F S512x2048 .f32) (w0 w1 : Vec F S1x512x256 .f32) (C : Carry F) (D : Vec F S256x2048 .bf16) (E : Set ℕ) (K : _ → sProp 𝕄)  :
    iprop(owns (c : Thread nD τ) a2 fullShare x2 ∗ owns (c : Thread nD τ) a3 fullShare x3 ∗ owns (c : Thread nD τ) a11 fullShare x11 ∗ owns (c : Thread nD τ) a13 fullShare x13 ∗ owns (c : Thread nD τ) a15 fullShare o ∗ tileAt c a17 w0 w1 ∗ owns (c : Thread nD τ) a18 fullShare C ∗ owns (c : Thread nD τ) a19 fullShare D ∗ (owns (c : Thread nD τ) a2 fullShare x2 -∗ owns (c : Thread nD τ) a3 fullShare x3 -∗ owns (c : Thread nD τ) a11 fullShare x11 -∗ owns (c : Thread nD τ) a13 fullShare x13 -∗ owns (c : Thread nD τ) a15 fullShare (if opens i then x3 else o) -∗ tileAt c a17 (if start i then (body0 (k0_pay21 (F := F))) else w0) (if start i then (body1 (k0_pay21 (F := F))) else w1) -∗ owns (c : Thread nD τ) a18 fullShare (if start i then (k0_pay20 (F := F)) else C) -∗ owns (c : Thread nD τ) a19 fullShare (if start i then (k0_pay22 (F := F)) else D) -∗ K ⟨BitVec.ofNat 32 (i 1).val, first i, x2, prevTile i, k0_pay23 (F := F) i, (window x11 ![0, 256] S3x256.size inb_S3x512_S3x256_0_256), (k0_pay24 (window x13 ![0, 256] S1x256.size inb_S1x512_S1x256_0_256))⟩))
      ⊢ wp frame (wpE (defs₀ (F := F)) Variants.none c none) E (k0_part3 i a2 h2 a3 h3 a4 h4 a5 h5 a6 h6 a7 h7 a8 h8 a9 h9 a10 h10 a11 h11 a12 h12 a13 h13 a14 h14 a15 h15 a16 h16 a17 h17 a18 h18 a19 h19) K := by
  simp only [k0_part3_eq_skeleton]; unfold k0_part3_skel tileAt first prevTile
  iintro ⟨H2, H3, H11, H13, H15, ⟨%T17, %hT17, H17⟩, H18, H19, Hk⟩
  obtain ⟨rfl, rfl⟩ := hT17
  by_cases hs : start i
  · simp only [if_pos hs]
    unfold start at hs
    rw [dif_pos hs]
    iapply (Owns.load Variants.none c E _); isplitl [H18]; · iexact H18
    iintro H18
    iapply (Owns.store_eq Variants.none c E (Owns.put_full _ z4 _)); isplitl [H18]; · iexact H18
    iintro H18
    iapply (Owns.load Variants.none c E _); isplitl [H17]; · iexact H17
    iintro H17
    iapply (Owns.store_eq Variants.none c E (Owns.put_full _ z3 _)); isplitl [H17]; · iexact H17
    iintro H17
    iapply (Owns.load Variants.none c E _); isplitl [H19]; · iexact H19
    iintro H19
    iapply (Owns.store_eq Variants.none c E (Owns.put_full _ z2 _)); isplitl [H19]; · iexact H19
    iintro H19
    by_cases ho : opens i
    · simp only [if_pos ho]
      unfold opens at ho
      rw [dif_pos ho]
      iapply (Owns.load_eq Variants.none c E (Owns.window_full _ z2 _)); isplitl [H3]; · iexact H3
      iintro H3
      iapply (Owns.load Variants.none c E _); isplitl [H15]; · iexact H15
      iintro H15
      iapply (Owns.store_eq Variants.none c E (Owns.put_full _ z2 _)); isplitl [H15]; · iexact H15
      iintro H15
      iapply (Owns.load_eq Variants.none c E (Owns.window_full _ z2 _)); isplitl [H2]; · iexact H2
      iintro H2
      iapply (Owns.load Variants.none c E _); isplitl [H11]; · iexact H11
      iintro H11
      iapply (Owns.load Variants.none c E _); isplitl [H13]; · iexact H13
      iintro H13
      rw [wp_pure]
      iapply fupd_intro
      ispecialize Hk $$ [H2]; · iexact H2
      ispecialize Hk $$ [H3]; · iexact H3
      ispecialize Hk $$ [H11]; · iexact H11
      ispecialize Hk $$ [H13]; · iexact H13
      ispecialize Hk $$ [H15]; · iexact H15
      ispecialize Hk $$ [H17]
      · iexists _; isplitr; swap
        · iexact H17
        ipureintro; exact ⟨rfl, rfl⟩
      ispecialize Hk $$ [H18]; · iexact H18
      ispecialize Hk $$ [H19]; · iexact H19
      iexact Hk
    · simp only [if_neg ho]
      unfold opens at ho
      rw [dif_neg ho]
      iapply (Owns.load_eq Variants.none c E (Owns.window_full _ z2 _)); isplitl [H2]; · iexact H2
      iintro H2
      iapply (Owns.load Variants.none c E _); isplitl [H11]; · iexact H11
      iintro H11
      iapply (Owns.load Variants.none c E _); isplitl [H13]; · iexact H13
      iintro H13
      rw [wp_pure]
      iapply fupd_intro
      ispecialize Hk $$ [H2]; · iexact H2
      ispecialize Hk $$ [H3]; · iexact H3
      ispecialize Hk $$ [H11]; · iexact H11
      ispecialize Hk $$ [H13]; · iexact H13
      ispecialize Hk $$ [H15]; · iexact H15
      ispecialize Hk $$ [H17]
      · iexists _; isplitr; swap
        · iexact H17
        ipureintro; exact ⟨rfl, rfl⟩
      ispecialize Hk $$ [H18]; · iexact H18
      ispecialize Hk $$ [H19]; · iexact H19
      iexact Hk
  · simp only [if_neg hs]
    unfold start at hs
    rw [dif_neg hs]
    by_cases ho : opens i
    · simp only [if_pos ho]
      unfold opens at ho
      rw [dif_pos ho]
      iapply (Owns.load_eq Variants.none c E (Owns.window_full _ z2 _)); isplitl [H3]; · iexact H3
      iintro H3
      iapply (Owns.load Variants.none c E _); isplitl [H15]; · iexact H15
      iintro H15
      iapply (Owns.store_eq Variants.none c E (Owns.put_full _ z2 _)); isplitl [H15]; · iexact H15
      iintro H15
      iapply (Owns.load_eq Variants.none c E (Owns.window_full _ z2 _)); isplitl [H2]; · iexact H2
      iintro H2
      iapply (Owns.load Variants.none c E _); isplitl [H11]; · iexact H11
      iintro H11
      iapply (Owns.load Variants.none c E _); isplitl [H13]; · iexact H13
      iintro H13
      rw [wp_pure]
      iapply fupd_intro
      ispecialize Hk $$ [H2]; · iexact H2
      ispecialize Hk $$ [H3]; · iexact H3
      ispecialize Hk $$ [H11]; · iexact H11
      ispecialize Hk $$ [H13]; · iexact H13
      ispecialize Hk $$ [H15]; · iexact H15
      ispecialize Hk $$ [H17]
      · iexists _; isplitr; swap
        · iexact H17
        ipureintro; exact ⟨rfl, rfl⟩
      ispecialize Hk $$ [H18]; · iexact H18
      ispecialize Hk $$ [H19]; · iexact H19
      iexact Hk
    · simp only [if_neg ho]
      unfold opens at ho
      rw [dif_neg ho]
      iapply (Owns.load_eq Variants.none c E (Owns.window_full _ z2 _)); isplitl [H2]; · iexact H2
      iintro H2
      iapply (Owns.load Variants.none c E _); isplitl [H11]; · iexact H11
      iintro H11
      iapply (Owns.load Variants.none c E _); isplitl [H13]; · iexact H13
      iintro H13
      rw [wp_pure]
      iapply fupd_intro
      ispecialize Hk $$ [H2]; · iexact H2
      ispecialize Hk $$ [H3]; · iexact H3
      ispecialize Hk $$ [H11]; · iexact H11
      ispecialize Hk $$ [H13]; · iexact H13
      ispecialize Hk $$ [H15]; · iexact H15
      ispecialize Hk $$ [H17]
      · iexists _; isplitr; swap
        · iexact H17
        ipureintro; exact ⟨rfl, rfl⟩
      ispecialize Hk $$ [H18]; · iexact H18
      ispecialize Hk $$ [H19]; · iexact H19
      iexact Hk

/-! ## A point as a step of the state -/

/-- What is carried from point to point: the two halves of the staged tile, the carried rows, the staged rows of the
    down projection, and the block of the result. -/
structure St (F : FTy → Type) [FloatOps F] where
  w0 : Vec F S1x512x256 .f32
  w1 : Vec F S1x512x256 .f32
  C : Carry F
  D : Vec F S256x2048 .bf16
  o : Vec F S512x2048 .f32

/-- The blocks a point reads. -/
structure Blk (F : FTy → Type) [FloatOps F] where
  x2 : Vec F S512x2048 .bf16
  x3 : Vec F S512x2048 .f32
  x4 : Vec F S2048x512 .bf16
  x5 : Vec F S2048x512 .bf16
  x6 : Vec F S3x512 .f32
  x7 : Vec F S3x512 .f32
  x8 : Vec F S1x512 .f32
  x9 : Vec F S1x512 .f32
  x10 : Vec F S512x2048 .bf16
  x11 : Vec F S3x512 .f32
  x12 : Vec F S3x512 .f32
  x13 : Vec F S1x512 .f32
  x14 : Vec F S1x512 .f32

section Step

variable (i : grid0.Coords) (b : Blk F) (s : St F)

/-- The state as a point takes it up. -/
def begin : St F where
  w0 := if start i then body0 (k0_pay21 (F := F)) else s.w0
  w1 := if start i then body1 (k0_pay21 (F := F)) else s.w1
  C := if start i then k0_pay20 (F := F) else s.C
  D := if start i then k0_pay22 (F := F) else s.D
  o := if opens i then b.x3 else s.o

/-- The gate and the value of the delayed half tile, -/
def C1 : Carry F := put s.C (k0_off1 i) S1x1x8x256.size (k0_pay26 (last s.w0))
def C2 : Carry F := put (C1 i s) (k0_off2 i) S1x1x8x256.size (k0_pay29 (last s.w1))
def v61 : FVec F S512x256 .f32 := k0_pay27 (window b.x11 ![0, 256] S3x256.size inb_S3x512_S3x256_0_256) (k0_pay24 (window b.x13 ![0, 256] S1x256.size inb_S1x512_S1x256_0_256)) (tap 6 (by decide) (k0_pay25 (first i) (cget s.C (k0_off1 i) (k0_off1_inb i))) s.w0) (tap 7 (by decide) (k0_pay25 (first i) (cget s.C (k0_off1 i) (k0_off1_inb i))) s.w0) (tap 8 (by decide) (k0_pay25 (first i) (cget s.C (k0_off1 i) (k0_off1_inb i))) s.w0)
def v97 : FVec F S512x256 .f32 := k0_pay30 (window b.x12 ![0, 256] S3x256.size inb_S3x512_S3x256_0_256) (window b.x14 ![0, 256] S1x256.size inb_S1x512_S1x256_0_256) (tap 6 (by decide) (k0_pay28 (first i) (cget (C1 i s) (k0_off2 i) (k0_off2_inb i))) s.w1) (tap 7 (by decide) (k0_pay28 (first i) (cget (C1 i s) (k0_off2 i) (k0_off2_inb i))) s.w1) (tap 8 (by decide) (k0_pay28 (first i) (cget (C1 i s) (k0_off2 i) (k0_off2_inb i))) s.w1)
/-- its contribution; -/
def v115 : FVec F S512x2048 .f32 := k0_pay34 (k0_pay23 (F := F) i) (v61 i b s) (v97 i b s) (k0_pay31 (v61 i b s)) s.D
/-- the projection of the current half tile, -/
def n0 : Vec F S1x512x256 .f32 := k0_pay32 b.x2 (window b.x4 ![0, 0] S2048x256.size inb_S2048x512_S2048x256_0_0)
def n1 : Vec F S1x512x256 .f32 := k0_pay33 b.x2 (window b.x5 ![0, 0] S2048x256.size inb_S2048x512_S2048x256_0_0)
def C3 : Carry F := put (C2 i s) (k0_off3 i) S1x1x8x256.size (k0_pay37 (last (n0 b)))
def C4 : Carry F := put (C3 i b s) (k0_off4 i) S1x1x8x256.size (k0_pay42 (last (n1 b)))
/-- its gate and its activation; -/
def v152 : FVec F S512x256 .f32 := k0_pay38 (window b.x6 ![0, 0] S3x256.size inb_S3x512_S3x256_0_0) (k0_pay35 (window b.x8 ![0, 0] S1x256.size inb_S1x512_S1x256_0_0)) (tap 6 (by decide) (k0_pay36 (first i) (cget (C2 i s) (k0_off3 i) (k0_off3_inb i))) (n0 b)) (tap 7 (by decide) (k0_pay36 (first i) (cget (C2 i s) (k0_off3 i) (k0_off3_inb i))) (n0 b)) (tap 8 (by decide) (k0_pay36 (first i) (cget (C2 i s) (k0_off3 i) (k0_off3_inb i))) (n0 b))
def v192 : FVec F S512x256 .bf16 := k0_pay43 (v152 i b s) (window b.x7 ![0, 0] S3x256.size inb_S3x512_S3x256_0_0) (k0_pay39 (window b.x9 ![0, 0] S1x256.size inb_S1x512_S1x256_0_0)) (tap 6 (by decide) (k0_pay41 (k0_pay40 (first i) (cget (C3 i b s) (k0_off4 i) (k0_off4_inb i)))) (n1 b)) (tap 7 (by decide) (k0_pay41 (k0_pay40 (first i) (cget (C3 i b s) (k0_off4 i) (k0_off4_inb i)))) (n1 b)) (tap 8 (by decide) (k0_pay41 (k0_pay40 (first i) (cget (C3 i b s) (k0_off4 i) (k0_off4_inb i)))) (n1 b))
/-- the projection of the half tile staged for the next point, -/
def m0 : Vec F S1x512x256 .f32 := k0_pay44 b.x2 (window b.x4 ![0, 256] S2048x256.size inb_S2048x512_S2048x256_0_256)
def m1 : Vec F S1x512x256 .f32 := k0_pay1 b.x2 (window b.x5 ![0, 256] S2048x256.size inb_S2048x512_S2048x256_0_256)
/-- the result's block, -/
def o1 : Vec F S512x2048 .f32 := k0_pay2 (v115 i b s) (v192 i b s) s.o (window b.x10 ![0, 0] S256x2048.size inb_S512x2048_S256x2048_0_0)
def D1 : Vec F S256x2048 .bf16 := k0_pay3 (window b.x10 ![256, 0] S256x2048.size inb_S512x2048_S256x2048_256_0)
/-- and, at the last point of a row block, the last half tile. -/
def C5 (k0_h3 : k0_cond3 i = 1#1) : Carry F := put (C4 i b s) (k0_off5 i) S1x1x8x256.size (k0_pay7 (last (m0 b)))
def C6 (k0_h3 : k0_cond3 i = 1#1) : Carry F := put (C5 i b s k0_h3) (k0_off6 i) S1x1x8x256.size (k0_pay15 (last (m1 b)))
def v254 (k0_h3 : k0_cond3 i = 1#1) : FVec F S512x256 .f32 := k0_pay12 (window b.x6 ![0, 256] S3x256.size inb_S3x512_S3x256_0_256) (k0_pay5 (window b.x8 ![0, 256] S1x256.size inb_S1x512_S1x256_0_256)) (k0_pay8 (tap 7 (by decide) (k0_pay6 (first i) (cget (C4 i b s) (k0_off5 i) (k0_off5_inb i k0_h3))) (m0 b))) (k0_pay9 (tap 8 (by decide) (k0_pay6 (first i) (cget (C4 i b s) (k0_off5 i) (k0_off5_inb i k0_h3))) (m0 b))) (k0_pay10 (window b.x6 ![0, 256] S3x256.size inb_S3x512_S3x256_0_256) (tap 6 (by decide) (k0_pay6 (first i) (cget (C4 i b s) (k0_off5 i) (k0_off5_inb i k0_h3))) (m0 b))) (k0_pay11 (window b.x6 ![0, 256] S3x256.size inb_S3x512_S3x256_0_256))
def o2 (k0_h3 : k0_cond3 i = 1#1) : Vec F S512x2048 .f32 := k0_pay4 (v254 i b s k0_h3) (window b.x7 ![0, 256] S3x256.size inb_S3x512_S3x256_0_256) (k0_pay13 (window b.x9 ![0, 256] S1x256.size inb_S1x512_S1x256_0_256)) (k0_pay16 (tap 6 (by decide) (k0_pay14 (first i) (cget (C5 i b s k0_h3) (k0_off6 i) (k0_off6_inb i k0_h3))) (m1 b))) (k0_pay17 (tap 7 (by decide) (k0_pay14 (first i) (cget (C5 i b s k0_h3) (k0_off6 i) (k0_off6_inb i k0_h3))) (m1 b))) (k0_pay18 (tap 8 (by decide) (k0_pay14 (first i) (cget (C5 i b s k0_h3) (k0_off6 i) (k0_off6_inb i k0_h3))) (m1 b))) (k0_pay19 (window b.x7 ![0, 256] S3x256.size inb_S3x512_S3x256_0_256)) (o1 i b s) (window b.x10 ![256, 0] S256x2048.size inb_S512x2048_S256x2048_256_0)

/-- The state a point leaves, from the state as it takes it up, -/
def work : St F where
  w0 := m0 b
  w1 := m1 b
  C := if k0_h3 : k0_cond3 i = 1#1 then C6 i b s k0_h3 else C4 i b s
  D := D1 b
  o := if k0_h3 : k0_cond3 i = 1#1 then o2 i b s k0_h3 else o1 i b s
/-- and from the state before it. -/
def step : St F := work i b (begin i b s)

end Step

set_option maxHeartbeats 2000000 in
/-- The body at any point. -/
theorem run (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S3x512 .f32) (h11 : a11.IsWhole) (a12 : Memref sig .tc .vmem S3x512 .f32) (h12 : a12.IsWhole) (a13 : Memref sig .tc .vmem S1x512 .f32) (h13 : a13.IsWhole) (a14 : Memref sig .tc .vmem S1x512 .f32) (h14 : a14.IsWhole) (a15 : Memref sig .tc .vmem S512x2048 .f32) (h15 : a15.IsWhole) (a16 : Memref sig .tc .vmem S2x520x256 .f32) (h16 : a16.IsWhole) (a17 : Memref sig .tc .vmem S2x520x256 .f32) (h17 : a17.IsWhole) (a18 : Memref sig .tc .vmem S22x2x8x256 .f32) (h18 : a18.IsWhole) (a19 : Memref sig .tc .vmem S256x2048 .bf16) (h19 : a19.IsWhole)
    (b : Blk F) (s : St F) (E : Set ℕ) (K : _ → sProp 𝕄) :
    iprop(owns (c : Thread nD τ) a2 fullShare b.x2 ∗ owns (c : Thread nD τ) a3 fullShare b.x3 ∗ owns (c : Thread nD τ) a4 fullShare b.x4 ∗ owns (c : Thread nD τ) a5 fullShare b.x5 ∗ owns (c : Thread nD τ) a6 fullShare b.x6 ∗ owns (c : Thread nD τ) a7 fullShare b.x7 ∗ owns (c : Thread nD τ) a8 fullShare b.x8 ∗ owns (c : Thread nD τ) a9 fullShare b.x9 ∗ owns (c : Thread nD τ) a10 fullShare b.x10 ∗ owns (c : Thread nD τ) a11 fullShare b.x11 ∗ owns (c : Thread nD τ) a12 fullShare b.x12 ∗ owns (c : Thread nD τ) a13 fullShare b.x13 ∗ owns (c : Thread nD τ) a14 fullShare b.x14 ∗ owns (c : Thread nD τ) a15 fullShare s.o ∗ (∃ g0 g1, tileAt c a16 g0 g1) ∗ tileAt c a17 s.w0 s.w1 ∗ owns (c : Thread nD τ) a18 fullShare s.C ∗ owns (c : Thread nD τ) a19 fullShare s.D ∗ ((owns (c : Thread nD τ) a2 fullShare b.x2 ∗ owns (c : Thread nD τ) a3 fullShare b.x3 ∗ owns (c : Thread nD τ) a4 fullShare b.x4 ∗ owns (c : Thread nD τ) a5 fullShare b.x5 ∗ owns (c : Thread nD τ) a6 fullShare b.x6 ∗ owns (c : Thread nD τ) a7 fullShare b.x7 ∗ owns (c : Thread nD τ) a8 fullShare b.x8 ∗ owns (c : Thread nD τ) a9 fullShare b.x9 ∗ owns (c : Thread nD τ) a10 fullShare b.x10 ∗ owns (c : Thread nD τ) a11 fullShare b.x11 ∗ owns (c : Thread nD τ) a12 fullShare b.x12 ∗ owns (c : Thread nD τ) a13 fullShare b.x13 ∗ owns (c : Thread nD τ) a14 fullShare b.x14 ∗ owns (c : Thread nD τ) a15 fullShare (step i b s).o ∗ (∃ g0 g1, tileAt c a16 g0 g1) ∗ tileAt c a17 (step i b s).w0 (step i b s).w1 ∗ owns (c : Thread nD τ) a18 fullShare (step i b s).C ∗ owns (c : Thread nD τ) a19 fullShare (step i b s).D) -∗ K ⟨⟩))
      ⊢ wp frame (wpE (defs₀ (F := F)) Variants.none c none) E (cc0_ffn i a2 h2 a3 h3 a4 h4 a5 h5 a6 h6 a7 h7 a8 h8 a9 h9 a10 h10 a11 h11 a12 h12 a13 h13 a14 h14 a15 h15 a16 h16 a17 h17 a18 h18 a19 h19) K := by
  simp only [cc0_ffn_eq_skeleton]; unfold cc0_ffn_skel
  iintro ⟨H2, H3, H4, H5, H6, H7, H8, H9, H10, H11, H12, H13, H14, H15, ⟨%g0, %g1, H16⟩, H17, H18, H19, Hk⟩
  try rw [wp_bind]
  iapply (part3 c i _ _ _ _ _ _ _ _ _ _ _ _ _ _ _ _ _ _ _ _ _ _ _ _ _ _ _ _ _ _ _ _ _ _ _ _ _ _ _ _ _ _ _ _ _ E _)
  isplitl [H2]; · iexact H2
  isplitl [H3]; · iexact H3
  isplitl [H11]; · iexact H11
  isplitl [H13]; · iexact H13
  isplitl [H15]; · iexact H15
  isplitl [H17]; · iexact H17
  isplitl [H18]; · iexact H18
  isplitl [H19]; · iexact H19
  iintro H2 H3 H11 H13 H15 H17 H18 H19
  try dsimp only
  try rw [wp_bind]
  iapply (part4 c i _ _ _ _ _ _ _ _ _ _ _ _ _ _ _ _ _ _ _ _ _ _ _ _ _ _ _ _ _ _ _ _ _ _ _ _ _ _ _ _ _ _ _ _ E _)
  isplitl [H12]; · iexact H12
  isplitl [H17]; · iexact H17
  isplitl [H18]; · iexact H18
  iintro H12 H17 H18
  try dsimp only
  try rw [wp_bind]
  iapply (part5 c i _ _ _ _ _ _ _ _ _ _ _ _ _ _ _ _ _ _ _ _ _ _ _ _ _ _ _ _ _ _ _ _ _ _ _ _ _ _ _ _ _ _ _ _ E _)
  isplitl [H14]; · iexact H14
  isplitl [H17]; · iexact H17
  isplitl [H18]; · iexact H18
  iintro H14 H17 H18
  try dsimp only
  try rw [wp_bind]
  iapply (part6 c i _ _ _ _ _ _ _ _ _ _ _ _ _ _ _ _ _ _ _ _ _ _ _ _ _ _ _ _ _ _ _ _ _ _ _ _ _ _ _ _ _ _ _ _ _ _ _ _ _ _ _ E _)
  isplitl [H4]; · iexact H4
  isplitl [H5]; · iexact H5
  isplitl [H6]; · iexact H6
  isplitl [H8]; · iexact H8
  isplitl [H16]; · iexact H16
  isplitl [H18]; · iexact H18
  isplitl [H19]; · iexact H19
  iintro H4 H5 H6 H8 H16 H18 H19
  try dsimp only
  try rw [wp_bind]
  iapply (part7 c i _ _ _ _ _ _ _ _ _ _ _ _ _ _ _ _ _ _ _ _ _ _ _ _ _ _ _ _ _ _ _ _ _ _ _ _ _ _ _ _ _ _ _ _ _ _ E _)
  isplitl [H7]; · iexact H7
  isplitl [H9]; · iexact H9
  isplitl [H16]; · iexact H16
  isplitl [H18]; · iexact H18
  iintro %v161 H7 H9 H16 H18
  try dsimp only
  try rw [wp_bind]
  iapply (part8 c i _ _ _ _ _ _ _ _ _ _ _ _ _ _ _ _ _ _ _ _ _ _ _ _ _ _ _ _ _ _ _ _ _ _ _ _ _ _ _ _ _ _ _ _ _ _ _ _ _ E _)
  isplitl [H4]; · iexact H4
  isplitl [H16]; · iexact H16
  isplitl [H17]; · iexact H17
  isplitl [H18]; · iexact H18
  iintro H4 H16 H17 H18
  try dsimp only
  iapply (Owns.load Variants.none c E _); isplitl [H5]; · iexact H5
  iintro H5
  unfold tileAt
  icases H17 with ⟨%T17, %hT17, H17⟩
  obtain ⟨e17, f17⟩ := hT17
  iapply (Owns.load Variants.none c E _); isplitl [H17]; · iexact H17
  iintro H17
  iapply (Owns.store Variants.none c E _); isplitl [H17]; · iexact H17
  iintro H17
  iapply (Owns.load_eq Variants.none c E (Owns.window_full _ z2 _)); isplitl [H15]; · iexact H15
  iintro H15
  iapply (Owns.load Variants.none c E _); isplitl [H10]; · iexact H10
  iintro H10
  iapply (Owns.load Variants.none c E _); isplitl [H15]; · iexact H15
  iintro H15
  iapply (Owns.store_eq Variants.none c E (Owns.put_full _ z2 _)); isplitl [H15]; · iexact H15
  iintro H15
  iapply (Owns.load Variants.none c E _); isplitl [H10]; · iexact H10
  iintro H10
  iapply (Owns.load Variants.none c E _); isplitl [H19]; · iexact H19
  iintro H19
  iapply (Owns.store_eq Variants.none c E (Owns.put_full _ z2 _)); isplitl [H19]; · iexact H19
  iintro H19
  by_cases h : k0_cond3 i = 1#1
  · rw [dif_pos h]
    ihave H17 : (tileAt c a17 (m0 b) (m1 b)) $$ [H17]
    · unfold tileAt
      iexists _; isplitr; swap
      · iexact H17
      ipureintro; exact ⟨(body0_bd1 _ _).trans e17, body1_bd1 _ _⟩
    try rw [wp_bind]
    iapply (part1 c i _ _ _ _ _ _ _ _ _ _ _ _ _ _ _ _ _ _ _ _ _ _ _ _ _ _ _ _ _ _ _ _ _ _ _ _ _ _ _ _ _ _ _ _ E _)
    isplitl [H6]; · iexact H6
    isplitl [H8]; · iexact H8
    isplitl [H17]; · iexact H17
    isplitl [H18]; · iexact H18
    iintro H6 H8 H17 H18
    try dsimp only
    try rw [wp_bind]
    iapply (part2 c i _ _ _ _ _ _ _ _ _ _ _ _ _ _ _ _ _ _ _ _ _ _ _ _ _ _ _ _ _ _ _ _ _ _ _ _ _ _ _ _ _ _ _ _ _ _ _ _ _ _ E _)
    isplitl [H7]; · iexact H7
    isplitl [H9]; · iexact H9
    isplitl [H17]; · iexact H17
    isplitl [H18]; · iexact H18
    iintro H7 H9 H17 H18
    try dsimp only
    iapply (Owns.load_eq Variants.none c E (Owns.window_full _ z2 _)); isplitl [H15]; · iexact H15
    iintro H15
    iapply (Owns.load Variants.none c E _); isplitl [H10]; · iexact H10
    iintro H10
    iapply (Owns.load Variants.none c E _); isplitl [H15]; · iexact H15
    iintro H15
    iapply (Owns.store_eq Variants.none c E (Owns.put_full _ z2 _)); isplitl [H15]; · iexact H15
    iintro H15
    have hst : (step i b s) = ⟨m0 b, m1 b, C6 i b (begin i b s) h, D1 b, o2 i b (begin i b s) h⟩ := by
      unfold step work; simp only [dif_pos h]
    rw [hst]
    rw [wp_pure]
    iapply fupd_intro
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _, _; iexact H16
    isplitl [H17]
    · unfold tileAt; iexact H17
    isplitl [H18]; · iexact H18
    iexact H19
  · rw [dif_neg h]
    have hst : (step i b s) = ⟨m0 b, m1 b, C4 i b (begin i b s), D1 b, o1 i b (begin i b s)⟩ := by
      unfold step work; simp only [dif_neg h]
    rw [hst]
    rw [wp_pure]
    iapply fupd_intro
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _, _; iexact H16
    isplitl [H17]
    · iexists _; isplitr; swap
      · iexact H17
      ipureintro; exact ⟨(body0_bd1 _ _).trans e17, body1_bd1 _ _⟩
    isplitl [H18]; · iexact H18
    iexact H19

end Cert.FfnIdeal.Body

end
-- ==== Proof.FfnFrame.lean ====
module

public import proofs.«01_k».proof.Proof.FfnBody
public import Idealize.ShloMosaic.Lib.Claim

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hstart : ∀ t : Fin cfg0.N, start (grid0.coords t) ↔ t.val = 0 :=
  (by decide +kernel : ∀ t : Fin grid0.N, start (grid0.coords t) ↔ t.val = 0)
theorem hopens : ∀ t : Fin cfg0.N, opens (grid0.coords t) ↔ t.val % 11 = 0 :=
  (by decide +kernel : ∀ t : Fin grid0.N, opens (grid0.coords t) ↔ t.val % 11 = 0)

/-- The blocks of a point. -/
def blkAt (c : Dev nD) (t : Fin cfg0.N) : Blk F where
  x2 := iblk m c 0 t
  x3 := iblk m c 1 t
  x4 := iblk m c 2 t
  x5 := iblk m c 3 t
  x6 := iblk m c 4 t
  x7 := iblk m c 5 t
  x8 := iblk m c 6 t
  x9 := iblk m c 7 t
  x10 := iblk m c 8 t
  x11 := iblk m c 9 t
  x12 := iblk m c 10 t
  x13 := iblk m c 11 t
  x14 := iblk m c 12 t

/-- The state before point `n`. -/
def stN (c : Dev nD) : ℕ → St F
  | 0 => ⟨body0 (k0_pay21 (F := F)), body1 (k0_pay21 (F := F)), k0_pay20 (F := F), k0_pay22 (F := F), iblk m c 1 ⟨0, by rw [show cfg0.N = 352 from N_0]; decide⟩⟩
  | n + 1 => if h : n < cfg0.N then step (grid0.coords ⟨n, h⟩) (blkAt m c ⟨n, h⟩) (stN c n) else stN c n

theorem stN_succ (c : Dev nD) (t : Fin cfg0.N) : stN m c (t.val + 1) = step (grid0.coords t) (blkAt m c t) (stN m c t.val) := by
  rw [stN, dif_pos t.isLt]

/-- A point that starts the grid or a row block does not look at what it overwrites. -/
theorem step_start (i : grid0.Coords) (b : Blk F) (s s' : St F) (h : start i) (h' : opens i) : step i b s = step i b s' := by
  unfold step; refine congrArg _ ?_; unfold begin; simp only [if_pos h, if_pos h']
theorem step_opens (i : grid0.Coords) (b : Blk F) (s : St F) (d) (h' : opens i) : step i b { s with o := d } = step i b s := by
  unfold step; refine congrArg _ ?_; unfold begin; simp only [if_pos h']

/-- What the scratch holds before a point. -/
def scr (c : Dev nD) (n : Fin (cfg0.N + 1)) (s : St F) : Prop := n.val ≠ 0 → s = stN m c n.val

abbrev ms0_0 (t : Fin cfg0.N) : Memref sig .tc .vmem S512x2048 .bf16 := win0_0.stage (cfg0.slots t 0)
abbrev ms0_1 (t : Fin cfg0.N) : Memref sig .tc .vmem S512x2048 .f32 := win0_1.stage (cfg0.slots t 1)
abbrev ms0_2 (t : Fin cfg0.N) : Memref sig .tc .vmem S2048x512 .bf16 := win0_2.stage (cfg0.slots t 2)
abbrev ms0_3 (t : Fin cfg0.N) : Memref sig .tc .vmem S2048x512 .bf16 := win0_3.stage (cfg0.slots t 3)
abbrev ms0_4 (t : Fin cfg0.N) : Memref sig .tc .vmem S3x512 .f32 := win0_4.stage (cfg0.slots t 4)
abbrev ms0_5 (t : Fin cfg0.N) : Memref sig .tc .vmem S3x512 .f32 := win0_5.stage (cfg0.slots t 5)
abbrev ms0_6 (t : Fin cfg0.N) : Memref sig .tc .vmem S1x512 .f32 := win0_6.stage (cfg0.slots t 6)
abbrev ms0_7 (t : Fin cfg0.N) : Memref sig .tc .vmem S1x512 .f32 := win0_7.stage (cfg0.slots t 7)
abbrev ms0_8 (t : Fin cfg0.N) : Memref sig .tc .vmem S512x2048 .bf16 := win0_8.stage (cfg0.slots t 8)
abbrev ms0_9 (t : Fin cfg0.N) : Memref sig .tc .vmem S3x512 .f32 := win0_9.stage (cfg0.slots t 9)
abbrev ms0_10 (t : Fin cfg0.N) : Memref sig .tc .vmem S3x512 .f32 := win0_10.stage (cfg0.slots t 10)
abbrev ms0_11 (t : Fin cfg0.N) : Memref sig .tc .vmem S1x512 .f32 := win0_11.stage (cfg0.slots t 11)
abbrev ms0_12 (t : Fin cfg0.N) : Memref sig .tc .vmem S1x512 .f32 := win0_12.stage (cfg0.slots t 12)
abbrev ms0_13 (t : Fin cfg0.N) : Memref sig .tc .vmem S512x2048 .f32 := win0_13.stage (cfg0.slots t 13)
abbrev sc0 : Memref sig .tc .vmem S2x520x256 .f32 := Memref.whole cc0_scratch0
abbrev sc1 : Memref sig .tc .vmem S2x520x256 .f32 := Memref.whole cc0_scratch1
abbrev sc2 : Memref sig .tc .vmem S22x2x8x256 .f32 := Memref.whole cc0_scratch2
abbrev sc3 : Memref sig .tc .vmem S256x2048 .bf16 := Memref.whole cc0_scratch3

theorem PhiA0_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What is carried in the scratch from point to point. -/
def kept (c : Dev nD) (n : Fin (cfg0.N + 1)) : sProp 𝕄 :=
  iprop((∃ g0 g1, tileAt c sc0 g0 g1) ∗ (∃ s, ⌜scr m c n s⌝ ∗ tileAt c sc1 s.w0 s.w1 ∗ owns (c : Thread nD τ) sc2 fullShare s.C ∗ owns (c : Thread nD τ) sc3 fullShare s.D) ∗ (∃ r, prngReg c r))

/-- The proof data: every input buffer keeps its block, and the result's block is that of the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (stN m c (t.val + 1)).o
  Φ n := kept m c n
  q w := Pipeline.shareOf spec0 w
  owed _ := 0

theorem A_eq (c : Dev nD) (w : Fin cfg0.W) : (dats m 0 c).A w = V m c (Pipeline.arrRef spec0 w) := by
  dsimp only [dats]
theorem Phi_eq (c : Dev nD) (n : Fin (cfg0.N + 1)) : (dats m 0 c).Φ n = kept m c n := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (stN m c (t.val + 1)).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- Within a row block the result's buffer holds what the point before left. -/
theorem before0_13 (c : Dev nD) (t : Fin cfg0.N) (h : ¬ t.val % 11 = 0) (d) : (dats m 0 c).before 13 t d = (stN m c t.val).o := by
  have ht : t.val ≠ 0 := by omega
  have hf : (cfg0.win 13).flush ⟨t.val - 1, Nat.lt_of_le_of_lt (Nat.sub_le _ _) t.isLt⟩ = false :=
    Bool.eq_false_iff.mpr fun hf => by have := (flush0_13 _).mp hf; dsimp only at this; omega
  rw [(dats m 0 c).before_of_pos 13 t ht ((cfg0.win 13).fetch_out rfl t), hf]
  refine (Util.left_live (dats m 0 c) 13 ⟨t.val - 1, Nat.lt_of_le_of_lt (Nat.sub_le _ _) t.isLt⟩ rfl (fun _ _ => rfl) d).trans ?_
  rw [after0_13]
  refine congrArg (fun n => (stN m c n).o) ?_
  dsimp only; omega

/-- The state after a point, whatever the body found where it starts afresh. -/
theorem step_eq (c : Dev nD) (t : Fin cfg0.N) (s : St F) (hs : scr m c t.castSucc s) (d) :
    step (grid0.coords t) (blkAt m c t) { s with o := (dats m 0 c).before 13 t d } = stN m c (t.val + 1) := by
  rw [stN_succ]
  by_cases h0 : t.val = 0
  · exact step_start _ _ _ _ ((hstart t).mpr h0) ((hopens t).mpr (by omega))
  obtain rfl := hs h0
  by_cases h : t.val % 11 = 0
  · exact step_opens _ _ _ _ ((hopens t).mpr h)
  · rw [before0_13 m c t h]; rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, after0_0, after0_1, after0_2, after0_3, after0_4, after0_5, after0_6, after0_7, after0_8, after0_9, after0_10, after0_11, after0_12, after0_13, Phi_eq]
  rw [show (dats m 0 c).owesAt () t.succ = (dats m 0 c).owesAt () t.castSucc from rfl]
  unfold kept
  iintro ⟨⟨HT, ⟨%s, %hs, H17, H18, H19⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hst := step_eq m c t s hs d13
  iapply (run c (grid0.coords t) _ _ _ _ _ _ _ _ _ _ _ _ _ _ _ _ _ _ _ _ _ _ _ _ _ _ _ _ _ _ _ _ _ _ _ _ (blkAt m c t) { s with o := (dats m 0 c).before 13 t d13 } Set.univ _)
  rw [hst]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT]; · iexact HT
  isplitl [H17]; · iexact H17
  isplitl [H18]; · iexact H18
  isplitl [H19]; · iexact H19
  iintro ⟨H0, H1, H2, H3, H4, H5, H6, H7, H8, H9, H10, H11, H12, H13, HT, H17, H18, H19⟩
  isplitl [HT H17 H18 H19 Hg]
  · isplitl [HT]; · iexact HT
    isplitl [H17 H18 H19]
    · iexists (stN m c (t.val + 1))
      isplitr
      · ipureintro; intro _; rfl
      isplitl [H17]; · iexact H17
      isplitl [H18]; · iexact H18
      iexact H19
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem tile_intro (c : Dev nD) (M : Memref sig .tc .vmem S2x520x256 .f32) (d) :
    owns (c : Thread nD τ) M fullShare d ⊢ (tileAt c M (body0 d) (body1 d) : sProp 𝕄) := by
  unfold tileAt
  iintro H
  iexists d; isplitr; swap
  · iexact H
  ipureintro; exact ⟨rfl, rfl⟩

theorem Phi_in (c : Dev nD) : (Pipeline.ΦA spec0 c : sProp 𝕄) ⊢ (dats m 0 c).Φ 0 := by
  rw [PhiA0_eq, Phi_eq]
  unfold kept
  iintro ⟨⟨⟨%d0, H0⟩, ⟨%d1, H1⟩, ⟨%d2, H2⟩, ⟨%d3, H3⟩⟩, Hg⟩
  isplitl [H0]
  · iexists (body0 d0), (body1 d0); iapply (tile_intro c sc0 d0); iexact H0
  isplitl [H1 H2 H3]
  · iexists (⟨body0 d1, body1 d1, d2, d3, (stN m c 0).o⟩ : St F)
    isplitr
    · ipureintro; intro h; exact absurd rfl h
    isplitl [H1]; · iapply (tile_intro c sc1 d1); iexact H1
    isplitl [H2]; · iexact H2
    iexact H3
  iexact Hg

theorem Phi_out (c : Dev nD) : (dats m 0 c).Φ (Fin.last cfg0.N) ⊢ (Pipeline.ΦA spec0 c : sProp 𝕄) := by
  rw [PhiA0_eq, Phi_eq]
  unfold kept tileAt
  iintro ⟨⟨%g0, %g1, %T, -, H0⟩, ⟨%s, -, ⟨%T', -, H1⟩, H2, H3⟩, Hg⟩
  isplitl [H0 H1 H2 H3]
  · isplitl [H0]; · iexists T; iexact H0
    isplitl [H1]; · iexists T'; iexact H1
    isplitl [H2]; · iexists _; iexact H2
    iexists _; iexact H3
  iexact Hg

set_option backward.isDefEq.respectTransparency.types false in
/-- The whole run: every execution ends, every array of the launch as computed, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnIdeal.Body

end
-- ==== Proof.FfnMath.lean ====
module

public import proofs.«01_k».proof.Proof.FfnBody

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL.Sem
open VecWindow (window put)

/-! ## The layer's mathematics, over the arguments read at numbers -/

/-- The arguments, read at numbers. -/
structure Args where
  X : ℕ → ℕ → EReal
  X1 : ℕ → ℕ → EReal
  W : ℕ → ℕ → EReal
  CW : ℕ → ℕ → EReal
  CB : ℕ → EReal
  WD : ℕ → ℕ → EReal

namespace Args
variable (A : Args)

/-- The up projection, -/
def P (r n : ℕ) : EReal := ∑ k : Fin 2048, A.X r k.val * A.W k.val n
/-- its row `2 - d` before `r` in the same sequence, -/
def tapP (d r n : ℕ) : EReal := if r % 4096 + d < 2 then 0 else A.P (r + d - 2) n
/-- the convolution, -/
def conv (r n : ℕ) : EReal :=
  A.CB n + ((A.CW 0 n * A.tapP 0 r n + A.CW 1 n * A.tapP 1 r n) + A.CW 2 n * A.tapP 2 r n)
/-- the gated activation, -/
def act (r j : ℕ) : EReal := (A.conv r j * Ideal.logistic (A.conv r j)) * A.conv r (5632 + j)
/-- the down projection of a tile of 256 columns, -/
def tile (r d k : ℕ) : EReal := ∑ b : Fin 256, A.act r (256 * k + b.val) * A.WD (256 * k + b.val) d
/-- and the result's element over the first `n` tiles. -/
def out (n r d : ℕ) : EReal := A.X1 r d + ∑ k ∈ Finset.range n, A.tile r d k

theorem out_succ (n r d : ℕ) : A.out (n + 1) r d = A.out n r d + A.tile r d n := by
  unfold out; rw [Finset.sum_range_succ, add_assoc]

/-- All 22 tiles are the whole down projection. -/
theorem out_all (r d : ℕ) : A.out 22 r d = A.X1 r d + ∑ j : Fin 5632, A.act r j.val * A.WD j.val d := by
  unfold out tile
  refine congrArg _ ?_
  rw [Fin.sum_univ_tiles 22 256 rfl (fun j : Fin 5632 => A.act r j.val * A.WD j.val d), Finset.sum_range]
  refine Finset.sum_congr rfl fun k _ => Finset.sum_congr rfl fun b _ => ?_
  dsimp only
  rw [Nat.mul_comm]

end Args

/-! ## Rows staged in the scratch -/

variable (A : Args)

/-- The half holds rows of row block `i` from column `n`, -/
def RowsAt (w : Vec Ideal S1x512x256 .f32) (i n : ℕ) : Prop := ∀ (a : Fin 512) (b : Fin 256), w (ix3 0 a b) = A.P (512 * i + a.val) (n + b.val)
/-- and the head the rows before them. -/
def HeadAt (u : Vec Ideal S1x8x256 .f32) (i n : ℕ) : Prop :=
  ∀ (a : Fin 8) (b : Fin 256), u (ix3 0 a b) = if i % 8 = 0 then 0 else A.P (512 * (i - 1) + 504 + a.val) (n + b.val)
/-- The carried rows: of the first `n` tiles those of row block `i`, of the others those of the block before. -/
def CarryAt (C : Carry Ideal) (i n : ℕ) : Prop :=
  ∀ (k : Fin 22) (h : Fin 2) (a : Fin 8) (b : Fin 256),
    (k.val < n → C (ix4 k h a b) = A.P (512 * i + 504 + a.val) (5632 * h.val + 256 * k.val + b.val))
    ∧ (n ≤ k.val → i ≠ 0 → C (ix4 k h a b) = A.P (512 * (i - 1) + 504 + a.val) (5632 * h.val + 256 * k.val + b.val))

theorem tap_eq {u w} {i n : ℕ} (hu : HeadAt A u i n) (hw : RowsAt A w i n) (d : ℕ) (hd : d ≤ 2) (a : Fin 512) (b : Fin 256) :
    tap (F := Ideal) (6 + d) (by omega) u w (ix3 0 a b) = A.tapP d (512 * i + a.val) (n + b.val) := by
  have ha := a.isLt
  unfold Args.tapP
  by_cases h : 6 + d + a.val < 8
  · refine (dif_pos h).trans ((hu ⟨6 + d + a.val, h⟩ b).trans ?_)
    by_cases hi : i % 8 = 0
    · rw [if_pos hi, if_pos (by omega)]
    · rw [if_neg hi, if_neg (by omega)]
      congr 1
      simp only; omega
  · refine (dif_neg h).trans ((hw ⟨6 + d + a.val - 8, by omega⟩ b).trans ?_)
    rw [if_neg (by omega)]
    congr 1
    simp only; omega

/-- The carried rows, read and written at a tile's half. -/
theorem cget_apply (C : Carry Ideal) (off : Fin 4 → ℕ) (inb) (k : Fin 22) (h : Fin 2) (e : off = ![k.val, h.val, 0, 0]) (a : Fin 8) (b : Fin 256) :
    cget C off inb (ix4 0 0 a b) = C (ix4 k h a b) := by
  subst e
  unfold cget window
  refine congrArg C (funext fun x => Fin.ext ?_)
  rw [Rect.emb_apply]
  match x with
  | 0 => simp [Rect.unit]
  | 1 => simp [Rect.unit]
  | 2 => simp [Rect.unit]
  | 3 => simp [Rect.unit]

theorem put_apply (C : Carry Ideal) (off : Fin 4 → ℕ) (v : Vec Ideal S1x1x8x256 .f32) (k' : Fin 22) (h' : Fin 2) (e : off = ![k'.val, h'.val, 0, 0])
    (k : Fin 22) (h : Fin 2) (a : Fin 8) (b : Fin 256) :
    put C off S1x1x8x256.size v (ix4 k h a b) = if k = k' ∧ h = h' then v (ix4 0 0 a b) else C (ix4 k h a b) := by
  subst e
  unfold put
  by_cases hh : k = k' ∧ h = h'
  · rw [if_pos hh, dif_pos]
    · obtain ⟨rfl, rfl⟩ := hh
      refine congrArg v (funext fun x => Fin.ext ?_)
      rw [Rect.unitLocal_val]
      match x with
      | 0 => simp
      | 1 => simp
      | 2 => simp
      | 3 => simp
    · obtain ⟨rfl, rfl⟩ := hh
      intro x
      match x with
      | 0 => simp
      | 1 => simp
      | 2 => simp
      | 3 => simp
  · rw [if_neg hh, dif_neg]
    intro H
    have h0 := H 0; have h1 := H 1
    simp at h0 h1
    exact hh ⟨Fin.ext (by omega), Fin.ext (by omega)⟩

end Cert.FfnIdeal.Body

end
-- ==== Proof.FfnPay.lean ====
module

public import proofs.«01_k».proof.Proof.FfnMath

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL.Sem
open VecWindow (window put)

variable (A : Args)

/-! ## Halves of the blocks -/

theorem winW0 {φ} (M : Vec Ideal S2048x512 φ) (a : Fin 2048) (b : Fin 256) :
    window M ![0, 0] S2048x256.size inb_S2048x512_S2048x256_0_0 (ix2 a b) = M (ix2 ⟨0 + a.val, by omega⟩ ⟨0 + b.val, by omega⟩) := by
  unfold window
  refine congrArg M (funext fun x => Fin.ext ?_)
  rw [Rect.emb_apply]
  match x with
  | 0 => simp [Rect.unit]
  | 1 => simp [Rect.unit]

theorem winW1 {φ} (M : Vec Ideal S2048x512 φ) (a : Fin 2048) (b : Fin 256) :
    window M ![0, 256] S2048x256.size inb_S2048x512_S2048x256_0_256 (ix2 a b) = M (ix2 ⟨0 + a.val, by omega⟩ ⟨256 + b.val, by omega⟩) := by
  unfold window
  refine congrArg M (funext fun x => Fin.ext ?_)
  rw [Rect.emb_apply]
  match x with
  | 0 => simp [Rect.unit]
  | 1 => simp [Rect.unit]

theorem winC0 {φ} (M : Vec Ideal S3x512 φ) (a : Fin 3) (b : Fin 256) :
    window M ![0, 0] S3x256.size inb_S3x512_S3x256_0_0 (ix2 a b) = M (ix2 ⟨0 + a.val, by omega⟩ ⟨0 + b.val, by omega⟩) := by
  unfold window
  refine congrArg M (funext fun x => Fin.ext ?_)
  rw [Rect.emb_apply]
  match x with
  | 0 => simp [Rect.unit]
  | 1 => simp [Rect.unit]

theorem winC1 {φ} (M : Vec Ideal S3x512 φ) (a : Fin 3) (b : Fin 256) :
    window M ![0, 256] S3x256.size inb_S3x512_S3x256_0_256 (ix2 a b) = M (ix2 ⟨0 + a.val, by omega⟩ ⟨256 + b.val, by omega⟩) := by
  unfold window
  refine congrArg M (funext fun x => Fin.ext ?_)
  rw [Rect.emb_apply]
  match x with
  | 0 => simp [Rect.unit]
  | 1 => simp [Rect.unit]

theorem winB0 {φ} (M : Vec Ideal S1x512 φ) (a : Fin 1) (b : Fin 256) :
    window M ![0, 0] S1x256.size inb_S1x512_S1x256_0_0 (ix2 a b) = M (ix2 ⟨0 + a.val, by omega⟩ ⟨0 + b.val, by omega⟩) := by
  unfold window
  refine congrArg M (funext fun x => Fin.ext ?_)
  rw [Rect.emb_apply]
  match x with
  | 0 => simp [Rect.unit]
  | 1 => simp [Rect.unit]

theorem winB1 {φ} (M : Vec Ideal S1x512 φ) (a : Fin 1) (b : Fin 256) :
    window M ![0, 256] S1x256.size inb_S1x512_S1x256_0_256 (ix2 a b) = M (ix2 ⟨0 + a.val, by omega⟩ ⟨256 + b.val, by omega⟩) := by
  unfold window
  refine congrArg M (funext fun x => Fin.ext ?_)
  rw [Rect.emb_apply]
  match x with
  | 0 => simp [Rect.unit]
  | 1 => simp [Rect.unit]

theorem winD0 {φ} (M : Vec Ideal S512x2048 φ) (a : Fin 256) (b : Fin 2048) :
    window M ![0, 0] S256x2048.size inb_S512x2048_S256x2048_0_0 (ix2 a b) = M (ix2 ⟨0 + a.val, by omega⟩ ⟨0 + b.val, by omega⟩) := by
  unfold window
  refine congrArg M (funext fun x => Fin.ext ?_)
  rw [Rect.emb_apply]
  match x with
  | 0 => simp [Rect.unit]
  | 1 => simp [Rect.unit]

theorem winD1 {φ} (M : Vec Ideal S512x2048 φ) (a : Fin 256) (b : Fin 2048) :
    window M ![256, 0] S256x2048.size inb_S512x2048_S256x2048_256_0 (ix2 a b) = M (ix2 ⟨256 + a.val, by omega⟩ ⟨0 + b.val, by omega⟩) := by
  unfold window
  refine congrArg M (funext fun x => Fin.ext ?_)
  rw [Rect.emb_apply]
  match x with
  | 0 => simp [Rect.unit]
  | 1 => simp [Rect.unit]

/-- The blocks of point `q` of row block `i` hold the arguments' elements. -/
structure BlkOk (b : Blk Ideal) (i q : ℕ) : Prop where
  x2 : ∀ (a : Fin 512) (k : Fin 2048), b.x2 (ix2 a k) = A.X (512 * i + a.val) k.val
  x3 : ∀ (a : Fin 512) (d : Fin 2048), b.x3 (ix2 a d) = A.X1 (512 * i + a.val) d.val
  x4 : ∀ (k : Fin 2048) (c : Fin 512), b.x4 (ix2 k c) = A.W k.val (512 * q + c.val)
  x5 : ∀ (k : Fin 2048) (c : Fin 512), b.x5 (ix2 k c) = A.W k.val (5632 + 512 * q + c.val)
  x6 : ∀ (k : Fin 3) (c : Fin 512), b.x6 (ix2 k c) = A.CW k.val (512 * q + c.val)
  x7 : ∀ (k : Fin 3) (c : Fin 512), b.x7 (ix2 k c) = A.CW k.val (5632 + 512 * q + c.val)
  x8 : ∀ (c : Fin 512), b.x8 (ix2 0 c) = A.CB (512 * q + c.val)
  x9 : ∀ (c : Fin 512), b.x9 (ix2 0 c) = A.CB (5632 + 512 * q + c.val)
  x10 : ∀ (a : Fin 512) (d : Fin 2048), b.x10 (ix2 a d) = A.WD (512 * q + a.val) d.val
  x11 : ∀ (k : Fin 3) (c : Fin 512), b.x11 (ix2 k c) = A.CW k.val (512 * (q - 1) + c.val)
  x12 : ∀ (k : Fin 3) (c : Fin 512), b.x12 (ix2 k c) = A.CW k.val (5632 + 512 * (q - 1) + c.val)
  x13 : ∀ (c : Fin 512), b.x13 (ix2 0 c) = A.CB (512 * (q - 1) + c.val)
  x14 : ∀ (c : Fin 512), b.x14 (ix2 0 c) = A.CB (5632 + 512 * (q - 1) + c.val)

/-- The convolution's weights from column `n`. -/
def CwAt (w : Vec Ideal S3x256 .f32) (n : ℕ) : Prop := ∀ (k : Fin 3) (b : Fin 256), w (ix2 k b) = A.CW k.val (n + b.val)
def CbAt (w : Vec Ideal S1x256 .f32) (n : ℕ) : Prop := ∀ (b : Fin 256), w (ix2 0 b) = A.CB (n + b.val)
def WAt (w : Vec Ideal S2048x256 .bf16) (n : ℕ) : Prop := ∀ (k : Fin 2048) (b : Fin 256), w (ix2 k b) = A.W k.val (n + b.val)
def WdAt (w : Vec Ideal S256x2048 .bf16) (n : ℕ) : Prop := ∀ (a : Fin 256) (d : Fin 2048), w (ix2 a d) = A.WD (n + a.val) d.val
/-- The convolution's values of row block `i` from column `n`. -/
def ConvAt (w : Vec Ideal S512x256 .f32) (i n : ℕ) : Prop := ∀ (a : Fin 512) (b : Fin 256), w (ix2 a b) = A.conv (512 * i + a.val) (n + b.val)
def OutAt (w : Vec Ideal S512x2048 .f32) (i n : ℕ) : Prop := ∀ (a : Fin 512) (d : Fin 2048), w (ix2 a d) = A.out n (512 * i + a.val) d.val

variable {A}

section Halves
variable {b : Blk Ideal} {i q : ℕ} (h : BlkOk A b i q)
include h
theorem x4a : WAt A (window b.x4 ![0, 0] S2048x256.size inb_S2048x512_S2048x256_0_0) (256 * (2 * q)) := by
  intro k z
  exact (winW0 b.x4 k z).trans ((h.x4 _ _).trans (congrArg₂ A.W (by first | rfl | omega | (simp only; omega)) (by first | rfl | omega | (simp only; omega))))
theorem x4b : WAt A (window b.x4 ![0, 256] S2048x256.size inb_S2048x512_S2048x256_0_256) (256 * (2 * q + 1)) := by
  intro k z
  exact (winW1 b.x4 k z).trans ((h.x4 _ _).trans (congrArg₂ A.W (by first | rfl | omega | (simp only; omega)) (by first | rfl | omega | (simp only; omega))))
theorem x5a : WAt A (window b.x5 ![0, 0] S2048x256.size inb_S2048x512_S2048x256_0_0) (5632 + 256 * (2 * q)) := by
  intro k z
  exact (winW0 b.x5 k z).trans ((h.x5 _ _).trans (congrArg₂ A.W (by first | rfl | omega | (simp only; omega)) (by first | rfl | omega | (simp only; omega))))
theorem x5b : WAt A (window b.x5 ![0, 256] S2048x256.size inb_S2048x512_S2048x256_0_256) (5632 + 256 * (2 * q + 1)) := by
  intro k z
  exact (winW1 b.x5 k z).trans ((h.x5 _ _).trans (congrArg₂ A.W (by first | rfl | omega | (simp only; omega)) (by first | rfl | omega | (simp only; omega))))
theorem x6a : CwAt A (window b.x6 ![0, 0] S3x256.size inb_S3x512_S3x256_0_0) (256 * (2 * q)) := by
  intro k z
  exact (winC0 b.x6 k z).trans ((h.x6 _ _).trans (congrArg₂ A.CW (by first | rfl | omega | (simp only; omega)) (by first | rfl | omega | (simp only; omega))))
theorem x6b : CwAt A (window b.x6 ![0, 256] S3x256.size inb_S3x512_S3x256_0_256) (256 * (2 * q + 1)) := by
  intro k z
  exact (winC1 b.x6 k z).trans ((h.x6 _ _).trans (congrArg₂ A.CW (by first | rfl | omega | (simp only; omega)) (by first | rfl | omega | (simp only; omega))))
theorem x7a : CwAt A (window b.x7 ![0, 0] S3x256.size inb_S3x512_S3x256_0_0) (5632 + 256 * (2 * q)) := by
  intro k z
  exact (winC0 b.x7 k z).trans ((h.x7 _ _).trans (congrArg₂ A.CW (by first | rfl | omega | (simp only; omega)) (by first | rfl | omega | (simp only; omega))))
theorem x7b : CwAt A (window b.x7 ![0, 256] S3x256.size inb_S3x512_S3x256_0_256) (5632 + 256 * (2 * q + 1)) := by
  intro k z
  exact (winC1 b.x7 k z).trans ((h.x7 _ _).trans (congrArg₂ A.CW (by first | rfl | omega | (simp only; omega)) (by first | rfl | omega | (simp only; omega))))
theorem x8a : CbAt A (window b.x8 ![0, 0] S1x256.size inb_S1x512_S1x256_0_0) (256 * (2 * q)) := by
  intro z
  exact (winB0 b.x8 0 z).trans ((h.x8 _).trans (congrArg A.CB (by first | rfl | omega | (simp only; omega))))
theorem x8b : CbAt A (window b.x8 ![0, 256] S1x256.size inb_S1x512_S1x256_0_256) (256 * (2 * q + 1)) := by
  intro z
  exact (winB1 b.x8 0 z).trans ((h.x8 _).trans (congrArg A.CB (by first | rfl | omega | (simp only; omega))))
theorem x9a : CbAt A (window b.x9 ![0, 0] S1x256.size inb_S1x512_S1x256_0_0) (5632 + 256 * (2 * q)) := by
  intro z
  exact (winB0 b.x9 0 z).trans ((h.x9 _).trans (congrArg A.CB (by first | rfl | omega | (simp only; omega))))
theorem x9b : CbAt A (window b.x9 ![0, 256] S1x256.size inb_S1x512_S1x256_0_256) (5632 + 256 * (2 * q + 1)) := by
  intro z
  exact (winB1 b.x9 0 z).trans ((h.x9 _).trans (congrArg A.CB (by first | rfl | omega | (simp only; omega))))
theorem x10a : WdAt A (window b.x10 ![0, 0] S256x2048.size inb_S512x2048_S256x2048_0_0) (256 * (2 * q)) := by
  intro k z
  exact (winD0 b.x10 k z).trans ((h.x10 _ _).trans (congrArg₂ A.WD (by first | rfl | omega | (simp only; omega)) (by first | rfl | omega | (simp only; omega))))
theorem x10b : WdAt A (window b.x10 ![256, 0] S256x2048.size inb_S512x2048_S256x2048_256_0) (256 * (2 * q + 1)) := by
  intro k z
  exact (winD1 b.x10 k z).trans ((h.x10 _ _).trans (congrArg₂ A.WD (by first | rfl | omega | (simp only; omega)) (by first | rfl | omega | (simp only; omega))))
theorem x11b (hq : q ≠ 0) : CwAt A (window b.x11 ![0, 256] S3x256.size inb_S3x512_S3x256_0_256) (256 * (2 * q - 1)) := by
  intro k z
  exact (winC1 b.x11 k z).trans ((h.x11 _ _).trans (congrArg₂ A.CW (by first | rfl | omega | (simp only; omega)) (by first | rfl | omega | (simp only; omega))))
theorem x12b (hq : q ≠ 0) : CwAt A (window b.x12 ![0, 256] S3x256.size inb_S3x512_S3x256_0_256) (5632 + 256 * (2 * q - 1)) := by
  intro k z
  exact (winC1 b.x12 k z).trans ((h.x12 _ _).trans (congrArg₂ A.CW (by first | rfl | omega | (simp only; omega)) (by first | rfl | omega | (simp only; omega))))
theorem x13b (hq : q ≠ 0) : CbAt A (window b.x13 ![0, 256] S1x256.size inb_S1x512_S1x256_0_256) (256 * (2 * q - 1)) := by
  intro z
  exact (winB1 b.x13 0 z).trans ((h.x13 _).trans (congrArg A.CB (by first | rfl | omega | (simp only; omega))))
theorem x14b (hq : q ≠ 0) : CbAt A (window b.x14 ![0, 256] S1x256.size inb_S1x512_S1x256_0_256) (5632 + 256 * (2 * q - 1)) := by
  intro z
  exact (winB1 b.x14 0 z).trans ((h.x14 _).trans (congrArg A.CB (by first | rfl | omega | (simp only; omega))))

end Halves

/-! ## The point's values -/

theorem conv_eq {cw cb u w} {i n : ℕ} (hcw : CwAt A cw n) (hcb : CbAt A cb n) (hu : HeadAt A u i n) (hw : RowsAt A w i n) (a : Fin 512) (b : Fin 256) :
    cb (ix2 0 b) + ((cw (ix2 0 b) * tap (F := Ideal) 6 (by decide) u w (ix3 0 a b) + cw (ix2 1 b) * tap (F := Ideal) 7 (by decide) u w (ix3 0 a b)) + cw (ix2 2 b) * tap (F := Ideal) 8 (by decide) u w (ix3 0 a b))
      = A.conv (512 * i + a.val) (n + b.val) := by
  unfold Args.conv
  exact congrArg₂ (· + ·) (hcb b) (congrArg₂ (· + ·) (congrArg₂ (· + ·) (congrArg₂ (· * ·) (hcw 0 b) (tap_eq A hu hw 0 (by decide) a b))
    (congrArg₂ (· * ·) (hcw 1 b) (tap_eq A hu hw 1 (by decide) a b))) (congrArg₂ (· * ·) (hcw 2 b) (tap_eq A hu hw 2 (by decide) a b)))

section Conv
variable {cw : Vec Ideal S3x256 .f32} {cb : Vec Ideal S1x256 .f32} {u : Vec Ideal S1x8x256 .f32} {w : Vec Ideal S1x512x256 .f32} {i n : ℕ}
  (hcw : CwAt A cw n) (hcb : CbAt A cb n) (hu : HeadAt A u i n) (hw : RowsAt A w i n)
include hcw hcb hu hw
theorem conv27 : ConvAt A (k0_pay27 (F := Ideal) cw (k0_pay24 cb) (tap 6 (by decide) u w) (tap 7 (by decide) u w) (tap 8 (by decide) u w)) i n := by
  intro a b
  pointwise [k0_pay27, k0_pay24]
  exact conv_eq hcw hcb hu hw a b
theorem conv30 : ConvAt A (k0_pay30 (F := Ideal) cw cb (tap 6 (by decide) u w) (tap 7 (by decide) u w) (tap 8 (by decide) u w)) i n := by
  intro a b
  pointwise [k0_pay30]
  exact conv_eq hcw hcb hu hw a b
theorem conv38 : ConvAt A (k0_pay38 (F := Ideal) cw (k0_pay35 cb) (tap 6 (by decide) u w) (tap 7 (by decide) u w) (tap 8 (by decide) u w)) i n := by
  intro a b
  pointwise [k0_pay38, k0_pay35]
  exact conv_eq hcw hcb hu hw a b
theorem conv12 : ConvAt A (k0_pay12 (F := Ideal) cw (k0_pay5 cb) (k0_pay8 (tap 7 (by decide) u w)) (k0_pay9 (tap 8 (by decide) u w)) (k0_pay10 cw (tap 6 (by decide) u w)) (k0_pay11 cw)) i n := by
  intro a b
  pointwise [k0_pay12, k0_pay5, k0_pay8, k0_pay9, k0_pay10, k0_pay11]
  exact conv_eq hcw hcb hu hw a b

end Conv

/-- The gated activation, from the gate's values and the value's convolution. -/
theorem act_eq {g : Vec Ideal S512x256 .f32} {i k : ℕ} (hg : ConvAt A g i (256 * k)) {v : EReal} (a : Fin 512) (b : Fin 256) (hv : v = A.conv (512 * i + a.val) (5632 + 256 * k + b.val)) :
    (g (ix2 a b) * Ideal.logistic (g (ix2 a b))) * v = A.act (512 * i + a.val) (256 * k + b.val) := by
  unfold Args.act
  rw [hg a b, hv, Nat.add_assoc 5632]

/-- The activation of the current half tile, -/
theorem act43 {g : Vec Ideal S512x256 .f32} {cw cb u w} {i k : ℕ} (hg : ConvAt A g i (256 * k)) (hcw : CwAt A cw (5632 + 256 * k)) (hcb : CbAt A cb (5632 + 256 * k))
    (hu : HeadAt A u i (5632 + 256 * k)) (hw : RowsAt A w i (5632 + 256 * k)) (a : Fin 512) (b : Fin 256) :
    k0_pay43 (F := Ideal) g cw (k0_pay39 cb) (tap 6 (by decide) u w) (tap 7 (by decide) u w) (tap 8 (by decide) u w) (ix2 a b) = A.act (512 * i + a.val) (256 * k + b.val) := by
  pointwise [k0_pay43, k0_pay39]
  exact act_eq hg a b (conv_eq hcw hcb hu hw a b)

/-- its contribution over what the delayed half tile contributed, -/
theorem out2 {e : Vec Ideal S512x2048 .f32} {g : Vec Ideal S512x256 .bf16} {o : Vec Ideal S512x2048 .f32} {D : Vec Ideal S256x2048 .bf16} {i k : ℕ}
    (hg : ∀ (a : Fin 512) (b : Fin 256), g (ix2 a b) = A.act (512 * i + a.val) (256 * k + b.val)) (hD : WdAt A D (256 * k))
    (hoe : ∀ (a : Fin 512) (d : Fin 2048), o (ix2 a d) + e (ix2 a d) = A.out k (512 * i + a.val) d.val) : OutAt A (k0_pay2 (F := Ideal) e g o D) i (k + 1) := by
  intro a d
  pointwise [k0_pay2]
  rw [← add_assoc, hoe a d, Args.out_succ]
  refine congrArg _ (Finset.sum_congr rfl fun b _ => ?_)
  exact congrArg₂ (· * ·) (hg a b) (hD b d)

/-- the delayed contribution, -/
theorem out34 {z : EReal} {g v : Vec Ideal S512x256 .f32} {D : Vec Ideal S256x2048 .bf16} {i k : ℕ} (hz : z = 1)
    (hg : ConvAt A g i (256 * k)) (hv : ConvAt A v i (5632 + 256 * k)) (hD : WdAt A D (256 * k)) (a : Fin 512) (d : Fin 2048) :
    k0_pay34 (F := Ideal) z g v (k0_pay31 g) D (ix2 a d) = A.tile (512 * i + a.val) d.val k := by
  pointwise [k0_pay34, k0_pay31]
  unfold Args.tile
  refine Finset.sum_congr rfl fun b _ => ?_
  rw [hz, mul_one]
  exact congrArg₂ (· * ·) (act_eq hg a b (hv a b)) (hD b d)

theorem out34_zero {z : EReal} {g v : Vec Ideal S512x256 .f32} {D : Vec Ideal S256x2048 .bf16} (hz : z = 0) (a : Fin 512) (d : Fin 2048) :
    k0_pay34 (F := Ideal) z g v (k0_pay31 g) D (ix2 a d) = 0 := by
  pointwise [k0_pay34, k0_pay31]
  refine Finset.sum_eq_zero fun b _ => ?_
  rw [hz, mul_zero, zero_mul]

/-- and that of the row block's last half tile. -/
theorem out4 {g : Vec Ideal S512x256 .f32} {cw cb u w} {o : Vec Ideal S512x2048 .f32} {D : Vec Ideal S256x2048 .bf16} {i k : ℕ}
    (hg : ConvAt A g i (256 * k)) (hcw : CwAt A cw (5632 + 256 * k)) (hcb : CbAt A cb (5632 + 256 * k))
    (hu : HeadAt A u i (5632 + 256 * k)) (hw : RowsAt A w i (5632 + 256 * k)) (hD : WdAt A D (256 * k)) (ho : OutAt A o i k) :
    OutAt A (k0_pay4 (F := Ideal) g cw (k0_pay13 cb) (k0_pay16 (tap 6 (by decide) u w)) (k0_pay17 (tap 7 (by decide) u w)) (k0_pay18 (tap 8 (by decide) u w)) (k0_pay19 cw) o D) i (k + 1) := by
  intro a d
  pointwise [k0_pay4, k0_pay13, k0_pay16, k0_pay17, k0_pay18, k0_pay19]
  rw [Args.out_succ]
  refine congrArg₂ (· + ·) (ho a d) (Finset.sum_congr rfl fun b _ => ?_)
  exact congrArg₂ (· * ·) (act_eq hg a b (conv_eq hcw hcb hu hw a b)) (hD b d)

theorem rows32 {x : Vec Ideal S512x2048 .bf16} {w : Vec Ideal S2048x256 .bf16} {i n : ℕ} (hx : ∀ (a : Fin 512) (k : Fin 2048), x (ix2 a k) = A.X (512 * i + a.val) k.val) (hw : WAt A w n) :
    RowsAt A (k0_pay32 (F := Ideal) x w) i n := by
  intro a b
  pointwise [k0_pay32]
  exact Finset.sum_congr rfl fun k _ => congrArg₂ (· * ·) (hx a k) (hw k b)
theorem rows33 {x : Vec Ideal S512x2048 .bf16} {w : Vec Ideal S2048x256 .bf16} {i n : ℕ} (hx : ∀ (a : Fin 512) (k : Fin 2048), x (ix2 a k) = A.X (512 * i + a.val) k.val) (hw : WAt A w n) :
    RowsAt A (k0_pay33 (F := Ideal) x w) i n := by
  intro a b
  pointwise [k0_pay33]
  exact Finset.sum_congr rfl fun k _ => congrArg₂ (· * ·) (hx a k) (hw k b)
theorem rows44 {x : Vec Ideal S512x2048 .bf16} {w : Vec Ideal S2048x256 .bf16} {i n : ℕ} (hx : ∀ (a : Fin 512) (k : Fin 2048), x (ix2 a k) = A.X (512 * i + a.val) k.val) (hw : WAt A w n) :
    RowsAt A (k0_pay44 (F := Ideal) x w) i n := by
  intro a b
  pointwise [k0_pay44]
  exact Finset.sum_congr rfl fun k _ => congrArg₂ (· * ·) (hx a k) (hw k b)
theorem rows1 {x : Vec Ideal S512x2048 .bf16} {w : Vec Ideal S2048x256 .bf16} {i n : ℕ} (hx : ∀ (a : Fin 512) (k : Fin 2048), x (ix2 a k) = A.X (512 * i + a.val) k.val) (hw : WAt A w n) :
    RowsAt A (k0_pay1 (F := Ideal) x w) i n := by
  intro a b
  pointwise [k0_pay1]
  exact Finset.sum_congr rfl fun k _ => congrArg₂ (· * ·) (hx a k) (hw k b)

/-! ## The carried rows -/

/-- A tile's half of the carried rows is of the row block before. -/
def OldAt (A : Args) (C : Carry Ideal) (i : ℕ) (k : Fin 22) (h : Fin 2) : Prop := i ≠ 0 → ∀ (a : Fin 8) (b : Fin 256), C (ix4 k h a b) = A.P (512 * (i - 1) + 504 + a.val) (5632 * h.val + 256 * k.val + b.val)

theorem CarryAt.old {C : Carry Ideal} {i n : ℕ} (hC : CarryAt A C i n) (k : Fin 22) (h : Fin 2) (hk : n ≤ k.val) : OldAt A C i k h :=
  fun hi a b => (hC k h a b).2 hk hi

/-- The other half's rows are not written. -/
theorem OldAt.put {C : Carry Ideal} {i : ℕ} {k : Fin 22} (hC : OldAt A C i k 1) (off) (e : off = ![k.val, (0 : Fin 2).val, 0, 0]) (v : Vec Ideal S1x1x8x256 .f32) : OldAt A (VecWindow.put C off S1x1x8x256.size v) i k 1 := by
  intro hi a b
  rw [put_apply C off v k 0 e, if_neg (fun hh => absurd hh.2 (by decide))]
  exact hC hi a b

theorem head_sel {C : Carry Ideal} {i : ℕ} {k : Fin 22} {h : Fin 2} (hC : OldAt A C i k h) {v : BitVec 1} (hv : v = 1#1 ↔ i % 8 = 0) (off inb) (e : off = ![k.val, h.val, 0, 0]) (a : Fin 8) (b : Fin 256) :
    Scalar.select v (0 : EReal) (cget C off inb (ix4 0 0 a b)) = if i % 8 = 0 then 0 else A.P (512 * (i - 1) + 504 + a.val) (5632 * h.val + 256 * k.val + b.val) := by
  rw [cget_apply C off inb k h e]
  change (if v = 1#1 then (0 : EReal) else C (ix4 k h a b)) = _
  by_cases hi : i % 8 = 0
  · rw [if_pos hi, if_pos (hv.2 hi)]
  · rw [if_neg hi, if_neg (fun hh => hi (hv.1 hh))]
    exact hC (fun h0 => hi (by rw [h0])) a b

section Head
variable {C : Carry Ideal} {i n : ℕ} {k : Fin 22} {h : Fin 2} (hC : OldAt A C i k h) {v : BitVec 1} (hv : v = 1#1 ↔ i % 8 = 0) {off : Fin 4 → ℕ} (inb : ∀ x, off x + S1x1x8x256.size x ≤ S22x2x8x256.size x) (e : off = ![k.val, h.val, 0, 0]) (hn : n = 5632 * h.val + 256 * k.val)
include hC hv e hn
theorem head25 : HeadAt A (k0_pay25 (F := Ideal) v (cget C off inb)) i n := by
  intro a b
  subst hn
  pointwise [k0_pay25]
  exact head_sel hC hv off inb e a b
theorem head28 : HeadAt A (k0_pay28 (F := Ideal) v (cget C off inb)) i n := by
  intro a b
  subst hn
  pointwise [k0_pay28]
  exact head_sel hC hv off inb e a b
theorem head36 : HeadAt A (k0_pay36 (F := Ideal) v (cget C off inb)) i n := by
  intro a b
  subst hn
  pointwise [k0_pay36]
  exact head_sel hC hv off inb e a b
theorem head41 : HeadAt A (k0_pay41 (k0_pay40 (F := Ideal) v (cget C off inb))) i n := by
  intro a b
  subst hn
  pointwise [k0_pay41, k0_pay40]
  exact head_sel hC hv off inb e a b
theorem head6 : HeadAt A (k0_pay6 (F := Ideal) v (cget C off inb)) i n := by
  intro a b
  subst hn
  pointwise [k0_pay6]
  exact head_sel hC hv off inb e a b
theorem head14 : HeadAt A (k0_pay14 (F := Ideal) v (cget C off inb)) i n := by
  intro a b
  subst hn
  pointwise [k0_pay14]
  exact head_sel hC hv off inb e a b

end Head

/-- The rows written for a tile's half. -/
def TailAt (A : Args) (v : Vec Ideal S1x1x8x256 .f32) (i n : ℕ) : Prop := ∀ (a : Fin 8) (b : Fin 256), v (ix4 0 0 a b) = A.P (512 * i + 504 + a.val) (n + b.val)

theorem last_eq {w : Vec Ideal S1x512x256 .f32} {i n : ℕ} (hw : RowsAt A w i n) (a : Fin 8) (b : Fin 256) : last w (ix3 0 a b) = A.P (512 * i + 504 + a.val) (n + b.val) := by
  refine (hw ⟨504 + a.val, by omega⟩ b).trans ?_
  rw [Nat.add_assoc (512 * i)]

theorem tail26 {w : Vec Ideal S1x512x256 .f32} {i n : ℕ} (hw : RowsAt A w i n) : TailAt A (k0_pay26 (F := Ideal) (last w)) i n := by
  intro a b
  pointwise [k0_pay26]
  exact last_eq hw a b
theorem tail29 {w : Vec Ideal S1x512x256 .f32} {i n : ℕ} (hw : RowsAt A w i n) : TailAt A (k0_pay29 (F := Ideal) (last w)) i n := by
  intro a b
  pointwise [k0_pay29]
  exact last_eq hw a b
theorem tail37 {w : Vec Ideal S1x512x256 .f32} {i n : ℕ} (hw : RowsAt A w i n) : TailAt A (k0_pay37 (F := Ideal) (last w)) i n := by
  intro a b
  pointwise [k0_pay37]
  exact last_eq hw a b
theorem tail42 {w : Vec Ideal S1x512x256 .f32} {i n : ℕ} (hw : RowsAt A w i n) : TailAt A (k0_pay42 (F := Ideal) (last w)) i n := by
  intro a b
  pointwise [k0_pay42]
  exact last_eq hw a b
theorem tail7 {w : Vec Ideal S1x512x256 .f32} {i n : ℕ} (hw : RowsAt A w i n) : TailAt A (k0_pay7 (F := Ideal) (last w)) i n := by
  intro a b
  pointwise [k0_pay7]
  exact last_eq hw a b
theorem tail15 {w : Vec Ideal S1x512x256 .f32} {i n : ℕ} (hw : RowsAt A w i n) : TailAt A (k0_pay15 (F := Ideal) (last w)) i n := by
  intro a b
  pointwise [k0_pay15]
  exact last_eq hw a b

/-- Writing the next tile's rows, -/
theorem carry_next {C : Carry Ideal} {i n : ℕ} (hC : CarryAt A C i n) (hn : n < 22) {off0 off1 : Fin 4 → ℕ} (e0 : off0 = ![n, (0 : Fin 2).val, 0, 0]) (e1 : off1 = ![n, (1 : Fin 2).val, 0, 0])
    {v0 v1 : Vec Ideal S1x1x8x256 .f32} (h0 : TailAt A v0 i (256 * n)) (h1 : TailAt A v1 i (5632 + 256 * n)) :
    CarryAt A (put (put C off0 S1x1x8x256.size v0) off1 S1x1x8x256.size v1) i (n + 1) := by
  intro k h a b
  rw [put_apply _ off1 v1 ⟨n, hn⟩ 1 e1, put_apply _ off0 v0 ⟨n, hn⟩ 0 e0]
  obtain ⟨c1, c2⟩ := hC k h a b
  refine ⟨fun hk => ?_, fun hk hi => ?_⟩
  · by_cases hkn : k = ⟨n, hn⟩
    · subst hkn
      match h with
      | 0 => rw [if_neg (fun hh => absurd hh.2 (by decide)), if_pos ⟨rfl, rfl⟩, h0 a b]; congr 1; simp
      | 1 => rw [if_pos ⟨rfl, rfl⟩, h1 a b]; congr 1
    · rw [if_neg (fun hh => hkn hh.1), if_neg (fun hh => hkn hh.1)]
      exact c1 (by have : k.val ≠ n := fun hh => hkn (Fin.ext hh); omega)
  · have hkn : k ≠ ⟨n, hn⟩ := fun hh => by subst hh; simp at hk
    rw [if_neg (fun hh => hkn hh.1), if_neg (fun hh => hkn hh.1)]
    exact c2 (by omega) hi

/-- and writing again the last tile's rows of the row block before. -/
theorem carry_again {C : Carry Ideal} {i : ℕ} (hC : CarryAt A C i 0) {off0 off1 : Fin 4 → ℕ} (e0 : off0 = ![21, (0 : Fin 2).val, 0, 0]) (e1 : off1 = ![21, (1 : Fin 2).val, 0, 0])
    {v0 v1 : Vec Ideal S1x1x8x256 .f32} (h0 : i ≠ 0 → TailAt A v0 (i - 1) (256 * 21)) (h1 : i ≠ 0 → TailAt A v1 (i - 1) (5632 + 256 * 21)) :
    CarryAt A (put (put C off0 S1x1x8x256.size v0) off1 S1x1x8x256.size v1) i 0 := by
  intro k h a b
  rw [put_apply _ off1 v1 21 1 e1, put_apply _ off0 v0 21 0 e0]
  refine ⟨fun hk => absurd hk (by omega), fun hk hi => ?_⟩
  by_cases hkn : k = 21
  · subst hkn
    match h with
    | 0 => rw [if_neg (fun hh => absurd hh.2 (by decide)), if_pos ⟨rfl, rfl⟩, h0 hi a b]; congr 1
    | 1 => rw [if_pos ⟨rfl, rfl⟩, h1 hi a b]; congr 1
  · rw [if_neg (fun hh => hkn hh.1), if_neg (fun hh => hkn hh.1)]
    exact (hC k h a b).2 (by omega) hi

/-- Rows of a whole row block are the next one's rows before. -/
theorem carry_turn {C : Carry Ideal} {i : ℕ} (hC : CarryAt A C i 22) : CarryAt A C (i + 1) 0 :=
  fun k h a b => ⟨fun hk => absurd hk (by omega), fun _ _ => (hC k h a b).1 k.isLt⟩

end Cert.FfnIdeal.Body

end
-- ==== Proof.FfnStep.lean ====
module

public import proofs.«01_k».proof.Proof.FfnPay

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL.Sem
open VecWindow (window put)

/-- What the body's index arithmetic comes to at point `q` of row block `I`. -/
structure Pt (i : grid0.Coords) (I q : ℕ) : Prop where
  hq : q ≤ 10
  first : first i = 1#1 ↔ I % 8 = 0
  last : k0_cond3 i = 1#1 ↔ q = 10
  start : start i ↔ I = 0 ∧ q = 0
  opens : opens i ↔ q = 0
  scale : k0_pay23 (F := Ideal) i = if q = 0 then (0 : EReal) else 1
  off1 : k0_off1 i = ![if q = 0 then 21 else 2 * q - 1, 0, 0, 0]
  off2 : k0_off2 i = ![if q = 0 then 21 else 2 * q - 1, 1, 0, 0]
  off3 : k0_off3 i = ![2 * q, 0, 0, 0]
  off4 : k0_off4 i = ![2 * q, 1, 0, 0]
  off5 : k0_off5 i = ![2 * q + 1, 0, 0, 0]
  off6 : k0_off6 i = ![2 * q + 1, 1, 0, 0]

/-- What a point finds: staged for the delayed half tile its rows, the carried rows, and the result's block so far. -/
structure Inv (A : Args) (s : St Ideal) (i q : ℕ) : Prop where
  w0 : q ≠ 0 → RowsAt A s.w0 i (256 * (2 * q - 1))
  w1 : q ≠ 0 → RowsAt A s.w1 i (5632 + 256 * (2 * q - 1))
  D : q ≠ 0 → WdAt A s.D (256 * (2 * q - 1))
  old0 : q = 0 → i ≠ 0 → RowsAt A s.w0 (i - 1) (256 * 21)
  old1 : q = 0 → i ≠ 0 → RowsAt A s.w1 (i - 1) (5632 + 256 * 21)
  C : CarryAt A s.C i (2 * q - 1)
  o : OutAt A s.o i (2 * q - 1)

/-- What a point leaves. -/
structure Post (A : Args) (s : St Ideal) (i q : ℕ) : Prop where
  w0 : RowsAt A s.w0 i (256 * (2 * q + 1))
  w1 : RowsAt A s.w1 i (5632 + 256 * (2 * q + 1))
  D : WdAt A s.D (256 * (2 * q + 1))
  C : CarryAt A s.C i (if q = 10 then 22 else 2 * q + 1)
  o : OutAt A s.o i (if q = 10 then 22 else 2 * q + 1)

variable {A : Args} {i : grid0.Coords} {I q : ℕ} {b : Blk Ideal} {s : St Ideal} (hp : Pt i I q) (hb : BlkOk A b I q) (hs : Inv A s I q)
include hp hb hs

/-- The tile of the delayed half, -/
theorem delayed_lt : 2 * q - 1 < 22 := by have := hp.hq; omega

/-- its gate's values -/
theorem v61_at (h : q ≠ 0) : ConvAt A (v61 i b s) I (256 * (2 * q - 1)) := by
  have hk := delayed_lt hp hb hs
  unfold v61
  exact conv27 (x11b hb h) (x13b hb h) (head25 (k := ⟨2 * q - 1, hk⟩) (h := 0) (hs.C.old _ _ (le_refl _)) hp.first _ (by rw [hp.off1, if_neg h]; rfl) (by simp)) (hs.w0 h)

/-- and its value's. -/
theorem v97_at (h : q ≠ 0) : ConvAt A (v97 i b s) I (5632 + 256 * (2 * q - 1)) := by
  have hk := delayed_lt hp hb hs
  unfold v97
  refine conv30 (x12b hb h) (x14b hb h) (head28 (k := ⟨2 * q - 1, hk⟩) (h := 1) ?_ hp.first _ (by rw [hp.off2, if_neg h]; rfl) (by simp)) (hs.w1 h)
  unfold C1
  exact (hs.C.old _ _ (le_refl _)).put _ (by rw [hp.off1, if_neg h]; rfl) _

/-- The carried rows with the delayed half's. -/
theorem C2_at : CarryAt A (C2 i s) I (2 * q) := by
  unfold C2 C1
  by_cases h : q = 0
  · subst h
    exact carry_again hs.C (by rw [hp.off1]; rfl) (by rw [hp.off2]; rfl) (fun hi => tail26 (hs.old0 rfl hi)) (fun hi => tail29 (hs.old1 rfl hi))
  · have := carry_next hs.C (delayed_lt hp hb hs) (off0 := k0_off1 i) (off1 := k0_off2 i) (by rw [hp.off1, if_neg h]; rfl) (by rw [hp.off2, if_neg h]; rfl) (tail26 (hs.w0 h)) (tail29 (hs.w1 h))
    rwa [show 2 * q - 1 + 1 = 2 * q by omega] at this

/-- The result's block with the delayed contribution. -/
theorem v115_at (a : Fin 512) (d : Fin 2048) : s.o (ix2 a d) + v115 i b s (ix2 a d) = A.out (2 * q) (512 * I + a.val) d.val := by
  rw [hs.o a d]
  unfold v115
  by_cases h : q = 0
  · rw [out34_zero (by rw [hp.scale, if_pos h])]
    subst h
    exact add_zero _
  · rw [out34 (by rw [hp.scale, if_neg h]) (v61_at hp hb hs h) (v97_at hp hb hs h) (hs.D h), ← Args.out_succ, show 2 * q - 1 + 1 = 2 * q by omega]

/-- The current half tile's projection, -/
theorem n0_at : RowsAt A (n0 b) I (256 * (2 * q)) := by
  unfold n0; exact rows32 hb.x2 (x4a hb)
theorem n1_at : RowsAt A (n1 b) I (5632 + 256 * (2 * q)) := by
  unfold n1; exact rows33 hb.x2 (x5a hb)
/-- the staged one's, -/
theorem m0_at : RowsAt A (m0 b) I (256 * (2 * q + 1)) := by
  unfold m0; exact rows44 hb.x2 (x4b hb)
theorem m1_at : RowsAt A (m1 b) I (5632 + 256 * (2 * q + 1)) := by
  unfold m1; exact rows1 hb.x2 (x5b hb)
theorem D1_at : WdAt A (D1 b) (256 * (2 * q + 1)) := by
  unfold D1
  intro a d
  pointwise [k0_pay3]
  exact x10b hb a d

/-- the carried rows with the current half's, -/
theorem C4_at : CarryAt A (C4 i b s) I (2 * q + 1) := by
  unfold C4 C3
  exact carry_next (C2_at hp hb hs) (by have := hp.hq; omega) (by rw [hp.off3]; rfl) (by rw [hp.off4]; rfl) (tail37 (n0_at hp hb hs)) (tail42 (n1_at hp hb hs))

/-- the current gate and activation, -/
theorem v152_at : ConvAt A (v152 i b s) I (256 * (2 * q)) := by
  unfold v152
  exact conv38 (x6a hb) (x8a hb) (head36 (k := ⟨2 * q, by have := hp.hq; omega⟩) (h := 0) ((C2_at hp hb hs).old _ _ (le_refl _)) hp.first _ (by rw [hp.off3]; rfl) (by simp)) (n0_at hp hb hs)

theorem v192_at (a : Fin 512) (z : Fin 256) : v192 i b s (ix2 a z) = A.act (512 * I + a.val) (256 * (2 * q) + z.val) := by
  unfold v192
  refine act43 (v152_at hp hb hs) (x7a hb) (x9a hb) (head41 (k := ⟨2 * q, by have := hp.hq; omega⟩) (h := 1) ?_ hp.first _ (by rw [hp.off4]; rfl) (by simp)) (n1_at hp hb hs) a z
  unfold C3
  exact ((C2_at hp hb hs).old _ _ (le_refl _)).put _ (by rw [hp.off3]; rfl) _

/-- and the result's block. -/
theorem o1_at : OutAt A (o1 i b s) I (2 * q + 1) := by
  unfold o1
  exact out2 (v192_at hp hb hs) (x10a hb) (v115_at hp hb hs)

section Last
variable (h3 : k0_cond3 i = 1#1)

/-- The last half tile of a row block. -/
theorem v254_at : ConvAt A (v254 i b s h3) I (256 * (2 * q + 1)) := by
  unfold v254
  exact conv12 (x6b hb) (x8b hb) (head6 (k := ⟨2 * q + 1, by have := hp.hq; omega⟩) (h := 0) ((C4_at hp hb hs).old _ _ (le_refl _)) hp.first _ (by rw [hp.off5]; rfl) (by simp)) (m0_at hp hb hs)

theorem C6_at : CarryAt A (C6 i b s h3) I (2 * q + 1 + 1) := by
  unfold C6 C5
  exact carry_next (C4_at hp hb hs) (by have := hp.hq; omega) (by rw [hp.off5]; rfl) (by rw [hp.off6]; rfl) (tail7 (m0_at hp hb hs)) (tail15 (m1_at hp hb hs))

theorem o2_at : OutAt A (o2 i b s h3) I (2 * q + 1 + 1) := by
  unfold o2
  refine out4 (v254_at hp hb hs h3) (x7b hb) (x9b hb) (head14 (k := ⟨2 * q + 1, by have := hp.hq; omega⟩) (h := 1) ?_ hp.first _ (by rw [hp.off6]; rfl) (by simp)) (m1_at hp hb hs) (x10b hb) (o1_at hp hb hs)
  unfold C5
  exact ((C4_at hp hb hs).old _ _ (le_refl _)).put _ (by rw [hp.off5]; rfl) _

end Last

/-- A point leaves what it should. -/
theorem work_at : Post A (work i b s) I q where
  w0 := m0_at hp hb hs
  w1 := m1_at hp hb hs
  D := D1_at hp hb hs
  C := by
    unfold work
    by_cases h : q = 10
    · rw [if_pos h]; simp only [dif_pos (hp.last.2 h)]
      have := C6_at hp hb hs (hp.last.2 h)
      subst h; exact this
    · rw [if_neg h]; simp only [dif_neg (fun hh => h (hp.last.1 hh))]
      exact C4_at hp hb hs
  o := by
    unfold work
    by_cases h : q = 10
    · rw [if_pos h]; simp only [dif_pos (hp.last.2 h)]
      have := o2_at hp hb hs (hp.last.2 h)
      subst h; exact this
    · rw [if_neg h]; simp only [dif_neg (fun hh => h (hp.last.1 hh))]
      exact o1_at hp hb hs

omit hs in
/-- The grid's first point finds what it should, -/
theorem begin_zero (hI : I = 0) (hq : q = 0) : Inv A (begin i b s) I q where
  w0 h := absurd hq h
  w1 h := absurd hq h
  D h := absurd hq h
  old0 _ h := absurd hI h
  old1 _ h := absurd hI h
  C := fun k h a z => ⟨fun hk => absurd hk (by omega), fun _ h => absurd hI h⟩
  o := by
    intro a d
    unfold begin; simp only [if_pos (hp.opens.2 hq)]
    rw [hb.x3 a d]; subst hq
    exact (add_zero _).symm

omit hs in
/-- the first of a further row block, after the last of the block before, -/
theorem begin_open {J : ℕ} (hI : I = J + 1) (hq : q = 0) (hs : Post A s J 10) : Inv A (begin i b s) I q where
  w0 h := absurd hq h
  w1 h := absurd hq h
  D h := absurd hq h
  old0 _ _ := by
    unfold begin; simp only [if_neg (fun hh => absurd (hp.start.1 hh).1 (by omega))]
    subst hI; exact hs.w0
  old1 _ _ := by
    unfold begin; simp only [if_neg (fun hh => absurd (hp.start.1 hh).1 (by omega))]
    subst hI; exact hs.w1
  C := by
    unfold begin; simp only [if_neg (fun hh => absurd (hp.start.1 hh).1 (by omega))]
    subst hI hq
    exact carry_turn hs.C
  o := by
    intro a d
    unfold begin; simp only [if_pos (hp.opens.2 hq)]
    rw [hb.x3 a d]; subst hq
    exact (add_zero _).symm

omit hs in
/-- and any other, after the one before. -/
theorem begin_next {r : ℕ} (hq : q = r + 1) (hs : Post A s I r) : Inv A (begin i b s) I q := by
  have h0 : ¬ start i := fun hh => absurd (hp.start.1 hh).2 (by omega)
  have h1 : ¬ opens i := fun hh => absurd (hp.opens.1 hh) (by omega)
  have hr : r ≠ 10 := by have := hp.hq; omega
  have e : 2 * q - 1 = 2 * r + 1 := by omega
  have hb' : begin i b s = s := by unfold begin; simp only [if_neg h0, if_neg h1]
  rw [hb']
  have hC := hs.C; have ho := hs.o
  rw [if_neg hr] at hC ho
  exact ⟨fun _ => e ▸ hs.w0, fun _ => e ▸ hs.w1, fun _ => e ▸ hs.D, fun h => absurd h (by omega), fun h => absurd h (by omega), e ▸ hC, e ▸ ho⟩

end Cert.FfnIdeal.Body

end
-- ==== Proof.FfnRead.lean ====
module

public import proofs.«01_k».proof.Proof.FfnFrame
public import proofs.«01_k».proof.Proof.FfnStep

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The arguments, read at numbers. -/
def args (c : Dev nD) : Args where
  X r k := if h : r < 16384 ∧ k < 2048 then m ((c : Thread nD τ).loc main_arg0) (ix2 ⟨r, h.1⟩ ⟨k, h.2⟩) else 0
  X1 r k := if h : r < 16384 ∧ k < 2048 then m ((c : Thread nD τ).loc main_arg1) (ix2 ⟨r, h.1⟩ ⟨k, h.2⟩) else 0
  W k n := if h : k < 2048 ∧ n < 11264 then m ((c : Thread nD τ).loc main_arg2) (ix2 ⟨k, h.1⟩ ⟨n, h.2⟩) else 0
  CW k n := if h : k < 3 ∧ n < 11264 then m ((c : Thread nD τ).loc main_arg3) (ix2 ⟨k, h.1⟩ ⟨n, h.2⟩) else 0
  CB n := if h : n < 11264 then m ((c : Thread nD τ).loc main_arg4) (ix1 ⟨n, h⟩) else 0
  WD j d := if h : j < 5632 ∧ d < 2048 then m ((c : Thread nD τ).loc main_arg5) (ix2 ⟨j, h.1⟩ ⟨d, h.2⟩) else 0

theorem idx : ∀ t : Fin cfg0.N, win0_0.index t = ![t.val / 11, 0] ∧ win0_1.index t = ![t.val / 11, 0] ∧ win0_2.index t = ![0, t.val % 11] ∧ win0_3.index t = ![0, 11 + t.val % 11]
    ∧ win0_4.index t = ![0, t.val % 11] ∧ win0_5.index t = ![0, 11 + t.val % 11] ∧ win0_6.index t = ![0, t.val % 11] ∧ win0_7.index t = ![0, 11 + t.val % 11]
    ∧ win0_8.index t = ![t.val % 11, 0] ∧ win0_9.index t = ![0, t.val % 11 - 1] ∧ win0_10.index t = ![0, 11 + (t.val % 11 - 1)]
    ∧ win0_11.index t = ![0, t.val % 11 - 1] ∧ win0_12.index t = ![0, 11 + (t.val % 11 - 1)] ∧ win0_13.index t = ![t.val / 11, 0] := by
  decide +kernel

theorem pt : ∀ t : Fin cfg0.N, ((first (grid0.coords t) = 1#1 ↔ (t.val / 11) % 8 = 0) ∧ (k0_cond3 (grid0.coords t) = 1#1 ↔ t.val % 11 = 10)
    ∧ Scalar.cmpi .eq (BitVec.ofNat 32 ((grid0.coords t) 1).val) 0#32 = if t.val % 11 = 0 then 1#1 else 0#1)
    ∧ k0_off1 (grid0.coords t) = ![if t.val % 11 = 0 then 21 else 2 * (t.val % 11) - 1, 0, 0, 0] ∧ k0_off2 (grid0.coords t) = ![if t.val % 11 = 0 then 21 else 2 * (t.val % 11) - 1, 1, 0, 0]
    ∧ k0_off3 (grid0.coords t) = ![2 * (t.val % 11), 0, 0, 0] ∧ k0_off4 (grid0.coords t) = ![2 * (t.val % 11), 1, 0, 0]
    ∧ k0_off5 (grid0.coords t) = ![2 * (t.val % 11) + 1, 0, 0, 0] ∧ k0_off6 (grid0.coords t) = ![2 * (t.val % 11) + 1, 1, 0, 0] :=
  (by decide +kernel : ∀ t : Fin grid0.N, _)

theorem ptAt (t : Fin cfg0.N) : Pt (grid0.coords t) (t.val / 11) (t.val % 11) where
  hq := by omega
  first := (pt t).1.1
  last := (pt t).1.2.1
  start := (hstart t).trans (by omega)
  opens := hopens t
  scale := by
    pointwise [k0_pay23]
    rw [(pt t).1.2.2]
    by_cases h : t.val % 11 = 0
    · rw [if_pos h, if_pos h]; rfl
    · rw [if_neg h, if_neg h]; rfl
  off1 := (pt t).2.1
  off2 := (pt t).2.2.1
  off3 := (pt t).2.2.2.1
  off4 := (pt t).2.2.2.2.1
  off5 := (pt t).2.2.2.2.2.1
  off6 := (pt t).2.2.2.2.2.2

theorem t_lt (t : Fin cfg0.N) : t.val < 352 := lt_of_lt_of_eq t.isLt N_0

theorem read0 (c : Dev nD) (t : Fin cfg0.N) (a : Fin 512) (z : Fin 2048) :
    iblk m c 0 t (ix2 a z) = m ((c : Thread nD τ).loc main_arg0) (ix2 ⟨512 * (t.val / 11) + a.val, by have := t_lt t; omega⟩ z) := by
  blk_ext [iblk, V_main_arg0 m c, idx t]
theorem read1 (c : Dev nD) (t : Fin cfg0.N) (a : Fin 512) (z : Fin 2048) :
    iblk m c 1 t (ix2 a z) = m ((c : Thread nD τ).loc main_arg1) (ix2 ⟨512 * (t.val / 11) + a.val, by have := t_lt t; omega⟩ z) := by
  blk_ext [iblk, V_main_arg1 m c, idx t]
theorem read2 (c : Dev nD) (t : Fin cfg0.N) (a : Fin 2048) (z : Fin 512) :
    iblk m c 2 t (ix2 a z) = m ((c : Thread nD τ).loc main_arg2) (ix2 a ⟨512 * (t.val % 11) + z.val, by omega⟩) := by
  blk_ext [iblk, V_main_arg2 m c, idx t]
theorem read3 (c : Dev nD) (t : Fin cfg0.N) (a : Fin 2048) (z : Fin 512) :
    iblk m c 3 t (ix2 a z) = m ((c : Thread nD τ).loc main_arg2) (ix2 a ⟨5632 + 512 * (t.val % 11) + z.val, by omega⟩) := by
  blk_ext [iblk, V_main_arg2 m c, idx t]
theorem read4 (c : Dev nD) (t : Fin cfg0.N) (a : Fin 3) (z : Fin 512) :
    iblk m c 4 t (ix2 a z) = m ((c : Thread nD τ).loc main_arg3) (ix2 a ⟨512 * (t.val % 11) + z.val, by omega⟩) := by
  blk_ext [iblk, V_main_arg3 m c, idx t]
theorem read5 (c : Dev nD) (t : Fin cfg0.N) (a : Fin 3) (z : Fin 512) :
    iblk m c 5 t (ix2 a z) = m ((c : Thread nD τ).loc main_arg3) (ix2 a ⟨5632 + 512 * (t.val % 11) + z.val, by omega⟩) := by
  blk_ext [iblk, V_main_arg3 m c, idx t]
theorem read8 (c : Dev nD) (t : Fin cfg0.N) (a : Fin 512) (z : Fin 2048) :
    iblk m c 8 t (ix2 a z) = m ((c : Thread nD τ).loc main_arg5) (ix2 ⟨512 * (t.val % 11) + a.val, by omega⟩ z) := by
  blk_ext [iblk, V_main_arg5 m c, idx t]
theorem read9 (c : Dev nD) (t : Fin cfg0.N) (a : Fin 3) (z : Fin 512) :
    iblk m c 9 t (ix2 a z) = m ((c : Thread nD τ).loc main_arg3) (ix2 a ⟨512 * (t.val % 11 - 1) + z.val, by omega⟩) := by
  blk_ext [iblk, V_main_arg3 m c, idx t]
theorem read10 (c : Dev nD) (t : Fin cfg0.N) (a : Fin 3) (z : Fin 512) :
    iblk m c 10 t (ix2 a z) = m ((c : Thread nD τ).loc main_arg3) (ix2 a ⟨5632 + 512 * (t.val % 11 - 1) + z.val, by omega⟩) := by
  blk_ext [iblk, V_main_arg3 m c, idx t]
theorem read6 (c : Dev nD) (t : Fin cfg0.N) (z : Fin 512) :
    iblk m c 6 t (ix2 0 z) = m ((c : Thread nD τ).loc main_arg4) (ix1 ⟨512 * (t.val % 11) + z.val, by omega⟩) := by
  blk_simp [iblk, idx t]
  entry_read
  pointwise
  blk_ext [idx t]
theorem read7 (c : Dev nD) (t : Fin cfg0.N) (z : Fin 512) :
    iblk m c 7 t (ix2 0 z) = m ((c : Thread nD τ).loc main_arg4) (ix1 ⟨5632 + 512 * (t.val % 11) + z.val, by omega⟩) := by
  blk_simp [iblk, idx t]
  entry_read
  pointwise
  blk_ext [idx t]
theorem read11 (c : Dev nD) (t : Fin cfg0.N) (z : Fin 512) :
    iblk m c 11 t (ix2 0 z) = m ((c : Thread nD τ).loc main_arg4) (ix1 ⟨512 * (t.val % 11 - 1) + z.val, by omega⟩) := by
  blk_simp [iblk, idx t]
  entry_read
  pointwise
  blk_ext [idx t]
theorem read12 (c : Dev nD) (t : Fin cfg0.N) (z : Fin 512) :
    iblk m c 12 t (ix2 0 z) = m ((c : Thread nD τ).loc main_arg4) (ix1 ⟨5632 + 512 * (t.val % 11 - 1) + z.val, by omega⟩) := by
  blk_simp [iblk, idx t]
  entry_read
  pointwise
  blk_ext [idx t]

theorem inRange1 {n : ℕ} (f : (⟨1, ![n]⟩ : Shape).Idx → EReal) (i : ℕ) (h : i < n) : f (ix1 ⟨i, h⟩) = if h : i < n then f (ix1 ⟨i, h⟩) else 0 := by rw [dif_pos h]
theorem inRange2 {n k : ℕ} (f : (⟨2, ![n, k]⟩ : Shape).Idx → EReal) (i : Fin n) (j : Fin k) : f (ix2 i j) = if h : i.val < n ∧ j.val < k then f (ix2 ⟨i.val, h.1⟩ ⟨j.val, h.2⟩) else 0 := by
  have hh : i.val < n ∧ j.val < k := ⟨i.isLt, j.isLt⟩
  rw [dif_pos hh]

/-- The blocks of a point hold the arguments' elements. -/
theorem blkOk (c : Dev nD) (t : Fin cfg0.N) : BlkOk (args m c) (blkAt m c t) (t.val / 11) (t.val % 11) where
  x2 a z := (read0 m c t a z).trans (inRange2 _ _ _)
  x3 a z := (read1 m c t a z).trans (inRange2 _ _ _)
  x4 a z := (read2 m c t a z).trans (inRange2 _ _ _)
  x5 a z := (read3 m c t a z).trans (inRange2 _ _ _)
  x6 a z := (read4 m c t a z).trans (inRange2 _ _ _)
  x7 a z := (read5 m c t a z).trans (inRange2 _ _ _)
  x8 z := (read6 m c t z).trans (inRange1 _ _ _)
  x9 z := (read7 m c t z).trans (inRange1 _ _ _)
  x10 a z := (read8 m c t a z).trans (inRange2 _ _ _)
  x11 a z := (read9 m c t a z).trans (inRange2 _ _ _)
  x12 a z := (read10 m c t a z).trans (inRange2 _ _ _)
  x13 z := (read11 m c t z).trans (inRange1 _ _ _)
  x14 z := (read12 m c t z).trans (inRange1 _ _ _)

/-- The places of a block's elements in the result. -/
theorem emb13 (t : Fin cfg0.N) (y : (win0_13.xblock (grid0.coords t)).Idx) : ((((cfg0.win 13).blk t).view.emb y) 0 : ℕ) = 512 * (t.val / 11) + (y 0).val
    ∧ ((((cfg0.win 13).blk t).view.emb y) 1 : ℕ) = (y 1).val := by
  constructor <;> blk_simp [idx t] <;> omega

/-- Every point leaves what it should. -/
theorem post (c : Dev nD) : ∀ (n : ℕ) (h : n < cfg0.N), Post (args m c) (stN m c (n + 1)) (n / 11) (n % 11) := by
  intro n
  induction n with
  | zero =>
    intro h
    rw [stN_succ m c ⟨0, h⟩]
    exact work_at (ptAt ⟨0, h⟩) (blkOk m c ⟨0, h⟩) (begin_zero (ptAt ⟨0, h⟩) (blkOk m c ⟨0, h⟩) rfl rfl)
  | succ n ih =>
    intro h
    have hn := ih (by omega)
    rw [stN_succ m c ⟨n + 1, h⟩]
    refine work_at (ptAt ⟨n + 1, h⟩) (blkOk m c ⟨n + 1, h⟩) ?_
    by_cases hq : (n + 1) % 11 = 0
    · have h10 : n % 11 = 10 := by omega
      rw [h10] at hn
      exact begin_open (ptAt ⟨n + 1, h⟩) (blkOk m c ⟨n + 1, h⟩) (by first | omega | (simp only; omega)) hq hn
    · have e : n / 11 = (n + 1) / 11 := by omega
      rw [e] at hn
      exact begin_next (ptAt ⟨n + 1, h⟩) (blkOk m c ⟨n + 1, h⟩) (by first | omega | (simp only; omega)) hn

/-- The result the kernel leaves. -/
def OUT (c : Dev nD) : FVec Ideal S16384x2048 .f32 := fun y => (args m c).out 22 (y 0).val (y 1).val

theorem final13 (c : Dev nD) : (dats m 0 c).arrAt 13 (cfgs 0).N = OUT m c := by
  refine (dats m 0 c).arrAt_eq_of_covers 13 _ (by decide +kernel) fun t hf y => ?_
  have h10 : t.val % 11 = 10 := (flush0_13 t).1 hf
  blk_simp
  rw [after0_13]
  have hp := (post m c t.val t.isLt).o
  rw [if_pos h10] at hp
  refine Eq.trans ?_ ((hp (y 0) (y 1)).trans ?_)
  · exact congrArg _ (eq_ix2 y)
  · unfold OUT
    simp only [(emb13 t y).1, (emb13 t y).2]

end Cert.FfnIdeal.Body

end
-- ==== Proof.FfnRef.lean ====
module

public import proofs.«01_k».proof.Proof.FfnRead
public import proofs.«01_k».proof.Proof.Gen.FfnRefIdeal

@[expose] public section

set_option maxRecDepth 16384

noncomputable section

namespace Cert.FfnIdeal.Body

open Idealize.ShloMosaic Idealize.ShloMosaic.TcCoe Idealize.ShloMosaic.Tactic
open Idealize.SL.Sem

/-- The reference's up projection with two rows of zeros before every sequence, -/
abbrev RPAD (X : FVec Ideal FfnRefIdeal.S16384x2048 .bf16) (W : FVec Ideal FfnRefIdeal.S2048x11264 .bf16) : FVec Ideal FfnRefIdeal.S4x4098x11264 .f32 :=
  pad FfnRefIdeal.S4x4098x11264 ![0, 2, 0] ![0, 0, 0] ![0, 0, 0]
    (shapeCast FfnRefIdeal.S4x4096x11264
      (Host.dotGeneral FfnRefIdeal.dot_S16384x2048_S2048x11264_S16384x11264_1_0_0_1_n_n none (extf FTy.f32 X FfnRefIdeal.Gen.bitsLt_bf16_f32) (extf FTy.f32 W FfnRefIdeal.Gen.bitsLt_bf16_f32))
      FfnRefIdeal.Gen.shapeCasts_S16384x11264_S4x4096x11264)
    (sitofp FTy.f32 (constantI FfnRefIdeal.S_ 32 0#32)) FfnRefIdeal.Gen.pads_S4x4096x11264_S4x4098x11264_000_200_000 FfnRefIdeal.Gen.h_S_

/-- a row of numbers along the last axis, -/
abbrev RROW (v : FVec Ideal FfnRefIdeal.S11264 .f32) : FVec Ideal FfnRefIdeal.S4x4096x11264 .f32 :=
  broadcastInDim FfnRefIdeal.S4x4096x11264 ![0, 1, 2] FfnRefIdeal.Gen.bcast_S1x1x11264_S4x4096x11264_0_1_2
    (broadcastInDim FfnRefIdeal.S1x1x11264 ![2] FfnRefIdeal.Gen.bcast_S11264_S1x1x11264_2 v)

/-- its convolution, -/
abbrev RCONV (U : FVec Ideal FfnRefIdeal.S4x4098x11264 .f32) (CW : FVec Ideal FfnRefIdeal.S3x11264 .f32) (CB : FVec Ideal FfnRefIdeal.S11264 .f32) : FVec Ideal FfnRefIdeal.S4x4096x11264 .f32 :=
  addf (RROW CB)
    (addf
      (addf
        (addf (broadcastInDim FfnRefIdeal.S4x4096x11264 ![] FfnRefIdeal.Gen.bcast_S_S4x4096x11264 (constant FfnRefIdeal.S_ FTy.f32 0x00000000#32))
          (mulf (RROW (shapeCast FfnRefIdeal.S11264 (extractStridedSlice FfnRefIdeal.S1x11264 ![0, 0] CW FfnRefIdeal.Gen.slices_S3x11264_S1x11264_0_0) FfnRefIdeal.Gen.shapeCasts_S1x11264_S11264))
            (extractStridedSlice FfnRefIdeal.S4x4096x11264 ![0, 0, 0] U FfnRefIdeal.Gen.slices_S4x4098x11264_S4x4096x11264_0_0_0)))
        (mulf (RROW (shapeCast FfnRefIdeal.S11264 (extractStridedSlice FfnRefIdeal.S1x11264 ![1, 0] CW FfnRefIdeal.Gen.slices_S3x11264_S1x11264_1_0) FfnRefIdeal.Gen.shapeCasts_S1x11264_S11264))
          (extractStridedSlice FfnRefIdeal.S4x4096x11264 ![0, 1, 0] U FfnRefIdeal.Gen.slices_S4x4098x11264_S4x4096x11264_0_1_0)))
      (mulf (RROW (shapeCast FfnRefIdeal.S11264 (extractStridedSlice FfnRefIdeal.S1x11264 ![2, 0] CW FfnRefIdeal.Gen.slices_S3x11264_S1x11264_2_0) FfnRefIdeal.Gen.shapeCasts_S1x11264_S11264))
        (extractStridedSlice FfnRefIdeal.S4x4096x11264 ![0, 2, 0] U FfnRefIdeal.Gen.slices_S4x4098x11264_S4x4096x11264_0_2_0)))

/-- the gate's activation, -/
abbrev RSILU (g : FVec Ideal FfnRefIdeal.S4x4096x5632 .f32) : FVec Ideal FfnRefIdeal.S4x4096x5632 .f32 :=
  mulf g
    (Host.divf (broadcastInDim FfnRefIdeal.S4x4096x5632 ![] FfnRefIdeal.Gen.bcast_S_S4x4096x5632 (constant FfnRefIdeal.S_ FTy.f32 0x3F800000#32))
      (addf (broadcastInDim FfnRefIdeal.S4x4096x5632 ![] FfnRefIdeal.Gen.bcast_S_S4x4096x5632 (constant FfnRefIdeal.S_ FTy.f32 0x3F800000#32))
        (Host.exp (Host.negf g))))

/-- the activations -/
abbrev RACT (V : FVec Ideal FfnRefIdeal.S4x4096x11264 .f32) : FVec Ideal FfnRefIdeal.S4x4096x5632 .f32 :=
  mulf (RSILU (extractStridedSlice FfnRefIdeal.S4x4096x5632 ![0, 0, 0] V FfnRefIdeal.Gen.slices_S4x4096x11264_S4x4096x5632_0_0_0))
    (extractStridedSlice FfnRefIdeal.S4x4096x5632 ![0, 0, 5632] V FfnRefIdeal.Gen.slices_S4x4096x11264_S4x4096x5632_0_0_5632)

/-- and the whole reference over the arguments. -/
abbrev REF (X : FVec Ideal FfnRefIdeal.S16384x2048 .bf16) (X1 : FVec Ideal FfnRefIdeal.S16384x2048 .f32) (W : FVec Ideal FfnRefIdeal.S2048x11264 .bf16)
    (CW : FVec Ideal FfnRefIdeal.S3x11264 .f32) (CB : FVec Ideal FfnRefIdeal.S11264 .f32) (WD : FVec Ideal FfnRefIdeal.S5632x2048 .bf16) : FVec Ideal FfnRefIdeal.S16384x2048 .f32 :=
  addf X1
    (shapeCast FfnRefIdeal.S16384x2048
      (Host.dotGeneral FfnRefIdeal.dot_S4x4096x5632_S5632x2048_S4x4096x2048_2_0_01_1_n_n none (RACT (RCONV (RPAD X W) CW CB)) (extf FTy.f32 WD FfnRefIdeal.Gen.bitsLt_bf16_f32))
      FfnRefIdeal.Gen.shapeCasts_S4x4096x2048_S16384x2048)

section
variable {A : Args} {X : FVec Ideal FfnRefIdeal.S16384x2048 .bf16} {X1 : FVec Ideal FfnRefIdeal.S16384x2048 .f32} {W : FVec Ideal FfnRefIdeal.S2048x11264 .bf16}
  {CW : FVec Ideal FfnRefIdeal.S3x11264 .f32} {CB : FVec Ideal FfnRefIdeal.S11264 .f32} {WD : FVec Ideal FfnRefIdeal.S5632x2048 .bf16}
  (hX : ∀ (r : Fin 16384) (k : Fin 2048), X (ix2 r k) = A.X r.val k.val) (hX1 : ∀ (r : Fin 16384) (k : Fin 2048), X1 (ix2 r k) = A.X1 r.val k.val)
  (hW : ∀ (k : Fin 2048) (n : Fin 11264), W (ix2 k n) = A.W k.val n.val) (hCW : ∀ (k : Fin 3) (n : Fin 11264), CW (ix2 k n) = A.CW k.val n.val)
  (hCB : ∀ n : Fin 11264, CB (ix1 n) = A.CB n.val) (hWD : ∀ (j : Fin 5632) (d : Fin 2048), WD (ix2 j d) = A.WD j.val d.val)

theorem zero_word : FloatOps.sitofp (F := Ideal) FTy.f32 (0#32 : BitVec 32) = (0 : EReal) := by
  change (((0#32 : BitVec 32).toInt : ℝ) : EReal) = 0
  simp

include hX hW in
/-- A row of the padded projection. -/
theorem rpad_apply (s : Fin 4) (p : Fin 4096) (d : ℕ) (hd : d ≤ 2) (n : Fin 11264) : RPAD X W (ix3 s ⟨d + p.val, by omega⟩ n) = A.tapP d (4096 * s.val + p.val) n.val := by
  unfold Args.tapP
  pointwise [RPAD]
  by_cases h : 2 ≤ d + p.val
  · rw [dif_pos (⟨h, by omega⟩ : 2 ≤ d + p.val ∧ d + p.val - 2 < 4096), if_neg (by omega)]
    unfold Args.P
    refine Finset.sum_congr rfl fun k _ => congrArg₂ (· * ·) ((hX _ k).trans (congrArg (A.X · k.val) ?_)) (hW k n)
    simp only; omega
  · rw [dif_neg (fun hh => h hh.1), if_pos (by omega)]
    exact zero_word

include hX hW hCW hCB in
/-- The reference's convolution, -/
theorem rconv_apply (s : Fin 4) (p : Fin 4096) (n : Fin 11264) : RCONV (RPAD X W) CW CB (ix3 s p n) = A.conv (4096 * s.val + p.val) n.val := by
  generalize hU : RPAD X W = U
  have hr : ∀ (d : ℕ) (hd : d ≤ 2), U (ix3 s ⟨d + p.val, by omega⟩ n) = A.tapP d (4096 * s.val + p.val) n.val := fun d hd => hU ▸ rpad_apply hX hW s p d hd n
  pointwise [RCONV, RROW]
  unfold Args.conv
  refine congrArg₂ (· + ·) (hCB n) (congrArg₂ (· + ·) (congrArg₂ (· + ·) (congrArg₂ (· * ·) (hCW 0 n) (Eq.trans ?_ (hr 0 (by decide))))
    (congrArg₂ (· * ·) (hCW 1 n) (hr 1 (by decide)))) (congrArg₂ (· * ·) (hCW 2 n) (hr 2 (by decide))))
  exact congrArg (fun x => U (ix3 s x n)) (Fin.ext (Nat.zero_add _).symm)

include hX hW hCW hCB in
/-- its activations, -/
theorem ract_apply (s : Fin 4) (p : Fin 4096) (j : Fin 5632) : RACT (RCONV (RPAD X W) CW CB) (ix3 s p j) = A.act (4096 * s.val + p.val) j.val := by
  generalize hV : RCONV (RPAD X W) CW CB = V
  have hr : ∀ n : Fin 11264, V (ix3 s p n) = A.conv (4096 * s.val + p.val) n.val := fun n => hV ▸ rconv_apply hX hW hCW hCB s p n
  pointwise [RACT, RSILU]
  unfold Args.act
  have h0 := hr ⟨j.val, by omega⟩
  exact congrArg₂ (· * ·) (congrArg₂ (· * ·) h0 (congrArg Ideal.logistic h0)) (hr ⟨5632 + j.val, by omega⟩)

/-- The down projection at an element, -/
theorem down_apply (X1 : FVec Ideal FfnRefIdeal.S16384x2048 .f32) (T : FVec Ideal FfnRefIdeal.S4x4096x5632 .f32) (WD : FVec Ideal FfnRefIdeal.S5632x2048 .bf16) (r : Fin 16384) (d : Fin 2048) :
    addf X1
      (shapeCast FfnRefIdeal.S16384x2048
        (Host.dotGeneral FfnRefIdeal.dot_S4x4096x5632_S5632x2048_S4x4096x2048_2_0_01_1_n_n none T (extf FTy.f32 WD FfnRefIdeal.Gen.bitsLt_bf16_f32))
        FfnRefIdeal.Gen.shapeCasts_S4x4096x2048_S16384x2048) (ix2 r d)
      = X1 (ix2 r d) + ∑ j : Fin 5632, T (ix3 ⟨r.val / 4096, by omega⟩ ⟨r.val % 4096, by omega⟩ j) * WD (ix2 j d) := by
  pointwise

include hX hX1 hW hCW hCB hWD in
/-- and the reference's result. -/
theorem ref_apply (r : Fin 16384) (d : Fin 2048) : REF X X1 W CW CB WD (ix2 r d) = A.out 22 r.val d.val := by
  rw [Args.out_all]
  refine (down_apply X1 (RACT (RCONV (RPAD X W) CW CB)) WD r d).trans ?_
  refine congrArg₂ (· + ·) (hX1 r d) (Finset.sum_congr rfl fun j _ => ?_)
  have e : 4096 * (r.val / 4096) + r.val % 4096 = r.val := Nat.div_add_mod _ _
  have h := ract_apply hX hW hCW hCB ⟨r.val / 4096, by omega⟩ ⟨r.val % 4096, by omega⟩ j
  rw [e] at h
  exact congrArg₂ (· * ·) h (hWD j d)
end

/-- The reference over the arguments is what the kernel leaves. -/
theorem ref_eq (m : (ℓ : Loc nD τ FfnIdeal.sig) → Buf (Elt Ideal) ℓ) (c : Dev nD) :
    REF (m ((c : Thread nD τ).loc FfnIdeal.main_arg0)) (m ((c : Thread nD τ).loc FfnIdeal.main_arg1)) (m ((c : Thread nD τ).loc FfnIdeal.main_arg2))
      (m ((c : Thread nD τ).loc FfnIdeal.main_arg3)) (m ((c : Thread nD τ).loc FfnIdeal.main_arg4)) (m ((c : Thread nD τ).loc FfnIdeal.main_arg5)) = OUT m c := by
  funext y
  rw [eq_ix2 y]
  exact ref_apply (A := args m c) (fun r k => inRange2 _ r k) (fun r k => inRange2 _ r k) (fun r k => inRange2 _ r k) (fun r k => inRange2 _ r k)
    (fun n => inRange1 _ n.val n.isLt) (fun r k => inRange2 _ r k) (y 0) (y 1)

end Cert.FfnIdeal.Body

end
-- ==== Proof.FfnPair.lean ====
module

public import proofs.«01_k».proof.Proof.FfnRef
public import proofs.«01_k».proof.Defs
public import proofs.«01_k».proof.Proof.Gen.FfnRefIdeal
public import Idealize.ShloMosaic.Lib.Claim

@[expose] public section

set_option maxRecDepth 16384

noncomputable section

namespace Cert.FfnIdeal.Body

open Idealize.ShloMosaic Idealize.ShloMosaic.TcCoe Idealize.ShloMosaic.Tactic
open Idealize.SL.Sem

set_option maxHeartbeats 1000000 in
/-- The result of the kernel is the reference's. -/
theorem pair : @Cert.algebraic_FfnIdeal_FfnRefIdeal Cert.FfnIdeal.Gen.facts Cert.FfnRefIdeal.Gen.facts := by
  pair_intro
  · run_from Cert.FfnIdeal.Body.run_main m g
  · hlo_run
    exact Eq.trans (b := REF (m (c.tc.loc FfnIdeal.main_arg0)) (m (c.tc.loc FfnIdeal.main_arg1)) (m (c.tc.loc FfnIdeal.main_arg2)) (m (c.tc.loc FfnIdeal.main_arg3))
      (m (c.tc.loc FfnIdeal.main_arg4)) (m (c.tc.loc FfnIdeal.main_arg5))) rfl ((ref_eq m c).trans (final13 m c).symm)

end Cert.FfnIdeal.Body

end
-- ==== Proof.OprojRead.lean ====
module

public import proofs.«01_k».proof.Proof.Gen.OprojIdeal.Frame
public import Idealize.ShloMosaic.Lib.Pipeline.ValueKit
public import Idealize.ShloMosaic.Lib.Pointwise
public import Idealize.ShloMosaic.Lib.Claim

@[expose] public section

set_option maxRecDepth 16384

noncomputable section

namespace Cert.OprojIdeal.Value

open Cert.OprojIdeal Cert.OprojIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![1, 0] ∧ win0_5.index t = ![0, 0] ∧ win0_6.index t = ![0, 0] ∧ win0_7.index t = ![0, 0]
    ∧ win0_8.index t = ![0, 0, 0] ∧ win0_9.index t = ![0, 0] ∧ win0_10.index t = ![t.val, 0] ∧ win0_11.index t = ![t.val, 0] := by
  decide +kernel

theorem t_lt (t : Fin cfg0.N) : t.val < 32 := lt_of_lt_of_eq t.isLt N_0

/-- A block of the attention's rows, read over the argument. -/
theorem read0 (c : Dev nD) (t : Fin cfg0.N) (a : Fin 512) (z : Fin 1024) :
    iblk m c 0 t (ix2 a z) = m ((c : Thread nD τ).loc main_arg0) (ix2 ⟨512 * t.val + a.val, by have := t_lt t; omega⟩ z) := by
  blk_ext [iblk, V_main_arg0 m c, idx t]
/-- A block of the projection's columns. -/
theorem read1 (c : Dev nD) (t : Fin cfg0.N) (a : Fin 512) (z : Fin 2048) :
    X0_1 m c t (ix2 a z) = m ((c : Thread nD τ).loc main_arg1) (ix2 ⟨512 * t.val + a.val, by have := t_lt t; omega⟩ ⟨z.val, by omega⟩) := by
  unfold X0_1 Pipeline.Window.fill
  rw [dif_pos (moved0_1 t _)]
  blk_ext [iblk, V_main_arg1 m c, idx t]
/-- A block of the rows. -/
theorem read2 (c : Dev nD) (t : Fin cfg0.N) (a : Fin 512) (z : Fin 2048) :
    iblk m c 2 t (ix2 a z) = m ((c : Thread nD τ).loc main_arg2) (ix3 ⟨(512 * t.val + a.val) / 4096, by have := t_lt t; omega⟩ ⟨(512 * t.val + a.val) % 4096, by omega⟩ z) := by
  blk_simp [iblk, idx t]
  entry_read
  pointwise
  blk_ext [idx t]
/-- The first half of the weights. -/
theorem read3 (c : Dev nD) (t : Fin cfg0.N) (a : Fin 1024) (z : Fin 2048) :
    iblk m c 3 t (ix2 a z) = m ((c : Thread nD τ).loc main_arg3) (ix2 ⟨a.val, by omega⟩ z) := by
  blk_simp [iblk, idx t]
  entry_read
  pointwise
  blk_ext [idx t]
/-- The second half. -/
theorem read4 (c : Dev nD) (t : Fin cfg0.N) (a : Fin 1024) (z : Fin 2048) :
    iblk m c 4 t (ix2 a z) = m ((c : Thread nD τ).loc main_arg3) (ix2 ⟨1024 + a.val, by omega⟩ z) := by
  blk_simp [iblk, idx t]
  entry_read
  pointwise
  blk_ext [idx t]
/-- The norm's weights. -/
theorem read5 (c : Dev nD) (t : Fin cfg0.N) (z : Fin 2048) : iblk m c 5 t (ix2 0 z) = m ((c : Thread nD τ).loc main_arg4) (ix1 z) := by
  blk_simp [iblk, idx t]
  entry_read
  pointwise
  blk_ext [idx t]
/-- The layer norm's weights. -/
theorem read6 (c : Dev nD) (t : Fin cfg0.N) (z : Fin 1024) : iblk m c 6 t (ix2 0 z) = m ((c : Thread nD τ).loc main_arg5) (ix1 z) := by
  blk_simp [iblk, idx t]
  entry_read
  pointwise
  blk_ext [idx t]
/-- Its bias. -/
theorem read7 (c : Dev nD) (t : Fin cfg0.N) (z : Fin 1024) : iblk m c 7 t (ix2 0 z) = m ((c : Thread nD τ).loc main_arg6) (ix1 z) := by
  blk_simp [iblk, idx t]
  entry_read
  pointwise
  blk_ext [idx t]
/-- The mixing weights. -/
theorem read8 (c : Dev nD) (t : Fin cfg0.N) (g : Fin 8) (a b : Fin 128) : iblk m c 8 t (ix3 g a b) = m ((c : Thread nD τ).loc main_arg7) (ix3 g a b) := by
  blk_ext [iblk, V_main_arg7 m c, idx t]
/-- The mixing bias. -/
theorem read9 (c : Dev nD) (t : Fin cfg0.N) (a : Fin 128) (z : Fin 1024) :
    iblk m c 9 t (ix2 a z) = m ((c : Thread nD τ).loc main_arg8) (ix2 ⟨z.val / 128, by omega⟩ a) := by
  blk_simp [iblk, idx t]
  entry_read
  pointwise
  blk_ext [idx t]

/-- The places of a block's elements in the results. -/
theorem emb10 (t : Fin cfg0.N) (y : (win0_10.xblock (grid0.coords t)).Idx) : ((((cfg0.win 10).blk t).view.emb y) 0 : ℕ) = 512 * t.val + (y 0).val
    ∧ ((((cfg0.win 10).blk t).view.emb y) 1 : ℕ) = (y 1).val := by
  constructor <;> blk_simp [idx t] <;> omega
theorem emb11 (t : Fin cfg0.N) (y : (win0_11.xblock (grid0.coords t)).Idx) : ((((cfg0.win 11).blk t).view.emb y) 0 : ℕ) = 512 * t.val + (y 0).val
    ∧ ((((cfg0.win 11).blk t).view.emb y) 1 : ℕ) = (y 1).val := by
  constructor <;> blk_simp [idx t] <;> omega

end Cert.OprojIdeal.Value

end
-- ==== Proof.OprojPay.lean ====
module

public import proofs.«01_k».proof.Proof.Gen.OprojIdeal.Skeleton
public import Idealize.ShloMosaic.Lib.Pipeline.ValueKit
public import Idealize.ShloMosaic.Lib.Pointwise
public import Idealize.ShloMosaic.Lib.Claim

@[expose] public section

set_option maxRecDepth 16384

noncomputable section

namespace Cert.OprojIdeal.Value

open Cert.OprojIdeal Cert.OprojIdeal.Gen
open Idealize.ShloMosaic Idealize.ShloMosaic.TcCoe Idealize.ShloMosaic.Tactic
open Idealize.SL.Sem

/-! ## The layer's mathematics, over the arguments read at numbers -/

/-- The gate's activation. -/
def ge (z : EReal) : EReal :=
  z * (Ideal.ofBits FTy.f32 0x3F000000#32 * (1 + Ideal.tanh (Ideal.ofBits FTy.f32 0x3F4C422A#32 * (z + Ideal.ofBits FTy.f32 0x3D372713#32 * (z * (z * z))))))

/-- The arguments, read at numbers. -/
structure Args where
  A : ℕ → ℕ → EReal
  Z : ℕ → ℕ → EReal
  X : ℕ → ℕ → EReal
  W : ℕ → ℕ → EReal
  NW : ℕ → EReal
  LW : ℕ → EReal
  LB : ℕ → EReal
  SW : ℕ → ℕ → ℕ → EReal
  SB : ℕ → ℕ → EReal

namespace Args
variable (A : Args)

/-- A row's first half after the activation, -/
def u (r k : ℕ) : EReal := ge (A.Z r k)
/-- and its second half, -/
def v (r k : ℕ) : EReal := ge (A.Z r (1024 + k))
/-- the mean of the second half, -/
def mu (r : ℕ) : EReal := Ideal.div (∑ k : Fin 1024, A.v r k.val) (Ideal.ofBits FTy.f32 0x44800000#32)
/-- its variance, -/
def var (r : ℕ) : EReal := Ideal.div (∑ k : Fin 1024, (A.v r k.val - A.mu r) * (A.v r k.val - A.mu r)) (Ideal.ofBits FTy.f32 0x44800000#32)
/-- the normalised second half, -/
def vn (r k : ℕ) : EReal := (A.v r k - A.mu r) * Ideal.rsqrt (A.var r + Ideal.ofBits FTy.f32 0x3727C5AC#32) * A.LW k + A.LB k
/-- the mixing weights of a group on and under the diagonal, -/
def msk (g t s : ℕ) : EReal := if s ≤ t then A.SW g t s else 0
/-- the mix over the positions of the row's chunk, -/
def mix (r k : ℕ) : EReal := ∑ s : Fin 128, A.msk (k / 128) (r % 128) s.val * A.vn (128 * (r / 128) + s.val) k
/-- the gated row, -/
def b (r k : ℕ) : EReal := A.u r k * (A.mix r k + A.SB (k / 128) (r % 128))
/-- the first result -/
def y (r d : ℕ) : EReal := A.X r d + ((∑ k : Fin 1024, A.A r k.val * A.W k.val d) + ∑ k : Fin 1024, A.b r k.val * A.W (1024 + k.val) d)
/-- and the second. -/
def xn (r d : ℕ) : EReal :=
  A.y r d * Ideal.rsqrt (Ideal.div (∑ e : Fin 2048, A.y r e.val * A.y r e.val) (Ideal.ofBits FTy.f32 0x45000000#32) + Ideal.ofBits FTy.f32 0x358637BD#32) * A.NW d

end Args

/-! ## The body's payloads at an element -/

theorem ge_at (x : Vec Ideal S512x2048 .f32) (a : Fin 512) (k : Fin 2048) : k0_pay6 x (ix2 a k) = ge (x (ix2 a k)) := by
  pointwise [k0_pay6]
  rfl

theorem u_at (x : Vec Ideal S512x2048 .f32) (a : Fin 512) (k : Fin 1024) : k0_pay7 x (ix2 a k) = ge (x (ix2 a ⟨k.val, by omega⟩)) := by
  refine Eq.trans ?_ (ge_at x a ⟨k.val, by omega⟩)
  generalize e : k0_pay6 x = w
  pointwise [k0_pay7, e]
  try rfl

theorem v_at (x : Vec Ideal S512x2048 .f32) (a : Fin 512) (k : Fin 1024) : k0_pay8 x (ix2 a k) = ge (x (ix2 a ⟨1024 + k.val, by omega⟩)) := by
  refine Eq.trans ?_ (ge_at x a ⟨1024 + k.val, by omega⟩)
  generalize e : k0_pay6 x = w
  pointwise [k0_pay8, e]
  try rfl

theorem mean_at (x : Vec Ideal S512x2048 .f32) (a : Fin 512) :
    k0_pay9 x (ix2 a 0) = Ideal.div (∑ k : Fin 1024, k0_pay8 x (ix2 a k)) (Ideal.ofBits FTy.f32 0x44800000#32) := by
  generalize e : k0_pay8 x = w
  pointwise [k0_pay9, e]

theorem var_at (x : Vec Ideal S512x2048 .f32) (a : Fin 512) :
    k0_pay10 x (ix2 a 0) = Ideal.div (∑ k : Fin 1024, (k0_pay8 x (ix2 a k) - k0_pay9 x (ix2 a 0)) * (k0_pay8 x (ix2 a k) - k0_pay9 x (ix2 a 0))) (Ideal.ofBits FTy.f32 0x44800000#32) := by
  generalize e : k0_pay8 x = w
  generalize e' : k0_pay9 x = w'
  pointwise [k0_pay10, e, e']

theorem meanb_at (x : Vec Ideal S512x2048 .f32) (a : Fin 512) (k : Fin 1024) : k0_pay11 x (ix2 a k) = k0_pay9 x (ix2 a 0) := by
  generalize e' : k0_pay9 x = w'
  pointwise [k0_pay11, e']

theorem norm_at (x6 x7 : Vec Ideal S1x1024 .f32) (u w : FVec Ideal S512x1024 .f32) (q : FVec Ideal S512x1 .f32) (a : Fin 512) (k : Fin 1024) :
    k0_pay12 (k0_pay3 x6) (k0_pay4 x7) u q w (ix2 a k)
      = (u (ix2 a k) - w (ix2 a k)) * Ideal.rsqrt (q (ix2 a 0) + Ideal.ofBits FTy.f32 0x3727C5AC#32) * x6 (ix2 0 k) + x7 (ix2 0 k) := by
  pointwise [k0_pay12, k0_pay3, k0_pay4]

theorem select_ge (t s : Fin 128) (x : EReal) :
    Scalar.select (IntOp.cmpi CmpIPredicate.sge (BitVec.ofNat 32 t.val) (BitVec.ofNat 32 s.val)) x (0 : EReal) = if s.val ≤ t.val then x else 0 := by
  have h : IntOp.cmpi CmpIPredicate.sge (BitVec.ofNat 32 t.val) (BitVec.ofNat 32 s.val) = if s.val ≤ t.val then 1#1 else 0#1 := by
    revert t s; decide +kernel
  rw [h]
  by_cases hh : s.val ≤ t.val
  · rw [if_pos hh, if_pos hh]; rfl
  · rw [if_neg hh, if_neg hh]; rfl

/-- The masked weights of group 0. -/
def wt0 (x : Vec Ideal S8x128x128 .f32) : FVec Ideal S128x128 .bf16 :=
  k0_pay13 (View.ld x (Rect.unit ![0, 0, 0] ![1, 128, 128] inb_S8x128x128_S1x128x128_0_0_0))
theorem wt0_at (x : Vec Ideal S8x128x128 .f32) (t s : Fin 128) : wt0 x (ix2 t s) = if s.val ≤ t.val then x (ix3 0 t s) else 0 := by
  refine Eq.trans ?_ (select_ge t s _)
  pointwise [wt0, k0_pay13]
  try rfl

/-- The masked weights of group 1. -/
def wt1 (x : Vec Ideal S8x128x128 .f32) : FVec Ideal S128x128 .bf16 :=
  k0_pay14 (View.ld x (Rect.unit ![1, 0, 0] ![1, 128, 128] inb_S8x128x128_S1x128x128_1_0_0))
theorem wt1_at (x : Vec Ideal S8x128x128 .f32) (t s : Fin 128) : wt1 x (ix2 t s) = if s.val ≤ t.val then x (ix3 1 t s) else 0 := by
  refine Eq.trans ?_ (select_ge t s _)
  pointwise [wt1, k0_pay14]
  try rfl

/-- The masked weights of group 2. -/
def wt2 (x : Vec Ideal S8x128x128 .f32) : FVec Ideal S128x128 .bf16 :=
  k0_pay15 (View.ld x (Rect.unit ![2, 0, 0] ![1, 128, 128] inb_S8x128x128_S1x128x128_2_0_0))
theorem wt2_at (x : Vec Ideal S8x128x128 .f32) (t s : Fin 128) : wt2 x (ix2 t s) = if s.val ≤ t.val then x (ix3 2 t s) else 0 := by
  refine Eq.trans ?_ (select_ge t s _)
  pointwise [wt2, k0_pay15]
  try rfl

/-- The masked weights of group 3. -/
def wt3 (x : Vec Ideal S8x128x128 .f32) : FVec Ideal S128x128 .bf16 :=
  k0_pay16 (View.ld x (Rect.unit ![3, 0, 0] ![1, 128, 128] inb_S8x128x128_S1x128x128_3_0_0))
theorem wt3_at (x : Vec Ideal S8x128x128 .f32) (t s : Fin 128) : wt3 x (ix2 t s) = if s.val ≤ t.val then x (ix3 3 t s) else 0 := by
  refine Eq.trans ?_ (select_ge t s _)
  pointwise [wt3, k0_pay16]
  try rfl

/-- The masked weights of group 4. -/
def wt4 (x : Vec Ideal S8x128x128 .f32) : FVec Ideal S128x128 .bf16 :=
  k0_pay19 k0_pay17 (k0_pay18 (View.ld x (Rect.unit ![4, 0, 0] ![1, 128, 128] inb_S8x128x128_S1x128x128_4_0_0)))
theorem wt4_at (x : Vec Ideal S8x128x128 .f32) (t s : Fin 128) : wt4 x (ix2 t s) = if s.val ≤ t.val then x (ix3 4 t s) else 0 := by
  refine Eq.trans ?_ (select_ge t s _)
  pointwise [wt4, k0_pay19, k0_pay17, k0_pay18]
  try rfl

/-- The masked weights of group 5. -/
def wt5 (x : Vec Ideal S8x128x128 .f32) : FVec Ideal S128x128 .bf16 :=
  k0_pay20 (iota Kind.tc S128x128 32 [0] iota_S128x128_d0_w32) (iota Kind.tc S128x128 32 [1] iota_S128x128_d1_w32) (View.ld x (Rect.unit ![5, 0, 0] ![1, 128, 128] inb_S8x128x128_S1x128x128_5_0_0))
theorem wt5_at (x : Vec Ideal S8x128x128 .f32) (t s : Fin 128) : wt5 x (ix2 t s) = if s.val ≤ t.val then x (ix3 5 t s) else 0 := by
  refine Eq.trans ?_ (select_ge t s _)
  pointwise [wt5, k0_pay20]
  try rfl

/-- The masked weights of group 6. -/
def wt6 (x : Vec Ideal S8x128x128 .f32) : FVec Ideal S128x128 .bf16 :=
  k0_pay21 (iota Kind.tc S128x128 32 [0] iota_S128x128_d0_w32) (iota Kind.tc S128x128 32 [1] iota_S128x128_d1_w32) (View.ld x (Rect.unit ![6, 0, 0] ![1, 128, 128] inb_S8x128x128_S1x128x128_6_0_0))
theorem wt6_at (x : Vec Ideal S8x128x128 .f32) (t s : Fin 128) : wt6 x (ix2 t s) = if s.val ≤ t.val then x (ix3 6 t s) else 0 := by
  refine Eq.trans ?_ (select_ge t s _)
  pointwise [wt6, k0_pay21]
  try rfl

/-- The masked weights of group 7. -/
def wt7 (x : Vec Ideal S8x128x128 .f32) : FVec Ideal S128x128 .bf16 :=
  k0_pay22 (iota Kind.tc S128x128 32 [0] iota_S128x128_d0_w32) (iota Kind.tc S128x128 32 [1] iota_S128x128_d1_w32) (View.ld x (Rect.unit ![7, 0, 0] ![1, 128, 128] inb_S8x128x128_S1x128x128_7_0_0))
theorem wt7_at (x : Vec Ideal S8x128x128 .f32) (t s : Fin 128) : wt7 x (ix2 t s) = if s.val ≤ t.val then x (ix3 7 t s) else 0 := by
  refine Eq.trans ?_ (select_ge t s _)
  pointwise [wt7, k0_pay22]
  try rfl

/-! ## The mix of a chunk -/

/-- The last chunk's gated rows. -/
def last (v10 : FVec Ideal S128x1024 .f32) (v24 : FVec Ideal S512x1024 .f32) (v48 : FVec Ideal S512x1024 .bf16) (w0 w1 w2 w3 w4 w5 w6 w7 : FVec Ideal S128x128 .bf16) : FVec Ideal S128x1024 .bf16 :=
  have v162 : FVec Ideal S128x128 .bf16 := extractStridedSlice S128x128 ![384, 0] v48 slices_S512x1024_o384_0_S128x128
  have cst_69 : FVec Ideal S128x128 .f32 := constant S128x128 .f32 0x00000000#32
  have v163 : FVec Ideal S128x128 .f32 := matmul dot_S128x128_S128x128_S128x128_1_0_0_1_n_n none w0 v162 cst_69
  have v164 : FVec Ideal S128x128 .bf16 := extractStridedSlice S128x128 ![384, 128] v48 slices_S512x1024_o384_128_S128x128
  have cst_70 : FVec Ideal S128x128 .f32 := constant S128x128 .f32 0x00000000#32
  have v165 : FVec Ideal S128x128 .f32 := matmul dot_S128x128_S128x128_S128x128_1_0_0_1_n_n none w1 v164 cst_70
  have v166 : FVec Ideal S128x128 .bf16 := extractStridedSlice S128x128 ![384, 256] v48 slices_S512x1024_o384_256_S128x128
  have cst_71 : FVec Ideal S128x128 .f32 := constant S128x128 .f32 0x00000000#32
  have v167 : FVec Ideal S128x128 .f32 := matmul dot_S128x128_S128x128_S128x128_1_0_0_1_n_n none w2 v166 cst_71
  have v168 : FVec Ideal S128x128 .bf16 := extractStridedSlice S128x128 ![384, 384] v48 slices_S512x1024_o384_384_S128x128
  have cst_72 : FVec Ideal S128x128 .f32 := constant S128x128 .f32 0x00000000#32
  have v169 : FVec Ideal S128x128 .f32 := matmul dot_S128x128_S128x128_S128x128_1_0_0_1_n_n none w3 v168 cst_72
  have v170 : FVec Ideal S128x128 .bf16 := extractStridedSlice S128x128 ![384, 512] v48 slices_S512x1024_o384_512_S128x128
  have cst_73 : FVec Ideal S128x128 .f32 := constant S128x128 .f32 0x00000000#32
  have v171 : FVec Ideal S128x128 .f32 := matmul dot_S128x128_S128x128_S128x128_1_0_0_1_n_n none w4 v170 cst_73
  have v172 : FVec Ideal S128x128 .bf16 := extractStridedSlice S128x128 ![384, 640] v48 slices_S512x1024_o384_640_S128x128
  have cst_74 : FVec Ideal S128x128 .f32 := constant S128x128 .f32 0x00000000#32
  have v173 : FVec Ideal S128x128 .f32 := matmul dot_S128x128_S128x128_S128x128_1_0_0_1_n_n none w5 v172 cst_74
  have v174 : FVec Ideal S128x128 .bf16 := extractStridedSlice S128x128 ![384, 768] v48 slices_S512x1024_o384_768_S128x128
  have cst_75 : FVec Ideal S128x128 .f32 := constant S128x128 .f32 0x00000000#32
  have v175 : FVec Ideal S128x128 .f32 := matmul dot_S128x128_S128x128_S128x128_1_0_0_1_n_n none w6 v174 cst_75
  have v176 : FVec Ideal S128x128 .bf16 := extractStridedSlice S128x128 ![384, 896] v48 slices_S512x1024_o384_896_S128x128
  have cst_76 : FVec Ideal S128x128 .f32 := constant S128x128 .f32 0x00000000#32
  have v177 : FVec Ideal S128x128 .f32 := matmul dot_S128x128_S128x128_S128x128_1_0_0_1_n_n none w7 v176 cst_76
  have v178 : FVec Ideal S128x1024 .f32 := concatenate S128x1024 1 [⟨S128x128, v163⟩, ⟨S128x128, v165⟩, ⟨S128x128, v167⟩, ⟨S128x128, v169⟩, ⟨S128x128, v171⟩, ⟨S128x128, v173⟩, ⟨S128x128, v175⟩, ⟨S128x128, v177⟩] concatenates_S128x128_S128x128_S128x128_S128x128_S128x128_S128x128_S128x128_S128x128_S128x1024_d1
  have v179 : FVec Ideal S128x1024 .f32 := extractStridedSlice S128x1024 ![384, 0] v24 slices_S512x1024_o384_0_S128x1024
  have v180 : FVec Ideal S128x1024 .f32 := addf v178 v10
  have v181 : FVec Ideal S128x1024 .f32 := mulf v179 v180
  have v182 : FVec Ideal S128x1024 .bf16 := truncf .bf16 v181 bitsLt_bf16_f32
  v182

/-- The first chunk's. -/
def lead (v10 : FVec Ideal S128x1024 .f32) (v24 : FVec Ideal S512x1024 .f32) (v48 : FVec Ideal S512x1024 .bf16) (w0 w1 w2 w3 w4 w5 w6 w7 : FVec Ideal S128x128 .bf16) : FVec Ideal S128x1024 .bf16 :=
  have v99 : FVec Ideal S128x128 .bf16 := extractStridedSlice S128x128 ![0, 0] v48 slices_S512x1024_o0_0_S128x128
  have cst_45 : FVec Ideal S128x128 .f32 := constant S128x128 .f32 0x00000000#32
  have v100 : FVec Ideal S128x128 .f32 := matmul dot_S128x128_S128x128_S128x128_1_0_0_1_n_n none w0 v99 cst_45
  have v101 : FVec Ideal S128x128 .bf16 := extractStridedSlice S128x128 ![0, 128] v48 slices_S512x1024_o0_128_S128x128
  have cst_46 : FVec Ideal S128x128 .f32 := constant S128x128 .f32 0x00000000#32
  have v102 : FVec Ideal S128x128 .f32 := matmul dot_S128x128_S128x128_S128x128_1_0_0_1_n_n none w1 v101 cst_46
  have v103 : FVec Ideal S128x128 .bf16 := extractStridedSlice S128x128 ![0, 256] v48 slices_S512x1024_o0_256_S128x128
  have cst_47 : FVec Ideal S128x128 .f32 := constant S128x128 .f32 0x00000000#32
  have v104 : FVec Ideal S128x128 .f32 := matmul dot_S128x128_S128x128_S128x128_1_0_0_1_n_n none w2 v103 cst_47
  have v105 : FVec Ideal S128x128 .bf16 := extractStridedSlice S128x128 ![0, 384] v48 slices_S512x1024_o0_384_S128x128
  have cst_48 : FVec Ideal S128x128 .f32 := constant S128x128 .f32 0x00000000#32
  have v106 : FVec Ideal S128x128 .f32 := matmul dot_S128x128_S128x128_S128x128_1_0_0_1_n_n none w3 v105 cst_48
  have v107 : FVec Ideal S128x128 .bf16 := extractStridedSlice S128x128 ![0, 512] v48 slices_S512x1024_o0_512_S128x128
  have cst_49 : FVec Ideal S128x128 .f32 := constant S128x128 .f32 0x00000000#32
  have v108 : FVec Ideal S128x128 .f32 := matmul dot_S128x128_S128x128_S128x128_1_0_0_1_n_n none w4 v107 cst_49
  have v109 : FVec Ideal S128x128 .bf16 := extractStridedSlice S128x128 ![0, 640] v48 slices_S512x1024_o0_640_S128x128
  have cst_50 : FVec Ideal S128x128 .f32 := constant S128x128 .f32 0x00000000#32
  have v110 : FVec Ideal S128x128 .f32 := matmul dot_S128x128_S128x128_S128x128_1_0_0_1_n_n none w5 v109 cst_50
  have v111 : FVec Ideal S128x128 .bf16 := extractStridedSlice S128x128 ![0, 768] v48 slices_S512x1024_o0_768_S128x128
  have cst_51 : FVec Ideal S128x128 .f32 := constant S128x128 .f32 0x00000000#32
  have v112 : FVec Ideal S128x128 .f32 := matmul dot_S128x128_S128x128_S128x128_1_0_0_1_n_n none w6 v111 cst_51
  have v113 : FVec Ideal S128x128 .bf16 := extractStridedSlice S128x128 ![0, 896] v48 slices_S512x1024_o0_896_S128x128
  have cst_52 : FVec Ideal S128x128 .f32 := constant S128x128 .f32 0x00000000#32
  have v114 : FVec Ideal S128x128 .f32 := matmul dot_S128x128_S128x128_S128x128_1_0_0_1_n_n none w7 v113 cst_52
  have v115 : FVec Ideal S128x1024 .f32 := concatenate S128x1024 1 [⟨S128x128, v100⟩, ⟨S128x128, v102⟩, ⟨S128x128, v104⟩, ⟨S128x128, v106⟩, ⟨S128x128, v108⟩, ⟨S128x128, v110⟩, ⟨S128x128, v112⟩, ⟨S128x128, v114⟩] concatenates_S128x128_S128x128_S128x128_S128x128_S128x128_S128x128_S128x128_S128x128_S128x1024_d1
  k0_pay25 v10 v115 (k0_pay24 v24)

/-- The rows' first result over the gated rows of the four chunks. -/
def total (v3 : FVec Ideal S512x2048 .f32) (b0 b1 b2 b3 : FVec Ideal S128x1024 .bf16) (x : Vec Ideal S512x2048 .f32) (wb : Vec Ideal S1024x2048 .bf16) : FVec Ideal S512x2048 .f32 :=
  addf (shapeCast S512x2048 x shapeCasts_S512x2048_S512x2048)
    (addf v3
      (matmul dot_S512x1024_S1024x2048_S512x2048_1_0_0_1_n_n none
        (concatenate S512x1024 0 [⟨S128x1024, b0⟩, ⟨S128x1024, b1⟩, ⟨S128x1024, b2⟩, ⟨S128x1024, b3⟩] concatenates_S128x1024_S128x1024_S128x1024_S128x1024_S512x1024_d0)
        (shapeCast S1024x2048 wb shapeCasts_S1024x2048_S1024x2048 : FVec Ideal S1024x2048 .bf16) (constant S512x2048 .f32 0x00000000#32)))

set_option maxHeartbeats 1000000 in
theorem lead_at (v10 : FVec Ideal S128x1024 .f32) (v24 : FVec Ideal S512x1024 .f32) (v48 : FVec Ideal S512x1024 .bf16) (w0 w1 w2 w3 w4 w5 w6 w7 : FVec Ideal S128x128 .bf16)
    {U V S : ℕ → ℕ → EReal} {M : ℕ → ℕ → ℕ → EReal} (hu : ∀ (r : Fin 512) (k : Fin 1024), v24 (ix2 r k) = U r.val k.val) (hv : ∀ (r : Fin 512) (k : Fin 1024), v48 (ix2 r k) = V r.val k.val)
    (hs : ∀ (t : Fin 128) (k : Fin 1024), v10 (ix2 t k) = S t.val k.val)
    (hw0 : ∀ t s : Fin 128, w0 (ix2 t s) = M 0 t.val s.val)
    (hw1 : ∀ t s : Fin 128, w1 (ix2 t s) = M 1 t.val s.val)
    (hw2 : ∀ t s : Fin 128, w2 (ix2 t s) = M 2 t.val s.val)
    (hw3 : ∀ t s : Fin 128, w3 (ix2 t s) = M 3 t.val s.val)
    (hw4 : ∀ t s : Fin 128, w4 (ix2 t s) = M 4 t.val s.val)
    (hw5 : ∀ t s : Fin 128, w5 (ix2 t s) = M 5 t.val s.val)
    (hw6 : ∀ t s : Fin 128, w6 (ix2 t s) = M 6 t.val s.val)
    (hw7 : ∀ t s : Fin 128, w7 (ix2 t s) = M 7 t.val s.val)
    (a : Fin 128) (k : Fin 1024) :
    lead v10 v24 v48 w0 w1 w2 w3 w4 w5 w6 w7 (ix2 a k) = U (0 + a.val) k.val * ((∑ s : Fin 128, M (k.val / 128) a.val s.val * V (0 + s.val) k.val) + S a.val k.val) := by
  have hk := k.isLt
  pointwise [lead, k0_pay25, k0_pay24]
  refine congrArg₂ (· * ·) ((hu _ _).trans (by simp only [Nat.zero_add])) (congrArg₂ (· + ·) ?_ (hs a k))
  by_cases h0 : k.val < 128
  · rw [dif_pos (by omega), show k.val / 128 = 0 by omega]
    exact Finset.sum_congr rfl fun s _ => congrArg₂ (· * ·) (hw0 a s) ((hv _ _).trans (congrArg₂ V (by simp only [Nat.zero_add]) (by first | rfl | (simp only; omega))))
  rw [dif_neg (by omega)]
  by_cases h1 : k.val < 256
  · rw [dif_pos (by omega), show k.val / 128 = 1 by omega]
    exact Finset.sum_congr rfl fun s _ => congrArg₂ (· * ·) (hw1 a s) ((hv _ _).trans (congrArg₂ V (by simp only [Nat.zero_add]) (by first | rfl | (simp only; omega))))
  rw [dif_neg (by omega)]
  by_cases h2 : k.val < 384
  · rw [dif_pos (by omega), show k.val / 128 = 2 by omega]
    exact Finset.sum_congr rfl fun s _ => congrArg₂ (· * ·) (hw2 a s) ((hv _ _).trans (congrArg₂ V (by simp only [Nat.zero_add]) (by first | rfl | (simp only; omega))))
  rw [dif_neg (by omega)]
  by_cases h3 : k.val < 512
  · rw [dif_pos (by omega), show k.val / 128 = 3 by omega]
    exact Finset.sum_congr rfl fun s _ => congrArg₂ (· * ·) (hw3 a s) ((hv _ _).trans (congrArg₂ V (by simp only [Nat.zero_add]) (by first | rfl | (simp only; omega))))
  rw [dif_neg (by omega)]
  by_cases h4 : k.val < 640
  · rw [dif_pos (by omega), show k.val / 128 = 4 by omega]
    exact Finset.sum_congr rfl fun s _ => congrArg₂ (· * ·) (hw4 a s) ((hv _ _).trans (congrArg₂ V (by simp only [Nat.zero_add]) (by first | rfl | (simp only; omega))))
  rw [dif_neg (by omega)]
  by_cases h5 : k.val < 768
  · rw [dif_pos (by omega), show k.val / 128 = 5 by omega]
    exact Finset.sum_congr rfl fun s _ => congrArg₂ (· * ·) (hw5 a s) ((hv _ _).trans (congrArg₂ V (by simp only [Nat.zero_add]) (by first | rfl | (simp only; omega))))
  rw [dif_neg (by omega)]
  by_cases h6 : k.val < 896
  · rw [dif_pos (by omega), show k.val / 128 = 6 by omega]
    exact Finset.sum_congr rfl fun s _ => congrArg₂ (· * ·) (hw6 a s) ((hv _ _).trans (congrArg₂ V (by simp only [Nat.zero_add]) (by first | rfl | (simp only; omega))))
  rw [dif_neg (by omega)]
  rw [show k.val / 128 = 7 by omega]
  exact Finset.sum_congr rfl fun s _ => congrArg₂ (· * ·) (hw7 a s) ((hv _ _).trans (congrArg₂ V (by simp only [Nat.zero_add]) (by first | rfl | (simp only; omega))))

set_option maxHeartbeats 1000000 in
theorem mid1_at (v10 : FVec Ideal S128x1024 .f32) (v24 : FVec Ideal S512x1024 .f32) (v48 : FVec Ideal S512x1024 .bf16) (w0 w1 w2 w3 w4 w5 w6 w7 : FVec Ideal S128x128 .bf16)
    {U V S : ℕ → ℕ → EReal} {M : ℕ → ℕ → ℕ → EReal} (hu : ∀ (r : Fin 512) (k : Fin 1024), v24 (ix2 r k) = U r.val k.val) (hv : ∀ (r : Fin 512) (k : Fin 1024), v48 (ix2 r k) = V r.val k.val)
    (hs : ∀ (t : Fin 128) (k : Fin 1024), v10 (ix2 t k) = S t.val k.val)
    (hw0 : ∀ t s : Fin 128, w0 (ix2 t s) = M 0 t.val s.val)
    (hw1 : ∀ t s : Fin 128, w1 (ix2 t s) = M 1 t.val s.val)
    (hw2 : ∀ t s : Fin 128, w2 (ix2 t s) = M 2 t.val s.val)
    (hw3 : ∀ t s : Fin 128, w3 (ix2 t s) = M 3 t.val s.val)
    (hw4 : ∀ t s : Fin 128, w4 (ix2 t s) = M 4 t.val s.val)
    (hw5 : ∀ t s : Fin 128, w5 (ix2 t s) = M 5 t.val s.val)
    (hw6 : ∀ t s : Fin 128, w6 (ix2 t s) = M 6 t.val s.val)
    (hw7 : ∀ t s : Fin 128, w7 (ix2 t s) = M 7 t.val s.val)
    (a : Fin 128) (k : Fin 1024) :
    k0_pay26 v10 v24 v48 w0 w1 w2 w3 w4 w5 w6 w7 (ix2 a k) = U (128 + a.val) k.val * ((∑ s : Fin 128, M (k.val / 128) a.val s.val * V (128 + s.val) k.val) + S a.val k.val) := by
  have hk := k.isLt
  pointwise [k0_pay26]
  refine congrArg₂ (· * ·) ((hu _ _).trans (by simp only [Nat.zero_add])) (congrArg₂ (· + ·) ?_ (hs a k))
  by_cases h0 : k.val < 128
  · rw [dif_pos (by omega), show k.val / 128 = 0 by omega]
    exact Finset.sum_congr rfl fun s _ => congrArg₂ (· * ·) (hw0 a s) ((hv _ _).trans (congrArg (V _) (by first | rfl | (simp only; omega))))
  rw [dif_neg (by omega)]
  by_cases h1 : k.val < 256
  · rw [dif_pos (by omega), show k.val / 128 = 1 by omega]
    exact Finset.sum_congr rfl fun s _ => congrArg₂ (· * ·) (hw1 a s) ((hv _ _).trans (congrArg (V _) (by first | rfl | (simp only; omega))))
  rw [dif_neg (by omega)]
  by_cases h2 : k.val < 384
  · rw [dif_pos (by omega), show k.val / 128 = 2 by omega]
    exact Finset.sum_congr rfl fun s _ => congrArg₂ (· * ·) (hw2 a s) ((hv _ _).trans (congrArg (V _) (by first | rfl | (simp only; omega))))
  rw [dif_neg (by omega)]
  by_cases h3 : k.val < 512
  · rw [dif_pos (by omega), show k.val / 128 = 3 by omega]
    exact Finset.sum_congr rfl fun s _ => congrArg₂ (· * ·) (hw3 a s) ((hv _ _).trans (congrArg (V _) (by first | rfl | (simp only; omega))))
  rw [dif_neg (by omega)]
  by_cases h4 : k.val < 640
  · rw [dif_pos (by omega), show k.val / 128 = 4 by omega]
    exact Finset.sum_congr rfl fun s _ => congrArg₂ (· * ·) (hw4 a s) ((hv _ _).trans (congrArg (V _) (by first | rfl | (simp only; omega))))
  rw [dif_neg (by omega)]
  by_cases h5 : k.val < 768
  · rw [dif_pos (by omega), show k.val / 128 = 5 by omega]
    exact Finset.sum_congr rfl fun s _ => congrArg₂ (· * ·) (hw5 a s) ((hv _ _).trans (congrArg (V _) (by first | rfl | (simp only; omega))))
  rw [dif_neg (by omega)]
  by_cases h6 : k.val < 896
  · rw [dif_pos (by omega), show k.val / 128 = 6 by omega]
    exact Finset.sum_congr rfl fun s _ => congrArg₂ (· * ·) (hw6 a s) ((hv _ _).trans (congrArg (V _) (by first | rfl | (simp only; omega))))
  rw [dif_neg (by omega)]
  rw [show k.val / 128 = 7 by omega]
  exact Finset.sum_congr rfl fun s _ => congrArg₂ (· * ·) (hw7 a s) ((hv _ _).trans (congrArg (V _) (by first | rfl | (simp only; omega))))

set_option maxHeartbeats 1000000 in
theorem mid2_at (v10 : FVec Ideal S128x1024 .f32) (v24 : FVec Ideal S512x1024 .f32) (v48 : FVec Ideal S512x1024 .bf16) (w0 w1 w2 w3 w4 w5 w6 w7 : FVec Ideal S128x128 .bf16)
    {U V S : ℕ → ℕ → EReal} {M : ℕ → ℕ → ℕ → EReal} (hu : ∀ (r : Fin 512) (k : Fin 1024), v24 (ix2 r k) = U r.val k.val) (hv : ∀ (r : Fin 512) (k : Fin 1024), v48 (ix2 r k) = V r.val k.val)
    (hs : ∀ (t : Fin 128) (k : Fin 1024), v10 (ix2 t k) = S t.val k.val)
    (hw0 : ∀ t s : Fin 128, w0 (ix2 t s) = M 0 t.val s.val)
    (hw1 : ∀ t s : Fin 128, w1 (ix2 t s) = M 1 t.val s.val)
    (hw2 : ∀ t s : Fin 128, w2 (ix2 t s) = M 2 t.val s.val)
    (hw3 : ∀ t s : Fin 128, w3 (ix2 t s) = M 3 t.val s.val)
    (hw4 : ∀ t s : Fin 128, w4 (ix2 t s) = M 4 t.val s.val)
    (hw5 : ∀ t s : Fin 128, w5 (ix2 t s) = M 5 t.val s.val)
    (hw6 : ∀ t s : Fin 128, w6 (ix2 t s) = M 6 t.val s.val)
    (hw7 : ∀ t s : Fin 128, w7 (ix2 t s) = M 7 t.val s.val)
    (a : Fin 128) (k : Fin 1024) :
    k0_pay27 v10 v24 v48 w0 w1 w2 w3 w4 w5 w6 w7 (ix2 a k) = U (256 + a.val) k.val * ((∑ s : Fin 128, M (k.val / 128) a.val s.val * V (256 + s.val) k.val) + S a.val k.val) := by
  have hk := k.isLt
  pointwise [k0_pay27]
  refine congrArg₂ (· * ·) ((hu _ _).trans (by simp only [Nat.zero_add])) (congrArg₂ (· + ·) ?_ (hs a k))
  by_cases h0 : k.val < 128
  · rw [dif_pos (by omega), show k.val / 128 = 0 by omega]
    exact Finset.sum_congr rfl fun s _ => congrArg₂ (· * ·) (hw0 a s) ((hv _ _).trans (congrArg (V _) (by first | rfl | (simp only; omega))))
  rw [dif_neg (by omega)]
  by_cases h1 : k.val < 256
  · rw [dif_pos (by omega), show k.val / 128 = 1 by omega]
    exact Finset.sum_congr rfl fun s _ => congrArg₂ (· * ·) (hw1 a s) ((hv _ _).trans (congrArg (V _) (by first | rfl | (simp only; omega))))
  rw [dif_neg (by omega)]
  by_cases h2 : k.val < 384
  · rw [dif_pos (by omega), show k.val / 128 = 2 by omega]
    exact Finset.sum_congr rfl fun s _ => congrArg₂ (· * ·) (hw2 a s) ((hv _ _).trans (congrArg (V _) (by first | rfl | (simp only; omega))))
  rw [dif_neg (by omega)]
  by_cases h3 : k.val < 512
  · rw [dif_pos (by omega), show k.val / 128 = 3 by omega]
    exact Finset.sum_congr rfl fun s _ => congrArg₂ (· * ·) (hw3 a s) ((hv _ _).trans (congrArg (V _) (by first | rfl | (simp only; omega))))
  rw [dif_neg (by omega)]
  by_cases h4 : k.val < 640
  · rw [dif_pos (by omega), show k.val / 128 = 4 by omega]
    exact Finset.sum_congr rfl fun s _ => congrArg₂ (· * ·) (hw4 a s) ((hv _ _).trans (congrArg (V _) (by first | rfl | (simp only; omega))))
  rw [dif_neg (by omega)]
  by_cases h5 : k.val < 768
  · rw [dif_pos (by omega), show k.val / 128 = 5 by omega]
    exact Finset.sum_congr rfl fun s _ => congrArg₂ (· * ·) (hw5 a s) ((hv _ _).trans (congrArg (V _) (by first | rfl | (simp only; omega))))
  rw [dif_neg (by omega)]
  by_cases h6 : k.val < 896
  · rw [dif_pos (by omega), show k.val / 128 = 6 by omega]
    exact Finset.sum_congr rfl fun s _ => congrArg₂ (· * ·) (hw6 a s) ((hv _ _).trans (congrArg (V _) (by first | rfl | (simp only; omega))))
  rw [dif_neg (by omega)]
  rw [show k.val / 128 = 7 by omega]
  exact Finset.sum_congr rfl fun s _ => congrArg₂ (· * ·) (hw7 a s) ((hv _ _).trans (congrArg (V _) (by first | rfl | (simp only; omega))))

set_option maxHeartbeats 1000000 in
theorem last_at (v10 : FVec Ideal S128x1024 .f32) (v24 : FVec Ideal S512x1024 .f32) (v48 : FVec Ideal S512x1024 .bf16) (w0 w1 w2 w3 w4 w5 w6 w7 : FVec Ideal S128x128 .bf16)
    {U V S : ℕ → ℕ → EReal} {M : ℕ → ℕ → ℕ → EReal} (hu : ∀ (r : Fin 512) (k : Fin 1024), v24 (ix2 r k) = U r.val k.val) (hv : ∀ (r : Fin 512) (k : Fin 1024), v48 (ix2 r k) = V r.val k.val)
    (hs : ∀ (t : Fin 128) (k : Fin 1024), v10 (ix2 t k) = S t.val k.val)
    (hw0 : ∀ t s : Fin 128, w0 (ix2 t s) = M 0 t.val s.val)
    (hw1 : ∀ t s : Fin 128, w1 (ix2 t s) = M 1 t.val s.val)
    (hw2 : ∀ t s : Fin 128, w2 (ix2 t s) = M 2 t.val s.val)
    (hw3 : ∀ t s : Fin 128, w3 (ix2 t s) = M 3 t.val s.val)
    (hw4 : ∀ t s : Fin 128, w4 (ix2 t s) = M 4 t.val s.val)
    (hw5 : ∀ t s : Fin 128, w5 (ix2 t s) = M 5 t.val s.val)
    (hw6 : ∀ t s : Fin 128, w6 (ix2 t s) = M 6 t.val s.val)
    (hw7 : ∀ t s : Fin 128, w7 (ix2 t s) = M 7 t.val s.val)
    (a : Fin 128) (k : Fin 1024) :
    last v10 v24 v48 w0 w1 w2 w3 w4 w5 w6 w7 (ix2 a k) = U (384 + a.val) k.val * ((∑ s : Fin 128, M (k.val / 128) a.val s.val * V (384 + s.val) k.val) + S a.val k.val) := by
  have hk := k.isLt
  pointwise [last]
  refine congrArg₂ (· * ·) ((hu _ _).trans (by simp only [Nat.zero_add])) (congrArg₂ (· + ·) ?_ (hs a k))
  by_cases h0 : k.val < 128
  · rw [dif_pos (by omega), show k.val / 128 = 0 by omega]
    exact Finset.sum_congr rfl fun s _ => congrArg₂ (· * ·) (hw0 a s) ((hv _ _).trans (congrArg (V _) (by first | rfl | (simp only; omega))))
  rw [dif_neg (by omega)]
  by_cases h1 : k.val < 256
  · rw [dif_pos (by omega), show k.val / 128 = 1 by omega]
    exact Finset.sum_congr rfl fun s _ => congrArg₂ (· * ·) (hw1 a s) ((hv _ _).trans (congrArg (V _) (by first | rfl | (simp only; omega))))
  rw [dif_neg (by omega)]
  by_cases h2 : k.val < 384
  · rw [dif_pos (by omega), show k.val / 128 = 2 by omega]
    exact Finset.sum_congr rfl fun s _ => congrArg₂ (· * ·) (hw2 a s) ((hv _ _).trans (congrArg (V _) (by first | rfl | (simp only; omega))))
  rw [dif_neg (by omega)]
  by_cases h3 : k.val < 512
  · rw [dif_pos (by omega), show k.val / 128 = 3 by omega]
    exact Finset.sum_congr rfl fun s _ => congrArg₂ (· * ·) (hw3 a s) ((hv _ _).trans (congrArg (V _) (by first | rfl | (simp only; omega))))
  rw [dif_neg (by omega)]
  by_cases h4 : k.val < 640
  · rw [dif_pos (by omega), show k.val / 128 = 4 by omega]
    exact Finset.sum_congr rfl fun s _ => congrArg₂ (· * ·) (hw4 a s) ((hv _ _).trans (congrArg (V _) (by first | rfl | (simp only; omega))))
  rw [dif_neg (by omega)]
  by_cases h5 : k.val < 768
  · rw [dif_pos (by omega), show k.val / 128 = 5 by omega]
    exact Finset.sum_congr rfl fun s _ => congrArg₂ (· * ·) (hw5 a s) ((hv _ _).trans (congrArg (V _) (by first | rfl | (simp only; omega))))
  rw [dif_neg (by omega)]
  by_cases h6 : k.val < 896
  · rw [dif_pos (by omega), show k.val / 128 = 6 by omega]
    exact Finset.sum_congr rfl fun s _ => congrArg₂ (· * ·) (hw6 a s) ((hv _ _).trans (congrArg (V _) (by first | rfl | (simp only; omega))))
  rw [dif_neg (by omega)]
  rw [show k.val / 128 = 7 by omega]
  exact Finset.sum_congr rfl fun s _ => congrArg₂ (· * ·) (hw7 a s) ((hv _ _).trans (congrArg (V _) (by first | rfl | (simp only; omega))))

theorem total_at (v3 : FVec Ideal S512x2048 .f32) (b0 b1 b2 b3 : FVec Ideal S128x1024 .bf16) (x : Vec Ideal S512x2048 .f32) (wb : Vec Ideal S1024x2048 .bf16)
    {B : ℕ → ℕ → EReal} (h0 : ∀ (t : Fin 128) (k : Fin 1024), b0 (ix2 t k) = B (0 + t.val) k.val) (h1 : ∀ (t : Fin 128) (k : Fin 1024), b1 (ix2 t k) = B (128 + t.val) k.val)
    (h2 : ∀ (t : Fin 128) (k : Fin 1024), b2 (ix2 t k) = B (256 + t.val) k.val) (h3 : ∀ (t : Fin 128) (k : Fin 1024), b3 (ix2 t k) = B (384 + t.val) k.val)
    (a : Fin 512) (d : Fin 2048) :
    total v3 b0 b1 b2 b3 x wb (ix2 a d) = x (ix2 a d) + (v3 (ix2 a d) + ∑ k : Fin 1024, B a.val k.val * wb (ix2 k d)) := by
  have ha := a.isLt
  pointwise [total]
  refine congrArg _ (congrArg _ (Finset.sum_congr rfl fun k _ => congrArg (· * wb (ix2 k d)) ?_))
  by_cases c0 : a.val < 128
  · rw [dif_pos (by omega)]
    exact (h0 _ _).trans (congrArg (B · k.val) (by first | rfl | (simp only; omega)))
  rw [dif_neg (by omega)]
  by_cases c1 : a.val < 256
  · rw [dif_pos (by omega)]
    exact (h1 _ _).trans (congrArg (B · k.val) (by first | rfl | (simp only; omega)))
  rw [dif_neg (by omega)]
  by_cases c2 : a.val < 384
  · rw [dif_pos (by omega)]
    exact (h2 _ _).trans (congrArg (B · k.val) (by first | rfl | (simp only; omega)))
  rw [dif_neg (by omega)]
  exact (h3 _ _).trans (congrArg (B · k.val) (by first | rfl | (simp only; omega)))

theorem dota_at (x : Vec Ideal S512x1024 .bf16) (w : Vec Ideal S1024x2048 .bf16) (a : Fin 512) (d : Fin 2048) :
    k0_pay2 x w (ix2 a d) = ∑ k : Fin 1024, x (ix2 a k) * w (ix2 k d) := by
  pointwise [k0_pay2]

/-- The second result over the first. -/
def scaled (Y : FVec Ideal S512x2048 .f32) (nw : Vec Ideal S1x2048 .f32) : FVec Ideal S512x2048 .bf16 :=
  k0_pay1 (mulf Y (broadcastTo S512x2048 (rsqrt (addf (divf (shapeCast S512x1 (multiReduction .add [1] S512 (mulf Y Y) 0x00000000#32 reduces_S512x2048_S512 (.inl rfl) rfl) shapeCasts_S512_S512x1)
    (broadcast S512x1 (Scalar.ofBits .f32 0x45000000#32))) (broadcast S512x1 (Scalar.ofBits .f32 0x358637BD#32)))) broadcasts_S512x1_S512x2048)) nw

theorem scaled_at (Y : FVec Ideal S512x2048 .f32) (nw : Vec Ideal S1x2048 .f32) (a : Fin 512) (d : Fin 2048) :
    scaled Y nw (ix2 a d) = Y (ix2 a d) * Ideal.rsqrt (Ideal.div (∑ e : Fin 2048, Y (ix2 a e) * Y (ix2 a e)) (Ideal.ofBits FTy.f32 0x45000000#32) + Ideal.ofBits FTy.f32 0x358637BD#32) * nw (ix2 0 d) := by
  pointwise [scaled, k0_pay1]

end Cert.OprojIdeal.Value

end
-- ==== Proof.OprojVal.lean ====
module

public import proofs.«01_k».proof.Proof.OprojRead
public import proofs.«01_k».proof.Proof.OprojPay

@[expose] public section

set_option maxRecDepth 16384

noncomputable section

namespace Cert.OprojIdeal.Value

open Cert.OprojIdeal Cert.OprojIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The arguments read at numbers. -/
def args (c : Dev nD) : Args where
  A r k := if h : r < 16384 ∧ k < 1024 then m ((c : Thread nD τ).loc main_arg0) (ix2 ⟨r, h.1⟩ ⟨k, h.2⟩) else 0
  Z r k := if h : r < 16384 ∧ k < 4608 then m ((c : Thread nD τ).loc main_arg1) (ix2 ⟨r, h.1⟩ ⟨k, h.2⟩) else 0
  X r d := if h : r < 16384 ∧ d < 2048 then m ((c : Thread nD τ).loc main_arg2) (ix3 ⟨r / 4096, by omega⟩ ⟨r % 4096, by omega⟩ ⟨d, h.2⟩) else 0
  W k d := if h : k < 2048 ∧ d < 2048 then m ((c : Thread nD τ).loc main_arg3) (ix2 ⟨k, h.1⟩ ⟨d, h.2⟩) else 0
  NW d := if h : d < 2048 then m ((c : Thread nD τ).loc main_arg4) (ix1 ⟨d, h⟩) else 0
  LW k := if h : k < 1024 then m ((c : Thread nD τ).loc main_arg5) (ix1 ⟨k, h⟩) else 0
  LB k := if h : k < 1024 then m ((c : Thread nD τ).loc main_arg6) (ix1 ⟨k, h⟩) else 0
  SW g t s := if h : g < 8 ∧ t < 128 ∧ s < 128 then m ((c : Thread nD τ).loc main_arg7) (ix3 ⟨g, h.1⟩ ⟨t, h.2.1⟩ ⟨s, h.2.2⟩) else 0
  SB g t := if h : g < 8 ∧ t < 128 then m ((c : Thread nD τ).loc main_arg8) (ix2 ⟨g, h.1⟩ ⟨t, h.2⟩) else 0

theorem inRange1 {n : ℕ} (f : (⟨1, ![n]⟩ : Shape).Idx → EReal) (i : Fin n) : f (ix1 i) = if h : i.val < n then f (ix1 ⟨i.val, h⟩) else 0 := by rw [dif_pos i.isLt]
theorem inRange2 {n k : ℕ} (f : (⟨2, ![n, k]⟩ : Shape).Idx → EReal) (i : Fin n) (j : Fin k) : f (ix2 i j) = if h : i.val < n ∧ j.val < k then f (ix2 ⟨i.val, h.1⟩ ⟨j.val, h.2⟩) else 0 := by
  have hh : i.val < n ∧ j.val < k := ⟨i.isLt, j.isLt⟩
  rw [dif_pos hh]
theorem inRange3 {n k l : ℕ} (f : (⟨3, ![n, k, l]⟩ : Shape).Idx → EReal) (i : Fin n) (j : Fin k) (z : Fin l) :
    f (ix3 i j z) = if h : i.val < n ∧ j.val < k ∧ z.val < l then f (ix3 ⟨i.val, h.1⟩ ⟨j.val, h.2.1⟩ ⟨z.val, h.2.2⟩) else 0 := by
  have hh : i.val < n ∧ j.val < k ∧ z.val < l := ⟨i.isLt, j.isLt, z.isLt⟩
  rw [dif_pos hh]

section
variable (c : Dev nD) (t : Fin cfg0.N)

/-- The body's normalised half at a point, -/
def vnAt : FVec Ideal S512x1024 .bf16 :=
  k0_pay12 (k0_pay3 (iblk m c 6 t)) (k0_pay4 (iblk m c 7 t)) (k0_pay8 (X0_1 m c t)) (k0_pay10 (X0_1 m c t)) (k0_pay11 (X0_1 m c t))
/-- its gated rows by chunk, -/
def c0At : FVec Ideal S128x1024 .bf16 :=
  lead (k0_pay5 (iblk m c 9 t)) (k0_pay7 (X0_1 m c t)) (vnAt m c t) (wt0 (iblk m c 8 t)) (wt1 (iblk m c 8 t)) (wt2 (iblk m c 8 t)) (wt3 (iblk m c 8 t)) (wt4 (iblk m c 8 t)) (wt5 (iblk m c 8 t)) (wt6 (iblk m c 8 t)) (wt7 (iblk m c 8 t))
def c1At : FVec Ideal S128x1024 .bf16 :=
  k0_pay26 (k0_pay5 (iblk m c 9 t)) (k0_pay7 (X0_1 m c t)) (vnAt m c t) (wt0 (iblk m c 8 t)) (wt1 (iblk m c 8 t)) (wt2 (iblk m c 8 t)) (wt3 (iblk m c 8 t)) (wt4 (iblk m c 8 t)) (wt5 (iblk m c 8 t)) (wt6 (iblk m c 8 t)) (wt7 (iblk m c 8 t))
def c2At : FVec Ideal S128x1024 .f32 :=
  k0_pay27 (k0_pay5 (iblk m c 9 t)) (k0_pay7 (X0_1 m c t)) (vnAt m c t) (wt0 (iblk m c 8 t)) (wt1 (iblk m c 8 t)) (wt2 (iblk m c 8 t)) (wt3 (iblk m c 8 t)) (wt4 (iblk m c 8 t)) (wt5 (iblk m c 8 t)) (wt6 (iblk m c 8 t)) (wt7 (iblk m c 8 t))
def c3At : FVec Ideal S128x1024 .bf16 :=
  last (k0_pay5 (iblk m c 9 t)) (k0_pay7 (X0_1 m c t)) (vnAt m c t) (wt0 (iblk m c 8 t)) (wt1 (iblk m c 8 t)) (wt2 (iblk m c 8 t)) (wt3 (iblk m c 8 t)) (wt4 (iblk m c 8 t)) (wt5 (iblk m c 8 t)) (wt6 (iblk m c 8 t)) (wt7 (iblk m c 8 t))
/-- its first result -/
def yAt : FVec Ideal S512x2048 .f32 :=
  total (k0_pay2 (iblk m c 0 t) (iblk m c 3 t)) (c0At m c t) (c1At m c t) (truncf .bf16 (c2At m c t) bitsLt_bf16_f32) (c3At m c t) (iblk m c 2 t) (iblk m c 4 t)

/-- is what the run leaves there, -/
theorem out10 (y : S512x2048.Idx) : (outsAt0 m c t).1 y = yAt m c t y := by
  unfold outsAt0
  frame_out
  rfl
/-- and so is the second. -/
theorem out11 (y : S512x2048.Idx) : (outsAt0 m c t).2 y = scaled (yAt m c t) (iblk m c 5 t) y := by
  unfold outsAt0
  frame_out
  rfl

theorem z_at (a : Fin 512) (k : Fin 2048) : X0_1 m c t (ix2 a k) = (args m c).Z (512 * t.val + a.val) k.val :=
  (read1 m c t a k).trans (inRange2 _ _ _)

theorem uAt_eq (a : Fin 512) (k : Fin 1024) : k0_pay7 (X0_1 m c t) (ix2 a k) = (args m c).u (512 * t.val + a.val) k.val :=
  (u_at (X0_1 m c t) a k).trans (congrArg ge (z_at m c t a _))
theorem vAt_eq (a : Fin 512) (k : Fin 1024) : k0_pay8 (X0_1 m c t) (ix2 a k) = (args m c).v (512 * t.val + a.val) k.val :=
  (v_at (X0_1 m c t) a k).trans (congrArg ge (z_at m c t a _))
theorem muAt_eq (a : Fin 512) : k0_pay9 (X0_1 m c t) (ix2 a 0) = (args m c).mu (512 * t.val + a.val) :=
  (mean_at (X0_1 m c t) a).trans (congrArg (Ideal.div · _) (Finset.sum_congr rfl fun k _ => vAt_eq m c t a k))
theorem varAt_eq (a : Fin 512) : k0_pay10 (X0_1 m c t) (ix2 a 0) = (args m c).var (512 * t.val + a.val) :=
  (var_at (X0_1 m c t) a).trans (congrArg (Ideal.div · _) (Finset.sum_congr rfl fun k _ =>
    congrArg₂ (· * ·) (congrArg₂ (· - ·) (vAt_eq m c t a k) (muAt_eq m c t a)) (congrArg₂ (· - ·) (vAt_eq m c t a k) (muAt_eq m c t a))))
theorem vnAt_eq (a : Fin 512) (k : Fin 1024) : vnAt m c t (ix2 a k) = (args m c).vn (512 * t.val + a.val) k.val := by
  refine (norm_at _ _ _ _ _ a k).trans ?_
  refine congrArg₂ (· + ·) (congrArg₂ (· * ·) (congrArg₂ (· * ·) (congrArg₂ (· - ·) (vAt_eq m c t a k) ((meanb_at _ a k).trans (muAt_eq m c t a)))
    (congrArg Ideal.rsqrt (congrArg (· + _) (varAt_eq m c t a)))) ?_) ?_
  · exact (read6 m c t k).trans (inRange1 _ _)
  · exact (read7 m c t k).trans (inRange1 _ _)

theorem sbAt_eq (a : Fin 128) (k : Fin 1024) : k0_pay5 (iblk m c 9 t) (ix2 a k) = (args m c).SB (k.val / 128) a.val := by
  refine Eq.trans ?_ ((read9 m c t a k).trans (inRange2 _ _ _))
  generalize iblk m c 9 t = x
  pointwise [k0_pay5]

theorem swAt (g : Fin 8) (a b : Fin 128) : (if b.val ≤ a.val then iblk m c 8 t (ix3 g a b) else (0 : EReal)) = (args m c).msk g.val a.val b.val := by
  unfold Args.msk
  exact if_congr Iff.rfl ((read8 m c t g a b).trans (inRange3 _ _ _ _)) rfl

/-- A chunk's gated rows over the numbers. -/
theorem b_chunk (A : Args) (T o : ℕ) (a : Fin 128) (k : ℕ) : A.b (512 * T + (128 * o + a.val)) k
    = A.u (512 * T + (128 * o + a.val)) k * ((∑ s : Fin 128, A.msk (k / 128) a.val s.val * A.vn (512 * T + (128 * o + s.val)) k) + A.SB (k / 128) a.val) := by
  unfold Args.b Args.mix
  rw [show (512 * T + (128 * o + a.val)) % 128 = a.val by omega, show 128 * ((512 * T + (128 * o + a.val)) / 128) = 512 * T + 128 * o by omega]
  simp only [Nat.add_assoc]

theorem c0At_eq (a : Fin 128) (k : Fin 1024) : c0At m c t (ix2 a k) = (args m c).b (512 * t.val + (0 + a.val)) k.val :=
  (lead_at _ _ _ _ _ _ _ _ _ _ _ (U := fun r k => (args m c).u (512 * t.val + r) k) (V := fun r k => (args m c).vn (512 * t.val + r) k) (S := fun a k => (args m c).SB (k / 128) a) (M := (args m c).msk)
    (uAt_eq m c t) (vnAt_eq m c t) (sbAt_eq m c t)
    (fun a b => (wt0_at _ a b).trans (swAt m c t 0 a b)) (fun a b => (wt1_at _ a b).trans (swAt m c t 1 a b)) (fun a b => (wt2_at _ a b).trans (swAt m c t 2 a b)) (fun a b => (wt3_at _ a b).trans (swAt m c t 3 a b))
    (fun a b => (wt4_at _ a b).trans (swAt m c t 4 a b)) (fun a b => (wt5_at _ a b).trans (swAt m c t 5 a b)) (fun a b => (wt6_at _ a b).trans (swAt m c t 6 a b)) (fun a b => (wt7_at _ a b).trans (swAt m c t 7 a b)) a k).trans
    (b_chunk (args m c) t.val 0 a k.val).symm
theorem c1At_eq (a : Fin 128) (k : Fin 1024) : c1At m c t (ix2 a k) = (args m c).b (512 * t.val + (128 + a.val)) k.val :=
  (mid1_at _ _ _ _ _ _ _ _ _ _ _ (U := fun r k => (args m c).u (512 * t.val + r) k) (V := fun r k => (args m c).vn (512 * t.val + r) k) (S := fun a k => (args m c).SB (k / 128) a) (M := (args m c).msk)
    (uAt_eq m c t) (vnAt_eq m c t) (sbAt_eq m c t)
    (fun a b => (wt0_at _ a b).trans (swAt m c t 0 a b)) (fun a b => (wt1_at _ a b).trans (swAt m c t 1 a b)) (fun a b => (wt2_at _ a b).trans (swAt m c t 2 a b)) (fun a b => (wt3_at _ a b).trans (swAt m c t 3 a b))
    (fun a b => (wt4_at _ a b).trans (swAt m c t 4 a b)) (fun a b => (wt5_at _ a b).trans (swAt m c t 5 a b)) (fun a b => (wt6_at _ a b).trans (swAt m c t 6 a b)) (fun a b => (wt7_at _ a b).trans (swAt m c t 7 a b)) a k).trans
    (b_chunk (args m c) t.val 1 a k.val).symm
theorem c2At_eq (a : Fin 128) (k : Fin 1024) : c2At m c t (ix2 a k) = (args m c).b (512 * t.val + (256 + a.val)) k.val :=
  (mid2_at _ _ _ _ _ _ _ _ _ _ _ (U := fun r k => (args m c).u (512 * t.val + r) k) (V := fun r k => (args m c).vn (512 * t.val + r) k) (S := fun a k => (args m c).SB (k / 128) a) (M := (args m c).msk)
    (uAt_eq m c t) (vnAt_eq m c t) (sbAt_eq m c t)
    (fun a b => (wt0_at _ a b).trans (swAt m c t 0 a b)) (fun a b => (wt1_at _ a b).trans (swAt m c t 1 a b)) (fun a b => (wt2_at _ a b).trans (swAt m c t 2 a b)) (fun a b => (wt3_at _ a b).trans (swAt m c t 3 a b))
    (fun a b => (wt4_at _ a b).trans (swAt m c t 4 a b)) (fun a b => (wt5_at _ a b).trans (swAt m c t 5 a b)) (fun a b => (wt6_at _ a b).trans (swAt m c t 6 a b)) (fun a b => (wt7_at _ a b).trans (swAt m c t 7 a b)) a k).trans
    (b_chunk (args m c) t.val 2 a k.val).symm
theorem c3At_eq (a : Fin 128) (k : Fin 1024) : c3At m c t (ix2 a k) = (args m c).b (512 * t.val + (384 + a.val)) k.val :=
  (last_at _ _ _ _ _ _ _ _ _ _ _ (U := fun r k => (args m c).u (512 * t.val + r) k) (V := fun r k => (args m c).vn (512 * t.val + r) k) (S := fun a k => (args m c).SB (k / 128) a) (M := (args m c).msk)
    (uAt_eq m c t) (vnAt_eq m c t) (sbAt_eq m c t)
    (fun a b => (wt0_at _ a b).trans (swAt m c t 0 a b)) (fun a b => (wt1_at _ a b).trans (swAt m c t 1 a b)) (fun a b => (wt2_at _ a b).trans (swAt m c t 2 a b)) (fun a b => (wt3_at _ a b).trans (swAt m c t 3 a b))
    (fun a b => (wt4_at _ a b).trans (swAt m c t 4 a b)) (fun a b => (wt5_at _ a b).trans (swAt m c t 5 a b)) (fun a b => (wt6_at _ a b).trans (swAt m c t 6 a b)) (fun a b => (wt7_at _ a b).trans (swAt m c t 7 a b)) a k).trans
    (b_chunk (args m c) t.val 3 a k.val).symm

/-- The first result at a point over the numbers, -/
theorem yAt_eq (a : Fin 512) (d : Fin 2048) : yAt m c t (ix2 a d) = (args m c).y (512 * t.val + a.val) d.val := by
  refine (total_at _ _ _ _ _ _ _ (B := fun r k => (args m c).b (512 * t.val + r) k) (c0At_eq m c t) (c1At_eq m c t) (c2At_eq m c t) (c3At_eq m c t) a d).trans ?_
  unfold Args.y
  refine congrArg₂ (· + ·) ?_ (congrArg₂ (· + ·) ((dota_at _ _ a d).trans (Finset.sum_congr rfl fun k _ => congrArg₂ (· * ·) ?_ ?_)) (Finset.sum_congr rfl fun k _ => congrArg (HMul.hMul _) ?_))
  · refine (read2 m c t a d).trans ?_
    have hh : 512 * t.val + a.val < 16384 ∧ d.val < 2048 := ⟨by have := t_lt t; omega, d.isLt⟩
    unfold args
    dsimp only
    rw [dif_pos hh]
  · exact (read0 m c t a k).trans (inRange2 _ _ _)
  · exact (read3 m c t k d).trans (inRange2 _ _ _)
  · exact (read4 m c t k d).trans (inRange2 _ _ _)

/-- and the second. -/
theorem xnAt_eq (a : Fin 512) (d : Fin 2048) : scaled (yAt m c t) (iblk m c 5 t) (ix2 a d) = (args m c).xn (512 * t.val + a.val) d.val := by
  refine (scaled_at _ _ a d).trans ?_
  unfold Args.xn
  simp only [yAt_eq m c t a]
  exact congrArg (HMul.hMul _) ((read5 m c t d).trans (inRange1 _ _))
end

/-- What the call leaves. -/
def OUTY (c : Dev nD) : FVec Ideal S16384x2048 .f32 := fun y => (args m c).y (y 0).val (y 1).val
def OUTX (c : Dev nD) : FVec Ideal S16384x2048 .bf16 := fun y => (args m c).xn (y 0).val (y 1).val

theorem final10 (c : Dev nD) : (dats m 0 c).arrAt 10 (cfgs 0).N = OUTY m c := by
  refine (dats m 0 c).arrAt_eq_of_covers 10 _ (by decide +kernel) fun t hf y => ?_
  blk_simp
  rw [after0_10]
  refine (out10 m c t _).trans (Eq.trans ?_ ((yAt_eq m c t (y 0) (y 1)).trans ?_))
  · exact congrArg _ (eq_ix2 y)
  · unfold OUTY
    simp only [(emb10 t y).1, (emb10 t y).2]

theorem final11 (c : Dev nD) : (dats m 0 c).arrAt 11 (cfgs 0).N = OUTX m c := by
  refine (dats m 0 c).arrAt_eq_of_covers 11 _ (by decide +kernel) fun t hf y => ?_
  blk_simp
  rw [after0_11]
  refine (out11 m c t _).trans (Eq.trans ?_ ((xnAt_eq m c t (y 0) (y 1)).trans ?_))
  · exact congrArg _ (eq_ix2 y)
  · unfold OUTX
    simp only [(emb11 t y).1, (emb11 t y).2]

end Cert.OprojIdeal.Value

end
-- ==== Proof.OprojRef.lean ====
module

public import proofs.«01_k».proof.Proof.OprojVal
public import proofs.«01_k».proof.Proof.Gen.OprojRefIdeal

@[expose] public section

set_option maxRecDepth 16384

noncomputable section

namespace Cert.OprojIdeal.Value

open Idealize.ShloMosaic Idealize.ShloMosaic.TcCoe Idealize.ShloMosaic.Tactic
open Idealize.SL.Sem

/-- The reference's number over every row and column, -/
abbrev RC (w : BitVec 32) : FVec Ideal OprojRefIdeal.S4x4096x2048 .f32 := broadcastInDim OprojRefIdeal.S4x4096x2048 ![] OprojRefIdeal.Gen.bcast_S_S4x4096x2048 (constant OprojRefIdeal.S_ FTy.f32 w)
/-- over every row, -/
abbrev RC1 (w : BitVec 32) : FVec Ideal OprojRefIdeal.S4x4096x1 .f32 := broadcastInDim OprojRefIdeal.S4x4096x1 ![] OprojRefIdeal.Gen.bcast_S_S4x4096x1 (constant OprojRefIdeal.S_ FTy.f32 w)
/-- its reading of the projection, -/
abbrev RZ (Z : FVec Ideal OprojRefIdeal.S16384x4608 .f32) : FVec Ideal OprojRefIdeal.S4x4096x2048 .f32 :=
  shapeCast OprojRefIdeal.S4x4096x2048 (extractStridedSlice OprojRefIdeal.S16384x2048 ![0, 0] Z OprojRefIdeal.Gen.slices_S16384x4608_S16384x2048_0_0) OprojRefIdeal.Gen.shapeCasts_S16384x2048_S4x4096x2048
/-- its activation, -/
abbrev RG (z : FVec Ideal OprojRefIdeal.S4x4096x2048 .f32) : FVec Ideal OprojRefIdeal.S4x4096x2048 .f32 :=
  mulf z (mulf (RC 0x3F000000#32) (addf (RC 0x3F800000#32) (Host.tanh (mulf (RC 0x3F4C422A#32) (addf z (mulf (RC 0x3D372713#32) (mulf (mulf z z) z)))))))
/-- the halves, -/
abbrev RU (G : FVec Ideal OprojRefIdeal.S4x4096x2048 .f32) : FVec Ideal OprojRefIdeal.S4x4096x1024 .f32 := extractStridedSlice OprojRefIdeal.S4x4096x1024 ![0, 0, 0] G OprojRefIdeal.Gen.slices_S4x4096x2048_S4x4096x1024_0_0_0
abbrev RV (G : FVec Ideal OprojRefIdeal.S4x4096x2048 .f32) : FVec Ideal OprojRefIdeal.S4x4096x1024 .f32 := extractStridedSlice OprojRefIdeal.S4x4096x1024 ![0, 0, 1024] G OprojRefIdeal.Gen.slices_S4x4096x2048_S4x4096x1024_0_0_1024
/-- a mean along a row, -/
abbrev RMEAN (V : FVec Ideal OprojRefIdeal.S4x4096x1024 .f32) : FVec Ideal OprojRefIdeal.S4x4096x1 .f32 :=
  Host.divf (broadcastInDim OprojRefIdeal.S4x4096x1 ![0, 1] OprojRefIdeal.Gen.bcast_S4x4096_S4x4096x1_0_1 (Host.reduceAdd V (constant OprojRefIdeal.S_ FTy.f32 0x00000000#32) OprojRefIdeal.Gen.reducesTo_S4x4096x1024_S4x4096_d2 OprojRefIdeal.Gen.h_S_)) (RC1 0x44800000#32)
/-- a row less its mean, -/
abbrev RSUB (V : FVec Ideal OprojRefIdeal.S4x4096x1024 .f32) (M : FVec Ideal OprojRefIdeal.S4x4096x1 .f32) : FVec Ideal OprojRefIdeal.S4x4096x1024 .f32 :=
  subf V (broadcastInDim OprojRefIdeal.S4x4096x1024 ![0, 1, 2] OprojRefIdeal.Gen.bcast_S4x4096x1_S4x4096x1024_0_1_2 M)
/-- a row of numbers along the last axis, -/
abbrev RROW (v : FVec Ideal OprojRefIdeal.S1024 .f32) : FVec Ideal OprojRefIdeal.S4x4096x1024 .f32 :=
  broadcastInDim OprojRefIdeal.S4x4096x1024 ![0, 1, 2] OprojRefIdeal.Gen.bcast_S1x1x1024_S4x4096x1024_0_1_2 (broadcastInDim OprojRefIdeal.S1x1x1024 ![2] OprojRefIdeal.Gen.bcast_S1024_S1x1x1024_2 v)
/-- the normalised row, -/
abbrev RNORM (D : FVec Ideal OprojRefIdeal.S4x4096x1024 .f32) (Q : FVec Ideal OprojRefIdeal.S4x4096x1 .f32) (LW LB : FVec Ideal OprojRefIdeal.S1024 .f32) : FVec Ideal OprojRefIdeal.S4x4096x1024 .f32 :=
  addf (mulf (mulf D (broadcastInDim OprojRefIdeal.S4x4096x1024 ![0, 1, 2] OprojRefIdeal.Gen.bcast_S4x4096x1_S4x4096x1024_0_1_2 (Host.rsqrt (addf Q (RC1 0x3727C5AC#32))))) (RROW LW)) (RROW LB)
/-- the masked weights, -/
abbrev RTRIL : IVec OprojRefIdeal.S128x128 1 :=
  select (cmpi .sge (addi (iotaInDim OprojRefIdeal.S128x128 32 0) (broadcastInDim OprojRefIdeal.S128x128 ![] OprojRefIdeal.Gen.bcast_S_S128x128 (constantI OprojRefIdeal.S_ 32 0#32))) (iotaInDim OprojRefIdeal.S128x128 32 1))
    (broadcastInDim OprojRefIdeal.S128x128 ![] OprojRefIdeal.Gen.bcast_S_S128x128 (constantI OprojRefIdeal.S_ 1 1#1)) (broadcastInDim OprojRefIdeal.S128x128 ![] OprojRefIdeal.Gen.bcast_S_S128x128 (constantI OprojRefIdeal.S_ 1 0#1))
abbrev RMASK (W : FVec Ideal OprojRefIdeal.S8x128x128 .f32) : FVec Ideal OprojRefIdeal.S8x128x128 .f32 :=
  select (broadcastInDim OprojRefIdeal.S8x128x128 ![0, 1, 2] OprojRefIdeal.Gen.bcast_S1x128x128_S8x128x128_0_1_2 (broadcastInDim OprojRefIdeal.S1x128x128 ![1, 2] OprojRefIdeal.Gen.bcast_S128x128_S1x128x128_1_2 RTRIL)) W
    (broadcastInDim OprojRefIdeal.S8x128x128 ![] OprojRefIdeal.Gen.bcast_S_S8x128x128 (constant OprojRefIdeal.S_ FTy.f32 0x00000000#32))
/-- the mix of every chunk, -/
abbrev RMIX (VN : FVec Ideal OprojRefIdeal.S4x4096x1024 .f32) (T : FVec Ideal OprojRefIdeal.S8x128x128 .f32) : FVec Ideal OprojRefIdeal.S4x32x128x8x128 .f32 :=
  transpose OprojRefIdeal.S4x32x128x8x128 [1, 2, 4, 0, 3] (Host.dotGeneral OprojRefIdeal.dot_S4x32x128x8x128_S8x128x128_S8x4x32x128x128_2_2_014_1_3_0 none (shapeCast OprojRefIdeal.S4x32x128x8x128 VN OprojRefIdeal.Gen.shapeCasts_S4x4096x1024_S4x32x128x8x128) T)
    OprojRefIdeal.Gen.transposes_S8x4x32x128x128_S4x32x128x8x128_1_2_4_0_3
/-- the gated rows, -/
abbrev RB (U : FVec Ideal OprojRefIdeal.S4x4096x1024 .f32) (MX : FVec Ideal OprojRefIdeal.S4x32x128x8x128 .f32) (SB : FVec Ideal OprojRefIdeal.S8x128 .f32) : FVec Ideal OprojRefIdeal.S4x4096x1024 .f32 :=
  mulf U (shapeCast OprojRefIdeal.S4x4096x1024 (addf MX (broadcastInDim OprojRefIdeal.S4x32x128x8x128 ![0, 1, 2, 3, 4] OprojRefIdeal.Gen.bcast_S1x1x128x8x1_S4x32x128x8x128_0_1_2_3_4
    (broadcastInDim OprojRefIdeal.S1x1x128x8x1 ![2, 3] OprojRefIdeal.Gen.bcast_S128x8_S1x1x128x8x1_2_3 (transpose OprojRefIdeal.S128x8 [1, 0] SB OprojRefIdeal.Gen.transposes_S8x128_S128x8_1_0)))) OprojRefIdeal.Gen.shapeCasts_S4x32x128x8x128_S4x4096x1024)
/-- the first result by sequence -/
abbrev RY (A : FVec Ideal OprojRefIdeal.S16384x1024 .bf16) (X : FVec Ideal OprojRefIdeal.S4x4096x2048 .f32) (W : FVec Ideal OprojRefIdeal.S2048x2048 .f32) (B : FVec Ideal OprojRefIdeal.S4x4096x1024 .f32) : FVec Ideal OprojRefIdeal.S4x4096x2048 .f32 :=
  addf X (Host.dotGeneral OprojRefIdeal.dot_S4x4096x2048_S2048x2048_S4x4096x2048_2_0_01_1_n_n none
    (concatenate OprojRefIdeal.S4x4096x2048 2 [⟨OprojRefIdeal.S4x4096x1024, shapeCast OprojRefIdeal.S4x4096x1024 (extf .f32 A OprojRefIdeal.Gen.bitsLt_bf16_f32) OprojRefIdeal.Gen.shapeCasts_S16384x1024_S4x4096x1024⟩, ⟨OprojRefIdeal.S4x4096x1024, B⟩] OprojRefIdeal.Gen.concatenates_S4x4096x1024_S4x4096x1024_S4x4096x2048_d2) W)
/-- and the second. -/
abbrev RXN (Y : FVec Ideal OprojRefIdeal.S4x4096x2048 .f32) (NW : FVec Ideal OprojRefIdeal.S2048 .f32) : FVec Ideal OprojRefIdeal.S16384x2048 .bf16 :=
  truncf .bf16 (shapeCast OprojRefIdeal.S16384x2048
    (mulf (mulf Y (broadcastInDim OprojRefIdeal.S4x4096x2048 ![0, 1, 2] OprojRefIdeal.Gen.bcast_S4x4096x1_S4x4096x2048_0_1_2 (Host.rsqrt (addf (Host.divf (broadcastInDim OprojRefIdeal.S4x4096x1 ![0, 1] OprojRefIdeal.Gen.bcast_S4x4096_S4x4096x1_0_1
        (Host.reduceAdd (mulf Y Y) (constant OprojRefIdeal.S_ FTy.f32 0x00000000#32) OprojRefIdeal.Gen.reducesTo_S4x4096x2048_S4x4096_d2 OprojRefIdeal.Gen.h_S_)) (RC1 0x45000000#32)) (RC1 0x358637BD#32)))))
      (broadcastInDim OprojRefIdeal.S4x4096x2048 ![0, 1, 2] OprojRefIdeal.Gen.bcast_S1x1x2048_S4x4096x2048_0_1_2 (broadcastInDim OprojRefIdeal.S1x1x2048 ![2] OprojRefIdeal.Gen.bcast_S2048_S1x1x2048_2 NW)))
    OprojRefIdeal.Gen.shapeCasts_S4x4096x2048_S16384x2048) OprojRefIdeal.Gen.bitsLt_bf16_f32

/-! ## The stages at an element -/

theorem rg_at (Z : FVec Ideal OprojRefIdeal.S16384x4608 .f32) (s : Fin 4) (p : Fin 4096) (k : Fin 2048) : RG (RZ Z) (ix3 s p k) = ge (Z (ix2 ⟨s.val * 4096 + p.val, by omega⟩ ⟨k.val, by omega⟩)) := by
  have h : RZ Z (ix3 s p k) = Z (ix2 ⟨s.val * 4096 + p.val, by omega⟩ ⟨k.val, by omega⟩) := by
    pointwise [RZ]
    try (refine congrArg Z (congrArg₂ ix2 (Fin.ext ?_) (Fin.ext ?_)) <;> (simp only; try omega))
  rw [← h]
  generalize RZ Z = z
  pointwise [RG, RC]
  unfold ge
  rw [mul_comm (z (ix3 s p k) * z (ix3 s p k)) (z (ix3 s p k))]

theorem ru_at (G : FVec Ideal OprojRefIdeal.S4x4096x2048 .f32) (s : Fin 4) (p : Fin 4096) (k : Fin 1024) : RU G (ix3 s p k) = G (ix3 s p ⟨k.val, by omega⟩) := by
  pointwise [RU]
theorem rv_at (G : FVec Ideal OprojRefIdeal.S4x4096x2048 .f32) (s : Fin 4) (p : Fin 4096) (k : Fin 1024) : RV G (ix3 s p k) = G (ix3 s p ⟨1024 + k.val, by omega⟩) := by
  pointwise [RV]
theorem rmean_at (V : FVec Ideal OprojRefIdeal.S4x4096x1024 .f32) (s : Fin 4) (p : Fin 4096) : RMEAN V (ix3 s p 0) = Ideal.div (∑ k : Fin 1024, V (ix3 s p k)) (Ideal.ofBits FTy.f32 0x44800000#32) := by
  pointwise [RMEAN, RC1]
theorem rsub_at (V : FVec Ideal OprojRefIdeal.S4x4096x1024 .f32) (M : FVec Ideal OprojRefIdeal.S4x4096x1 .f32) (s : Fin 4) (p : Fin 4096) (k : Fin 1024) : RSUB V M (ix3 s p k) = V (ix3 s p k) - M (ix3 s p 0) := by
  pointwise [RSUB]
theorem rnorm_at (D : FVec Ideal OprojRefIdeal.S4x4096x1024 .f32) (Q : FVec Ideal OprojRefIdeal.S4x4096x1 .f32) (LW LB : FVec Ideal OprojRefIdeal.S1024 .f32) (s : Fin 4) (p : Fin 4096) (k : Fin 1024) :
    RNORM D Q LW LB (ix3 s p k) = D (ix3 s p k) * Ideal.rsqrt (Q (ix3 s p 0) + Ideal.ofBits FTy.f32 0x3727C5AC#32) * LW (ix1 k) + LB (ix1 k) := by
  pointwise [RNORM, RROW, RC1]
theorem tril_word (t s : Fin 128) :
    Scalar.select (IntOp.cmpi CmpIPredicate.sge (IntOp.addi (BitVec.ofNat 32 t.val) 0#32) (BitVec.ofNat 32 s.val)) 1#1 0#1 = if s.val ≤ t.val then 1#1 else 0#1 := by
  revert t s
  decide +kernel
theorem rmask_at (W : FVec Ideal OprojRefIdeal.S8x128x128 .f32) (g : Fin 8) (t s : Fin 128) : RMASK W (ix3 g t s) = if s.val ≤ t.val then W (ix3 g t s) else 0 := by
  pointwise [RMASK, RTRIL]
  rw [tril_word]
  by_cases hh : s.val ≤ t.val
  · rw [if_pos hh, if_pos hh]; rfl
  · rw [if_neg hh, if_neg hh]; rfl
theorem rb_at (U VN : FVec Ideal OprojRefIdeal.S4x4096x1024 .f32) (T : FVec Ideal OprojRefIdeal.S8x128x128 .f32) (SB : FVec Ideal OprojRefIdeal.S8x128 .f32) (s : Fin 4) (p : Fin 4096) (k : Fin 1024) :
    RB U (RMIX VN T) SB (ix3 s p k) = U (ix3 s p k) * ((∑ z : Fin 128, VN (ix3 s ⟨p.val / 128 * 128 + z.val, by omega⟩ k) * T (ix3 ⟨k.val / 128, by omega⟩ ⟨p.val % 128, by omega⟩ z)) + SB (ix2 ⟨k.val / 128, by omega⟩ ⟨p.val % 128, by omega⟩)) := by
  pointwise [RB, RMIX]
theorem ry_at (A : FVec Ideal OprojRefIdeal.S16384x1024 .bf16) (X : FVec Ideal OprojRefIdeal.S4x4096x2048 .f32) (W : FVec Ideal OprojRefIdeal.S2048x2048 .f32) (B : FVec Ideal OprojRefIdeal.S4x4096x1024 .f32) (s : Fin 4) (p : Fin 4096) (d : Fin 2048) :
    RY A X W B (ix3 s p d) = X (ix3 s p d) + ((∑ k : Fin 1024, A (ix2 ⟨s.val * 4096 + p.val, by omega⟩ k) * W (ix2 ⟨k.val, by omega⟩ d)) + ∑ k : Fin 1024, B (ix3 s p k) * W (ix2 ⟨1024 + k.val, by omega⟩ d)) := by
  pointwise [RY]
theorem rxn_at (Y : FVec Ideal OprojRefIdeal.S4x4096x2048 .f32) (NW : FVec Ideal OprojRefIdeal.S2048 .f32) (r : Fin 16384) (d : Fin 2048) :
    RXN Y NW (ix2 r d) = Y (ix3 ⟨r.val / 4096, by omega⟩ ⟨r.val % 4096, by omega⟩ d) * Ideal.rsqrt (Ideal.div (∑ e : Fin 2048, Y (ix3 ⟨r.val / 4096, by omega⟩ ⟨r.val % 4096, by omega⟩ e) * Y (ix3 ⟨r.val / 4096, by omega⟩ ⟨r.val % 4096, by omega⟩ e)) (Ideal.ofBits FTy.f32 0x45000000#32) + Ideal.ofBits FTy.f32 0x358637BD#32) * NW (ix1 d) := by
  pointwise [RXN, RC1]

/-! ## The reference over the numbers -/

/-- The rows of the second half less their mean, -/
abbrev RD (Z : FVec Ideal OprojRefIdeal.S16384x4608 .f32) : FVec Ideal OprojRefIdeal.S4x4096x1024 .f32 := RSUB (RV (RG (RZ Z))) (RMEAN (RV (RG (RZ Z))))
/-- the normalised rows, -/
abbrev RVN (Z : FVec Ideal OprojRefIdeal.S16384x4608 .f32) (LW LB : FVec Ideal OprojRefIdeal.S1024 .f32) : FVec Ideal OprojRefIdeal.S4x4096x1024 .f32 := RNORM (RD Z) (RMEAN (mulf (RD Z) (RD Z))) LW LB
/-- the gated rows, -/
abbrev RGATED (Z : FVec Ideal OprojRefIdeal.S16384x4608 .f32) (LW LB : FVec Ideal OprojRefIdeal.S1024 .f32) (SW : FVec Ideal OprojRefIdeal.S8x128x128 .f32) (SB : FVec Ideal OprojRefIdeal.S8x128 .f32) : FVec Ideal OprojRefIdeal.S4x4096x1024 .f32 :=
  RB (RU (RG (RZ Z))) (RMIX (RVN Z LW LB) (RMASK SW)) SB
/-- the first result by sequence, -/
abbrev RY3 (A : FVec Ideal OprojRefIdeal.S16384x1024 .bf16) (Z : FVec Ideal OprojRefIdeal.S16384x4608 .f32) (X : FVec Ideal OprojRefIdeal.S4x4096x2048 .f32) (W : FVec Ideal OprojRefIdeal.S2048x2048 .f32) (LW LB : FVec Ideal OprojRefIdeal.S1024 .f32)
    (SW : FVec Ideal OprojRefIdeal.S8x128x128 .f32) (SB : FVec Ideal OprojRefIdeal.S8x128 .f32) : FVec Ideal OprojRefIdeal.S4x4096x2048 .f32 := RY A X W (RGATED Z LW LB SW SB)
/-- the first result -/
abbrev REFY (A : FVec Ideal OprojRefIdeal.S16384x1024 .bf16) (Z : FVec Ideal OprojRefIdeal.S16384x4608 .f32) (X : FVec Ideal OprojRefIdeal.S4x4096x2048 .f32) (W : FVec Ideal OprojRefIdeal.S2048x2048 .f32) (LW LB : FVec Ideal OprojRefIdeal.S1024 .f32)
    (SW : FVec Ideal OprojRefIdeal.S8x128x128 .f32) (SB : FVec Ideal OprojRefIdeal.S8x128 .f32) : FVec Ideal OprojRefIdeal.S16384x2048 .f32 := shapeCast OprojRefIdeal.S16384x2048 (RY3 A Z X W LW LB SW SB) OprojRefIdeal.Gen.shapeCasts_S4x4096x2048_S16384x2048
/-- and the second. -/
abbrev REFX (A : FVec Ideal OprojRefIdeal.S16384x1024 .bf16) (Z : FVec Ideal OprojRefIdeal.S16384x4608 .f32) (X : FVec Ideal OprojRefIdeal.S4x4096x2048 .f32) (W : FVec Ideal OprojRefIdeal.S2048x2048 .f32) (NW : FVec Ideal OprojRefIdeal.S2048 .f32) (LW LB : FVec Ideal OprojRefIdeal.S1024 .f32)
    (SW : FVec Ideal OprojRefIdeal.S8x128x128 .f32) (SB : FVec Ideal OprojRefIdeal.S8x128 .f32) : FVec Ideal OprojRefIdeal.S16384x2048 .bf16 := RXN (RY3 A Z X W LW LB SW SB) NW

section
variable {R : Args} {A : FVec Ideal OprojRefIdeal.S16384x1024 .bf16} {Z : FVec Ideal OprojRefIdeal.S16384x4608 .f32} {X : FVec Ideal OprojRefIdeal.S4x4096x2048 .f32} {W : FVec Ideal OprojRefIdeal.S2048x2048 .f32}
  {NW : FVec Ideal OprojRefIdeal.S2048 .f32} {LW LB : FVec Ideal OprojRefIdeal.S1024 .f32} {SW : FVec Ideal OprojRefIdeal.S8x128x128 .f32} {SB : FVec Ideal OprojRefIdeal.S8x128 .f32}
  (hA : ∀ (r : Fin 16384) (k : Fin 1024), A (ix2 r k) = R.A r.val k.val) (hZ : ∀ (r : Fin 16384) (k : Fin 4608), Z (ix2 r k) = R.Z r.val k.val)
  (hX : ∀ (s : Fin 4) (p : Fin 4096) (d : Fin 2048), X (ix3 s p d) = R.X (s.val * 4096 + p.val) d.val) (hW : ∀ (k d : Fin 2048), W (ix2 k d) = R.W k.val d.val)
  (hNW : ∀ d : Fin 2048, NW (ix1 d) = R.NW d.val) (hLW : ∀ k : Fin 1024, LW (ix1 k) = R.LW k.val) (hLB : ∀ k : Fin 1024, LB (ix1 k) = R.LB k.val)
  (hSW : ∀ (g : Fin 8) (t s : Fin 128), SW (ix3 g t s) = R.SW g.val t.val s.val) (hSB : ∀ (g : Fin 8) (t : Fin 128), SB (ix2 g t) = R.SB g.val t.val)

include hZ in
theorem ru_eq (s : Fin 4) (p : Fin 4096) (k : Fin 1024) : RU (RG (RZ Z)) (ix3 s p k) = R.u (s.val * 4096 + p.val) k.val :=
  (ru_at _ s p k).trans ((rg_at Z s p _).trans (congrArg ge (hZ _ _)))
include hZ in
theorem rv_eq (s : Fin 4) (p : Fin 4096) (k : Fin 1024) : RV (RG (RZ Z)) (ix3 s p k) = R.v (s.val * 4096 + p.val) k.val :=
  (rv_at _ s p k).trans ((rg_at Z s p _).trans (congrArg ge (hZ _ _)))
include hZ in
theorem rmu_eq (s : Fin 4) (p : Fin 4096) : RMEAN (RV (RG (RZ Z))) (ix3 s p 0) = R.mu (s.val * 4096 + p.val) :=
  (rmean_at _ s p).trans (congrArg (Ideal.div · _) (Finset.sum_congr rfl fun k _ => rv_eq hZ s p k))
include hZ in
theorem rd_eq (s : Fin 4) (p : Fin 4096) (k : Fin 1024) : RD Z (ix3 s p k) = R.v (s.val * 4096 + p.val) k.val - R.mu (s.val * 4096 + p.val) :=
  (rsub_at _ _ s p k).trans (congrArg₂ (· - ·) (rv_eq hZ s p k) (rmu_eq hZ s p))
include hZ in
theorem rvar_eq (s : Fin 4) (p : Fin 4096) : RMEAN (mulf (RD Z) (RD Z)) (ix3 s p 0) = R.var (s.val * 4096 + p.val) :=
  (rmean_at _ s p).trans (congrArg (Ideal.div · _) (Finset.sum_congr rfl fun k _ => congrArg₂ (· * ·) (rd_eq hZ s p k) (rd_eq hZ s p k)))
include hZ hLW hLB in
theorem rvn_eq (s : Fin 4) (p : Fin 4096) (k : Fin 1024) : RVN Z LW LB (ix3 s p k) = R.vn (s.val * 4096 + p.val) k.val :=
  (rnorm_at _ _ _ _ s p k).trans (congrArg₂ (· + ·) (congrArg₂ (· * ·) (congrArg₂ (· * ·) (rd_eq hZ s p k)
    (congrArg Ideal.rsqrt (congrArg (· + _) (rvar_eq hZ s p)))) (hLW k)) (hLB k))
include hZ hLW hLB hSW hSB in
theorem rgated_eq (s : Fin 4) (p : Fin 4096) (k : Fin 1024) : RGATED Z LW LB SW SB (ix3 s p k) = R.b (s.val * 4096 + p.val) k.val := by
  refine (rb_at _ _ _ _ s p k).trans ?_
  unfold Args.b Args.mix Args.msk
  have e : (s.val * 4096 + p.val) % 128 = p.val % 128 := by omega
  rw [e]
  refine congrArg₂ (· * ·) (ru_eq hZ s p k) (congrArg₂ (· + ·) (Finset.sum_congr rfl fun z _ => (mul_comm _ _).trans (congrArg₂ (· * ·) ?_ ?_)) (hSB _ _))
  · exact (rmask_at SW _ _ z).trans (if_congr Iff.rfl (hSW _ _ z) rfl)
  · refine (rvn_eq hZ hLW hLB s _ k).trans (congrArg (R.vn · k.val) ?_)
    simp only
    omega
include hA hZ hX hW hLW hLB hSW hSB in
theorem ry_eq (s : Fin 4) (p : Fin 4096) (d : Fin 2048) : RY3 A Z X W LW LB SW SB (ix3 s p d) = R.y (s.val * 4096 + p.val) d.val :=
  (ry_at _ _ _ _ s p d).trans (congrArg₂ (· + ·) (hX s p d) (congrArg₂ (· + ·) (Finset.sum_congr rfl fun k _ => congrArg₂ (· * ·) (hA _ k) (hW _ d))
    (Finset.sum_congr rfl fun k _ => congrArg₂ (· * ·) (rgated_eq hZ hLW hLB hSW hSB s p k) (hW _ d))))
theorem rows_at (Y : FVec Ideal OprojRefIdeal.S4x4096x2048 .f32) (r : Fin 16384) (d : Fin 2048) :
    shapeCast OprojRefIdeal.S16384x2048 Y OprojRefIdeal.Gen.shapeCasts_S4x4096x2048_S16384x2048 (ix2 r d) = Y (ix3 ⟨r.val / 4096, by omega⟩ ⟨r.val % 4096, by omega⟩ d) := by
  pointwise
include hA hZ hX hW hLW hLB hSW hSB in
theorem refy_apply (r : Fin 16384) (d : Fin 2048) : REFY A Z X W LW LB SW SB (ix2 r d) = R.y r.val d.val := by
  refine (rows_at _ r d).trans ((ry_eq hA hZ hX hW hLW hLB hSW hSB _ _ d).trans (congrArg (R.y · d.val) ?_))
  simp only
  omega
include hA hZ hX hW hNW hLW hLB hSW hSB in
theorem refx_apply (r : Fin 16384) (d : Fin 2048) : REFX A Z X W NW LW LB SW SB (ix2 r d) = R.xn r.val d.val := by
  have h : ∀ e : Fin 2048, RY3 A Z X W LW LB SW SB (ix3 ⟨r.val / 4096, by omega⟩ ⟨r.val % 4096, by omega⟩ e) = R.y r.val e.val := fun e =>
    (ry_eq hA hZ hX hW hLW hLB hSW hSB _ _ e).trans (congrArg (R.y · e.val) (by simp only; omega))
  refine (rxn_at _ NW r d).trans ?_
  unfold Args.xn
  exact congrArg₂ (· * ·) (congrArg₂ (· * ·) (h d) (congrArg Ideal.rsqrt (congrArg (· + _) (congrArg (Ideal.div · _) (Finset.sum_congr rfl fun e _ => congrArg₂ (· * ·) (h e) (h e)))))) (hNW d)
end

theorem xArg (m : (ℓ : Loc nD τ OprojIdeal.sig) → Buf (Elt Ideal) ℓ) (c : Dev nD) (s : Fin 4) (p : Fin 4096) (d : Fin 2048) :
    m ((c : Thread nD τ).loc OprojIdeal.main_arg2) (ix3 s p d) = (args m c).X (s.val * 4096 + p.val) d.val := by
  have hh : s.val * 4096 + p.val < 16384 ∧ d.val < 2048 := ⟨by omega, d.isLt⟩
  have e1 : (⟨(s.val * 4096 + p.val) / 4096, by omega⟩ : Fin 4) = s := Fin.ext (by simp only; omega)
  have e2 : (⟨(s.val * 4096 + p.val) % 4096, by omega⟩ : Fin 4096) = p := Fin.ext (by simp only; omega)
  unfold args
  dsimp only
  rw [dif_pos hh, e1, e2]

/-- The reference over the arguments is what the kernel leaves, in the first result -/
theorem refy_eq (m : (ℓ : Loc nD τ OprojIdeal.sig) → Buf (Elt Ideal) ℓ) (c : Dev nD) :
    REFY (m ((c : Thread nD τ).loc OprojIdeal.main_arg0)) (m ((c : Thread nD τ).loc OprojIdeal.main_arg1)) (m ((c : Thread nD τ).loc OprojIdeal.main_arg2)) (m ((c : Thread nD τ).loc OprojIdeal.main_arg3))
      (m ((c : Thread nD τ).loc OprojIdeal.main_arg5)) (m ((c : Thread nD τ).loc OprojIdeal.main_arg6)) (m ((c : Thread nD τ).loc OprojIdeal.main_arg7)) (m ((c : Thread nD τ).loc OprojIdeal.main_arg8)) = OUTY m c := by
  funext y
  rw [eq_ix2 y]
  exact refy_apply (R := args m c) (fun r k => inRange2 _ r k) (fun r k => inRange2 _ r k) (xArg m c) (fun r k => inRange2 _ r k)
    (fun k => inRange1 _ k) (fun k => inRange1 _ k) (fun g t s => inRange3 _ g t s) (fun g t => inRange2 _ g t) (y 0) (y 1)
/-- and in the second. -/
theorem refx_eq (m : (ℓ : Loc nD τ OprojIdeal.sig) → Buf (Elt Ideal) ℓ) (c : Dev nD) :
    REFX (m ((c : Thread nD τ).loc OprojIdeal.main_arg0)) (m ((c : Thread nD τ).loc OprojIdeal.main_arg1)) (m ((c : Thread nD τ).loc OprojIdeal.main_arg2)) (m ((c : Thread nD τ).loc OprojIdeal.main_arg3))
      (m ((c : Thread nD τ).loc OprojIdeal.main_arg4)) (m ((c : Thread nD τ).loc OprojIdeal.main_arg5)) (m ((c : Thread nD τ).loc OprojIdeal.main_arg6)) (m ((c : Thread nD τ).loc OprojIdeal.main_arg7)) (m ((c : Thread nD τ).loc OprojIdeal.main_arg8)) = OUTX m c := by
  funext y
  rw [eq_ix2 y]
  exact refx_apply (R := args m c) (fun r k => inRange2 _ r k) (fun r k => inRange2 _ r k) (xArg m c) (fun r k => inRange2 _ r k) (fun k => inRange1 _ k)
    (fun k => inRange1 _ k) (fun k => inRange1 _ k) (fun g t s => inRange3 _ g t s) (fun g t => inRange2 _ g t) (y 0) (y 1)

end Cert.OprojIdeal.Value

end
-- ==== Proof.OprojPair.lean ====
module

public import proofs.«01_k».proof.Proof.OprojRef
public import proofs.«01_k».proof.Defs
public import proofs.«01_k».proof.Proof.Gen.OprojRefIdeal
public import Idealize.ShloMosaic.Lib.Claim

@[expose] public section

set_option maxRecDepth 16384

noncomputable section

namespace Cert.OprojIdeal.Value

open Idealize.ShloMosaic Idealize.ShloMosaic.TcCoe Idealize.ShloMosaic.Tactic
open Idealize.SL.Sem

/-- The reference's two results over arguments that are the kernel's. -/
theorem refy_of (m : (ℓ : Loc nD τ OprojIdeal.sig) → Buf (Elt Ideal) ℓ) (c : Dev nD) {A : FVec Ideal OprojRefIdeal.S16384x1024 .bf16} {Z : FVec Ideal OprojRefIdeal.S16384x4608 .f32}
    {LW LB : FVec Ideal OprojRefIdeal.S1024 .f32} {SW : FVec Ideal OprojRefIdeal.S8x128x128 .f32} {SB : FVec Ideal OprojRefIdeal.S8x128 .f32}
    (hA : A = m (c.tc.loc OprojIdeal.main_arg0)) (hZ : Z = m (c.tc.loc OprojIdeal.main_arg1)) (hLW : LW = m (c.tc.loc OprojIdeal.main_arg5)) (hLB : LB = m (c.tc.loc OprojIdeal.main_arg6))
    (hSW : SW = m (c.tc.loc OprojIdeal.main_arg7)) (hSB : SB = m (c.tc.loc OprojIdeal.main_arg8)) :
    REFY A Z (m (c.tc.loc OprojIdeal.main_arg2)) (m (c.tc.loc OprojIdeal.main_arg3)) LW LB SW SB = OUTY m c := by
  subst hA hZ hLW hLB hSW hSB
  exact refy_eq m c
theorem refx_of (m : (ℓ : Loc nD τ OprojIdeal.sig) → Buf (Elt Ideal) ℓ) (c : Dev nD) {A : FVec Ideal OprojRefIdeal.S16384x1024 .bf16} {Z : FVec Ideal OprojRefIdeal.S16384x4608 .f32}
    {LW LB : FVec Ideal OprojRefIdeal.S1024 .f32} {SW : FVec Ideal OprojRefIdeal.S8x128x128 .f32} {SB : FVec Ideal OprojRefIdeal.S8x128 .f32}
    (hA : A = m (c.tc.loc OprojIdeal.main_arg0)) (hZ : Z = m (c.tc.loc OprojIdeal.main_arg1)) (hLW : LW = m (c.tc.loc OprojIdeal.main_arg5)) (hLB : LB = m (c.tc.loc OprojIdeal.main_arg6))
    (hSW : SW = m (c.tc.loc OprojIdeal.main_arg7)) (hSB : SB = m (c.tc.loc OprojIdeal.main_arg8)) :
    REFX A Z (m (c.tc.loc OprojIdeal.main_arg2)) (m (c.tc.loc OprojIdeal.main_arg3)) (m (c.tc.loc OprojIdeal.main_arg4)) LW LB SW SB = OUTX m c := by
  subst hA hZ hLW hLB hSW hSB
  exact refx_eq m c

set_option maxHeartbeats 1000000 in
/-- The results of the kernel are the reference's. -/
theorem pair : @Cert.algebraic_OprojIdeal_OprojRefIdeal Cert.OprojIdeal.Gen.facts Cert.OprojRefIdeal.Gen.facts := by
  pair_intro
  · run_from Cert.OprojIdeal.Gen.run_main m g
  · hlo_run
    all_goals obtain ⟨h0, h1, _, _, _, h5, h6, h7, h8⟩ := hagree c
    · exact Eq.trans (b := REFY (m (c.tc.loc OprojIdeal.main_arg0)) (m (c.tc.loc OprojIdeal.main_arg1)) (m (c.tc.loc OprojIdeal.main_arg2)) (m (c.tc.loc OprojIdeal.main_arg3)) (m' (c.tc.loc OprojRefIdeal.main_arg5)) (m' (c.tc.loc OprojRefIdeal.main_arg6)) (m' (c.tc.loc OprojRefIdeal.main_arg7)) (m' (c.tc.loc OprojRefIdeal.main_arg8))) rfl ((refy_of m c rfl rfl h5 h6 h7 h8).trans (final10 m c).symm)
    · exact Eq.trans (b := REFX (m (c.tc.loc OprojIdeal.main_arg0)) (m (c.tc.loc OprojIdeal.main_arg1)) (m (c.tc.loc OprojIdeal.main_arg2)) (m (c.tc.loc OprojIdeal.main_arg3)) (m (c.tc.loc OprojIdeal.main_arg4)) (m' (c.tc.loc OprojRefIdeal.main_arg5)) (m' (c.tc.loc OprojRefIdeal.main_arg6)) (m' (c.tc.loc OprojRefIdeal.main_arg7)) (m' (c.tc.loc OprojRefIdeal.main_arg8))) rfl ((refx_of m c rfl rfl h5 h6 h7 h8).trans (final11 m c).symm)

end Cert.OprojIdeal.Value

end
-- ==== Proof.lean ====
module

public import proofs.«01_k».proof.Proof.AttnFrame
public import proofs.«01_k».proof.Proof.AttnIdealFrame
public import proofs.«01_k».proof.Defs
public import proofs.«01_k».proof.Proof.ProjPair
public import proofs.«01_k».proof.Proof.ProjBitsFrame
public import proofs.«01_k».proof.Proof.Gen.ProjRefIdeal
public import proofs.«01_k».proof.Proof.FfnPair
public import proofs.«01_k».proof.Proof.FfnBitsFrame
public import proofs.«01_k».proof.Proof.Gen.FfnRefIdeal
public import proofs.«01_k».proof.Proof.OprojPair
public import proofs.«01_k».proof.Proof.Gen.Oproj.Frame
public import proofs.«01_k».proof.Proof.Gen.OprojIdeal.Frame
public import proofs.«01_k».proof.Proof.Gen.OprojRefIdeal
public import Idealize.ShloMosaic.Lib.Claim
public import Idealize.ShloMosaic.Lib.Quiescent

@[expose] public section

set_option maxRecDepth 16384

noncomputable section

namespace Cert.Proof

open Idealize.ShloMosaic Idealize.ShloMosaic.Tactic Idealize.SL.Sem

/-- The reference of the projection ends with its arguments unchanged. -/
theorem proj_reference_frame : @Cert.quiescent_ProjRefIdeal Cert.ProjRefIdeal.Gen.facts := by
  intro m g hpre
  hlo_run
  all_goals first | exact sem_eq_zero_of_no_sems (sig := Cert.ProjRefIdeal.sig) (by decide) _ | exact fun _ => ⟨trivial, trivial, trivial, trivial⟩

/-- The reference of the feed-forward part ends with its arguments unchanged. -/
theorem ffn_reference_frame : @Cert.quiescent_FfnRefIdeal Cert.FfnRefIdeal.Gen.facts := by
  intro m g hpre
  hlo_run
  all_goals first | exact sem_eq_zero_of_no_sems (sig := Cert.FfnRefIdeal.sig) (by decide) _ | exact fun _ => ⟨trivial, trivial, trivial, trivial, trivial, trivial⟩

/-- The reference of the output projection ends with its arguments unchanged. -/
theorem oproj_reference_frame : @Cert.quiescent_OprojRefIdeal Cert.OprojRefIdeal.Gen.facts := by
  intro m g hpre
  hlo_run
  all_goals first | exact sem_eq_zero_of_no_sems (sig := Cert.OprojRefIdeal.sig) (by decide) _ | exact fun _ => ⟨trivial, trivial, trivial, trivial, trivial, trivial, trivial, trivial, trivial⟩

theorem claim : Cert.Claim :=
  ⟨Cert.Attn.Gen.facts, Cert.AttnIdeal.Gen.facts, Cert.Ffn.Gen.facts, Cert.FfnIdeal.Gen.facts, Cert.FfnRefIdeal.Gen.facts, Cert.Proj.Gen.facts, Cert.ProjIdeal.Gen.facts, Cert.ProjRefIdeal.Gen.facts,
    Cert.Oproj.Gen.facts, Cert.OprojIdeal.Gen.facts, Cert.OprojRefIdeal.Gen.facts,
    fun m g _ => Cert.Attn.Run.frame m g, fun m g _ => Cert.AttnIdeal.Run.frame m g,
    fun m g _ => Cert.Ffn.Body.frame m g, fun m g _ => Cert.FfnIdeal.Body.frame m g, ffn_reference_frame,
    fun m g _ => Cert.Proj.Body.frame m g, fun m g _ => Cert.ProjIdeal.Body.frame m g, proj_reference_frame,
    fun m g _ => Cert.Oproj.Gen.frame m g, fun m g _ => Cert.OprojIdeal.Gen.frame m g, oproj_reference_frame,
    trivial, trivial, Cert.FfnIdeal.Body.pair, trivial, Cert.ProjIdeal.Body.pair, trivial, Cert.OprojIdeal.Value.pair⟩

end Cert.Proof

end
